-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v49) = v1 c
          ∧ r.2.mem ((c.tc : Thread Cert.Reference8Ideal.nD Cert.Reference8Ideal.τ).loc Cert.Reference8Ideal.main_v52) = v2 c
          ∧ r.2.mem ((c.tc : Thread Cert.Reference8Ideal.nD Cert.Reference8Ideal.τ).loc Cert.Reference8Ideal.main_v27) = v3 c
          ∧ r.2.mem ((c.tc : Thread Cert.Reference8Ideal.nD Cert.Reference8Ideal.τ).loc Cert.Reference8Ideal.main_v48) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v54) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_v32) = v2 c
          ∧ r.2.mem ((c.tc : Thread Cert.Reference9Ideal.nD Cert.Reference9Ideal.τ).loc Cert.Reference9Ideal.main_v37) = v3 c
          ∧ r.2.mem ((c.tc : Thread Cert.Reference9Ideal.nD Cert.Reference9Ideal.τ).loc Cert.Reference9Ideal.main_v61) = v4 c
          ∧ r.2.mem ((c.tc : Thread Cert.Reference9Ideal.nD Cert.Reference9Ideal.τ).loc Cert.Reference9Ideal.main_v62) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v54) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v32) = v2 c
          ∧ r.2.mem ((c.tc : Thread Cert.Reference10Ideal.nD Cert.Reference10Ideal.τ).loc Cert.Reference10Ideal.main_v37) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite6 : Cert.Pre_finite6.Facts) (hPre_finite7 : Cert.Pre_finite7.Facts) (hPre_finite8 : Cert.Pre_finite8.Facts) (hPre_finite9 : Cert.Pre_finite9.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
-- ==== Pre_finite.lean ====
abbrev S4096x3584 : Shape := ⟨2, ![4096, 3584]⟩
abbrev S2x512 : Shape := ⟨2, ![2, 512]⟩
abbrev S4096x512 : Shape := ⟨2, ![4096, 512]⟩
abbrev S_ : Shape := ⟨0, ![]⟩

class Facts : Prop where
  bitsLt_bf16_f32 : FTy.bits .bf16 < FTy.bits .f32
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x3584 .bf16) (main_arg1 : FVec F S2x512 .f32) (main_arg2 : FVec F S4096x512 .bf16) (main_arg3 : FVec F S4096x3584 .bf16) : IVec S_ 1 :=
  let main_v0 : FVec F S4096x3584 .f32 := (extf .f32 · bitsLt_bf16_f32) main_arg0
  let main_v1 : FVec F S4096x3584 .f32 := Host.absf main_v0
  let main_cst : FVec F S_ .f32 := constant S_ .f32 0x7F800000#32
  let main_v2 : FVec F S4096x3584 .f32 := broadcastInDim S4096x3584 ![] bcast_S_S4096x3584 main_cst
  let main_v3 : IVec S4096x3584 1 := cmpf .olt main_v1 main_v2
  let main_c : IVec S_ 1 := constantI S_ 1 1#1
  let main_v4 : IVec S_ 1 := (fun x v => Host.reduce IntOp.andi x v reducesTo_S4096x3584_S_d0_1 h_S_) main_v3 main_c
  let main_v5 : FVec F S2x512 .f32 := Host.absf main_arg1
  let main_cst_0 : FVec F S_ .f32 := constant S_ .f32 0x7F800000#32
  let main_v6 : FVec F S2x512 .f32 := broadcastInDim S2x512 ![] bcast_S_S2x512 main_cst_0
  let main_v7 : IVec S2x512 1 := cmpf .olt main_v5 main_v6
  let main_c_1 : IVec S_ 1 := constantI S_ 1 1#1
  let main_v8 : IVec S_ 1 := (fun x v => Host.reduce IntOp.andi x v reducesTo_S2x512_S_d0_1 h_S_) main_v7 main_c_1
  let main_v9 : IVec S_ 1 := andi main_v4 main_v8
  let main_v10 : FVec F S4096x512 .f32 := (extf .f32 · bitsLt_bf16_f32) main_arg2
  let main_v11 : FVec F S4096x512 .f32 := Host.absf main_v10
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_c_3 : IVec S_ 1 := constantI S_ 1 1#1
  let main_v14 : IVec S_ 1 := (fun x v => Host.reduce IntOp.andi x v reducesTo_S4096x512_S_d0_1 h_S_) main_v13 main_c_3
  let main_v15 : IVec S_ 1 := andi main_v9 main_v14
  main_v15
-- ==== Pre_finite10.lean ====
abbrev S4096x3584 : Shape := ⟨2, ![4096, 3584]⟩
abbrev S4x1024x896 : Shape := ⟨3, ![4, 1024, 896]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S4x1024x896 : S_.BroadcastsInDim S4x1024x896 (![] : Fin 0 → Fin S4x1024x896.rank)
  reducesTo_S4x1024x896_S_d0_1_2 : S4x1024x896.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S4096x1024 .f32) (main_v4 : IVec S_ 1) (main_v9 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S4096x1024 .f32 := Host.absf main_arg5
  let main_cst_8 : FVec F S_ .f32 := constant S_ .f32 0x7F800000#32
  let main_v23 : FVec F S4096x1024 .f32 := broadcastInDim S4096x1024 ![] bcast_S_S4096x1024 main_cst_8
  let main_v24 : IVec S4096x1024 1 := cmpf .olt main_v22 main_v23
  let main_c_9 : IVec S_ 1 := constantI S_ 1 1#1
  let main_v25 : IVec S_ 1 := (fun x v => Host.reduce IntOp.andi x v reducesTo_S4096x1024_S_d0_1 h_S_) main_v24 main_c_9
  let main_v26 : IVec S_ 1 := andi main_v4 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4096x3584 .bf16) (main_arg1 : FVec F S4x1024x896 .bf16) (main_arg2 : FVec F S4096x1024 .f32) (main_arg3 : FVec F S1x1024 .f32) (main_arg4 : FVec F S1x1024 .f32) (main_arg5 : FVec F S4096x1024 .f32) : IVec S_ 1 :=
  let main_v0 : FVec F S4096x3584 .f32 := (extf .f32 · bitsLt_bf16_f32) main_arg0
  let main_v1 : FVec F S4096x3584 .f32 := Host.absf main_v0
  let main_cst : FVec F S_ .f32 := constant S_ .f32 0x7F800000#32
  let main_v2 : FVec F S4096x3584 .f32 := broadcastInDim S4096x3584 ![] bcast_S_S4096x3584 main_cst
  let main_v3 : IVec S4096x3584 1 := cmpf .olt main_v1 main_v2
  let main_c : IVec S_ 1 := constantI S_ 1 1#1
  let main_v4 : IVec S_ 1 := (fun x v => Host.reduce IntOp.andi x v reducesTo_S4096x3584_S_d0_1 h_S_) main_v3 main_c
  let main_v5 : FVec F S4x1024x896 .f32 := (extf .f32 · bitsLt_bf16_f32) main_arg1
  let main_v6 : FVec F S4x1024x896 .f32 := Host.absf main_v5
  let main_cst_0 : FVec F S_ .f32 := constant S_ .f32 0x7F800000#32
  let main_v7 : FVec F S4x1024x896 .f32 := broadcastInDim S4x1024x896 ![] bcast_S_S4x1024x896 main_cst_0
  let main_v8 : IVec S4x1024x896 1 := cmpf .olt main_v6 main_v7
  let main_c_1 : IVec S_ 1 := constantI S_ 1 1#1
  let main_v9 : IVec S_ 1 := (fun x v => Host.reduce IntOp.andi x v reducesTo_S4x1024x896_S_d0_1_2 h_S_) main_v8 main_c_1
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v4 main_v9 main_v13 main_v16
-- ==== Pre_finite6.lean ====
abbrev S4096x1024 : Shape := ⟨2, ![4096, 1024]⟩
abbrev S4x1024x1408 : Shape := ⟨3, ![4, 1024, 1408]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_

variable [Facts]

def fn {F : FTy → Type} [FloatOps F] (main_arg0 : FVec F S4096x1024 .bf16) (main_arg1 : FVec F S4x1024x1408 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x1024x1408 .f32 := (extf .f32 · bitsLt_bf16_f32) main_arg1
  let main_v6 : FVec F S4x1024x1408 .f32 := Host.absf main_v5
  let main_cst_0 : FVec F S_ .f32 := constant S_ .f32 0x7F800000#32
  let main_v7 : FVec F S4x1024x1408 .f32 := broadcastInDim S4x1024x1408 ![] bcast_S_S4x1024x1408 main_cst_0
  let main_v8 : IVec S4x1024x1408 1 := cmpf .olt main_v6 main_v7
  let main_c_1 : IVec S_ 1 := constantI S_ 1 1#1
  let main_v9 : IVec S_ 1 := (fun x v => Host.reduce IntOp.andi x v reducesTo_S4x1024x1408_S_d0_1_2 h_S_) main_v8 main_c_1
  let main_v10 : IVec S_ 1 := andi main_v4 main_v9
  main_v10
-- ==== Pre_finite7.lean ====
abbrev S4096x1024 : Shape := ⟨2, ![4096, 1024]⟩
abbrev S1x2816x1024 : Shape := ⟨3, ![1, 2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_v4 : IVec S_ 1) (main_v9 : IVec S_ 1) (main_v13 : IVec S_ 1) (main_v16 : IVec S4096x2816 1) : IVec S_ 1 :=
  let main_c_5 : IVec S_ 1 := constantI S_ 1 1#1
  let main_v17 : IVec S_ 1 := (fun x v => Host.reduce IntOp.andi x v reducesTo_S4096x2816_S_d0_1 h_S_) main_v16 main_c_5
  let main_v18 : IVec S_ 1 := andi main_v4 main_v9
  let main_v19 : IVec S_ 1 := andi main_v18 main_v13
  let main_v20 : IVec S_ 1 := andi main_v19 main_v17
  main_v20

def fn {F : FTy → Type} [FloatOps F] (main_arg0 : FVec F S4096x1024 .bf16) (main_arg1 : FVec F S1x2816x1024 .bf16) (main_arg2 : FVec F S4096x2816 .f32) (main_arg3 : FVec F S4096x2816 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1x2816x1024 .f32 := (extf .f32 · bitsLt_bf16_f32) main_arg1
  let main_v6 : FVec F S1x2816x1024 .f32 := Host.absf main_v5
  let main_cst_0 : FVec F S_ .f32 := constant S_ .f32 0x7F800000#32
  let main_v7 : FVec F S1x2816x1024 .f32 := broadcastInDim S1x2816x1024 ![] bcast_S_S1x2816x1024 main_cst_0
  let main_v8 : IVec S1x2816x1024 1 := cmpf .olt main_v6 main_v7
  let main_c_1 : IVec S_ 1 := constantI S_ 1 1#1
  let main_v9 : IVec S_ 1 := (fun x v => Host.reduce IntOp.andi x v reducesTo_S1x2816x1024_S_d0_1_2 h_S_) main_v8 main_c_1
  let main_v10 : FVec F S4096x2816 .f32 := Host.absf main_arg2
  let main_cst_2 : FVec F S_ .f32 := constant S_ .f32 0x7F800000#32
  let main_v11 : FVec F S4096x2816 .f32 := broadcastInDim S4096x2816 ![] bcast_S_S4096x2816 main_cst_2
  let main_v12 : IVec S4096x2816 1 := cmpf .olt main_v10 main_v11
  let main_c_3 : IVec S_ 1 := constantI S_ 1 1#1
  let main_v13 : IVec S_ 1 := (fun x v => Host.reduce IntOp.andi x v reducesTo_S4096x2816_S_d0_1 h_S_) main_v12 main_c_3
  let main_v14 : FVec F S4096x2816 .f32 := Host.absf main_arg3
  let main_cst_4 : FVec F S_ .f32 := constant S_ .f32 0x7F800000#32
  let main_v15 : FVec F S4096x2816 .f32 := broadcastInDim S4096x2816 ![] bcast_S_S4096x2816 main_cst_4
  let main_v16 : IVec S4096x2816 1 := cmpf .olt main_v14 main_v15
  fn_part1 (F := F) main_v4 main_v9 main_v13 main_v16
-- ==== Pre_finite8.lean ====
abbrev S4096x1024 : Shape := ⟨2, ![4096, 1024]⟩
abbrev S4096x2816 : Shape := ⟨2, ![4096, 2816]⟩
abbrev S1x2816x1024 : Shape := ⟨3, ![1, 2816, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S4096x1024 .f32) (main_v3 : IVec S_ 1) (main_v8 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S4096x1024 .f32 := Host.absf main_arg5
  let main_cst_8 : FVec F S_ .f32 := constant S_ .f32 0x7F800000#32
  let main_v23 : FVec F S4096x1024 .f32 := broadcastInDim S4096x1024 ![] bcast_S_S4096x1024 main_cst_8
  let main_v24 : IVec S4096x1024 1 := cmpf .olt main_v22 main_v23
  let main_c_9 : IVec S_ 1 := constantI S_ 1 1#1
  let main_v25 : IVec S_ 1 := (fun x v => Host.reduce IntOp.andi x v reducesTo_S4096x1024_S_d0_1 h_S_) main_v24 main_c_9
  let main_v26 : IVec S_ 1 := andi main_v3 main_v8
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4096x1024 .f32) (main_arg1 : FVec F S4096x2816 .bf16) (main_arg2 : FVec F S1x2816x1024 .bf16) (main_arg3 : FVec F S1x1024 .f32) (main_arg4 : FVec F S1x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_c_1 : IVec S_ 1 := constantI S_ 1 1#1
  let main_v8 : IVec S_ 1 := (fun x v => Host.reduce IntOp.andi x v reducesTo_S4096x2816_S_d0_1 h_S_) main_v7 main_c_1
  let main_v9 : FVec F S1x2816x1024 .f32 := (extf .f32 · bitsLt_bf16_f32) main_arg2
  let main_v10 : FVec F S1x2816x1024 .f32 := Host.absf main_v9
  let main_cst_2 : FVec F S_ .f32 := constant S_ .f32 0x7F800000#32
  let main_v11 : FVec F S1x2816x1024 .f32 := broadcastInDim S1x2816x1024 ![] bcast_S_S1x2816x1024 main_cst_2
  let main_v12 : IVec S1x2816x1024 1 := cmpf .olt main_v10 main_v11
  let main_c_3 : IVec S_ 1 := constantI S_ 1 1#1
  let main_v13 : IVec S_ 1 := (fun x v => Host.reduce IntOp.andi x v reducesTo_S1x2816x1024_S_d0_1_2 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v3 main_v8 main_v13 main_v16
-- ==== Pre_finite9.lean ====
abbrev S4096x5632 : Shape := ⟨2, ![4096, 5632]⟩
abbrev S4x1024x1408 : Shape := ⟨3, ![4, 1024, 1408]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v4 : IVec S_ 1) (main_v9 : IVec S_ 1) (main_v13 : IVec S_ 1) (main_v17 : IVec S_ 1) (main_v21 : IVec S_ 1) (main_v25 : IVec S_ 1) (main_v29 : IVec S_ 1) (main_v32 : IVec S4096x1024 1) : IVec S_ 1 :=
  let main_c_13 : IVec S_ 1 := constantI S_ 1 1#1
  let main_v33 : IVec S_ 1 := (fun x v => Host.reduce IntOp.andi x v reducesTo_S4096x1024_S_d0_1 h_S_) main_v32 main_c_13
  let main_v34 : IVec S_ 1 := andi main_v4 main_v9
  let main_v35 : IVec S_ 1 := andi main_v34 main_v13
  let main_v36 : IVec S_ 1 := andi main_v35 main_v17
  let main_v37 : IVec S_ 1 := andi main_v36 main_v21
  let main_v38 : IVec S_ 1 := andi main_v37 main_v25
  let main_v39 : IVec S_ 1 := andi main_v38 main_v29
  let main_v40 : IVec S_ 1 := andi main_v39 main_v33
  main_v40

def fn_part1 {F : FTy → Type} [FloatOps F] (main_arg4 : FVec F S1x1024 .f32) (main_arg5 : FVec F S4096x1024 .f32) (main_arg6 : FVec F S1x1024 .f32) (main_arg7 : FVec F S4096x1024 .f32) (main_v4 : IVec S_ 1) (main_v9 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S4096x1024 .f32 := Host.absf main_arg5
  let main_cst_8 : FVec F S_ .f32 := constant S_ .f32 0x7F800000#32
  let main_v23 : FVec F S4096x1024 .f32 := broadcastInDim S4096x1024 ![] bcast_S_S4096x1024 main_cst_8
  let main_v24 : IVec S4096x1024 1 := cmpf .olt main_v22 main_v23
  let main_c_9 : IVec S_ 1 := constantI S_ 1 1#1
  let main_v25 : IVec S_ 1 := (fun x v => Host.reduce IntOp.andi x v reducesTo_S4096x1024_S_d0_1 h_S_) main_v24 main_c_9
  let main_v26 : FVec F S1x1024 .f32 := Host.absf main_arg6
  let main_cst_10 : FVec F S_ .f32 := constant S_ .f32 0x7F800000#32
  let main_v27 : FVec F S1x1024 .f32 := broadcastInDim S1x1024 ![] bcast_S_S1x1024 main_cst_10
  let main_v28 : IVec S1x1024 1 := cmpf .olt main_v26 main_v27
  let main_c_11 : IVec S_ 1 := constantI S_ 1 1#1
  let main_v29 : IVec S_ 1 := (fun x v => Host.reduce IntOp.andi x v reducesTo_S1x1024_S_d0_1 h_S_) main_v28 main_c_11
  let main_v30 : FVec F S4096x1024 .f32 := Host.absf main_arg7
  let main_cst_12 : FVec F S_ .f32 := constant S_ .f32 0x7F800000#32
  let main_v31 : FVec F S4096x1024 .f32 := broadcastInDim S4096x1024 ![] bcast_S_S4096x1024 main_cst_12
  let main_v32 : IVec S4096x1024 1 := cmpf .olt main_v30 main_v31
  fn_part2 (F := F) main_v4 main_v9 main_v13 main_v17 main_v21 main_v25 main_v29 main_v32

def fn {F : FTy → Type} [FloatOps F] (main_arg0 : FVec F S4096x5632 .bf16) (main_arg1 : FVec F S4x1024x1408 .bf16) (main_arg2 : FVec F S4096x1024 .f32) (main_arg3 : FVec F S1x1024 .f32) (main_arg4 : FVec F S1x1024 .f32) (main_arg5 : FVec F S4096x1024 .f32) (main_arg6 : FVec F S1x1024 .f32) (main_arg7 : FVec F S4096x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S4x1024x1408 .f32 := (extf .f32 · bitsLt_bf16_f32) main_arg1
  let main_v6 : FVec F S4x1024x1408 .f32 := Host.absf main_v5
  let main_cst_0 : FVec F S_ .f32 := constant S_ .f32 0x7F800000#32
  let main_v7 : FVec F S4x1024x1408 .f32 := broadcastInDim S4x1024x1408 ![] bcast_S_S4x1024x1408 main_cst_0
  let main_v8 : IVec S4x1024x1408 1 := cmpf .olt main_v6 main_v7
  let main_c_1 : IVec S_ 1 := constantI S_ 1 1#1
  let main_v9 : IVec S_ 1 := (fun x v => Host.reduce IntOp.andi x v reducesTo_S4x1024x1408_S_d0_1_2 h_S_) main_v8 main_c_1
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v4 main_v9 main_v13 main_v16
-- ==== Kernel.lean ====
abbrev S4096x3584 : Shape := ⟨2, ![4096, 3584]⟩
abbrev S2x512 : Shape := ⟨2, ![2, 512]⟩
abbrev S4096x512 : Shape := ⟨2, ![4096, 512]⟩
abbrev S_ : Shape := ⟨0, ![]⟩
abbrev S512 : Shape := ⟨1, ![512]⟩
abbrev S1x512 : Shape := ⟨2, ![1, 512]⟩
abbrev S63x512 : Shape := ⟨2, ![63, 512]⟩
abbrev S64x512 : Shape := ⟨2, ![64, 512]⟩
abbrev S64x4096 : Shape := ⟨2, ![64, 4096]⟩
abbrev S64x1x512 : Shape := ⟨3, ![64, 1, 512]⟩
abbrev S1x4096x512 : Shape := ⟨3, ![1, 4096, 512]⟩
abbrev S64x4096x512 : Shape := ⟨3, ![64, 4096, 512]⟩
abbrev S64x4096x1 : Shape := ⟨3, ![64, 4096, 1]⟩
abbrev S64x4096x4x128 : Shape := ⟨4, ![64, 4096, 4, 128]⟩
abbrev S4096x4x128 : Shape := ⟨3, ![4096, 4, 128]⟩
abbrev S4x128x64x128 : Shape := ⟨4, ![4, 128, 64, 128]⟩
abbrev S64x4x128x128 : Shape := ⟨4, ![64, 4, 128, 128]⟩
abbrev S64x512x128 : Shape := ⟨3, ![64, 512, 128]⟩
abbrev S256x512 : Shape := ⟨2, ![256, 512]⟩
abbrev S4x512x128 : Shape := ⟨3, ![4, 512, 128]⟩
abbrev S256x1536 : Shape := ⟨2, ![256, 1536]⟩
abbrev S4x128x128 : Shape := ⟨3, ![4, 128, 128]⟩
abbrev S256x256 : Shape := ⟨2, ![256, 256]⟩
abbrev S4x64x64 : Shape := ⟨3, ![4, 64, 64]⟩
abbrev S256x128 : Shape := ⟨2, ![256, 128]⟩
abbrev S1x128 : Shape := ⟨2, ![1, 128]⟩
abbrev S4x64x128 : Shape := ⟨3, ![4, 64, 128]⟩
abbrev S64x128 : Shape := ⟨2, ![64, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 83
  | .vmem => 15
  | .smem => 0
  | _ => 0

abbrev bufTy : (tb : Table) → Fin (tcTables nBuf tb) → BufTy
  | .hbm, ⟨0, _⟩ => ⟨S4096x3584, .bf16⟩
  | .hbm, ⟨1, _⟩ => ⟨S2x512, .f32⟩
  | .hbm, ⟨2, _⟩ => ⟨S4096x512, .bf16⟩
  | .hbm, ⟨3, _⟩ => ⟨S4096x3584, .bf16⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S1x512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S4096x512, .bf16⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S_, .f32⟩
  | .hbm, ⟨45, _⟩ => ⟨S4096x512, .f32⟩
  | .hbm, ⟨46, _⟩ => ⟨S4096x512, .bf16⟩
  | .hbm, ⟨47, _⟩ => ⟨S4096x512, .f32⟩
  | .hbm, ⟨48, _⟩ => ⟨S_, .f32⟩
  | .hbm, ⟨49, _⟩ => ⟨S1x512, .f32⟩
  | .hbm, ⟨50, _⟩ => ⟨S63x512, .f32⟩
  | .hbm, ⟨51, _⟩ => ⟨S64x512, .f32⟩
  | .hbm, ⟨52, _⟩ => ⟨S64x4096, .i32⟩
  | .hbm, ⟨53, _⟩ => ⟨S64x4096, .i32⟩
  | .hbm, ⟨54, _⟩ => ⟨S_, .i32⟩
  | .hbm, ⟨55, _⟩ => ⟨S64x4096, .i32⟩
  | .hbm, ⟨56, _⟩ => ⟨S64x4096, .i32⟩
  | .hbm, ⟨57, _⟩ => ⟨S64x4096, .i1⟩
  | .hbm, ⟨58, _⟩ => ⟨S64x1x512, .f32⟩
  | .hbm, ⟨59, _⟩ => ⟨S1x4096x512, .f32⟩
  | .hbm, ⟨60, _⟩ => ⟨S64x4096x512, .f32⟩
  | .hbm, ⟨61, _⟩ => ⟨S64x4096x512, .f32⟩
  | .hbm, ⟨62, _⟩ => ⟨S64x4096x512, .f32⟩
  | .hbm, ⟨63, _⟩ => ⟨S64x4096x1, .i1⟩
  | .hbm, ⟨64, _⟩ => ⟨S_, .f32⟩
  | .hbm, ⟨65, _⟩ => ⟨S64x4096x512, .f32⟩
  | .hbm, ⟨66, _⟩ => ⟨S64x4096x512, .f32⟩
  | .hbm, ⟨67, _⟩ => ⟨S64x4096x512, .f32⟩
  | .hbm, ⟨68, _⟩ => ⟨S_, .f32⟩
  | .hbm, ⟨69, _⟩ => ⟨S_, .f32⟩
  | .hbm, ⟨70, _⟩ => ⟨S64x4096x512, .i1⟩
  | .hbm, ⟨71, _⟩ => ⟨S64x4096x512, .f32⟩
  | .hbm, ⟨72, _⟩ => ⟨S64x4096x512, .f32⟩
  | .hbm, ⟨73, _⟩ => ⟨S1x4096x512, .f32⟩
  | .hbm, ⟨74, _⟩ => ⟨S64x4096x512, .f32⟩
  | .hbm, ⟨75, _⟩ => ⟨S64x4096x512, .f32⟩
  | .hbm, ⟨76, _⟩ => ⟨S64x4096x4x128, .f32⟩
  | .hbm, ⟨77, _⟩ => ⟨S4096x4x128, .f32⟩
  | .hbm, ⟨78, _⟩ => ⟨S4x128x64x128, .f32⟩
  | .hbm, ⟨79, _⟩ => ⟨S64x4x128x128, .f32⟩
  | .hbm, ⟨80, _⟩ => ⟨S64x512x128, .f32⟩
  | .hbm, ⟨81, _⟩ => ⟨S4096x3584, .bf16⟩
  | .hbm, ⟨82, _⟩ => ⟨S1x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S2x512, .f32⟩
  | .local _ .vmem, ⟨7, _⟩ => ⟨S4x512x128, .f32⟩
  | .local _ .vmem, ⟨8, _⟩ => ⟨S4x512x128, .f32⟩
  | .local _ .vmem, ⟨9, _⟩ => ⟨S256x512, .bf16⟩
  | .local _ .vmem, ⟨10, _⟩ => ⟨S256x512, .bf16⟩
  | .local _ .vmem, ⟨11, _⟩ => ⟨S256x1536, .bf16⟩
  | .local _ .vmem, ⟨12, _⟩ => ⟨S256x1536, .bf16⟩
  | .local _ .vmem, ⟨13, _⟩ => ⟨S1x512, .f32⟩
  | .local _ .vmem, ⟨14, _⟩ => ⟨S4x128x128, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_call0_cst : Ref sig .tc := ⟨.hbm, 43, rfl⟩
abbrev main_call0_call0_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61_0 : Ref sig .tc := ⟨.hbm, 81, rfl⟩
abbrev main_v61_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v1180 : BitVec 32 := Scalar.extui v0
  let c0_i32_334 : BitVec 32 := 0#32
  let v1181 : BitVec 1 := Scalar.cmpi .ne v1180 c0_i32_334
  v1181

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v1182 : BitVec 1 := Scalar.xori v0 v_true
  let v1183 : BitVec 32 := Scalar.extui v1182
  let c0_i32_335 : BitVec 32 := 0#32
  let v1184 : BitVec 1 := Scalar.cmpi .ne v1183 c0_i32_335
  v1184

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x3584 : Shape := ⟨2, ![4096, 3584]⟩
abbrev S2x512 : Shape := ⟨2, ![2, 512]⟩
abbrev S4096x512 : Shape := ⟨2, ![4096, 512]⟩
abbrev S_ : Shape := ⟨0, ![]⟩
abbrev S512 : Shape := ⟨1, ![512]⟩
abbrev S1x512 : Shape := ⟨2, ![1, 512]⟩
abbrev S4x128 : Shape := ⟨2, ![4, 128]⟩
abbrev S4096x4x128 : Shape := ⟨3, ![4096, 4, 128]⟩
abbrev S1x4x128 : Shape := ⟨3, ![1, 4, 128]⟩
abbrev S4096x4096 : Shape := ⟨2, ![4096, 4096]⟩
abbrev S4096x1x4x128 : Shape := ⟨4, ![4096, 1, 4, 128]⟩
abbrev S1x4096x4x128 : Shape := ⟨4, ![1, 4096, 4, 128]⟩
abbrev S4096x4096x4x128 : Shape := ⟨4, ![4096, 4096, 4, 128]⟩
abbrev S4096x4096x1x1 : Shape := ⟨4, ![4096, 4096, 1, 1]⟩
abbrev S4096x4096x4 : Shape := ⟨3, ![4096, 4096, 4]⟩
abbrev S4x128x4096 : Shape := ⟨3, ![4, 128, 4096]⟩
abbrev S4x4096x4096 : Shape := ⟨3, ![4, 4096, 4096]⟩
abbrev S4096x2048 : Shape := ⟨2, ![4096, 2048]⟩

abbrev nBuf : Space → Nat
  | .hbm => 200
  | .vmem => 0
  | .smem => 0
  | _ => 0

abbrev hbmTy0_0 (i : Nat) : BufTy := match i % 128 with
  | 0 => ⟨S4096x3584, .bf16⟩
  | 1 => ⟨S2x512, .f32⟩
  | 2 => ⟨S4096x512, .bf16⟩
  | 3 => ⟨S4096x3584, .bf16⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S2x512, .f32⟩
  | 11 => ⟨S2x512, .f32⟩
  | 12 => ⟨S2x512, .f32⟩
  | 13 => ⟨S_, .f32⟩
  | 14 => ⟨S512, .f32⟩
  | 15 => ⟨S1x512, .f32⟩
  | 16 => ⟨S2x512, .f32⟩
  | 17 => ⟨S2x512, .f32⟩
  | 18 => ⟨S1x512, .f32⟩
  | 19 => ⟨S512, .f32⟩
  | 20 => ⟨S4096x512, .bf16⟩
  | 21 => ⟨S4096x512, .f32⟩
  | 22 => ⟨S4096x512, .bf16⟩
  | 23 => ⟨S4096x512, .f32⟩
  | 24 => ⟨S4096x512, .bf16⟩
  | 25 => ⟨S4096x512, .f32⟩
  | 26 => ⟨S4x128, .f32⟩
  | 27 => ⟨S_, .f32⟩
  | 28 => ⟨S4x128, .f32⟩
  | 29 => ⟨S4x128, .f32⟩
  | 30 => ⟨S4096x4x128, .f32⟩
  | 31 => ⟨S4096x4x128, .f32⟩
  | 32 => ⟨S4096x4x128, .f32⟩
  | 33 => ⟨S_, .f32⟩
  | 34 => ⟨S4096x4x128, .f32⟩
  | 35 => ⟨S4096x4x128, .f32⟩
  | 36 => ⟨S_, .f32⟩
  | 37 => ⟨S4096x4x128, .f32⟩
  | 38 => ⟨S4096x4x128, .f32⟩
  | 39 => ⟨S_, .f32⟩
  | 40 => ⟨S4096x4x128, .f32⟩
  | 41 => ⟨S4096x4x128, .f32⟩
  | 42 => ⟨S4096x4x128, .f32⟩
  | 43 => ⟨S1x4x128, .f32⟩
  | 44 => ⟨S4096x4x128, .f32⟩
  | 45 => ⟨S4096x4x128, .f32⟩
  | 46 => ⟨S1x4x128, .f32⟩
  | 47 => ⟨S4096x4x128, .f32⟩
  | 48 => ⟨S4096x4x128, .f32⟩
  | 49 => ⟨S_, .f32⟩
  | 50 => ⟨S4096x4x128, .f32⟩
  | 51 => ⟨S4096x4x128, .f32⟩
  | 52 => ⟨S4096x4x128, .f32⟩
  | 53 => ⟨S4096x4x128, .f32⟩
  | 54 => ⟨S4096x4x128, .f32⟩
  | 55 => ⟨S4096x4x128, .f32⟩
  | 56 => ⟨S_, .f32⟩
  | 57 => ⟨S4096x4x128, .f32⟩
  | 58 => ⟨S4096x4x128, .f32⟩
  | 59 => ⟨S_, .f32⟩
  | 60 => ⟨S4096x4x128, .f32⟩
  | 61 => ⟨S4096x4x128, .f32⟩
  | 62 => ⟨S_, .f32⟩
  | 63 => ⟨S4096x4x128, .f32⟩
  | 64 => ⟨S4096x4x128, .f32⟩
  | 65 => ⟨S4096x4x128, .f32⟩
  | 66 => ⟨S4096x4x128, .f32⟩
  | 67 => ⟨S4096x4x128, .f32⟩
  | 68 => ⟨S_, .f32⟩
  | 69 => ⟨S_, .f32⟩
  | 70 => ⟨S4096x4x128, .f32⟩
  | 71 => ⟨S_, .i1⟩
  | 72 => ⟨S4096x4096, .i1⟩
  | 73 => ⟨S4096x4096, .i32⟩
  | 74 => ⟨S_, .i32⟩
  | 75 => ⟨S4096x4096, .i32⟩
  | 76 => ⟨S4096x4096, .i32⟩
  | 77 => ⟨S4096x4096, .i32⟩
  | 78 => ⟨S4096x4096, .i1⟩
  | 79 => ⟨S_, .i1⟩
  | 80 => ⟨S4096x4096, .i1⟩
  | 81 => ⟨S4096x4096, .i1⟩
  | 82 => ⟨S4096x1x4x128, .f32⟩
  | 83 => ⟨S1x4096x4x128, .f32⟩
  | 84 => ⟨S4096x4096x4x128, .f32⟩
  | 85 => ⟨S4096x4096x4x128, .f32⟩
  | 86 => ⟨S4096x4096x4x128, .f32⟩
  | 87 => ⟨S4096x4096x1x1, .i1⟩
  | 88 => ⟨S_, .f32⟩
  | 89 => ⟨S4096x4096x4x128, .f32⟩
  | 90 => ⟨S4096x4096x4x128, .f32⟩
  | 91 => ⟨S_, .f32⟩
  | 92 => ⟨S4096x4096x4x128, .f32⟩
  | 93 => ⟨S4096x4096x4x128, .i1⟩
  | 94 => ⟨S_, .f32⟩
  | 95 => ⟨S4096x4096x4x128, .f32⟩
  | 96 => ⟨S4096x4096x4x128, .i1⟩
  | 97 => ⟨S_, .f32⟩
  | 98 => ⟨S4096x4096x4x128, .f32⟩
  | 99 => ⟨S_, .f32⟩
  | 100 => ⟨S4096x4096x4x128, .f32⟩
  | 101 => ⟨S_, .f32⟩
  | 102 => ⟨S4096x4096x4x128, .f32⟩
  | 103 => ⟨S4096x4096x4x128, .f32⟩
  | 104 => ⟨S4096x4096x4x128, .f32⟩
  | 105 => ⟨S4096x4096x4x128, .f32⟩
  | 106 => ⟨S_, .f32⟩
  | 107 => ⟨S_, .f32⟩
  | 108 => ⟨S4096x4096x4x128, .i1⟩
  | 109 => ⟨S4096x4096x4x128, .f32⟩
  | 110 => ⟨S4096x4096x4x128, .f32⟩
  | 111 => ⟨S_, .f32⟩
  | 112 => ⟨S4096x4096x4x128, .f32⟩
  | 113 => ⟨S4096x1x4x128, .f32⟩
  | 114 => ⟨S1x4096x4x128, .f32⟩
  | 115 => ⟨S4096x4096x4x128, .f32⟩
  | 116 => ⟨S4096x4096x4x128, .f32⟩
  | 117 => ⟨S4096x4096x4x128, .f32⟩
  | 118 => ⟨S4096x4096x4x128, .f32⟩
  | 119 => ⟨S_, .f32⟩
  | 120 => ⟨S4096x4096x4, .f32⟩
  | 121 => ⟨S4x128x4096, .f32⟩
  | 122 => ⟨S4096x4x128, .f32⟩
  | 123 => ⟨S4096x512, .f32⟩
  | 124 => ⟨S4096x512, .f32⟩
  | 125 => ⟨S4096x4x128, .f32⟩
  | 126 => ⟨S4x128x4096, .f32⟩
  | 127 => ⟨S4x4096x4096, .f32⟩
  | _ => ⟨S4096x3584, .bf16⟩

abbrev hbmTy0_1 (i : Nat) : BufTy := match i % 128 with
  | 0 => ⟨S4096x4096x4, .f32⟩
  | 1 => ⟨S4x128x4096, .f32⟩
  | 2 => ⟨S4096x4x128, .f32⟩
  | 3 => ⟨S4096x4096x4x128, .f32⟩
  | 4 => ⟨S4096x4096x4x128, .f32⟩
  | 5 => ⟨S4096x4096x4x128, .f32⟩
  | 6 => ⟨S4096x4096x4x128, .f32⟩
  | 7 => ⟨S4096x4096x4x128, .f32⟩
  | 8 => ⟨S_, .f32⟩
  | 9 => ⟨S4096x4x128, .f32⟩
  | 10 => ⟨S1x4096x4x128, .f32⟩
  | 11 => ⟨S4096x4096x4x128, .f32⟩
  | 12 => ⟨S4096x4096x4x128, .f32⟩
  | 13 => ⟨S_, .f32⟩
  | 14 => ⟨S4096x4x128, .f32⟩
  | 15 => ⟨S4096x1x4x128, .f32⟩
  | 16 => ⟨S_, .f32⟩
  | 17 => ⟨S4096x4x128, .f32⟩
  | 18 => ⟨S_, .f32⟩
  | 19 => ⟨S4096x4x128, .f32⟩
  | 20 => ⟨S_, .f32⟩
  | 21 => ⟨S4096x4096x4x128, .f32⟩
  | 22 => ⟨S4096x4096x4x128, .f32⟩
  | 23 => ⟨S4096x4096x4x128, .f32⟩
  | 24 => ⟨S4096x4096x4x128, .f32⟩
  | 25 => ⟨S_, .f32⟩
  | 26 => ⟨S4096x4x128, .f32⟩
  | 27 => ⟨S4096x1x4x128, .f32⟩
  | 28 => ⟨S4096x4096x4x128, .f32⟩
  | 29 => ⟨S_, .f32⟩
  | 30 => ⟨S4096x4x128, .f32⟩
  | 31 => ⟨S1x4096x4x128, .f32⟩
  | 32 => ⟨S_, .f32⟩
  | 33 => ⟨S4096x4x128, .f32⟩
  | 34 => ⟨S_, .f32⟩
  | 35 => ⟨S4096x4x128, .f32⟩
  | 36 => ⟨S4096x4x128, .f32⟩
  | 37 => ⟨S_, .f32⟩
  | 38 => ⟨S_, .f32⟩
  | 39 => ⟨S4096x4x128, .f32⟩
  | 40 => ⟨S4096x512, .f32⟩
  | 41 => ⟨S4096x4x128, .f32⟩
  | 42 => ⟨S4096x4x128, .f32⟩
  | 43 => ⟨S4096x4x128, .f32⟩
  | 44 => ⟨S4096x4x128, .f32⟩
  | 45 => ⟨S4096x512, .f32⟩
  | 46 => ⟨S4096x4x128, .f32⟩
  | 47 => ⟨S4096x4x128, .f32⟩
  | 48 => ⟨S4096x4x128, .f32⟩
  | 49 => ⟨S_, .f32⟩
  | 50 => ⟨S4x128, .f32⟩
  | 51 => ⟨S1x4x128, .f32⟩
  | 52 => ⟨S_, .f32⟩
  | 53 => ⟨S4x128, .f32⟩
  | 54 => ⟨S4096x4x128, .f32⟩
  | 55 => ⟨S4096x4x128, .f32⟩
  | 56 => ⟨S4096x4x128, .f32⟩
  | 57 => ⟨S_, .f32⟩
  | 58 => ⟨S4x128, .f32⟩
  | 59 => ⟨S1x4x128, .f32⟩
  | 60 => ⟨S_, .f32⟩
  | 61 => ⟨S4x128, .f32⟩
  | 62 => ⟨S4096x4x128, .f32⟩
  | 63 => ⟨S4096x512, .f32⟩
  | 64 => ⟨S4x128, .f32⟩
  | 65 => ⟨S4x128, .f32⟩
  | 66 => ⟨S512, .f32⟩
  | 67 => ⟨S4096x2048, .bf16⟩
  | 68 => ⟨S4096x2048, .f32⟩
  | 69 => ⟨S4096x3584, .f32⟩
  | 70 => ⟨S4096x3584, .bf16⟩
  | 71 => ⟨S1x512, .f32⟩
  | _ => ⟨S4096x3584, .bf16⟩

abbrev hbmTy (i : Nat) : BufTy := match i / 128 with
  | 0 => hbmTy0_0 i
  | 1 => hbmTy0_1 i
  | _ => ⟨S4096x3584, .bf16⟩

abbrev bufTy : (tb : Table) → Fin (tcTables nBuf tb) → BufTy
  | .hbm, ⟨i, _⟩ => hbmTy i
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v42_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v42_1 : Ref sig .tc := ⟨.hbm, 65, rfl⟩
abbrev main_v42_0 : Ref sig .tc := ⟨.hbm, 66, rfl⟩
abbrev main_v43 : Ref sig .tc := ⟨.hbm, 67, rfl⟩
abbrev main_call1_call0_cst : Ref sig .tc := ⟨.hbm, 68, rfl⟩
abbrev main_call1_call0_v0 : Ref sig .tc := ⟨.hbm, 69, rfl⟩
abbrev main_v44 : Ref sig .tc := ⟨.hbm, 70, rfl⟩
abbrev main_c : Ref sig .tc := ⟨.hbm, 71, rfl⟩
abbrev main_v45 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_0 : Ref sig .tc := ⟨.hbm, 79, rfl⟩
abbrev main_call2_v5 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_7 : Ref sig .tc := ⟨.hbm, 88, rfl⟩
abbrev main_v53 : Ref sig .tc := ⟨.hbm, 89, rfl⟩
abbrev main_v54 : Ref sig .tc := ⟨.hbm, 90, rfl⟩
abbrev main_cst_8 : Ref sig .tc := ⟨.hbm, 91, rfl⟩
abbrev main_v55 : Ref sig .tc := ⟨.hbm, 92, rfl⟩
abbrev main_v56 : Ref sig .tc := ⟨.hbm, 93, rfl⟩
abbrev main_cst_9 : Ref sig .tc := ⟨.hbm, 94, rfl⟩
abbrev main_v57 : Ref sig .tc := ⟨.hbm, 95, rfl⟩
abbrev main_v58 : Ref sig .tc := ⟨.hbm, 96, rfl⟩
abbrev main_cst_10 : Ref sig .tc := ⟨.hbm, 97, rfl⟩
abbrev main_v59 : Ref sig .tc := ⟨.hbm, 98, rfl⟩
abbrev main_cst_11 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_13 : Ref sig .tc := ⟨.hbm, 106, rfl⟩
abbrev main_call3_v0 : Ref sig .tc := ⟨.hbm, 107, rfl⟩
abbrev main_v65_1 : Ref sig .tc := ⟨.hbm, 108, rfl⟩
abbrev main_call3_v2 : Ref sig .tc := ⟨.hbm, 109, rfl⟩
abbrev main_v65_0 : Ref sig .tc := ⟨.hbm, 110, rfl⟩
abbrev main_call3_cst : Ref sig .tc := ⟨.hbm, 111, rfl⟩
abbrev main_v65_2 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_14 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_15 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_16 : Ref sig .tc := ⟨.hbm, 141, rfl⟩
abbrev main_v92 : Ref sig .tc := ⟨.hbm, 142, rfl⟩
abbrev main_v93 : Ref sig .tc := ⟨.hbm, 143, rfl⟩
abbrev main_cst_17 : Ref sig .tc := ⟨.hbm, 144, rfl⟩
abbrev main_v94 : Ref sig .tc := ⟨.hbm, 145, rfl⟩
abbrev main_cst_18 : Ref sig .tc := ⟨.hbm, 146, rfl⟩
abbrev main_v95 : Ref sig .tc := ⟨.hbm, 147, rfl⟩
abbrev main_call4_cst : Ref sig .tc := ⟨.hbm, 148, rfl⟩
abbrev main_call4_v0 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_19 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_20 : Ref sig .tc := ⟨.hbm, 157, rfl⟩
abbrev main_v102 : Ref sig .tc := ⟨.hbm, 158, rfl⟩
abbrev main_v103 : Ref sig .tc := ⟨.hbm, 159, rfl⟩
abbrev main_cst_21 : Ref sig .tc := ⟨.hbm, 160, rfl⟩
abbrev main_v104 : Ref sig .tc := ⟨.hbm, 161, rfl⟩
abbrev main_cst_22 : Ref sig .tc := ⟨.hbm, 162, rfl⟩
abbrev main_v105 : Ref sig .tc := ⟨.hbm, 163, rfl⟩
abbrev main_v106 : Ref sig .tc := ⟨.hbm, 164, rfl⟩
abbrev main_call5_call0_cst : Ref sig .tc := ⟨.hbm, 165, rfl⟩
abbrev main_call5_call0_v0 : Ref sig .tc := ⟨.hbm, 166, rfl⟩
abbrev main_v107 : Ref sig .tc := ⟨.hbm, 167, rfl⟩
abbrev main_v108 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_23 : Ref sig .tc := ⟨.hbm, 177, rfl⟩
abbrev main_v114 : Ref sig .tc := ⟨.hbm, 178, rfl⟩
abbrev main_v115 : Ref sig .tc := ⟨.hbm, 179, rfl⟩
abbrev main_cst_24 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_cst_25 : Ref sig .tc := ⟨.hbm, 185, rfl⟩
abbrev main_v120 : Ref sig .tc := ⟨.hbm, 186, rfl⟩
abbrev main_v121 : Ref sig .tc := ⟨.hbm, 187, rfl⟩
abbrev main_cst_26 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩

abbrev nD : Nat := 1
abbrev τ : Topo := Topo.v7x

variable {F : FTy → Type} [FloatOps F]
-- ==== Kernel2.lean ====
abbrev S4096x1024 : Shape := ⟨2, ![4096, 1024]⟩
abbrev S4096x5632 : Shape := ⟨2, ![4096, 5632]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .hbm, ⟨3, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | .local _ .vmem, ⟨6, _⟩ => ⟨S1x512x1408, .bf16⟩
  | .local _ .vmem, ⟨7, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x1024 : Shape := ⟨2, ![4096, 1024]⟩
abbrev S4096x3584 : Shape := ⟨2, ![4096, 3584]⟩
abbrev S4x1024x896 : Shape := ⟨3, ![4, 1024, 896]⟩
abbrev S4096x512 : Shape := ⟨2, ![4096, 512]⟩
abbrev S4096x1792 : Shape := ⟨2, ![4096, 1792]⟩
abbrev S2x512x896 : Shape := ⟨3, ![2, 512, 896]⟩
abbrev S512x1792 : Shape := ⟨2, ![512, 1792]⟩
abbrev S512x896 : Shape := ⟨2, ![512, 896]⟩
abbrev S1x512x896 : Shape := ⟨3, ![1, 512, 896]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S4x1024x896, .f32⟩
  | .hbm, ⟨3, _⟩ => ⟨S4x1024x896, .bf16⟩
  | .local _ .vmem, ⟨0, _⟩ => ⟨S4096x512, .bf16⟩
  | .local _ .vmem, ⟨1, _⟩ => ⟨S4096x512, .bf16⟩
  | .local _ .vmem, ⟨2, _⟩ => ⟨S4096x1792, .bf16⟩
  | .local _ .vmem, ⟨3, _⟩ => ⟨S4096x1792, .bf16⟩
  | .local _ .vmem, ⟨4, _⟩ => ⟨S2x512x896, .f32⟩
  | .local _ .vmem, ⟨5, _⟩ => ⟨S2x512x896, .f32⟩
  | .local _ .vmem, ⟨6, _⟩ => ⟨S2x512x896, .bf16⟩
  | .local _ .vmem, ⟨7, _⟩ => ⟨S2x512x896, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x1024 : Shape := ⟨2, ![4096, 1024]⟩
abbrev S4096x3584 : Shape := ⟨2, ![4096, 3584]⟩
abbrev S_ : Shape := ⟨0, ![]⟩
abbrev S1024x3584 : Shape := ⟨2, ![1024, 3584]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S_, .f32⟩
  | .hbm, ⟨3, _⟩ => ⟨S1024x3584, .f32⟩
  | .hbm, ⟨4, _⟩ => ⟨S4096x1024, .f32⟩
  | .hbm, ⟨5, _⟩ => ⟨S4096x3584, .f32⟩
  | .hbm, ⟨6, _⟩ => ⟨S4096x3584, .f32⟩
  | .hbm, ⟨7, _⟩ => ⟨S3584x1024, .f32⟩
  | .hbm, ⟨8, _⟩ => ⟨S1024x3584, .f32⟩
  | .hbm, ⟨9, _⟩ => ⟨S1024x4x896, .f32⟩
  | .hbm, ⟨10, _⟩ => ⟨S4x1024x896, .f32⟩
  | .hbm, ⟨11, _⟩ => ⟨S4x1024x896, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S1x2816x1024 : Shape := ⟨3, ![1, 2816, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .f32⟩
  | .hbm, ⟨3, _⟩ => ⟨S1x2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x256x1024, .bf16⟩
  | .local _ .vmem, ⟨6, _⟩ => ⟨S1x256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S2816x1x1024 : Shape := ⟨3, ![2816, 1, 1024]⟩
abbrev S1x2816x1024 : Shape := ⟨3, ![1, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1x1024, .f32⟩
  | .hbm, ⟨10, _⟩ => ⟨S1x2816x1024, .f32⟩
  | .hbm, ⟨11, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S1x1024x1024 : Shape := ⟨3, ![1, 1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .f32⟩
  | .hbm, ⟨3, _⟩ => ⟨S1x1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x512x1024, .bf16⟩
  | .local _ .vmem, ⟨6, _⟩ => ⟨S1x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x1024 : Shape := ⟨2, ![4096, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1x1024, .f32⟩
  | .hbm, ⟨10, _⟩ => ⟨S1x1024x1024, .f32⟩
  | .hbm, ⟨11, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S4x1024x1408 : Shape := ⟨3, ![4, 1024, 1408]⟩
abbrev S4096x2816 : Shape := ⟨2, ![4096, 2816]⟩
abbrev S1024x1024 : Shape := ⟨2, ![1024, 1024]⟩
abbrev S1x1024x1408 : Shape := ⟨3, ![1, 1024, 1408]⟩
abbrev S1024x1408 : Shape := ⟨2, ![1024, 1408]⟩
abbrev S1024x2816 : Shape := ⟨2, ![1024, 2816]⟩

abbrev nBuf : Space → Nat
  | .hbm => 5
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S1024x4x1408, .bf16⟩
  | .hbm, ⟨4, _⟩ => ⟨S1024x5632, .bf16⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .bf16⟩
  | .hbm, ⟨32, _⟩ => ⟨S4096x2816, .bf16⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v7_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v7_1 : Ref sig .tc := ⟨.hbm, 20, rfl⟩
abbrev main_v7_0 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩

abbrev nD : Nat := 1
abbrev τ : Topo := Topo.v7x

variable {F : FTy → Type} [FloatOps F]
-- ==== Kernel7.lean ====
abbrev S4096x1024 : Shape := ⟨2, ![4096, 1024]⟩
abbrev S1x2816x1024 : Shape := ⟨3, ![1, 2816, 1024]⟩
abbrev S4096x2816 : Shape := ⟨2, ![4096, 2816]⟩
abbrev S_ : Shape := ⟨0, ![]⟩
abbrev S4096x5632 : Shape := ⟨2, ![4096, 5632]⟩
abbrev S512x1024 : Shape := ⟨2, ![512, 1024]⟩
abbrev S512x5632 : Shape := ⟨2, ![512, 5632]⟩
abbrev S3x512x2816 : Shape := ⟨3, ![3, 512, 2816]⟩
abbrev S2x3 : Shape := ⟨2, ![2, 3]⟩
abbrev S1x1 : Shape := ⟨2, ![1, 1]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 29
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1x2816x1024, .bf16⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .bf16⟩
  | .hbm, ⟨28, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1x2816x1024, .bf16⟩
  | .local _ .vmem, ⟨3, _⟩ => ⟨S512x5632, .bf16⟩
  | .local _ .vmem, ⟨4, _⟩ => ⟨S512x5632, .bf16⟩
  | .local _ .vmem, ⟨5, _⟩ => ⟨S3x512x2816, .bf16⟩
  | .local _ .vmem, ⟨6, _⟩ => ⟨S3x512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let c0_i32_44 : BitVec 32 := 0#32
  let arg0 : BitVec 32 := BitVec.ofNat 32 (i 0).val
  let c3_i32_34 : BitVec 32 := 3#32
  let v58 : BitVec 32 := Scalar.addi arg0 c3_i32_34
  let c1_i32_35 : BitVec 32 := 1#32
  let v59 : BitVec 32 := Scalar.subi v58 c1_i32_35
  let c3_i32_36 : BitVec 32 := 3#32
  let c0_i32_37 : BitVec 32 := 0#32
  let v60 : BitVec 1 := Scalar.cmpi .eq c3_i32_36 c0_i32_37
  let c1_i32_38 : BitVec 32 := 1#32
  let v61 : BitVec 32 := Scalar.select v60 c1_i32_38 c3_i32_36
  let v62 : BitVec 32 := Scalar.remsi v59 v61
  let c0_i32_40 : BitVec 32 := 0#32
  let v64 : BitVec 1 := Scalar.cmpi .slt v62 c0_i32_40
  let c0_i32_41 : BitVec 32 := 0#32
  let v65 : BitVec 1 := Scalar.cmpi .slt v61 c0_i32_41
  let v66 : BitVec 1 := Scalar.xori v64 v65
  let c0_i32_39 : BitVec 32 := 0#32
  let v63 : BitVec 1 := Scalar.cmpi .ne v62 c0_i32_39
  let v67 : BitVec 1 := Scalar.andi v66 v63
  let v68 : BitVec 32 := Scalar.addi v62 v61
  let v69 : BitVec 32 := Scalar.select v67 v68 v62
  ![0, v69.toNat]
def k0_off2 (i : grid0.Coords) : Fin 3 → Nat :=
  let arg0 : BitVec 32 := BitVec.ofNat 32 (i 0).val
  let c3_i32_34 : BitVec 32 := 3#32
  let v58 : BitVec 32 := Scalar.addi arg0 c3_i32_34
  let c1_i32_35 : BitVec 32 := 1#32
  let v59 : BitVec 32 := Scalar.subi v58 c1_i32_35
  let c3_i32_36 : BitVec 32 := 3#32
  let c0_i32_37 : BitVec 32 := 0#32
  let v60 : BitVec 1 := Scalar.cmpi .eq c3_i32_36 c0_i32_37
  let c1_i32_38 : BitVec 32 := 1#32
  let v61 : BitVec 32 := Scalar.select v60 c1_i32_38 c3_i32_36
  let v62 : BitVec 32 := Scalar.remsi v59 v61
  let c0_i32_40 : BitVec 32 := 0#32
  let v64 : BitVec 1 := Scalar.cmpi .slt v62 c0_i32_40
  let c0_i32_41 : BitVec 32 := 0#32
  let v65 : BitVec 1 := Scalar.cmpi .slt v61 c0_i32_41
  let v66 : BitVec 1 := Scalar.xori v64 v65
  let c0_i32_39 : BitVec 32 := 0#32
  let v63 : BitVec 1 := Scalar.cmpi .ne v62 c0_i32_39
  let v67 : BitVec 1 := Scalar.andi v66 v63
  let v68 : BitVec 32 := Scalar.addi v62 v61
  let v69 : BitVec 32 := Scalar.select v67 v68 v62
  let c0_i32_45 : BitVec 32 := 0#32
  let c0_i32_46 : BitVec 32 := 0#32
  ![v69.toNat, 0, 0]
def k0_off3 (i : grid0.Coords) : Fin 2 → Nat :=
  let arg0 : BitVec 32 := BitVec.ofNat 32 (i 0).val
  let c3_i32_34 : BitVec 32 := 3#32
  let v58 : BitVec 32 := Scalar.addi arg0 c3_i32_34
  let c1_i32_35 : BitVec 32 := 1#32
  let v59 : BitVec 32 := Scalar.subi v58 c1_i32_35
  let c512_i32_42 : BitVec 32 := 512#32
  let v70 : BitVec 32 := Scalar.muli v59 c512_i32_42
  let c0_i32_47 : BitVec 32 := 0#32
  ![v70.toNat, 0]
def k0_off4 (i : grid0.Coords) : Fin 2 → Nat :=
  let c1_i32_48 : BitVec 32 := 1#32
  let arg0 : BitVec 32 := BitVec.ofNat 32 (i 0).val
  let c3_i32_34 : BitVec 32 := 3#32
  let v58 : BitVec 32 := Scalar.addi arg0 c3_i32_34
  let c1_i32_35 : BitVec 32 := 1#32
  let v59 : BitVec 32 := Scalar.subi v58 c1_i32_35
  let c3_i32_36 : BitVec 32 := 3#32
  let c0_i32_37 : BitVec 32 := 0#32
  let v60 : BitVec 1 := Scalar.cmpi .eq c3_i32_36 c0_i32_37
  let c1_i32_38 : BitVec 32 := 1#32
  let v61 : BitVec 32 := Scalar.select v60 c1_i32_38 c3_i32_36
  let v62 : BitVec 32 := Scalar.remsi v59 v61
  let c0_i32_40 : BitVec 32 := 0#32
  let v64 : BitVec 1 := Scalar.cmpi .slt v62 c0_i32_40
  let c0_i32_41 : BitVec 32 := 0#32
  let v65 : BitVec 1 := Scalar.cmpi .slt v61 c0_i32_41
  let v66 : BitVec 1 := Scalar.xori v64 v65
  let c0_i32_39 : BitVec 32 := 0#32
  let v63 : BitVec 1 := Scalar.cmpi .ne v62 c0_i32_39
  let v67 : BitVec 1 := Scalar.andi v66 v63
  let v68 : BitVec 32 := Scalar.addi v62 v61
  let v69 : BitVec 32 := Scalar.select v67 v68 v62
  ![1, v69.toNat]
def k0_off5 (i : grid0.Coords) : Fin 2 → Nat :=
  let c0_i32_9 : BitVec 32 := 0#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![0, v17.toNat]
def k0_off6 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_10 : BitVec 32 := 0#32
  let c0_i32_11 : BitVec 32 := 0#32
  ![v17.toNat, 0, 0]
def k0_off7 (i : grid0.Coords) : Fin 2 → Nat :=
  let arg0 : BitVec 32 := BitVec.ofNat 32 (i 0).val
  let c512_i32 : BitVec 32 := 512#32
  let v18 : BitVec 32 := Scalar.muli arg0 c512_i32
  let c0_i32_12 : BitVec 32 := 0#32
  ![v18.toNat, 0]
def k0_off8 (i : grid0.Coords) : Fin 2 → Nat :=
  let c1_i32_13 : BitVec 32 := 1#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![1, v17.toNat]
def k0_off9 (i : grid0.Coords) : Fin 3 → Nat :=
  let arg0 : BitVec 32 := BitVec.ofNat 32 (i 0).val
  let c3_i32_17 : BitVec 32 := 3#32
  let c0_i32_18 : BitVec 32 := 0#32
  let v30 : BitVec 1 := Scalar.cmpi .eq c3_i32_17 c0_i32_18
  let c1_i32_19 : BitVec 32 := 1#32
  let v31 : BitVec 32 := Scalar.select v30 c1_i32_19 c3_i32_17
  let v32 : BitVec 32 := Scalar.remsi arg0 v31
  let c0_i32_21 : BitVec 32 := 0#32
  let v34 : BitVec 1 := Scalar.cmpi .slt v32 c0_i32_21
  let c0_i32_22 : BitVec 32 := 0#32
  let v35 : BitVec 1 := Scalar.cmpi .slt v31 c0_i32_22
  let v36 : BitVec 1 := Scalar.xori v34 v35
  let c0_i32_20 : BitVec 32 := 0#32
  let v33 : BitVec 1 := Scalar.cmpi .ne v32 c0_i32_20
  let v37 : BitVec 1 := Scalar.andi v36 v33
  let v38 : BitVec 32 := Scalar.addi v32 v31
  let v39 : BitVec 32 := Scalar.select v37 v38 v32
  let v44 : Index := Scalar.indexCast v39
  let c0_27 : Index := 0#32
  let c0_28 : Index := 0#32
  ![v44.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S1x2816x1024 : Shape := ⟨3, ![1, 2816, 1024]⟩
abbrev S4096x2816 : Shape := ⟨2, ![4096, 2816]⟩
abbrev S2816x1024 : Shape := ⟨2, ![2816, 1024]⟩
abbrev S_ : Shape := ⟨0, ![]⟩
abbrev S4096x5632 : Shape := ⟨2, ![4096, 5632]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x2816x1024, .bf16⟩
  | .hbm, ⟨2, _⟩ => ⟨S4096x2816, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel8.lean ====
abbrev S4096x1024 : Shape := ⟨2, ![4096, 1024]⟩
abbrev S4096x2816 : Shape := ⟨2, ![4096, 2816]⟩
abbrev S1x2816x1024 : Shape := ⟨3, ![1, 2816, 1024]⟩
abbrev S1x1024 : Shape := ⟨2, ![1, 1024]⟩
abbrev S512x1024 : Shape := ⟨2, ![512, 1024]⟩
abbrev S512x2816 : Shape := ⟨2, ![512, 2816]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S1x2816x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v49 : BitVec 32 := Scalar.extui v0
  let c0_i32_27 : BitVec 32 := 0#32
  let v50 : BitVec 1 := Scalar.cmpi .ne v49 c0_i32_27
  v50

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v51 : BitVec 1 := Scalar.xori v0 v_true
  let v52 : BitVec 32 := Scalar.extui v51
  let c0_i32_28 : BitVec 32 := 0#32
  let v53 : BitVec 1 := Scalar.cmpi .ne v52 c0_i32_28
  v53

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v57 : BitVec 32 := Scalar.extui v0
  let c0_i32_30 : BitVec 32 := 0#32
  let v58 : BitVec 1 := Scalar.cmpi .ne v57 c0_i32_30
  v58

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_31 : BitVec 1 := 1#1
  let v59 : BitVec 1 := Scalar.xori v0 true_31
  let v60 : BitVec 32 := Scalar.extui v59
  let c0_i32_32 : BitVec 32 := 0#32
  let v61 : BitVec 1 := Scalar.cmpi .ne v60 c0_i32_32
  v61

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v65 : BitVec 32 := Scalar.extui v0
  let c0_i32_34 : BitVec 32 := 0#32
  let v66 : BitVec 1 := Scalar.cmpi .ne v65 c0_i32_34
  v66

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_35 : BitVec 1 := 1#1
  let v67 : BitVec 1 := Scalar.xori v0 true_35
  let v68 : BitVec 32 := Scalar.extui v67
  let c0_i32_36 : BitVec 32 := 0#32
  let v69 : BitVec 1 := Scalar.cmpi .ne v68 c0_i32_36
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4096x1024 : Shape := ⟨2, ![4096, 1024]⟩
abbrev S4096x2816 : Shape := ⟨2, ![4096, 2816]⟩
abbrev S1x2816x1024 : Shape := ⟨3, ![1, 2816, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S1x2816x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x2816, .f32⟩
  | .hbm, ⟨7, _⟩ => ⟨S2816x1024, .bf16⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .bf16⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel9.lean ====
abbrev S4096x5632 : Shape := ⟨2, ![4096, 5632]⟩
abbrev S4x1024x1408 : Shape := ⟨3, ![4, 1024, 1408]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S1024x5632 : Shape := ⟨2, ![1024, 5632]⟩
abbrev S4 : Shape := ⟨1, ![4]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x1024, .bf16⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1024x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v41 : BitVec 32 := Scalar.extui v3
  let c0_i32_22 : BitVec 32 := 0#32
  let v42 : BitVec 1 := Scalar.cmpi .ne v41 c0_i32_22
  v42

def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v43 : BitVec 1 := Scalar.xori v3 v_true
  let v44 : BitVec 32 := Scalar.extui v43
  let c0_i32_23 : BitVec 32 := 0#32
  let v45 : BitVec 1 := Scalar.cmpi .ne v44 c0_i32_23
  v45

def k0_cond4 (i : grid0.Coords) : BitVec 1 :=
  let arg0 : BitVec 32 := BitVec.ofNat 32 (i 0).val
  let c0_i32_1 : BitVec 32 := 0#32
  let v3 : BitVec 1 := Scalar.cmpi .eq arg0 c0_i32_1
  let v52 : BitVec 32 := Scalar.extui v3
  let c0_i32_27 : BitVec 32 := 0#32
  let v53 : BitVec 1 := Scalar.cmpi .ne v52 c0_i32_27
  v53

def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let true_28 : BitVec 1 := 1#1
  let v54 : BitVec 1 := Scalar.xori v3 true_28
  let v55 : BitVec 32 := Scalar.extui v54
  let c0_i32_29 : BitVec 32 := 0#32
  let v56 : BitVec 1 := Scalar.cmpi .ne v55 c0_i32_29
  v56

def k0_cond6 (i : grid0.Coords) : BitVec 1 :=
  let arg0 : BitVec 32 := BitVec.ofNat 32 (i 0).val
  let c0_i32_1 : BitVec 32 := 0#32
  let v3 : BitVec 1 := Scalar.cmpi .eq arg0 c0_i32_1
  let v60 : BitVec 32 := Scalar.extui v3
  let c0_i32_31 : BitVec 32 := 0#32
  let v61 : BitVec 1 := Scalar.cmpi .ne v60 c0_i32_31
  v61

def k0_cond7 (i : grid0.Coords) : BitVec 1 :=
  let arg0 : BitVec 32 := BitVec.ofNat 32 (i 0).val
  let c0_i32_1 : BitVec 32 := 0#32
  let v3 : BitVec 1 := Scalar.cmpi .eq arg0 c0_i32_1
  let true_32 : BitVec 1 := 1#1
  let v62 : BitVec 1 := Scalar.xori v3 true_32
  let v63 : BitVec 32 := Scalar.extui v62
  let c0_i32_33 : BitVec 32 := 0#32
  let v64 : BitVec 1 := Scalar.cmpi .ne v63 c0_i32_33
  v64

def k0_cond8 (i : grid0.Coords) : BitVec 1 :=
  let arg0 : BitVec 32 := BitVec.ofNat 32 (i 0).val
  let c0_i32_1 : BitVec 32 := 0#32
  let v3 : BitVec 1 := Scalar.cmpi .eq arg0 c0_i32_1
  let v69 : BitVec 32 := Scalar.extui v3
  let c0_i32_37 : BitVec 32 := 0#32
  let v70 : BitVec 1 := Scalar.cmpi .ne v69 c0_i32_37
  v70

def k0_cond9 (i : grid0.Coords) : BitVec 1 :=
  let arg0 : BitVec 32 := BitVec.ofNat 32 (i 0).val
  let c0_i32_1 : BitVec 32 := 0#32
  let v3 : BitVec 1 := Scalar.cmpi .eq arg0 c0_i32_1
  let true_38 : BitVec 1 := 1#1
  let v71 : BitVec 1 := Scalar.xori v3 true_38
  let v72 : BitVec 32 := Scalar.extui v71
  let c0_i32_39 : BitVec 32 := 0#32
  let v73 : BitVec 1 := Scalar.cmpi .ne v72 c0_i32_39
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S4096x5632 : Shape := ⟨2, ![4096, 5632]⟩
abbrev S4x1024x1408 : Shape := ⟨3, ![4, 1024, 1408]⟩
abbrev S4096x1024 : Shape := ⟨2, ![4096, 1024]⟩
abbrev S1x1024 : Shape := ⟨2, ![1, 1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S1024x4x1408, .bf16⟩
  | .hbm, ⟨9, _⟩ => ⟨S1024x5632, .bf16⟩
  | .hbm, ⟨10, _⟩ => ⟨S1024x5632, .f32⟩
  | .hbm, ⟨11, _⟩ => ⟨S_, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x5632, .f32⟩
  | .hbm, ⟨40, _⟩ => ⟨S4096x5632, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel10.lean ====
abbrev S4096x3584 : Shape := ⟨2, ![4096, 3584]⟩
abbrev S4x1024x896 : Shape := ⟨3, ![4, 1024, 896]⟩
abbrev S4096x1024 : Shape := ⟨2, ![4096, 1024]⟩
abbrev S1x1024 : Shape := ⟨2, ![1, 1024]⟩
abbrev S512x3584 : Shape := ⟨2, ![512, 3584]⟩
abbrev S512x1024 : Shape := ⟨2, ![512, 1024]⟩
abbrev S1024x3584 : Shape := ⟨2, ![1024, 3584]⟩
abbrev S4 : Shape := ⟨1, ![4]⟩
abbrev S1 : Shape := ⟨1, ![1]⟩
abbrev S_ : Shape := ⟨0, ![]⟩
abbrev S1024x896 : Shape := ⟨2, ![1024, 896]⟩
abbrev S1x1024x896 : Shape := ⟨3, ![1, 1024, 896]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x3584, .bf16⟩
  | .hbm, ⟨1, _⟩ => ⟨S4x1024x896, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x3584, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v41 : BitVec 32 := Scalar.extui v3
  let c0_i32_22 : BitVec 32 := 0#32
  let v42 : BitVec 1 := Scalar.cmpi .ne v41 c0_i32_22
  v42

def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v43 : BitVec 1 := Scalar.xori v3 v_true
  let v44 : BitVec 32 := Scalar.extui v43
  let c0_i32_23 : BitVec 32 := 0#32
  let v45 : BitVec 1 := Scalar.cmpi .ne v44 c0_i32_23
  v45

def k0_cond4 (i : grid0.Coords) : BitVec 1 :=
  let arg0 : BitVec 32 := BitVec.ofNat 32 (i 0).val
  let c0_i32_1 : BitVec 32 := 0#32
  let v3 : BitVec 1 := Scalar.cmpi .eq arg0 c0_i32_1
  let v52 : BitVec 32 := Scalar.extui v3
  let c0_i32_27 : BitVec 32 := 0#32
  let v53 : BitVec 1 := Scalar.cmpi .ne v52 c0_i32_27
  v53

def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let true_28 : BitVec 1 := 1#1
  let v54 : BitVec 1 := Scalar.xori v3 true_28
  let v55 : BitVec 32 := Scalar.extui v54
  let c0_i32_29 : BitVec 32 := 0#32
  let v56 : BitVec 1 := Scalar.cmpi .ne v55 c0_i32_29
  v56

def k0_cond6 (i : grid0.Coords) : BitVec 1 :=
  let arg0 : BitVec 32 := BitVec.ofNat 32 (i 0).val
  let c0_i32_1 : BitVec 32 := 0#32
  let v3 : BitVec 1 := Scalar.cmpi .eq arg0 c0_i32_1
  let v60 : BitVec 32 := Scalar.extui v3
  let c0_i32_31 : BitVec 32 := 0#32
  let v61 : BitVec 1 := Scalar.cmpi .ne v60 c0_i32_31
  v61

def k0_cond7 (i : grid0.Coords) : BitVec 1 :=
  let arg0 : BitVec 32 := BitVec.ofNat 32 (i 0).val
  let c0_i32_1 : BitVec 32 := 0#32
  let v3 : BitVec 1 := Scalar.cmpi .eq arg0 c0_i32_1
  let true_32 : BitVec 1 := 1#1
  let v62 : BitVec 1 := Scalar.xori v3 true_32
  let v63 : BitVec 32 := Scalar.extui v62
  let c0_i32_33 : BitVec 32 := 0#32
  let v64 : BitVec 1 := Scalar.cmpi .ne v63 c0_i32_33
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4096x3584 : Shape := ⟨2, ![4096, 3584]⟩
abbrev S4x1024x896 : Shape := ⟨3, ![4, 1024, 896]⟩
abbrev S4096x1024 : Shape := ⟨2, ![4096, 1024]⟩
abbrev S1x1024 : Shape := ⟨2, ![1, 1024]⟩
abbrev S1024x4x896 : Shape := ⟨3, ![1024, 4, 896]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4x1024x896, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x4x896, .bf16⟩
  | .hbm, ⟨7, _⟩ => ⟨S1024x3584, .bf16⟩
  | .hbm, ⟨8, _⟩ => ⟨S1024x3584, .f32⟩
  | .hbm, ⟨9, _⟩ => ⟨S_, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x3584, .f32⟩
  | .hbm, ⟨38, _⟩ => ⟨S4096x3584, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Proof.HeadOps.lean ====
/- One head's part of the kernel body, in the kernel's own operations and for any float values: the gates, the running sum
   of the log gates inside each chunk of 64 tokens, the scores, and the chunks read from the last to the first with the
   carried matrix. What the four heads store is these functions of the head's own slices. -/
module

public import proofs.«01_k».proof.Proof.Gen.KernelIdeal.Skeleton

@[expose] public section

noncomputable section

namespace Cert.Hgrn

open Idealize.ShloMosaic Idealize.SL.Sem Cert.KernelIdeal Cert.KernelIdeal.Gen

variable {F : FTy → Type} [FloatOps F]

/-- A constant block. -/
def fill (b : BitVec 32) : FVec F S256x128 .f32 := broadcast S256x128 (Scalar.ofBits .f32 b)

/-- The logistic function, entry by entry. -/
def logi (x : FVec F S256x128 .f32) : FVec F S256x128 .f32 := divf (fill 0x3F800000#32) (addf (fill 0x3F800000#32) (exp (subf (fill 0x00000000#32) x)))

/-- The narrow input widened. -/
def wide (x : Vec F S256x128 .bf16) : FVec F S256x128 .f32 := extf .f32 x bitsLt_bf16_f32

/-- A block rounded to the narrow format. -/
def thin (x : FVec F S256x128 .f32) : FVec F S256x128 .bf16 := truncf .bf16 x bitsLt_bf16_f32

/-- One minus the lower bound of the gates. -/
def room (lb : FVec F S1x128 .f32) : FVec F S1x128 .f32 := subf (broadcast S1x128 (Scalar.ofBits .f32 0x3F800000#32)) lb

/-- A row of lanes for every token of the block. -/
def rows (x : FVec F S1x128 .f32) : FVec F S256x128 .f32 := broadcastTo S256x128 x broadcasts_S1x128_S256x128

/-- The gates. -/
def gates (lb : FVec F S1x128 .f32) (fr : Vec F S256x128 .bf16) : FVec F S256x128 .f32 := addf (rows lb) (mulf (rows (room lb)) (logi (wide fr)))

/-- The keys: one minus the gates. -/
def keys (lb : FVec F S1x128 .f32) (fr : Vec F S256x128 .bf16) : FVec F S256x128 .f32 := subf (fill 0x3F800000#32) (gates lb fr)

/-- One product of a 0/1 triangle with a chunked block. -/
def triDot (tri : FVec F S4x64x64 .bf16) (x : FVec F S4x64x128 .bf16) : FVec F S4x64x128 .f32 :=
  matmul dot_S4x64x64_S4x64x128_S4x64x128_2_1_1_2_0_0 none tri x (constant S4x64x128 .f32 0x00000000#32)

/-- A chunked block rounded, and what the rounding left over. -/
def part (x : FVec F S4x64x128 .f32) : FVec F S4x64x128 .bf16 := truncf .bf16 x bitsLt_bf16_f32
def rest (x : FVec F S4x64x128 .f32) : FVec F S4x64x128 .f32 := subf x (extf .f32 (part x) bitsLt_bf16_f32)

/-- The sums a triangle names inside each chunk, of a block taken in three rounded parts. -/
def chunkSum (tri : FVec F S4x64x64 .bf16) (x : FVec F S256x128 .f32) : FVec F S256x128 .f32 :=
  have y : FVec F S4x64x128 .f32 := shapeCast S4x64x128 x shapeCasts_S256x128_S4x64x128
  shapeCast S256x128 (addf (addf (triDot tri (part y)) (triDot tri (part (rest y)))) (triDot tri (part (rest (rest y)))))
    shapeCasts_S4x64x128_S256x128

/-- The triangle of the sums up to a token. -/
def triUp : FVec F S4x64x64 .bf16 := k0_pay7

/-- The triangle of the sums from a token on. -/
def triDown : FVec F S4x64x64 .bf16 :=
  truncf .bf16 (sitofp .f32 (extui 32 (cmpi .sle (iota .tc S4x64x64 32 [1] iota_S4x64x64_d1_w32)
    (iota .tc S4x64x64 32 [2] iota_S4x64x64_d2_w32)) natLt_1_32) : FVec F S4x64x64 .f32) bitsLt_bf16_f32

/-- The running sum of the log gates in each chunk. -/
def cumLog (lb : FVec F S1x128 .f32) (fr : Vec F S256x128 .bf16) : FVec F S256x128 .f32 := chunkSum triUp (log (gates lb fr))

/-- One row for each chunk, spread over the chunk's tokens. -/
def spread (x : FVec F S1x128 .f32) : FVec F S64x128 .f32 :=
  broadcastTo S64x128 (shapeCast S1x128 x shapeCasts_S1x128_S1x128) broadcasts_S1x128_S64x128

/-- Four chunks of tokens, one under the other. -/
def stack (x0 x1 x2 x3 : FVec F S64x128 .f32) : FVec F S256x128 .f32 :=
  concatenate S256x128 0 [⟨S64x128, x0⟩, ⟨S64x128, x1⟩, ⟨S64x128, x2⟩, ⟨S64x128, x3⟩]
    concatenates_S64x128_S64x128_S64x128_S64x128_S256x128_d0

/-- The running sum at the last token of chunk 0, 1, 2, 3. -/
def end0 (b : FVec F S256x128 .f32) : FVec F S1x128 .f32 := extractStridedSlice S1x128 ![63, 0] b slices_S256x128_o63_0_S1x128
def end1 (b : FVec F S256x128 .f32) : FVec F S1x128 .f32 := extractStridedSlice S1x128 ![127, 0] b slices_S256x128_o127_0_S1x128
def end2 (b : FVec F S256x128 .f32) : FVec F S1x128 .f32 := extractStridedSlice S1x128 ![191, 0] b slices_S256x128_o191_0_S1x128
def end3 (b : FVec F S256x128 .f32) : FVec F S1x128 .f32 := extractStridedSlice S1x128 ![255, 0] b slices_S256x128_o255_0_S1x128

/-- The running sum at the middle of each token's chunk. -/
def midRow (b : FVec F S256x128 .f32) : FVec F S256x128 .f32 :=
  stack (spread (extractStridedSlice S1x128 ![31, 0] b slices_S256x128_o31_0_S1x128))
    (spread (extractStridedSlice S1x128 ![95, 0] b slices_S256x128_o95_0_S1x128))
    (spread (extractStridedSlice S1x128 ![159, 0] b slices_S256x128_o159_0_S1x128))
    (spread (extractStridedSlice S1x128 ![223, 0] b slices_S256x128_o223_0_S1x128))

/-- The running sum at the end of each token's chunk. -/
def endRow (b : FVec F S256x128 .f32) : FVec F S256x128 .f32 := stack (spread (end0 b)) (spread (end1 b)) (spread (end2 b)) (spread (end3 b))

/-- The decay from the chunk's start to the token; from its middle to the token; from the token to its middle; from the
    token to the chunk's end. -/
def fromStart (b : FVec F S256x128 .f32) : FVec F S256x128 .f32 := exp b
def fromMid (b : FVec F S256x128 .f32) : FVec F S256x128 .f32 := exp (subf b (midRow b))
def toMid (b : FVec F S256x128 .f32) : FVec F S256x128 .f32 := exp (subf (midRow b) b)
def toEnd (b : FVec F S256x128 .f32) : FVec F S256x128 .f32 := exp (subf (endRow b) b)

/-- The gated query. -/
def silu (q : Vec F S256x128 .bf16) : FVec F S256x128 .f32 := mulf (wide q) (logi (wide q))

/-- The query decayed from the chunk's start, and from its middle; the key decayed to the middle, and to the end. -/
def qStart (q : Vec F S256x128 .bf16) (b : FVec F S256x128 .f32) : FVec F S256x128 .bf16 := thin (mulf (silu q) (fromStart b))
def qMid (q : Vec F S256x128 .bf16) (b : FVec F S256x128 .f32) : FVec F S256x128 .bf16 := thin (mulf (silu q) (fromMid b))
def kMid (k b : FVec F S256x128 .f32) : FVec F S256x128 .bf16 := thin (mulf k (toMid b))
def kEnd (k b : FVec F S256x128 .f32) : FVec F S256x128 .f32 := mulf k (toEnd b)

/-- The pairs of tokens of one chunk, the first not before the second. -/
def ownPairs : IVec S256x256 1 :=
  k0_pay6 (iota .tc S256x256 32 [0] iota_S256x256_d0_w32) (iota .tc S256x256 32 [1] iota_S256x256_d1_w32) k0_pay4 64#32 k0_pay5 0#32

/-- The inner products of two blocks' tokens, on the pairs of one chunk. -/
def scores (x y : FVec F S256x128 .bf16) : FVec F S256x256 .bf16 :=
  truncf .bf16 (select ownPairs
    (matmul dot_S256x128_S256x128_S256x256_1_1_0_0_n_n none x y (constant S256x256 .f32 0x00000000#32) : FVec F S256x256 .f32)
    (broadcast S256x256 (Scalar.ofBits .f32 0x00000000#32))) bitsLt_bf16_f32

/-- Scores applied to a block, down the second token and down the first. -/
def overSecond (a : FVec F S256x256 .bf16) (x : FVec F S256x128 .bf16) : FVec F S256x128 .f32 :=
  matmul dot_S256x256_S256x128_S256x128_1_0_0_1_n_n none a x (constant S256x128 .f32 0x00000000#32)
def overFirst (a : FVec F S256x256 .bf16) (x : FVec F S256x128 .bf16) : FVec F S256x128 .f32 :=
  matmul dot_S256x256_S256x128_S256x128_0_0_1_1_n_n none a x (constant S256x128 .f32 0x00000000#32)

/-- The chunks of a block. -/
def chunk0 {e : FTy} (x : FVec F S256x128 e) : FVec F S64x128 e := extractStridedSlice S64x128 ![0, 0] x slices_S256x128_o0_0_S64x128
def chunk1 {e : FTy} (x : FVec F S256x128 e) : FVec F S64x128 e := extractStridedSlice S64x128 ![64, 0] x slices_S256x128_o64_0_S64x128
def chunk2 {e : FTy} (x : FVec F S256x128 e) : FVec F S64x128 e := extractStridedSlice S64x128 ![128, 0] x slices_S256x128_o128_0_S64x128
def chunk3 {e : FTy} (x : FVec F S256x128 e) : FVec F S64x128 e := extractStridedSlice S64x128 ![192, 0] x slices_S256x128_o192_0_S64x128

/-- A slab of a stack of matrices, as a matrix. -/
def slab (x : Vec F S1x128x128 .f32) : FVec F S128x128 .f32 := shapeCast S128x128 x shapeCasts_S1x128x128_S128x128

/-- A matrix rounded to the narrow format. -/
def thinMat (x : FVec F S128x128 .f32) : FVec F S128x128 .bf16 := truncf .bf16 x bitsLt_bf16_f32

/-- A chunk of tokens times a matrix, along its rows and along its columns. -/
def timesMat (x : FVec F S64x128 .bf16) (m : FVec F S128x128 .f32) : FVec F S64x128 .f32 :=
  matmul dot_S64x128_S128x128_S64x128_1_0_0_1_n_n none x (thinMat m) (constant S64x128 .f32 0x00000000#32)
def timesMatT (x : FVec F S64x128 .bf16) (m : FVec F S128x128 .f32) : FVec F S64x128 .f32 :=
  matmul dot_S64x128_S128x128_S64x128_1_1_0_0_n_n none x (thinMat m) (constant S64x128 .f32 0x00000000#32)

/-- The carried matrix before a chunk from the one after it: what the chunk's tokens give, and the decayed matrix. -/
def carry (oc qc : FVec F S64x128 .bf16) (gam : FVec F S1x128 .f32) (d : FVec F S128x128 .f32) : FVec F S128x128 .f32 :=
  addf (matmul dot_S64x128_S64x128_S128x128_0_0_1_1_n_n none oc qc (constant S128x128 .f32 0x00000000#32) : FVec F S128x128 .f32)
    (mulf d (broadcastTo S128x128 gam broadcasts_S1x128_S128x128))

/-- What the two carried matrices give to the decay over a chunk. -/
def gateMat (d s : FVec F S128x128 .f32) (gam : FVec F S1x128 .f32) : FVec F S1x128 .f32 :=
  mulf (shapeCast S1x128 (multiReduction .add [0] S128 (mulf d s) 0x00000000#32 reduces_S128x128_S128 (.inl rfl) rfl)
    shapeCasts_S128_S1x128) gam

/-- The sum of a chunk's tokens, and of a block's. -/
def sumChunk (x : FVec F S64x128 .f32) : FVec F S1x128 .f32 :=
  shapeCast S1x128 (multiReduction .add [0] S128 x 0x00000000#32 reduces_S64x128_S128 (.inl rfl) rfl) shapeCasts_S128_S1x128
def sumBlock (x : FVec F S256x128 .f32) : FVec F S1x128 .f32 :=
  shapeCast S1x128 (multiReduction .add [0] S128 x 0x00000000#32 reduces_S256x128_S128 (.inl rfl) rfl) shapeCasts_S128_S1x128

section Head

variable (lb : FVec F S1x128 .f32) (q fr iv ov : Vec F S256x128 .bf16) (d : Vec F S1x128x128 .f32) (s0 s1 s2 s3 : Vec F S1x128x128 .f32)

/-- The carried matrix after chunk 3, 2, 1, 0 and before chunk 0. -/
def carried3 : FVec F S128x128 .f32 := slab d
def carried2 : FVec F S128x128 .f32 := carry (chunk3 ov) (chunk3 (qStart q (cumLog lb fr))) (exp (end3 (cumLog lb fr))) (carried3 d)
def carried1 : FVec F S128x128 .f32 := carry (chunk2 ov) (chunk2 (qStart q (cumLog lb fr))) (exp (end2 (cumLog lb fr))) (carried2 lb q fr ov d)
def carried0 : FVec F S128x128 .f32 := carry (chunk1 ov) (chunk1 (qStart q (cumLog lb fr))) (exp (end1 (cumLog lb fr))) (carried1 lb q fr ov d)
def carriedOut : FVec F S128x128 .f32 := carry (chunk0 ov) (chunk0 (qStart q (cumLog lb fr))) (exp (end0 (cumLog lb fr))) (carried0 lb q fr ov d)

/-- What the head leaves in the carried matrices' buffer. -/
def headCarry : FVec F S1x128x128 .f32 := shapeCast S1x128x128 (carriedOut lb q fr ov d) shapeCasts_S128x128_S1x128x128

/-- The query's gradient through the scores, and through the states. -/
def dqMid : FVec F S256x128 .f32 := overSecond (scores ov iv) (kMid (keys lb fr) (cumLog lb fr))
def dqStart : FVec F S256x128 .f32 := stack (timesMat (chunk0 ov) (slab s0)) (timesMat (chunk1 ov) (slab s1)) (timesMat (chunk2 ov) (slab s2))
  (timesMat (chunk3 ov) (slab s3))

/-- The key's gradient through the scores, and through the carried matrices. -/
def dkMid : FVec F S256x128 .f32 := overFirst (scores ov iv) (qMid q (cumLog lb fr))
def dkEnd : FVec F S256x128 .f32 := stack (timesMat (chunk0 iv) (carried0 lb q fr ov d)) (timesMat (chunk1 iv) (carried1 lb q fr ov d))
  (timesMat (chunk2 iv) (carried2 lb q fr ov d)) (timesMat (chunk3 iv) (carried3 d))

/-- The value's gradient. -/
def headDi : FVec F S256x128 .bf16 := thin (addf (overFirst (scores (qMid q (cumLog lb fr)) (kMid (keys lb fr) (cumLog lb fr))) ov)
  (stack (timesMatT (chunk0 (thin (kEnd (keys lb fr) (cumLog lb fr)))) (carried0 lb q fr ov d))
    (timesMatT (chunk1 (thin (kEnd (keys lb fr) (cumLog lb fr)))) (carried1 lb q fr ov d))
    (timesMatT (chunk2 (thin (kEnd (keys lb fr) (cumLog lb fr)))) (carried2 lb q fr ov d))
    (timesMatT (chunk3 (thin (kEnd (keys lb fr) (cumLog lb fr)))) (carried3 d))))

/-- The key's gradient through the carried matrices, times the key. -/
def dkEndKey : FVec F S256x128 .f32 := mulf (dkEnd lb q fr iv ov d) (kEnd (keys lb fr) (cumLog lb fr))

/-- What each token gives to the gates of the tokens before it in its chunk. -/
def gateTerms : FVec F S256x128 .f32 :=
  subf (addf (subf (mulf (dqMid lb fr iv ov) (extf .f32 (qMid q (cumLog lb fr)) bitsLt_bf16_f32))
        (mulf (dkMid lb q fr iv ov) (extf .f32 (kMid (keys lb fr) (cumLog lb fr)) bitsLt_bf16_f32)))
      (mulf (dqStart ov s0 s1 s2 s3) (extf .f32 (qStart q (cumLog lb fr)) bitsLt_bf16_f32)))
    (dkEndKey lb q fr iv ov d)

/-- What the carried matrices give to every gate of a chunk. -/
def chunkTerms : FVec F S256x128 .f32 := stack
  (spread (addf (gateMat (carried0 lb q fr ov d) (slab s0) (exp (end0 (cumLog lb fr)))) (sumChunk (chunk0 (dkEndKey lb q fr iv ov d)))))
  (spread (addf (gateMat (carried1 lb q fr ov d) (slab s1) (exp (end1 (cumLog lb fr)))) (sumChunk (chunk1 (dkEndKey lb q fr iv ov d)))))
  (spread (addf (gateMat (carried2 lb q fr ov d) (slab s2) (exp (end2 (cumLog lb fr)))) (sumChunk (chunk2 (dkEndKey lb q fr iv ov d)))))
  (spread (addf (gateMat (carried3 d) (slab s3) (exp (end3 (cumLog lb fr)))) (sumChunk (chunk3 (dkEndKey lb q fr iv ov d)))))

/-- The gradient of the log gates, and of the gates. -/
def dLogGate : FVec F S256x128 .f32 := addf (chunkSum triDown (gateTerms lb q fr iv ov d s0 s1 s2 s3)) (chunkTerms lb q fr iv ov d s0 s1 s2 s3)
def dGate : FVec F S256x128 .f32 := subf (divf (dLogGate lb q fr iv ov d s0 s1 s2 s3) (gates lb fr))
  (addf (mulf (dkMid lb q fr iv ov) (toMid (cumLog lb fr))) (mulf (dkEnd lb q fr iv ov d) (toEnd (cumLog lb fr))))

/-- The gradient of the query before its gate. -/
def headDq : FVec F S256x128 .bf16 := thin (mulf
  (mulf (addf (mulf (dqMid lb fr iv ov) (fromMid (cumLog lb fr))) (mulf (dqStart ov s0 s1 s2 s3) (fromStart (cumLog lb fr)))) (logi (wide q)))
  (addf (fill 0x3F800000#32) (mulf (wide q) (subf (fill 0x3F800000#32) (logi (wide q))))))

/-- The gradient of the gates' input. -/
def headDf : FVec F S256x128 .bf16 := thin (mulf (mulf (mulf (dGate lb q fr iv ov d s0 s1 s2 s3) (rows (room lb))) (logi (wide fr)))
  (subf (fill 0x3F800000#32) (logi (wide fr))))

/-- The block's part of the lower bound's gradient. -/
def headDlb : FVec F S1x128 .f32 := sumBlock (mulf (dGate lb q fr iv ov d s0 s1 s2 s3) (subf (fill 0x3F800000#32) (logi (wide fr))))

end Head

end Cert.Hgrn

end
-- ==== Proof.Chunks.lean ====
/- The mathematics of the gated linear recurrence's gradient, over the real numbers and for one head: what the blocks of 64
   tokens and the two carried matrices contribute adds up to the sums over all pairs of tokens.

   `X m` is the sum of the log gates of the tokens before `m` (of one key column), so that a pair `s ≤ t` of tokens is
   weighted by `exp (X (t + 1) - X (s + 1))`. `W t s` is the inner product of the cotangent at `t` with the value at `s`. -/
module

public import Mathlib.Analysis.SpecialFunctions.Exp
public import Mathlib.Algebra.BigOperators.Ring.Finset

@[expose] public section

noncomputable section

namespace Cert.Hgrn

open Finset

variable {V K : Type} [Fintype V] [Fintype K]

/-- The inner product of the cotangent at token `t` with the value at token `s`. -/
def pairing (o v : ℕ → V → ℝ) (t s : ℕ) : ℝ := ∑ j, o t j * v s j

/-- The gradient of the gated query, as a sum over the tokens up to `t`. -/
def queryGrad (T : ℕ) (X kk : ℕ → ℝ) (W : ℕ → ℕ → ℝ) (t : ℕ) : ℝ :=
  ∑ s ∈ range T, if s ≤ t then W t s * kk s * Real.exp (X (t + 1) - X (s + 1)) else 0

/-- The gradient of the key, as a sum over the tokens from `s` on. -/
def keyGrad (T : ℕ) (X qf : ℕ → ℝ) (W : ℕ → ℕ → ℝ) (s : ℕ) : ℝ :=
  ∑ t ∈ range T, if s ≤ t then W t s * qf t * Real.exp (X (t + 1) - X (s + 1)) else 0

/-- The matrix the forward recurrence has before token `64 n`. -/
def stateAt (T : ℕ) (X kk : ℕ → ℝ) (v : ℕ → V → ℝ) (n : ℕ) (j : V) : ℝ :=
  ∑ s ∈ range T, if s < 64 * n then v s j * (kk s * Real.exp (X (64 * n) - X (s + 1))) else 0

/-- The matrix the backward recurrence has from token `64 n` on. -/
def costateAt (T : ℕ) (X qf : ℕ → ℝ) (o : ℕ → V → ℝ) (n : ℕ) (j : V) : ℝ :=
  ∑ t ∈ range T, if 64 * n ≤ t then o t j * (qf t * Real.exp (X (t + 1) - X (64 * n))) else 0

theorem exp_glue (a b c : ℝ) : Real.exp (a - b) * Real.exp (b - c) = Real.exp (a - c) := by
  rw [← Real.exp_add]; congr 1; ring

/-- A product with the state before the chunk, summed over the value columns, is a sum over the tokens before the chunk. -/
theorem read_state (T : ℕ) (X kk : ℕ → ℝ) (o v : ℕ → V → ℝ) (n t : ℕ) :
    (∑ j, o t j * stateAt T X kk v n j) * Real.exp (X (t + 1) - X (64 * n))
      = ∑ s ∈ range T, if s < 64 * n then pairing o v t s * kk s * Real.exp (X (t + 1) - X (s + 1)) else 0 := by
  unfold stateAt pairing
  simp only [mul_sum]
  rw [sum_comm, sum_mul]
  refine sum_congr rfl fun s _ => ?_
  split_ifs
  · rw [← exp_glue (X (t + 1)) (X (64 * n)) (X (s + 1)), sum_mul, sum_mul, sum_mul]
    exact sum_congr rfl fun j _ => by ring
  · simp

/-- A product with the costate after the chunk, summed over the value columns, is a sum over the tokens after the chunk. -/
theorem read_costate (T : ℕ) (X qf : ℕ → ℝ) (o v : ℕ → V → ℝ) (n s : ℕ) :
    (∑ j, v s j * costateAt T X qf o n j) * Real.exp (X (64 * n) - X (s + 1))
      = ∑ t ∈ range T, if 64 * n ≤ t then pairing o v t s * qf t * Real.exp (X (t + 1) - X (s + 1)) else 0 := by
  unfold costateAt pairing
  simp only [mul_sum]
  rw [sum_comm, sum_mul]
  refine sum_congr rfl fun t _ => ?_
  split_ifs
  · rw [← exp_glue (X (t + 1)) (X (64 * n)) (X (s + 1)), sum_mul, sum_mul, sum_mul]
    exact sum_congr rfl fun j _ => by ring
  · simp

/-- The query gradient of one chunk: what its own tokens give, with the exponents taken about a middle value `c`, and what
    the state before the chunk gives. -/
theorem query_split (T : ℕ) (X kk : ℕ → ℝ) (o v : ℕ → V → ℝ) (c : ℝ) (t : ℕ) :
    (∑ s ∈ range T, if s ≤ t ∧ s / 64 = t / 64 then pairing o v t s * (kk s * Real.exp (c - X (s + 1))) else 0)
          * Real.exp (X (t + 1) - c)
        + (∑ j, o t j * stateAt T X kk v (t / 64) j) * Real.exp (X (t + 1) - X (64 * (t / 64)))
      = queryGrad T X kk (pairing o v) t := by
  rw [read_state, queryGrad, sum_mul, ← sum_add_distrib]
  refine sum_congr rfl fun s _ => ?_
  by_cases h : s ≤ t ∧ s / 64 = t / 64
  · rw [if_pos h, if_neg (by omega), if_pos h.1, ← exp_glue (X (t + 1)) c (X (s + 1))]; ring
  · by_cases h' : s < 64 * (t / 64)
    · rw [if_neg h, if_pos h', if_pos (by omega)]; ring
    · rw [if_neg h, if_neg h', if_neg (by omega)]; ring

/-- The key gradient of one chunk: what its own tokens give, with the exponents taken about a middle value `c`, and what
    the costate after the chunk gives. -/
theorem key_split (T : ℕ) (X qf : ℕ → ℝ) (o v : ℕ → V → ℝ) (c : ℝ) (s : ℕ) :
    (∑ t ∈ range T, if s ≤ t ∧ s / 64 = t / 64 then pairing o v t s * (qf t * Real.exp (X (t + 1) - c)) else 0)
          * Real.exp (c - X (s + 1))
        + (∑ j, v s j * costateAt T X qf o (s / 64 + 1) j) * Real.exp (X (64 * (s / 64 + 1)) - X (s + 1))
      = keyGrad T X qf (pairing o v) s := by
  rw [read_costate, keyGrad, sum_mul, ← sum_add_distrib]
  refine sum_congr rfl fun t _ => ?_
  by_cases h : s ≤ t ∧ s / 64 = t / 64
  · rw [if_pos h, if_neg (by omega), if_pos h.1, ← exp_glue (X (t + 1)) c (X (s + 1))]; ring
  · by_cases h' : 64 * (s / 64 + 1) ≤ t
    · rw [if_neg h, if_pos h', if_pos (by omega)]; ring
    · rw [if_neg h, if_neg h', if_neg (by omega)]; ring

/-- The costate of a chunk from the costate of the next one. -/
theorem costate_step (T : ℕ) (X qf : ℕ → ℝ) (o : ℕ → V → ℝ) (n : ℕ) (j : V) :
    (∑ t ∈ range T, if t / 64 = n then o t j * (qf t * Real.exp (X (t + 1) - X (64 * n))) else 0)
        + costateAt T X qf o (n + 1) j * Real.exp (X (64 * (n + 1)) - X (64 * n))
      = costateAt T X qf o n j := by
  unfold costateAt
  rw [sum_mul, ← sum_add_distrib]
  refine sum_congr rfl fun t _ => ?_
  by_cases h : t / 64 = n
  · rw [if_pos h, if_neg (by omega), if_pos (by omega)]; ring
  · by_cases h' : 64 * (n + 1) ≤ t
    · rw [if_neg h, if_pos h', if_pos (by omega), ← exp_glue (X (t + 1)) (X (64 * (n + 1))) (X (64 * n))]; ring
    · rw [if_neg h, if_neg h', if_neg (by omega)]; ring

/-- No token comes after the last chunk. -/
theorem costate_end (T : ℕ) (X qf : ℕ → ℝ) (o : ℕ → V → ℝ) (n : ℕ) (h : T ≤ 64 * n) (j : V) : costateAt T X qf o n j = 0 :=
  sum_eq_zero fun t ht => if_neg (by have := mem_range.mp ht; omega)

/-- The value gradient of one chunk: what its own tokens give through the scores, and what the costate gives. -/
theorem value_split (T : ℕ) (X qf kk : K → ℕ → ℝ) (o : ℕ → V → ℝ) (c : K → ℝ) (s : ℕ) (j : V) :
    (∑ t ∈ range T, if s ≤ t ∧ s / 64 = t / 64 then
        (∑ k, (qf k t * Real.exp (X k (t + 1) - c k)) * (kk k s * Real.exp (c k - X k (s + 1)))) * o t j else 0)
        + ∑ k, (kk k s * Real.exp (X k (64 * (s / 64 + 1)) - X k (s + 1))) * costateAt T (X k) (qf k) o (s / 64 + 1) j
      = ∑ t ∈ range T, if s ≤ t then o t j * ∑ k, qf k t * kk k s * Real.exp (X k (t + 1) - X k (s + 1)) else 0 := by
  unfold costateAt
  simp only [mul_sum]
  rw [sum_comm (s := univ), ← sum_add_distrib]
  refine sum_congr rfl fun t _ => ?_
  by_cases h : s ≤ t ∧ s / 64 = t / 64
  · rw [if_pos h, if_pos h.1, sum_mul, ← sum_add_distrib]
    refine sum_congr rfl fun k _ => ?_
    rw [if_neg (by omega), ← exp_glue (X k (t + 1)) (c k) (X k (s + 1))]; ring
  · rw [if_neg h, zero_add]
    by_cases h' : 64 * (s / 64 + 1) ≤ t
    · rw [if_pos (by omega)]
      refine sum_congr rfl fun k _ => ?_
      rw [if_pos h', ← exp_glue (X k (t + 1)) (X k (64 * (s / 64 + 1))) (X k (s + 1))]; ring
    · rw [if_neg (by omega)]
      exact sum_eq_zero fun k _ => by rw [if_neg h', mul_zero]

/-- Of the pairs of tokens, the ones with both tokens at `M` or later cancel. -/
theorem later_cancel (T M : ℕ) (P : ℕ → ℕ → ℝ) :
    (∑ u ∈ range T, if M ≤ u then (∑ s ∈ range T, if s ≤ u then P u s else 0) - (∑ r ∈ range T, if u ≤ r then P r u else 0) else 0)
      = ∑ u ∈ range T, ∑ s ∈ range T, if M ≤ u ∧ s < M then P u s else 0 := by
  have e : ∀ u, (if M ≤ u then (∑ s ∈ range T, if s ≤ u then P u s else 0) - (∑ r ∈ range T, if u ≤ r then P r u else 0) else 0)
      = (∑ s ∈ range T, if M ≤ u ∧ s ≤ u then P u s else 0) - (∑ r ∈ range T, if M ≤ u ∧ u ≤ r then P r u else 0) := by
    intro u
    by_cases h : M ≤ u <;> simp [h]
  rw [sum_congr rfl fun u _ => e u, sum_sub_distrib, sum_comm (f := fun u r => if M ≤ u ∧ u ≤ r then P r u else 0),
    ← sum_sub_distrib]
  refine sum_congr rfl fun u _ => ?_
  rw [← sum_sub_distrib]
  refine sum_congr rfl fun s _ => ?_
  by_cases h1 : M ≤ u <;> by_cases h2 : s ≤ u <;> by_cases h3 : M ≤ s <;> simp [h1, h2, h3] <;> omega

/-- What the carried matrices give to the gate of every token of chunk `n`: the pairs with one token after the chunk and
    the other in it or before it. -/
theorem carry_gate (T : ℕ) (X qf kk : ℕ → ℝ) (o v : ℕ → V → ℝ) (n : ℕ) :
    (∑ j, costateAt T X qf o (n + 1) j * stateAt T X kk v n j) * Real.exp (X (64 * (n + 1)) - X (64 * n))
        + (∑ s ∈ range T, if s / 64 = n then (∑ j, v s j * costateAt T X qf o (n + 1) j)
            * (kk s * Real.exp (X (64 * (n + 1)) - X (s + 1))) else 0)
      = ∑ u ∈ range T, if 64 * (n + 1) ≤ u then
          qf u * queryGrad T X kk (pairing o v) u - kk u * keyGrad T X qf (pairing o v) u else 0 := by
  have h := later_cancel T (64 * (n + 1)) fun u s => pairing o v u s * (kk s * qf u) * Real.exp (X (u + 1) - X (s + 1))
  have e : ∀ u, qf u * queryGrad T X kk (pairing o v) u - kk u * keyGrad T X qf (pairing o v) u
      = (∑ s ∈ range T, if s ≤ u then pairing o v u s * (kk s * qf u) * Real.exp (X (u + 1) - X (s + 1)) else 0)
        - (∑ r ∈ range T, if u ≤ r then pairing o v r u * (kk u * qf r) * Real.exp (X (r + 1) - X (u + 1)) else 0) := by
    intro u
    unfold queryGrad keyGrad
    rw [mul_sum, mul_sum]
    congr 1 <;> refine sum_congr rfl fun s _ => ?_ <;> split_ifs <;> ring
  simp only [e]
  rw [h, sum_comm]
  have a : (∑ j, costateAt T X qf o (n + 1) j * stateAt T X kk v n j) * Real.exp (X (64 * (n + 1)) - X (64 * n))
      = ∑ s ∈ range T, if s < 64 * n then (∑ j, v s j * costateAt T X qf o (n + 1) j)
            * (kk s * Real.exp (X (64 * (n + 1)) - X (s + 1))) else 0 := by
    unfold stateAt
    simp only [mul_sum]
    rw [sum_comm, sum_mul]
    refine sum_congr rfl fun s _ => ?_
    split_ifs
    · rw [← exp_glue (X (64 * (n + 1))) (X (64 * n)) (X (s + 1)), sum_mul, sum_mul]
      exact sum_congr rfl fun j _ => by ring
    · simp
  rw [a, ← sum_add_distrib]
  refine sum_congr rfl fun s _ => ?_
  have b : (∑ j, v s j * costateAt T X qf o (n + 1) j) * (kk s * Real.exp (X (64 * (n + 1)) - X (s + 1)))
      = kk s * ∑ t ∈ range T, if 64 * (n + 1) ≤ t then pairing o v t s * qf t * Real.exp (X (t + 1) - X (s + 1)) else 0 := by
    rw [← read_costate]; ring
  rw [b, mul_sum]
  by_cases h1 : s < 64 * n
  · rw [if_pos h1, if_neg (by omega), add_zero]
    refine sum_congr rfl fun u _ => ?_
    by_cases h2 : 64 * (n + 1) ≤ u
    · rw [if_pos h2, if_pos (by omega)]; ring
    · rw [if_neg h2, if_neg (by omega), mul_zero]
  · by_cases h3 : s / 64 = n
    · rw [if_neg h1, if_pos h3, zero_add]
      refine sum_congr rfl fun u _ => ?_
      by_cases h2 : 64 * (n + 1) ≤ u
      · rw [if_pos h2, if_pos (by omega)]; ring
      · rw [if_neg h2, if_neg (by omega), mul_zero]
    · rw [if_neg h1, if_neg h3, add_zero]
      exact (sum_eq_zero fun u _ => if_neg (by omega)).symm

/-- The gradient of the log gate: the chunk's own tokens from `t` on, and what the carried matrices give. -/
theorem gate_split (T : ℕ) (X qf kk : ℕ → ℝ) (o v : ℕ → V → ℝ) (t : ℕ) :
    (∑ u ∈ range T, if t ≤ u ∧ t / 64 = u / 64 then
        qf u * queryGrad T X kk (pairing o v) u - kk u * keyGrad T X qf (pairing o v) u else 0)
      + ((∑ j, costateAt T X qf o (t / 64 + 1) j * stateAt T X kk v (t / 64) j) * Real.exp (X (64 * (t / 64 + 1)) - X (64 * (t / 64)))
        + (∑ s ∈ range T, if s / 64 = t / 64 then (∑ j, v s j * costateAt T X qf o (t / 64 + 1) j)
            * (kk s * Real.exp (X (64 * (t / 64 + 1)) - X (s + 1))) else 0))
      = ∑ u ∈ range T, if t ≤ u then
          qf u * queryGrad T X kk (pairing o v) u - kk u * keyGrad T X qf (pairing o v) u else 0 := by
  rw [carry_gate, ← sum_add_distrib]
  refine sum_congr rfl fun u _ => ?_
  by_cases h : t ≤ u ∧ t / 64 = u / 64
  · rw [if_pos h, if_neg (by omega), if_pos h.1, add_zero]
  · by_cases h' : 64 * (t / 64 + 1) ≤ u
    · rw [if_neg h, if_pos h', if_pos (by omega), zero_add]
    · rw [if_neg h, if_neg h', if_neg (by omega), zero_add]

end Cert.Hgrn

end
-- ==== Proof.HeadRead.lean ====
/- The head's operations on real values: a block, a chunk, a row, a matrix or a table of pairs that reads a real function goes
   to one that reads a real function. Floats are exact here, so a rounding changes nothing. -/
module

public import proofs.«01_k».proof.Proof.HeadOps
public import proofs.«01_k».proof.Proof.Chunks
public import Idealize.ShloMosaic.Lib.Pointwise

@[expose] public section

set_option maxRecDepth 16384

noncomputable section

namespace Cert.Hgrn

open Idealize.ShloMosaic Idealize.SL.Sem Cert.KernelIdeal Cert.KernelIdeal.Gen

/-- Block `b` of 256 tokens holds the real function `g` of token and lane. -/
def IsBlk {e : FTy} (x : FVec Ideal S256x128 e) (b : ℕ) (g : ℕ → Fin 128 → ℝ) : Prop :=
  ∀ (r : Fin 256) (j : Fin 128), x (ix2 r j) = ((g (256 * b + r) j : ℝ) : EReal)

/-- Chunk `n` of 64 tokens holds `g`. -/
def IsChunk {e : FTy} (x : FVec Ideal S64x128 e) (n : ℕ) (g : ℕ → Fin 128 → ℝ) : Prop :=
  ∀ (i : Fin 64) (j : Fin 128), x (ix2 i j) = ((g (64 * n + i) j : ℝ) : EReal)

/-- The row holds `a`. -/
def IsRow {e : FTy} (x : FVec Ideal S1x128 e) (a : Fin 128 → ℝ) : Prop :=
  ∀ (j : Fin 128), x (ix2 0 j) = ((a j : ℝ) : EReal)

/-- The matrix holds `M`. -/
def IsMat {e : FTy} (x : FVec Ideal S128x128 e) (M : Fin 128 → Fin 128 → ℝ) : Prop :=
  ∀ (i j : Fin 128), x (ix2 i j) = ((M i j : ℝ) : EReal)

/-- The table of pairs of the block's tokens holds `A`. -/
def IsPairs {e : FTy} (x : FVec Ideal S256x256 e) (b : ℕ) (A : ℕ → ℕ → ℝ) : Prop :=
  ∀ (r s : Fin 256), x (ix2 r s) = ((A (256 * b + r) (256 * b + s) : ℝ) : EReal)

/-! ## Sums -/

/-- A sum of real values is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A window of a sequence, as a sum over the tokens below `T`. -/
theorem window_sum (T a m : ℕ) (h : a + m ≤ T) (H : ℕ → ℝ) (h0 : ∀ u, ¬(a ≤ u ∧ u < a + m) → H u = 0) :
    ∑ i : Fin m, H (a + i) = ∑ u ∈ Finset.range T, H u := by
  rw [Fin.sum_univ_eq_sum_range (fun i => H (a + i)) m]
  have e := Finset.sum_Ico_eq_sum_range H a (a + m)
  rw [Nat.add_sub_cancel_left] at e
  rw [← e]
  refine Finset.sum_subset (fun u hu => ?_) fun u _ hu => h0 u fun h' => hu (Finset.mem_Ico.mpr h')
  have := Finset.mem_Ico.mp hu
  exact Finset.mem_range.mpr (by omega)

/-- A chunk's tokens. -/
theorem chunk_sum (T n : ℕ) (h : 64 * (n + 1) ≤ T) (H : ℕ → ℝ) :
    ∑ i : Fin 64, H (64 * n + i) = ∑ u ∈ Finset.range T, if u / 64 = n then H u else 0 := by
  rw [← window_sum T (64 * n) 64 (by omega) (fun u => if u / 64 = n then H u else 0) (fun u hu => if_neg (by omega))]
  exact Finset.sum_congr rfl fun i _ => (if_pos (by have := i.isLt; omega)).symm

/-! ## Words -/

theorem word_le (i k : ℕ) (hi : i < 2 ^ 31) (hk : k < 2 ^ 31) : (BitVec.ofNat 32 i).sle (BitVec.ofNat 32 k) = decide (i ≤ k) := by
  have e : ∀ n, n < 2 ^ 31 → (BitVec.ofNat 32 n).toInt = n := fun n hn => by
    rw [BitVec.toInt_eq_toNat_cond, BitVec.toNat_ofNat, Nat.mod_eq_of_lt (by omega), if_pos (by omega)]
  rw [BitVec.sle, e i hi, e k hk]
  exact decide_eq_decide.mpr (by omega)

/-- A 0/1 word as a float. -/
theorem bit_float (p : Prop) [Decidable p] :
    FloatOps.sitofp (F := Ideal) .f32 (BitVec.setWidth 32 (BitVec.ofBool (decide p))) = if p then ((1 : ℝ) : EReal) else ((0 : ℝ) : EReal) := by
  by_cases h : p
  · rw [if_pos h, decide_eq_true h]
    show (((BitVec.setWidth 32 (BitVec.ofBool true)).toInt : ℝ) : EReal) = _
    rw [show (BitVec.setWidth 32 (BitVec.ofBool true)).toInt = 1 by decide]; norm_num
  · rw [if_neg h, decide_eq_false h]
    show (((BitVec.setWidth 32 (BitVec.ofBool false)).toInt : ℝ) : EReal) = _
    rw [show (BitVec.setWidth 32 (BitVec.ofBool false)).toInt = 0 by decide]; norm_num

/-- The chunk of a token, as the kernel's words compute it. -/
def chunkWord (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem chunkWord_eq : ∀ i : Fin 256, chunkWord (BitVec.ofNat 32 i) = BitVec.ofNat 32 (i / 64) := by decide +kernel

theorem ownPairs_eq (r s : Fin 256) : ownPairs (ix2 r s) = BitVec.ofBool (decide (s.val ≤ r ∧ s.val / 64 = r / 64)) := by
  have e : ownPairs (ix2 r s) = IntOp.andi (IntOp.cmpi CmpIPredicate.sge (BitVec.ofNat 32 r) (BitVec.ofNat 32 s))
      (IntOp.cmpi CmpIPredicate.eq (chunkWord (BitVec.ofNat 32 r)) (chunkWord (BitVec.ofNat 32 s))) := by
    unfold ownPairs chunkWord; unfold_payloads; pointwise
  have hr := r.isLt
  have hs := s.isLt
  rw [e, chunkWord_eq, chunkWord_eq]
  show IntOp.andi (BitVec.ofBool ((BitVec.ofNat 32 s).sle (BitVec.ofNat 32 r))) (BitVec.ofBool (BitVec.ofNat 32 (r / 64) == BitVec.ofNat 32 (s / 64))) = _
  have e2 : (BitVec.ofNat 32 (r / 64) == BitVec.ofNat 32 (s / 64)) = decide (s.val / 64 = r / 64) := by
    rw [Bool.eq_iff_iff, beq_iff_eq, decide_eq_true_iff, ← BitVec.toNat_inj, BitVec.toNat_ofNat, BitVec.toNat_ofNat,
      Nat.mod_eq_of_lt (by omega), Nat.mod_eq_of_lt (by omega)]
    exact eq_comm
  rw [word_le s r (by omega) (by omega), e2]
  by_cases h1 : s.val ≤ r <;> by_cases h2 : s.val / 64 = r / 64 <;> simp [h1, h2] <;> rfl

/-! ## Blocks, entry by entry -/

section Entrywise

variable {b : ℕ} {x y : FVec Ideal S256x128 .f32} {f g : ℕ → Fin 128 → ℝ}

theorem IsBlk.congr {e : FTy} {z : FVec Ideal S256x128 e} (h : IsBlk z b f) (e : ∀ t j, t / 256 = b → f t j = g t j) : IsBlk z b g :=
  fun r j => (h r j).trans (by rw [e _ _ (by have := r.isLt; omega)])

theorem isBlk_fill_one : IsBlk (fill (F := Ideal) 0x3F800000#32) b fun _ _ => 1 := fun r j => by
  unfold fill; pointwise; rfl

theorem isBlk_fill_zero : IsBlk (fill (F := Ideal) 0x00000000#32) b fun _ _ => 0 := fun r j => by
  unfold fill; pointwise; rfl

theorem IsBlk.add (hx : IsBlk x b f) (hy : IsBlk y b g) : IsBlk (addf x y) b fun t j => f t j + g t j := fun r j => by
  pointwise; rw [hx, hy, EReal.coe_add]

theorem IsBlk.sub (hx : IsBlk x b f) (hy : IsBlk y b g) : IsBlk (subf x y) b fun t j => f t j - g t j := fun r j => by
  pointwise; rw [hx, hy, EReal.coe_sub]

theorem IsBlk.mul (hx : IsBlk x b f) (hy : IsBlk y b g) : IsBlk (mulf x y) b fun t j => f t j * g t j := fun r j => by
  pointwise; rw [hx, hy, EReal.coe_mul]

theorem IsBlk.exp (hx : IsBlk x b f) : IsBlk (Idealize.ShloMosaic.exp x) b fun t j => Real.exp (f t j) := fun r j => by
  pointwise; rw [hx]; rfl

theorem IsBlk.log (hx : IsBlk x b f) (hf : ∀ t j, 0 < f t j) : IsBlk (Idealize.ShloMosaic.log x) b fun t j => Real.log (f t j) := fun r j => by
  pointwise; rw [hx]; exact if_neg (not_le.mpr (hf _ _))

theorem IsBlk.div (hx : IsBlk x b f) (hy : IsBlk y b g) (hg : ∀ t j, g t j ≠ 0) : IsBlk (divf x y) b fun t j => f t j / g t j := fun r j => by
  pointwise; rw [hx, hy, Ideal.div_coe (hg _ _), ← EReal.coe_mul, mul_one_div]

theorem IsBlk.thin (hx : IsBlk x b f) : IsBlk (thin x) b f := fun r j => by
  unfold Cert.Hgrn.thin; pointwise; rw [hx]

theorem IsBlk.wide {q : Vec Ideal S256x128 .bf16} (hq : IsBlk (e := .bf16) q b f) : IsBlk (wide q) b f := fun r j => by
  unfold Cert.Hgrn.wide; pointwise; rw [hq]

theorem IsBlk.rows {z : FVec Ideal S1x128 .f32} {a : Fin 128 → ℝ} (hz : IsRow z a) : IsBlk (rows z) b fun _ => a := fun r j => by
  unfold Cert.Hgrn.rows; pointwise; rw [hz]

theorem IsRow.room {z : FVec Ideal S1x128 .f32} {a : Fin 128 → ℝ} (hz : IsRow z a) : IsRow (room z) fun j => 1 - a j := fun j => by
  unfold Cert.Hgrn.room; pointwise; rw [hz, EReal.coe_sub]; rfl

theorem IsRow.exp {z : FVec Ideal S1x128 .f32} {a : Fin 128 → ℝ} (hz : IsRow z a) : IsRow (Idealize.ShloMosaic.exp z) fun j => Real.exp (a j) := fun j => by
  pointwise; rw [hz]; rfl

theorem IsRow.add {z w : FVec Ideal S1x128 .f32} {a c : Fin 128 → ℝ} (hz : IsRow z a) (hw : IsRow w c) : IsRow (addf z w) fun j => a j + c j := fun j => by
  pointwise; rw [hz, hw, EReal.coe_add]

end Entrywise

/-- The logistic function. -/
def sgR (x : ℝ) : ℝ := 1 / (1 + Real.exp (-x))

theorem sgR_pos (x : ℝ) : 0 < sgR x := by unfold sgR; positivity

theorem IsBlk.logi {b : ℕ} {x : FVec Ideal S256x128 .f32} {f : ℕ → Fin 128 → ℝ} (hx : IsBlk x b f) :
    IsBlk (logi x) b fun t j => sgR (f t j) := by
  unfold Cert.Hgrn.logi
  refine (isBlk_fill_one.div (isBlk_fill_one.add (isBlk_fill_zero.sub hx).exp) fun t j => by positivity).congr fun t j _ => ?_
  rw [zero_sub]; rfl

/-! ## Chunks -/

section Chunks

variable {b n : ℕ} {e : FTy} {f g : ℕ → Fin 128 → ℝ}

theorem IsChunk.congr {z : FVec Ideal S64x128 e} (h : IsChunk z n f) (e : ∀ t j, t / 64 = n → f t j = g t j) : IsChunk z n g :=
  fun i j => (h i j).trans (by rw [e _ _ (by have := i.isLt; omega)])

theorem IsBlk.chunk0 {x : FVec Ideal S256x128 e} (h : IsBlk x b f) : IsChunk (chunk0 x) (4 * b) f := fun i j => by
  unfold Cert.Hgrn.chunk0; pointwise; rw [h]
  exact congrArg (fun t => ((f t j : ℝ) : EReal)) (show 256 * b + i.val = 64 * (4 * b) + i.val by omega)
theorem IsBlk.chunk1 {x : FVec Ideal S256x128 e} (h : IsBlk x b f) : IsChunk (chunk1 x) (4 * b + 1) f := fun i j => by
  unfold Cert.Hgrn.chunk1; pointwise; rw [h]
  exact congrArg (fun t => ((f t j : ℝ) : EReal)) (show 256 * b + (64 + i.val) = 64 * (4 * b + 1) + i.val by omega)
theorem IsBlk.chunk2 {x : FVec Ideal S256x128 e} (h : IsBlk x b f) : IsChunk (chunk2 x) (4 * b + 2) f := fun i j => by
  unfold Cert.Hgrn.chunk2; pointwise; rw [h]
  exact congrArg (fun t => ((f t j : ℝ) : EReal)) (show 256 * b + (128 + i.val) = 64 * (4 * b + 2) + i.val by omega)
theorem IsBlk.chunk3 {x : FVec Ideal S256x128 e} (h : IsBlk x b f) : IsChunk (chunk3 x) (4 * b + 3) f := fun i j => by
  unfold Cert.Hgrn.chunk3; pointwise; rw [h]
  exact congrArg (fun t => ((f t j : ℝ) : EReal)) (show 256 * b + (192 + i.val) = 64 * (4 * b + 3) + i.val by omega)

theorem isBlk_stack {x0 x1 x2 x3 : FVec Ideal S64x128 .f32} (h0 : IsChunk x0 (4 * b) f) (h1 : IsChunk x1 (4 * b + 1) f)
    (h2 : IsChunk x2 (4 * b + 2) f) (h3 : IsChunk x3 (4 * b + 3) f) : IsBlk (stack x0 x1 x2 x3) b f := fun r j => by
  have hr := r.isLt
  unfold stack; pointwise
  by_cases c0 : r.val < 64
  · rw [dif_pos c0, h0]; exact congrArg (fun t => ((f t j : ℝ) : EReal)) (show 64 * (4 * b) + r.val = 256 * b + r.val by omega)
  by_cases c1 : r.val - 64 < 64
  · rw [dif_neg c0, dif_pos c1, h1]; exact congrArg (fun t => ((f t j : ℝ) : EReal)) (show 64 * (4 * b + 1) + (r.val - 64) = 256 * b + r.val by omega)
  by_cases c2 : r.val - 64 - 64 < 64
  · rw [dif_neg c0, dif_neg c1, dif_pos c2, h2]; exact congrArg (fun t => ((f t j : ℝ) : EReal)) (show 64 * (4 * b + 2) + (r.val - 64 - 64) = 256 * b + r.val by omega)
  · rw [dif_neg c0, dif_neg c1, dif_neg c2, h3]; exact congrArg (fun t => ((f t j : ℝ) : EReal)) (show 64 * (4 * b + 3) + (r.val - 64 - 64 - 64) = 256 * b + r.val by omega)

theorem isChunk_spread {z : FVec Ideal S1x128 .f32} {a : Fin 128 → ℝ} (hz : IsRow z a) : IsChunk (spread z) n fun _ => a := fun i j => by
  unfold spread; pointwise; rw [hz]

theorem isRow_sumChunk {x : FVec Ideal S64x128 .f32} (h : IsChunk x n f) : IsRow (sumChunk x) fun j => ∑ i : Fin 64, f (64 * n + i) j := fun j => by
  unfold sumChunk; pointwise; simp only [h _ _]; exact coe_sum _ _

theorem isRow_sumBlock {x : FVec Ideal S256x128 .f32} (h : IsBlk x b f) : IsRow (sumBlock x) fun j => ∑ r : Fin 256, f (256 * b + r) j := fun j => by
  unfold sumBlock; pointwise; simp only [h _ _]; exact coe_sum _ _

end Chunks

/-! ## Sums inside a chunk -/

theorem triUp_eq (g : Fin 4) (i k : Fin 64) : triUp (F := Ideal) (ix3 g i k) = if k.val ≤ i then ((1 : ℝ) : EReal) else ((0 : ℝ) : EReal) := by
  have e : (triUp (F := Ideal) (ix3 g i k) : EReal)
      = FloatOps.sitofp (F := Ideal) .f32 (BitVec.setWidth 32 (IntOp.cmpi CmpIPredicate.sge (BitVec.ofNat 32 i) (BitVec.ofNat 32 k))) := by
    unfold triUp; unfold_payloads; pointwise
  rw [e, ← bit_float, ← word_le k i (by have := k.isLt; omega) (by have := i.isLt; omega)]; rfl

theorem triDown_eq (g : Fin 4) (i k : Fin 64) : triDown (F := Ideal) (ix3 g i k) = if i.val ≤ k then ((1 : ℝ) : EReal) else ((0 : ℝ) : EReal) := by
  have e : (triDown (F := Ideal) (ix3 g i k) : EReal)
      = FloatOps.sitofp (F := Ideal) .f32 (BitVec.setWidth 32 (IntOp.cmpi CmpIPredicate.sle (BitVec.ofNat 32 i) (BitVec.ofNat 32 k))) := by
    unfold triDown; pointwise
  rw [e, ← bit_float, ← word_le i k (by have := i.isLt; omega) (by have := k.isLt; omega)]; rfl

/-- The sums a triangle `A` names: the three rounded parts add up to the block, the second and third being zero. -/
theorem isBlk_chunkSum {b T : ℕ} (hT : 256 * (b + 1) ≤ T) {x : FVec Ideal S256x128 .f32} {f : ℕ → Fin 128 → ℝ} (hx : IsBlk x b f)
    (tri : FVec Ideal S4x64x64 .bf16) (p : ℕ → ℕ → Prop) [∀ t u, Decidable (p t u)]
    (ht : ∀ (g : Fin 4) (i k : Fin 64), tri (ix3 g i k) = if p i k then ((1 : ℝ) : EReal) else ((0 : ℝ) : EReal))
    (hp : ∀ n (i k : Fin 64), p i k ↔ p (64 * n + i) (64 * n + k)) :
    IsBlk (chunkSum tri x) b fun t j => ∑ u ∈ Finset.range T, if u / 64 = t / 64 then (if p t u then f u j else 0) else 0 := fun r j => by
  have hr := r.isLt
  have hn : (256 * b + r.val) / 64 = 4 * b + r.val / 64 := by omega
  show _ = ((∑ u ∈ Finset.range T, if u / 64 = (256 * b + r.val) / 64 then (if p (256 * b + r.val) u then f u j else 0) else 0 : ℝ) : EReal)
  rw [← chunk_sum T _ (by omega) fun u => if p (256 * b + r) u then f u j else 0]
  unfold chunkSum triDot rest part
  pointwise
  have e : ∀ k : Fin 64, x (ix2 ⟨r.val / 64 * 64 + k.val, by have := k.isLt; omega⟩ j) = ((f (64 * ((256 * b + r.val) / 64) + k) j : ℝ) : EReal) := fun k => by
    rw [hx]; exact congrArg (fun t => ((f t j : ℝ) : EReal)) (show 256 * b + (r.val / 64 * 64 + k.val) = 64 * ((256 * b + r.val) / 64) + k.val by omega)
  simp only [e, ht, ← EReal.coe_sub, sub_self]
  have w : ∀ k : Fin 64, (p (r.val % 64) k ↔ p (256 * b + r) (64 * ((256 * b + r.val) / 64) + k)) := fun k => by
    have h := hp ((256 * b + r.val) / 64) ⟨r.val % 64, by omega⟩ k
    rw [show 64 * ((256 * b + r.val) / 64) + ((⟨r.val % 64, by omega⟩ : Fin 64) : ℕ) = 256 * b + r by show _ + r.val % 64 = _; omega] at h
    exact h
  rw [← coe_sum]
  have z : ∀ k : Fin 64, (if p (r.val % 64) k then ((1 : ℝ) : EReal) else ((0 : ℝ) : EReal)) * ((0 : ℝ) : EReal) = 0 := fun k => by
    rw [EReal.coe_zero, mul_zero]
  simp only [z, Finset.sum_const_zero, add_zero]
  refine Finset.sum_congr rfl fun k _ => ?_
  by_cases h : p (r.val % 64) k
  · rw [if_pos h, if_pos ((w k).mp h), EReal.coe_one, one_mul]
  · rw [if_neg h, if_neg (fun h' => h ((w k).mpr h')), EReal.coe_zero, zero_mul]

/-! ## Products -/

section Products

variable {b n : ℕ} {f g : ℕ → Fin 128 → ℝ}

theorem isPairs_scores {x y : FVec Ideal S256x128 .bf16} (hx : IsBlk x b f) (hy : IsBlk y b g) :
    IsPairs (scores x y) b fun t s => if s ≤ t ∧ s / 64 = t / 64 then ∑ j, f t j * g s j else 0 := fun r s => by
  unfold scores; pointwise
  simp only [hx _ _, hy _ _, ← EReal.coe_mul]
  rw [ownPairs_eq, coe_sum]
  have hr := r.isLt
  have hs := s.isLt
  have q : (256 * b + s.val ≤ 256 * b + r.val ∧ (256 * b + s.val) / 64 = (256 * b + r.val) / 64) ↔ (s.val ≤ r ∧ s.val / 64 = r / 64) := by omega
  by_cases h : s.val ≤ r ∧ s.val / 64 = r / 64
  · rw [if_pos (q.mpr h), decide_eq_true h]; rfl
  · rw [if_neg (fun h' => h (q.mp h')), decide_eq_false h]; rfl

theorem isBlk_overSecond {T : ℕ} (hT : 256 * (b + 1) ≤ T) {a : FVec Ideal S256x256 .bf16} {y : FVec Ideal S256x128 .bf16} {w : ℕ → ℕ → ℝ}
    (ha : IsPairs a b fun t s => if s ≤ t ∧ s / 64 = t / 64 then w t s else 0) (hy : IsBlk y b g) :
    IsBlk (overSecond a y) b fun t j => ∑ s ∈ Finset.range T, if s ≤ t ∧ s / 64 = t / 64 then w t s * g s j else 0 := fun r j => by
  have hr := r.isLt
  unfold overSecond; pointwise
  simp only [ha _ _, hy _ _, ← EReal.coe_mul]
  rw [coe_sum, ← window_sum T (256 * b) 256 (by omega) _ fun u hu => if_neg (by omega)]
  refine congrArg _ (Finset.sum_congr rfl fun s _ => ?_)
  rw [ite_mul, zero_mul]

theorem isBlk_overFirst {T : ℕ} (hT : 256 * (b + 1) ≤ T) {a : FVec Ideal S256x256 .bf16} {y : FVec Ideal S256x128 .bf16} {w : ℕ → ℕ → ℝ}
    (ha : IsPairs a b fun t s => if s ≤ t ∧ s / 64 = t / 64 then w t s else 0) (hy : IsBlk y b g) :
    IsBlk (overFirst a y) b fun s j => ∑ t ∈ Finset.range T, if s ≤ t ∧ s / 64 = t / 64 then w t s * g t j else 0 := fun r j => by
  have hr := r.isLt
  unfold overFirst; pointwise
  simp only [ha _ _, hy _ _, ← EReal.coe_mul]
  rw [coe_sum, ← window_sum T (256 * b) 256 (by omega) _ fun u hu => if_neg (by omega)]
  refine congrArg _ (Finset.sum_congr rfl fun s _ => ?_)
  rw [ite_mul, zero_mul]

theorem isChunk_timesMat {x : FVec Ideal S64x128 .bf16} {m : FVec Ideal S128x128 .f32} {M : Fin 128 → Fin 128 → ℝ} (hx : IsChunk x n f) (hm : IsMat m M) :
    IsChunk (timesMat x m) n fun t k => ∑ i, f t i * M i k := fun r j => by
  unfold timesMat thinMat; pointwise
  simp only [hx _ _, hm _ _, ← EReal.coe_mul]
  exact coe_sum _ _

theorem isChunk_timesMatT {x : FVec Ideal S64x128 .bf16} {m : FVec Ideal S128x128 .f32} {M : Fin 128 → Fin 128 → ℝ} (hx : IsChunk x n f) (hm : IsMat m M) :
    IsChunk (timesMatT x m) n fun t i => ∑ k, f t k * M i k := fun r j => by
  unfold timesMatT thinMat; pointwise
  simp only [hx _ _, hm _ _, ← EReal.coe_mul]
  exact coe_sum _ _

theorem isMat_carry {T : ℕ} (hT : 64 * (n + 1) ≤ T) {x y : FVec Ideal S64x128 .bf16} {gam : FVec Ideal S1x128 .f32} {m : FVec Ideal S128x128 .f32}
    {M : Fin 128 → Fin 128 → ℝ} {a : Fin 128 → ℝ} (hx : IsChunk x n f) (hy : IsChunk y n g) (hg : IsRow gam a) (hm : IsMat m M) :
    IsMat (carry x y gam m) fun i k => (∑ t ∈ Finset.range T, if t / 64 = n then f t i * g t k else 0) + M i k * a k := fun r j => by
  unfold carry; pointwise
  simp only [hx _ _, hy _ _, hm _ _, hg _, ← EReal.coe_mul]
  rw [coe_sum, ← EReal.coe_add, ← chunk_sum T n hT]

theorem isRow_gateMat {d s : FVec Ideal S128x128 .f32} {gam : FVec Ideal S1x128 .f32} {M S : Fin 128 → Fin 128 → ℝ} {a : Fin 128 → ℝ}
    (hd : IsMat d M) (hs : IsMat s S) (hg : IsRow gam a) : IsRow (gateMat d s gam) fun k => (∑ i, M i k * S i k) * a k := fun j => by
  unfold gateMat; pointwise
  simp only [hd _ _, hs _ _, hg _, ← EReal.coe_mul]
  rw [coe_sum, ← EReal.coe_mul]

end Products

end Cert.Hgrn

end
-- ==== Proof.HeadReal.lean ====
/- What one head's part of a block is worth on finite inputs: each stage reads a real function of token and lane, and the
   stored results read the gradients as sums over all pairs of tokens. -/
module

public import proofs.«01_k».proof.Proof.HeadRead
public import Mathlib.Analysis.SpecialFunctions.Log.Basic

@[expose] public section

set_option maxRecDepth 16384

noncomputable section

namespace Cert.Hgrn

open Idealize.ShloMosaic Idealize.SL.Sem Cert.KernelIdeal Cert.KernelIdeal.Gen

/-- One head's inputs as real functions of token and lane; the lower bounds of its gates lie strictly between 0 and 1. -/
structure HeadIn where
  q : ℕ → Fin 128 → ℝ
  f : ℕ → Fin 128 → ℝ
  v : ℕ → Fin 128 → ℝ
  o : ℕ → Fin 128 → ℝ
  lb : Fin 128 → ℝ
  lb_pos : ∀ j, 0 < lb j
  lb_lt : ∀ j, lb j < 1

namespace HeadIn

variable (I : HeadIn)

/-- The gate of a token and lane. -/
def gate (t : ℕ) (k : Fin 128) : ℝ := I.lb k + (1 - I.lb k) * sgR (I.f t k)

/-- The key. -/
def key (k : Fin 128) (t : ℕ) : ℝ := 1 - I.gate t k

/-- The gated query. -/
def query (k : Fin 128) (t : ℕ) : ℝ := I.q t k * sgR (I.q t k)

/-- The sum of the log gates of the tokens before `m`. -/
def X (k : Fin 128) (m : ℕ) : ℝ := ∑ i ∈ Finset.range m, Real.log (I.gate i k)

/-- The inner product of the cotangent at `t` with the value at `s`. -/
def W : ℕ → ℕ → ℝ := pairing I.o I.v

variable (T : ℕ)

/-- The gradients of the gated query, the key, the log gate, the gate, and of the inputs, among `T` tokens. -/
def dQuery (t : ℕ) (k : Fin 128) : ℝ := queryGrad T (I.X k) (I.key k) I.W t
def dKey (t : ℕ) (k : Fin 128) : ℝ := keyGrad T (I.X k) (I.query k) I.W t
def dLog (t : ℕ) (k : Fin 128) : ℝ :=
  ∑ u ∈ Finset.range T, if t ≤ u then I.query k u * I.dQuery T u k - I.key k u * I.dKey T u k else 0
def dGate (t : ℕ) (k : Fin 128) : ℝ := I.dLog T t k / I.gate t k - I.dKey T t k
def dq (t : ℕ) (k : Fin 128) : ℝ := I.dQuery T t k * sgR (I.q t k) * (1 + I.q t k * (1 - sgR (I.q t k)))
def df (t : ℕ) (k : Fin 128) : ℝ := I.dGate T t k * (1 - I.lb k) * sgR (I.f t k) * (1 - sgR (I.f t k))
def di (s : ℕ) (j : Fin 128) : ℝ :=
  ∑ t ∈ Finset.range T, if s ≤ t then I.o t j * ∑ k, I.query k t * I.key k s * Real.exp (I.X k (t + 1) - I.X k (s + 1)) else 0
def dlbTerm (t : ℕ) (k : Fin 128) : ℝ := I.dGate T t k * (1 - sgR (I.f t k))

/-- The two recurrences' matrices, value lane by key lane, at the boundary before chunk `n`. -/
def state (n : ℕ) (j k : Fin 128) : ℝ := stateAt T (I.X k) (I.key k) I.v n j
def costate (n : ℕ) (j k : Fin 128) : ℝ := costateAt T (I.X k) (I.query k) I.o n j

theorem gate_pos (t : ℕ) (k : Fin 128) : 0 < I.gate t k := by
  have h := sgR_pos (I.f t k)
  have h1 := I.lb_pos k
  have h2 := I.lb_lt k
  unfold gate
  have := mul_nonneg (sub_pos.mpr h2).le h.le
  linarith

/-- The log gates of one chunk up to a token. -/
theorem own_sum (t T : ℕ) (h : t < T) (k : Fin 128) :
    (∑ u ∈ Finset.range T, if u / 64 = t / 64 then (if u ≤ t then Real.log (I.gate u k) else 0) else 0) = I.X k (t + 1) - I.X k (64 * (t / 64)) := by
  unfold X
  rw [← Finset.sum_Ico_eq_sub _ (by omega)]
  refine (Finset.sum_subset_zero_on_sdiff (fun u hu => ?_) (fun u hu => ?_) fun u hu => ?_).symm
  · have := Finset.mem_Ico.mp hu; exact Finset.mem_range.mpr (by omega)
  · have h2 := (Finset.mem_sdiff.mp hu).2
    rw [Finset.mem_Ico] at h2
    by_cases c : u / 64 = t / 64
    · rw [if_pos c, if_neg (by omega)]
    · rw [if_neg c]
  · have := Finset.mem_Ico.mp hu
    rw [if_pos (by omega), if_pos (by omega)]

end HeadIn

section Stages

variable {I : HeadIn} {b T : ℕ} (hT : 256 * (b + 1) ≤ T)
  {lb : FVec Ideal S1x128 .f32} {q fr iv ov : Vec Ideal S256x128 .bf16} {d s0 s1 s2 s3 : Vec Ideal S1x128x128 .f32}

/-- The slices a head's part reads hold the head's inputs, the matrix carried into the block, and the states of its chunks. -/
structure HeadHolds (I : HeadIn) (b T : ℕ) (lb : FVec Ideal S1x128 .f32) (q fr iv ov : Vec Ideal S256x128 .bf16)
    (d s0 s1 s2 s3 : Vec Ideal S1x128x128 .f32) : Prop where
  lb : IsRow lb I.lb
  q : IsBlk (e := .bf16) q b I.q
  fr : IsBlk (e := .bf16) fr b I.f
  iv : IsBlk (e := .bf16) iv b I.v
  ov : IsBlk (e := .bf16) ov b I.o
  d : IsMat (slab d) (I.costate T (4 * b + 4))
  s0 : IsMat (slab s0) (I.state T (4 * b))
  s1 : IsMat (slab s1) (I.state T (4 * b + 1))
  s2 : IsMat (slab s2) (I.state T (4 * b + 2))
  s3 : IsMat (slab s3) (I.state T (4 * b + 3))

variable (H : HeadHolds I b T lb q fr iv ov d s0 s1 s2 s3)

include H

theorem holds_gates : IsBlk (gates lb fr) b I.gate := (IsBlk.rows H.lb).add ((IsBlk.rows H.lb.room).mul H.fr.wide.logi)

theorem holds_keys : IsBlk (keys lb fr) b fun t k => I.key k t := isBlk_fill_one.sub (holds_gates H)

theorem holds_silu : IsBlk (silu q) b fun t k => I.query k t := H.q.wide.mul H.q.wide.logi

include hT

theorem holds_cumLog : IsBlk (cumLog lb fr) b fun t k => I.X k (t + 1) - I.X k (64 * (t / 64)) :=
  (isBlk_chunkSum hT ((holds_gates H).log I.gate_pos) triUp (fun t u => u ≤ t) triUp_eq fun n i k => by omega).congr
    fun t k ht => I.own_sum t T (by omega) k

theorem holds_row (m : ℕ) (hm : m < 256) : ∀ k : Fin 128, cumLog lb fr (ix2 ⟨m, hm⟩ k)
    = ((I.X k (256 * b + m + 1) - I.X k (64 * ((256 * b + m) / 64)) : ℝ) : EReal) := fun k => holds_cumLog hT H ⟨m, hm⟩ k

theorem holds_midRow : IsBlk (midRow (cumLog lb fr)) b fun t k => I.X k (64 * (t / 64) + 32) - I.X k (64 * (t / 64)) := by
  refine isBlk_stack ((isChunk_spread (a := fun k => I.X k (64 * (4 * b) + 32) - I.X k (64 * (4 * b))) ?_).congr fun t k h => by rw [h])
    ((isChunk_spread (a := fun k => I.X k (64 * (4 * b + 1) + 32) - I.X k (64 * (4 * b + 1))) ?_).congr fun t k h => by rw [h])
    ((isChunk_spread (a := fun k => I.X k (64 * (4 * b + 2) + 32) - I.X k (64 * (4 * b + 2))) ?_).congr fun t k h => by rw [h])
    ((isChunk_spread (a := fun k => I.X k (64 * (4 * b + 3) + 32) - I.X k (64 * (4 * b + 3))) ?_).congr fun t k h => by rw [h]) <;> intro k <;> pointwise
  · refine (holds_row hT H 31 (by omega) k).trans ?_
    rw [show 256 * b + 31 + 1 = 64 * (4 * b) + 32 by omega, show (256 * b + 31) / 64 = 4 * b by omega]
  · refine (holds_row hT H 95 (by omega) k).trans ?_
    rw [show 256 * b + 95 + 1 = 64 * (4 * b + 1) + 32 by omega, show (256 * b + 95) / 64 = 4 * b + 1 by omega]
  · refine (holds_row hT H 159 (by omega) k).trans ?_
    rw [show 256 * b + 159 + 1 = 64 * (4 * b + 2) + 32 by omega, show (256 * b + 159) / 64 = 4 * b + 2 by omega]
  · refine (holds_row hT H 223 (by omega) k).trans ?_
    rw [show 256 * b + 223 + 1 = 64 * (4 * b + 3) + 32 by omega, show (256 * b + 223) / 64 = 4 * b + 3 by omega]

theorem holds_end0 : IsRow (end0 (cumLog lb fr)) fun k => I.X k (64 * (4 * b + 1)) - I.X k (64 * (4 * b)) := fun k => by
  unfold end0; pointwise; refine (holds_row hT H 63 (by omega) k).trans ?_
  rw [show 256 * b + 63 + 1 = 64 * (4 * b + 1) by omega, show (256 * b + 63) / 64 = 4 * b by omega]

theorem holds_end1 : IsRow (end1 (cumLog lb fr)) fun k => I.X k (64 * (4 * b + 1 + 1)) - I.X k (64 * (4 * b + 1)) := fun k => by
  unfold end1; pointwise; refine (holds_row hT H 127 (by omega) k).trans ?_
  rw [show 256 * b + 127 + 1 = 64 * (4 * b + 1 + 1) by omega, show (256 * b + 127) / 64 = 4 * b + 1 by omega]

theorem holds_end2 : IsRow (end2 (cumLog lb fr)) fun k => I.X k (64 * (4 * b + 2 + 1)) - I.X k (64 * (4 * b + 2)) := fun k => by
  unfold end2; pointwise; refine (holds_row hT H 191 (by omega) k).trans ?_
  rw [show 256 * b + 191 + 1 = 64 * (4 * b + 2 + 1) by omega, show (256 * b + 191) / 64 = 4 * b + 2 by omega]

theorem holds_end3 : IsRow (end3 (cumLog lb fr)) fun k => I.X k (64 * (4 * b + 3 + 1)) - I.X k (64 * (4 * b + 3)) := fun k => by
  unfold end3; pointwise; refine (holds_row hT H 255 (by omega) k).trans ?_
  rw [show 256 * b + 255 + 1 = 64 * (4 * b + 3 + 1) by omega, show (256 * b + 255) / 64 = 4 * b + 3 by omega]

theorem holds_endRow : IsBlk (endRow (cumLog lb fr)) b fun t k => I.X k (64 * (t / 64 + 1)) - I.X k (64 * (t / 64)) :=
  isBlk_stack ((isChunk_spread (holds_end0 hT H)).congr fun t k h => by rw [h])
    ((isChunk_spread (holds_end1 hT H)).congr fun t k h => by rw [h])
    ((isChunk_spread (holds_end2 hT H)).congr fun t k h => by rw [h])
    ((isChunk_spread (holds_end3 hT H)).congr fun t k h => by rw [h])

theorem holds_fromStart : IsBlk (fromStart (cumLog lb fr)) b fun t k => Real.exp (I.X k (t + 1) - I.X k (64 * (t / 64))) :=
  (holds_cumLog hT H).exp

theorem holds_fromMid : IsBlk (fromMid (cumLog lb fr)) b fun t k => Real.exp (I.X k (t + 1) - I.X k (64 * (t / 64) + 32)) :=
  ((holds_cumLog hT H).sub (holds_midRow hT H)).exp.congr fun t k _ => congrArg Real.exp (by ring)

theorem holds_toMid : IsBlk (toMid (cumLog lb fr)) b fun t k => Real.exp (I.X k (64 * (t / 64) + 32) - I.X k (t + 1)) :=
  ((holds_midRow hT H).sub (holds_cumLog hT H)).exp.congr fun t k _ => congrArg Real.exp (by ring)

theorem holds_toEnd : IsBlk (toEnd (cumLog lb fr)) b fun t k => Real.exp (I.X k (64 * (t / 64 + 1)) - I.X k (t + 1)) :=
  ((holds_endRow hT H).sub (holds_cumLog hT H)).exp.congr fun t k _ => congrArg Real.exp (by ring)

theorem holds_qStart : IsBlk (qStart q (cumLog lb fr)) b fun t k => I.query k t * Real.exp (I.X k (t + 1) - I.X k (64 * (t / 64))) :=
  ((holds_silu H).mul (holds_fromStart hT H)).thin

theorem holds_qMid : IsBlk (qMid q (cumLog lb fr)) b fun t k => I.query k t * Real.exp (I.X k (t + 1) - I.X k (64 * (t / 64) + 32)) :=
  ((holds_silu H).mul (holds_fromMid hT H)).thin

theorem holds_kMid : IsBlk (kMid (keys lb fr) (cumLog lb fr)) b fun t k => I.key k t * Real.exp (I.X k (64 * (t / 64) + 32) - I.X k (t + 1)) :=
  ((holds_keys H).mul (holds_toMid hT H)).thin

theorem holds_kEnd : IsBlk (kEnd (keys lb fr) (cumLog lb fr)) b fun t k => I.key k t * Real.exp (I.X k (64 * (t / 64 + 1)) - I.X k (t + 1)) :=
  (holds_keys H).mul (holds_toEnd hT H)

/-- One step of the carried matrix. -/
theorem holds_carry {n : ℕ} (hn : 64 * (n + 1) ≤ T) {oc qc : FVec Ideal S64x128 .bf16} {gam : FVec Ideal S1x128 .f32} {m : FVec Ideal S128x128 .f32}
    (ho : IsChunk oc n I.o) (hq : IsChunk qc n fun t k => I.query k t * Real.exp (I.X k (t + 1) - I.X k (64 * (t / 64))))
    (hg : IsRow gam fun k => I.X k (64 * (n + 1)) - I.X k (64 * n)) (hm : IsMat m (I.costate T (n + 1))) :
    IsMat (carry oc qc (exp gam) m) (I.costate T n) := fun i k => by
  rw [isMat_carry hn ho hq hg.exp hm i k]
  refine congrArg _ ?_
  unfold HeadIn.costate
  rw [← costate_step]
  refine congrArg (· + _) (Finset.sum_congr rfl fun t _ => ?_)
  by_cases c : t / 64 = n
  · rw [if_pos c, if_pos c, c]
  · rw [if_neg c, if_neg c]

theorem holds_carried3 : IsMat (carried3 d) (I.costate T (4 * b + 3 + 1)) := H.d

theorem holds_carried2 : IsMat (carried2 lb q fr ov d) (I.costate T (4 * b + 2 + 1)) :=
  holds_carry hT H (by omega) H.ov.chunk3 (holds_qStart hT H).chunk3 (holds_end3 hT H) (holds_carried3 hT H)

theorem holds_carried1 : IsMat (carried1 lb q fr ov d) (I.costate T (4 * b + 1 + 1)) :=
  holds_carry hT H (by omega) H.ov.chunk2 (holds_qStart hT H).chunk2 (holds_end2 hT H) (holds_carried2 hT H)

theorem holds_carried0 : IsMat (carried0 lb q fr ov d) (I.costate T (4 * b + 1)) :=
  holds_carry hT H (by omega) H.ov.chunk1 (holds_qStart hT H).chunk1 (holds_end1 hT H) (holds_carried1 hT H)

/-- The matrix the block carries on is the costate before it. -/
theorem holds_carriedOut : IsMat (carriedOut lb q fr ov d) (I.costate T (4 * b)) :=
  holds_carry hT H (by omega) H.ov.chunk0 (holds_qStart hT H).chunk0 (holds_end0 hT H) (holds_carried0 hT H)

theorem holds_dqMid : IsBlk (dqMid lb fr iv ov) b fun t k => ∑ s ∈ Finset.range T, if s ≤ t ∧ s / 64 = t / 64 then
    I.W t s * (I.key k s * Real.exp (I.X k (64 * (t / 64) + 32) - I.X k (s + 1))) else 0 :=
  (isBlk_overSecond hT (isPairs_scores H.ov H.iv) (holds_kMid hT H)).congr fun t k _ => Finset.sum_congr rfl fun s _ => by
    by_cases c : s ≤ t ∧ s / 64 = t / 64
    · rw [if_pos c, if_pos c, c.2]; rfl
    · rw [if_neg c, if_neg c]

theorem holds_dkMid : IsBlk (dkMid lb q fr iv ov) b fun s k => ∑ t ∈ Finset.range T, if s ≤ t ∧ s / 64 = t / 64 then
    I.W t s * (I.query k t * Real.exp (I.X k (t + 1) - I.X k (64 * (s / 64) + 32))) else 0 :=
  (isBlk_overFirst hT (isPairs_scores H.ov H.iv) (holds_qMid hT H)).congr fun s k _ => Finset.sum_congr rfl fun t _ => by
    by_cases c : s ≤ t ∧ s / 64 = t / 64
    · rw [if_pos c, if_pos c, c.2]; rfl
    · rw [if_neg c, if_neg c]

theorem holds_dqStart : IsBlk (dqStart ov s0 s1 s2 s3) b fun t k => ∑ j, I.o t j * I.state T (t / 64) j k :=
  isBlk_stack ((isChunk_timesMat H.ov.chunk0 H.s0).congr fun t k h => by rw [h])
    ((isChunk_timesMat H.ov.chunk1 H.s1).congr fun t k h => by rw [h])
    ((isChunk_timesMat H.ov.chunk2 H.s2).congr fun t k h => by rw [h])
    ((isChunk_timesMat H.ov.chunk3 H.s3).congr fun t k h => by rw [h])

theorem holds_dkEnd : IsBlk (dkEnd lb q fr iv ov d) b fun t k => ∑ j, I.v t j * I.costate T (t / 64 + 1) j k :=
  isBlk_stack ((isChunk_timesMat H.iv.chunk0 (holds_carried0 hT H)).congr fun t k h => by rw [h])
    ((isChunk_timesMat H.iv.chunk1 (holds_carried1 hT H)).congr fun t k h => by rw [h])
    ((isChunk_timesMat H.iv.chunk2 (holds_carried2 hT H)).congr fun t k h => by rw [h])
    ((isChunk_timesMat H.iv.chunk3 (holds_carried3 hT H)).congr fun t k h => by rw [h])

/-- The value's gradient. -/
theorem holds_di : IsBlk (headDi lb q fr ov d) b (I.di T) :=
  (((isBlk_overFirst hT (isPairs_scores (holds_qMid hT H) (holds_kMid hT H)) H.ov).add
    (isBlk_stack (f := fun t i => ∑ k, I.key k t * Real.exp (I.X k (64 * (t / 64 + 1)) - I.X k (t + 1)) * I.costate T (t / 64 + 1) i k)
      ((isChunk_timesMatT (holds_kEnd hT H).thin.chunk0 (holds_carried0 hT H)).congr fun t k h => by rw [h])
      ((isChunk_timesMatT (holds_kEnd hT H).thin.chunk1 (holds_carried1 hT H)).congr fun t k h => by rw [h])
      ((isChunk_timesMatT (holds_kEnd hT H).thin.chunk2 (holds_carried2 hT H)).congr fun t k h => by rw [h])
      ((isChunk_timesMatT (holds_kEnd hT H).thin.chunk3 (holds_carried3 hT H)).congr fun t k h => by rw [h]))).thin).congr fun s j _ => by
    unfold HeadIn.di
    rw [← value_split T I.X I.query I.key I.o (fun k => I.X k (64 * (s / 64) + 32)) s j]
    refine congrArg (· + _) (Finset.sum_congr rfl fun t _ => ?_)
    by_cases c : s ≤ t ∧ s / 64 = t / 64
    · rw [if_pos c, if_pos c, c.2]
    · rw [if_neg c, if_neg c]

theorem holds_dQuery : IsBlk (addf (mulf (dqMid lb fr iv ov) (fromMid (cumLog lb fr))) (mulf (dqStart ov s0 s1 s2 s3) (fromStart (cumLog lb fr)))) b
    (I.dQuery T) :=
  (((holds_dqMid hT H).mul (holds_fromMid hT H)).add ((holds_dqStart hT H).mul (holds_fromStart hT H))).congr fun t k _ =>
    query_split T (I.X k) (I.key k) I.o I.v (I.X k (64 * (t / 64) + 32)) t

theorem holds_dKey : IsBlk (addf (mulf (dkMid lb q fr iv ov) (toMid (cumLog lb fr))) (mulf (dkEnd lb q fr iv ov d) (toEnd (cumLog lb fr)))) b
    (I.dKey T) :=
  (((holds_dkMid hT H).mul (holds_toMid hT H)).add ((holds_dkEnd hT H).mul (holds_toEnd hT H))).congr fun t k _ =>
    key_split T (I.X k) (I.query k) I.o I.v (I.X k (64 * (t / 64) + 32)) t

theorem holds_dkEndKey : IsBlk (dkEndKey lb q fr iv ov d) b fun t k =>
    (∑ j, I.v t j * I.costate T (t / 64 + 1) j k) * (I.key k t * Real.exp (I.X k (64 * (t / 64 + 1)) - I.X k (t + 1))) :=
  (holds_dkEnd hT H).mul (holds_kEnd hT H)

theorem holds_gateTerms : IsBlk (gateTerms lb q fr iv ov d s0 s1 s2 s3) b fun t k =>
    I.query k t * I.dQuery T t k - I.key k t * I.dKey T t k :=
  ((((holds_dqMid hT H).mul (IsBlk.wide (holds_qMid hT H))).sub ((holds_dkMid hT H).mul (IsBlk.wide (holds_kMid hT H)))).add
    ((holds_dqStart hT H).mul (IsBlk.wide (holds_qStart hT H)))).sub (holds_dkEndKey hT H) |>.congr fun t k _ => by
      have hq := query_split T (I.X k) (I.key k) I.o I.v (I.X k (64 * (t / 64) + 32)) t
      have hk := key_split T (I.X k) (I.query k) I.o I.v (I.X k (64 * (t / 64) + 32)) t
      unfold HeadIn.dQuery HeadIn.dKey HeadIn.W HeadIn.state HeadIn.costate
      rw [← hq, ← hk]; ring

omit hT H in
/-- A sum of a chunk's tokens over the tokens below `T`. -/
theorem holds_chunkPart {n : ℕ} (hn : 64 * (n + 1) ≤ T) {x : FVec Ideal S64x128 .f32} (h : IsChunk x n fun t k =>
    (∑ j, I.v t j * I.costate T (t / 64 + 1) j k) * (I.key k t * Real.exp (I.X k (64 * (t / 64 + 1)) - I.X k (t + 1)))) :
    IsRow (sumChunk x) fun k => ∑ s ∈ Finset.range T, if s / 64 = n then
      (∑ j, I.v s j * I.costate T (n + 1) j k) * (I.key k s * Real.exp (I.X k (64 * (n + 1)) - I.X k (s + 1))) else 0 := fun k => by
  refine (isRow_sumChunk h k).trans (congrArg _ ((chunk_sum T n hn fun t =>
    (∑ j, I.v t j * I.costate T (t / 64 + 1) j k) * (I.key k t * Real.exp (I.X k (64 * (t / 64 + 1)) - I.X k (t + 1)))).trans ?_))
  refine Finset.sum_congr rfl fun s _ => ?_
  by_cases c : s / 64 = n
  · rw [if_pos c, if_pos c, c]
  · rw [if_neg c, if_neg c]

theorem holds_chunkTerms : IsBlk (chunkTerms lb q fr iv ov d s0 s1 s2 s3) b fun t k =>
    (∑ j, I.costate T (t / 64 + 1) j k * I.state T (t / 64) j k) * Real.exp (I.X k (64 * (t / 64 + 1)) - I.X k (64 * (t / 64)))
      + ∑ s ∈ Finset.range T, if s / 64 = t / 64 then
        (∑ j, I.v s j * I.costate T (t / 64 + 1) j k) * (I.key k s * Real.exp (I.X k (64 * (t / 64 + 1)) - I.X k (s + 1))) else 0 :=
  isBlk_stack
    ((isChunk_spread ((isRow_gateMat (holds_carried0 hT H) H.s0 (holds_end0 hT H).exp).add
      (holds_chunkPart (by omega) (holds_dkEndKey hT H).chunk0))).congr fun t k h => by rw [h])
    ((isChunk_spread ((isRow_gateMat (holds_carried1 hT H) H.s1 (holds_end1 hT H).exp).add
      (holds_chunkPart (by omega) (holds_dkEndKey hT H).chunk1))).congr fun t k h => by rw [h])
    ((isChunk_spread ((isRow_gateMat (holds_carried2 hT H) H.s2 (holds_end2 hT H).exp).add
      (holds_chunkPart (by omega) (holds_dkEndKey hT H).chunk2))).congr fun t k h => by rw [h])
    ((isChunk_spread ((isRow_gateMat (holds_carried3 hT H) H.s3 (holds_end3 hT H).exp).add
      (holds_chunkPart (by omega) (holds_dkEndKey hT H).chunk3))).congr fun t k h => by rw [h])

theorem holds_dLog : IsBlk (dLogGate lb q fr iv ov d s0 s1 s2 s3) b (I.dLog T) :=
  ((isBlk_chunkSum hT (holds_gateTerms hT H) triDown (fun t u => t ≤ u) triDown_eq fun n i k => by omega).add
    (holds_chunkTerms hT H)).congr fun t k _ => by
      refine Eq.trans (congrArg (· + _) (Finset.sum_congr rfl fun u _ => ?_)) (gate_split T (I.X k) (I.query k) (I.key k) I.o I.v t)
      by_cases c : t ≤ u ∧ t / 64 = u / 64
      · rw [if_pos c, if_pos c.2.symm, if_pos c.1]; rfl
      · rw [if_neg c]
        by_cases c2 : u / 64 = t / 64
        · rw [if_pos c2, if_neg fun h => c ⟨h, c2.symm⟩]
        · rw [if_neg c2]

theorem holds_dGate : IsBlk (dGate lb q fr iv ov d s0 s1 s2 s3) b (I.dGate T) :=
  ((holds_dLog hT H).div (holds_gates H) fun t k => (I.gate_pos t k).ne').sub (holds_dKey hT H)

/-- The query's gradient, before its gate. -/
theorem holds_dq : IsBlk (headDq lb q fr iv ov s0 s1 s2 s3) b (I.dq T) :=
  (((holds_dQuery hT H).mul H.q.wide.logi).mul
    (isBlk_fill_one.add (H.q.wide.mul (isBlk_fill_one.sub H.q.wide.logi)))).thin

/-- The gradient of the gates' input. -/
theorem holds_df : IsBlk (headDf lb q fr iv ov d s0 s1 s2 s3) b (I.df T) :=
  ((((holds_dGate hT H).mul (IsBlk.rows H.lb.room)).mul H.fr.wide.logi).mul (isBlk_fill_one.sub H.fr.wide.logi)).thin

/-- The block's part of the lower bound's gradient. -/
theorem holds_dlb : IsRow (headDlb lb q fr iv ov d s0 s1 s2 s3) fun k => ∑ r : Fin 256, I.dlbTerm T (256 * b + r) k :=
  isRow_sumBlock ((holds_dGate hT H).mul (isBlk_fill_one.sub H.fr.wide.logi))

/-- The matrix left for the block before. -/
theorem holds_carryOut : IsMat (slab (headCarry lb q fr ov d)) (I.costate T (4 * b)) := fun i k => by
  rw [← holds_carriedOut hT H i k]
  unfold slab headCarry; pointwise

end Stages

end Cert.Hgrn

end
-- ==== Proof.Pieces.lean ====
/- What the kernel's body stores at one grid point, said by the head functions: the twelve column tiles of the output block,
   the four carried matrices, and the row of the lower bound's gradient. -/
module

public import proofs.«01_k».proof.Proof.HeadOps
public import proofs.«01_k».proof.Proof.Gen.KernelIdeal.Value
public import Idealize.ShloMosaic.Lib.Pipeline.ReadBack

@[expose] public section

set_option maxRecDepth 16384
set_option maxHeartbeats 0

noncomputable section

namespace Cert.Hgrn

open Idealize.ShloMosaic Idealize.ShloMosaic.TcCoe Idealize.SL.Sem Cert.KernelIdeal Cert.KernelIdeal.Gen

variable {F : FTy → Type} [FloatOps F]

/-- The lanes of head `h` in a block of 512 columns. -/
def lanes (h : Fin 4) (x : Vec F S256x512 .bf16) : Vec F S256x128 .bf16 :=
  View.ld x (Rect.unit (s := S256x512) ![0, 128 * h.val] S256x128.size
    (fun a => by fin_cases a <;> fin_cases h <;> decide))

/-- The state before chunk `g` of the block, for head `h`. -/
def stateSlab (g h : Fin 4) (x : Vec F S4x512x128 .f32) : Vec F S1x128x128 .f32 :=
  View.ld x (Rect.unit (s := S4x512x128) ![g.val, 128 * h.val, 0] S1x128x128.size
    (fun a => by fin_cases a <;> fin_cases h <;> fin_cases g <;> decide))

/-- The carried matrix of head `h`. -/
def heldSlab (h : Fin 4) (x : Vec F S4x128x128 .f32) : Vec F S1x128x128 .f32 :=
  View.ld x (Rect.unit (s := S4x128x128) ![h.val, 0, 0] S1x128x128.size
    (fun a => by fin_cases a <;> fin_cases h <;> decide))

/-- The lower bounds of the gates of head `h`. -/
def boundRow (h : Fin 4) (x : FVec F S1x512 .f32) : FVec F S1x128 .f32 :=
  extractStridedSlice S1x128 ![0, 128 * h.val] x ⟨rfl, fun a => by fin_cases a <;> fin_cases h <;> decide⟩

/-- What the body reads of its inputs. -/
structure Reads (F : FTy → Type) [FloatOps F] where
  q : Vec F S256x512 .bf16
  fr : Vec F S256x512 .bf16
  iv : Vec F S256x512 .bf16
  lg : Vec F S2x512 .f32
  st : Vec F S4x512x128 .f32
  ov : Vec F S256x512 .bf16
  held : Fin 4 → Vec F S1x128x128 .f32

namespace Reads

variable (x : Reads F) (h : Fin 4)

def lb : FVec F S1x128 .f32 := boundRow h (k0_pay3 x.lg)
def dq : FVec F S256x128 .bf16 := headDq (x.lb h) (lanes h x.q) (lanes h x.fr) (lanes h x.iv) (lanes h x.ov)
  (stateSlab 0 h x.st) (stateSlab 1 h x.st) (stateSlab 2 h x.st) (stateSlab 3 h x.st)
def df : FVec F S256x128 .bf16 := headDf (x.lb h) (lanes h x.q) (lanes h x.fr) (lanes h x.iv) (lanes h x.ov) (x.held h)
  (stateSlab 0 h x.st) (stateSlab 1 h x.st) (stateSlab 2 h x.st) (stateSlab 3 h x.st)
def di : FVec F S256x128 .bf16 := headDi (x.lb h) (lanes h x.q) (lanes h x.fr) (lanes h x.ov) (x.held h)
def dlb : FVec F S1x128 .f32 := headDlb (x.lb h) (lanes h x.q) (lanes h x.fr) (lanes h x.iv) (lanes h x.ov) (x.held h)
  (stateSlab 0 h x.st) (stateSlab 1 h x.st) (stateSlab 2 h x.st) (stateSlab 3 h x.st)
def next : FVec F S1x128x128 .f32 := headCarry (x.lb h) (lanes h x.q) (lanes h x.fr) (lanes h x.ov) (x.held h)

/-- A column tile of the output block: part `p` (query, gates, value) of head `h`. -/
def tile (p : Fin 3) (h : Fin 4) (w : FVec F S256x128 .bf16) : View.Piece (Elt F) S256x1536 .bf16 :=
  ⟨Rect.unit (s := S256x1536) ![0, 512 * p.val + 128 * h.val] ![256, 128]
    (fun a => by fin_cases a <;> fin_cases h <;> fin_cases p <;> decide), w⟩

/-- The output block's stores, the last first. -/
def outPieces : List (View.Piece (Elt F) S256x1536 .bf16) :=
  [tile 2 3 (x.di 3), tile 1 3 (x.df 3), tile 0 3 (x.dq 3), tile 2 2 (x.di 2), tile 1 2 (x.df 2), tile 0 2 (x.dq 2),
   tile 2 1 (x.di 1), tile 1 1 (x.df 1), tile 0 1 (x.dq 1), tile 2 0 (x.di 0), tile 1 0 (x.df 0), tile 0 0 (x.dq 0)]

/-- One carried matrix's store. -/
def slabPiece : View.Piece (Elt F) S4x128x128 .f32 :=
  ⟨Rect.unit (s := S4x128x128) ![h.val, 0, 0] ![1, 128, 128] (fun a => by fin_cases a <;> fin_cases h <;> decide), x.next h⟩

/-- The carried matrices' stores, the last first. -/
def heldPieces : List (View.Piece (Elt F) S4x128x128 .f32) := [x.slabPiece 3, x.slabPiece 2, x.slabPiece 1, x.slabPiece 0]

/-- The row of the lower bound's gradient. -/
def dlbRow : FVec F S1x512 .f32 :=
  concatenate S1x512 1 [⟨S1x128, x.dlb 0⟩, ⟨S1x128, x.dlb 1⟩, ⟨S1x128, x.dlb 2⟩, ⟨S1x128, x.dlb 3⟩]
    concatenates_S1x128_S1x128_S1x128_S1x128_S1x512_d1

end Reads

/-- A load after a fill of the carried matrices reads the fill. -/
theorem readCov_filled (v : View sig .tc .vmem S4x128x128 .f32) (inb) (Z : S4x128x128.Idx → Elt F .f32) (r : Rect S4x128x128) :
    v.readCov [⟨Rect.unit ![0, 0, 0] ![4, 128, 128] inb, Z⟩] r.toLoadRect = View.ld Z r :=
  View.readCov_fill v inb Z [] r (fun a => by fin_cases a <;> rfl)

/-- A store of the whole row leaves the row. -/
theorem row_stored (inb) (w : S1x512.Idx → Elt F .f32) :
    View.canon [(⟨Rect.unit (s := S1x512) ![0, 0] ![1, 512] inb, w⟩ : View.Piece (Elt F) S1x512 .f32)] = w :=
  View.canon_cons_unit_zero (S := S1x512) (funext fun a => by fin_cases a <;> rfl) inb w []

section Points

variable (c : Dev nD) (i : grid0.Coords) (arg1 : Memref sig .tc .vmem S256x512 .bf16) (harg1 : arg1.IsWhole)
    (arg2 : Memref sig .tc .vmem S256x512 .bf16) (harg2 : arg2.IsWhole) (arg3 : Memref sig .tc .vmem S256x512 .bf16) (harg3 : arg3.IsWhole)
    (arg4 : Memref sig .tc .vmem S2x512 .f32) (harg4 : arg4.IsWhole) (arg5 : Memref sig .tc .vmem S4x512x128 .f32) (harg5 : arg5.IsWhole)
    (arg6 : Memref sig .tc .vmem S256x512 .bf16) (harg6 : arg6.IsWhole) (arg8 : Memref sig .tc .vmem S256x1536 .bf16) (harg8 : arg8.IsWhole)
    (arg9 : Memref sig .tc .vmem S1x512 .f32) (harg9 : arg9.IsWhole) (arg10 : Memref sig .tc .vmem S4x128x128 .f32) (harg10 : arg10.IsWhole)
  (x0 x1 x2 : Vec F S256x512 .bf16) (x3 : Vec F S2x512 .f32) (x4 : Vec F S4x512x128 .f32) (x5 : Vec F S256x512 .bf16)

/-- Offsets zero on two axes. -/
theorem zero2 : (![0, 0] : Fin 2 → ℕ) = fun _ => 0 := funext fun a => by fin_cases a <;> rfl

theorem held_A (hc0 : cond0_0 i) (hc1 : cond0_1 i) (hc2 : ¬cond0_2 i) :
    sout0_A_0 c i arg1 harg1 arg2 harg2 arg3 harg3 arg4 harg4 arg5 harg5 arg6 harg6 arg8 harg8 arg9 harg9 arg10 harg10 hc0 hc1 hc2 x0 x1 x2 x3 x4 x5
      = VS0_0.read (Elt F) (VS0_0.writes (Elt F) VS0_0.junk (Reads.heldPieces ⟨x0, x1, x2, x3, x4, x5, fun h => heldSlab h k0_pay2⟩ ++ [⟨Rect.unit (s := S4x128x128) ![0, 0, 0] S4x128x128.size inb_S4x128x128_S4x128x128_0_0_0, k0_pay2⟩])) := by
  unfold sout0_A_0 kernelRun0_A
  dsimp only
  sl_unfold_words
  simp only [View.readAt_eq_ld, harg1.read_unread, harg2.read_unread, harg3.read_unread, harg4.read_unread, harg5.read_unread,
    harg6.read_unread, harg9.read_unread, harg10.read_unread, View.ld_unit_zero (S := S2x512) (off := ![0, 0]) zero2]
  simp (disch := first | decide | exact rfl) only [↓View.readCov_skip, ↓readCov_filled]
  rfl

theorem block_A (hc0 : cond0_0 i) (hc1 : cond0_1 i) (hc2 : ¬cond0_2 i) :
    out0_A_6 c i arg1 harg1 arg2 harg2 arg3 harg3 arg4 harg4 arg5 harg5 arg6 harg6 arg8 harg8 arg9 harg9 arg10 harg10 hc0 hc1 hc2 x0 x1 x2 x3 x4 x5
      = VO0_6.read (Elt F) (VO0_6.writes (Elt F) VO0_6.junk (Reads.outPieces ⟨x0, x1, x2, x3, x4, x5, fun h => heldSlab h k0_pay2⟩)) := by
  unfold out0_A_6 kernelRun0_A
  dsimp only
  sl_unfold_words
  simp only [View.readAt_eq_ld, harg1.read_unread, harg2.read_unread, harg3.read_unread, harg4.read_unread, harg5.read_unread,
    harg6.read_unread, harg9.read_unread, harg10.read_unread, View.ld_unit_zero (S := S2x512) (off := ![0, 0]) zero2]
  simp (disch := first | decide | exact rfl) only [↓View.readCov_skip, ↓readCov_filled]
  rfl

theorem dlb_A (hc0 : cond0_0 i) (hc1 : cond0_1 i) (hc2 : ¬cond0_2 i) :
    out0_A_7 c i arg1 harg1 arg2 harg2 arg3 harg3 arg4 harg4 arg5 harg5 arg6 harg6 arg8 harg8 arg9 harg9 arg10 harg10 hc0 hc1 hc2 x0 x1 x2 x3 x4 x5  = Reads.dlbRow ⟨x0, x1, x2, x3, x4, x5, fun h => heldSlab h k0_pay2⟩ := by
  unfold out0_A_7 kernelRun0_A
  dsimp only
  sl_unfold_words
  simp only [View.readAt_eq_ld, harg1.read_unread, harg2.read_unread, harg3.read_unread, harg4.read_unread, harg5.read_unread,
    harg6.read_unread, harg9.read_unread, harg10.read_unread, View.ld_unit_zero (S := S2x512) (off := ![0, 0]) zero2, View.ld_unit_zero (S := S1x512) (off := ![0, 0]) zero2]
  simp (disch := first | decide | exact rfl) only [↓View.readCov_skip, ↓readCov_filled]
  refine (View.read_writes_junk_eq_canon _ _).trans ?_
  refine (row_stored _ _).trans ?_
  rfl

theorem held_B (hc0 : ¬cond0_0 i) (hc1 : ¬cond0_1 i) (hc2 : cond0_2 i) (xo7 : Vec F S1x512 .f32) (xs0 : Vec F S4x128x128 .f32) :
    sout0_B_0 c i arg1 harg1 arg2 harg2 arg3 harg3 arg4 harg4 arg5 harg5 arg6 harg6 arg8 harg8 arg9 harg9 arg10 harg10 hc0 hc1 hc2 x0 x1 x2 x3 x4 x5 xo7 xs0
      = VS0_0.read (Elt F) (VS0_0.writes (Elt F) VS0_0.junk (Reads.heldPieces ⟨x0, x1, x2, x3, x4, x5, fun h => heldSlab h xs0⟩)) := by
  unfold sout0_B_0 kernelRun0_B
  dsimp only
  sl_unfold_words
  simp only [View.readAt_eq_ld, harg1.read_unread, harg2.read_unread, harg3.read_unread, harg4.read_unread, harg5.read_unread,
    harg6.read_unread, harg9.read_unread, harg10.read_unread, View.ld_unit_zero (S := S2x512) (off := ![0, 0]) zero2]
  rfl

theorem block_B (hc0 : ¬cond0_0 i) (hc1 : ¬cond0_1 i) (hc2 : cond0_2 i) (xo7 : Vec F S1x512 .f32) (xs0 : Vec F S4x128x128 .f32) :
    out0_B_6 c i arg1 harg1 arg2 harg2 arg3 harg3 arg4 harg4 arg5 harg5 arg6 harg6 arg8 harg8 arg9 harg9 arg10 harg10 hc0 hc1 hc2 x0 x1 x2 x3 x4 x5 xo7 xs0
      = VO0_6.read (Elt F) (VO0_6.writes (Elt F) VO0_6.junk (Reads.outPieces ⟨x0, x1, x2, x3, x4, x5, fun h => heldSlab h xs0⟩)) := by
  unfold out0_B_6 kernelRun0_B
  dsimp only
  sl_unfold_words
  simp only [View.readAt_eq_ld, harg1.read_unread, harg2.read_unread, harg3.read_unread, harg4.read_unread, harg5.read_unread,
    harg6.read_unread, harg9.read_unread, harg10.read_unread, View.ld_unit_zero (S := S2x512) (off := ![0, 0]) zero2]
  rfl

theorem dlb_B (hc0 : ¬cond0_0 i) (hc1 : ¬cond0_1 i) (hc2 : cond0_2 i) (xo7 : Vec F S1x512 .f32) (xs0 : Vec F S4x128x128 .f32) :
    out0_B_7 c i arg1 harg1 arg2 harg2 arg3 harg3 arg4 harg4 arg5 harg5 arg6 harg6 arg8 harg8 arg9 harg9 arg10 harg10 hc0 hc1 hc2 x0 x1 x2 x3 x4 x5 xo7 xs0 = addf (shapeCast S1x512 xo7 shapeCasts_S1x512_S1x512) (Reads.dlbRow ⟨x0, x1, x2, x3, x4, x5, fun h => heldSlab h xs0⟩) := by
  unfold out0_B_7 kernelRun0_B
  dsimp only
  sl_unfold_words
  simp only [View.readAt_eq_ld, harg1.read_unread, harg2.read_unread, harg3.read_unread, harg4.read_unread, harg5.read_unread,
    harg6.read_unread, harg9.read_unread, harg10.read_unread, View.ld_unit_zero (S := S2x512) (off := ![0, 0]) zero2, View.ld_unit_zero (S := S1x512) (off := ![0, 0]) zero2]
  refine (View.read_writes_junk_eq_canon _ _).trans ?_
  refine (row_stored _ _).trans ?_
  rfl

end Points

end Cert.Hgrn

end
-- ==== Proof.Blocks.lean ====
/- The arrays of one device as real functions, and what the kernel's blocks of them hold at a grid point. -/
module

public import proofs.«01_k».proof.Proof.HeadReal
public import proofs.«01_k».proof.Proof.Pieces
public import Idealize.ShloMosaic.Lib.Pipeline.ValueKit.Tiles

@[expose] public section

set_option maxRecDepth 16384

noncomputable section

namespace Cert.Hgrn

open Idealize.ShloMosaic Idealize.ShloMosaic.TcCoe Idealize.SL.Sem Cert.KernelIdeal Cert.KernelIdeal.Gen

/-- The inputs as real functions: the projections by token and column, the lower bounds' logits, the cotangent. -/
structure Inputs where
  p : ℕ → ℕ → ℝ
  l : ℕ → ℕ → ℝ
  o : ℕ → ℕ → ℝ

theorem sgR_lt (x : ℝ) : sgR x < 1 := by
  unfold sgR
  rw [div_lt_one (by positivity)]
  have := Real.exp_pos (-x)
  linarith

/-- One head's share of the inputs. -/
def Inputs.head (A : Inputs) (h : Fin 4) : HeadIn where
  q t j := A.p t (128 * h + j)
  f t j := A.p t (512 + (128 * h + j))
  v t j := A.p t (1024 + (128 * h + j))
  o t j := A.o t (128 * h + j)
  lb j := sgR (A.l 0 (128 * h + j) - A.l 1 (128 * h + j))
  lb_pos j := sgR_pos _
  lb_lt j := sgR_lt _

/-- A column of head `h`. -/
def col (h : Fin 4) (j : Fin 128) : Fin 512 := ⟨128 * h + j, by have := h.isLt; have := j.isLt; omega⟩

section Slices

variable {F : FTy → Type} [FloatOps F]

theorem lanes_apply (h : Fin 4) (x : Vec F S256x512 .bf16) (r : Fin 256) (j : Fin 128) : lanes h x (ix2 r j) = x (ix2 r (col h j)) :=
  View.ld_unit_apply_of x _ _ _ (ix2 r j) (ix2 r (col h j)) fun a => by
    match a with
    | ⟨0, _⟩ => exact (Nat.zero_add _).symm
    | ⟨1, _⟩ => rfl

theorem stateSlab_apply (g h : Fin 4) (x : Vec F S4x512x128 .f32) (u : Fin 1) (j k : Fin 128) :
    stateSlab g h x (ix3 u j k) = x (ix3 g (col h j) k) :=
  View.ld_unit_apply_of x _ _ _ (ix3 u j k) (ix3 g (col h j) k) fun a => by
    match a with
    | ⟨0, _⟩ => show (g : ℕ) = g + u; have := u.isLt; omega
    | ⟨1, _⟩ => rfl
    | ⟨2, _⟩ => exact (Nat.zero_add _).symm

theorem heldSlab_apply (h : Fin 4) (x : Vec F S4x128x128 .f32) (u : Fin 1) (j k : Fin 128) :
    heldSlab h x (ix3 u j k) = x (ix3 h j k) :=
  View.ld_unit_apply_of x _ _ _ (ix3 u j k) (ix3 h j k) fun a => by
    match a with
    | ⟨0, _⟩ => show (h : ℕ) = h + u; have := u.isLt; omega
    | ⟨1, _⟩ => exact (Nat.zero_add _).symm
    | ⟨2, _⟩ => exact (Nat.zero_add _).symm

end Slices

theorem slab_apply (x : Vec Ideal S1x128x128 .f32) (j k : Fin 128) : slab x (ix2 j k) = x (ix3 0 j k) := by
  unfold slab; pointwise

theorem boundRow_apply (h : Fin 4) (x : FVec Ideal S1x512 .f32) (j : Fin 128) : boundRow h x (ix2 0 j) = x (ix2 0 (col h j)) := by
  unfold boundRow; pointwise; rfl

section Windows

variable {F : FTy → Type} [FloatOps F] (m : (ℓ : Loc nD τ sig) → Buf (Elt F) ℓ) (c : Dev nD) (t : Fin cfg0.N)

/-- The block a grid point handles: the last block first. -/
def blk (t : Fin cfg0.N) : ℕ := 15 - t

theorem blk_le : blk t ≤ 15 := by unfold blk; omega

/-- A token of the point's block. -/
def tok (t : Fin cfg0.N) (r : Fin 256) : Fin 4096 := ⟨256 * blk t + r, by have := blk_le t; have := r.isLt; omega⟩

theorem index0 : ∀ t : Fin grid0.N, win0_0.index t 0 = 15 - t ∧ win0_0.index t 1 = 0 := by decide +kernel
theorem index1 : ∀ t : Fin grid0.N, win0_1.index t 0 = 15 - t ∧ win0_1.index t 1 = 1 := by decide +kernel
theorem index2 : ∀ t : Fin grid0.N, win0_2.index t 0 = 15 - t ∧ win0_2.index t 1 = 2 := by decide +kernel
theorem index3 : ∀ t : Fin grid0.N, win0_3.index t 0 = 0 ∧ win0_3.index t 1 = 0 := by decide +kernel
theorem index4 : ∀ t : Fin grid0.N, win0_4.index t 0 = 15 - t ∧ win0_4.index t 1 = 0 ∧ win0_4.index t 2 = 0 := by decide +kernel
theorem index5 : ∀ t : Fin grid0.N, win0_5.index t 0 = 15 - t ∧ win0_5.index t 1 = 0 := by decide +kernel
theorem index6 : ∀ t : Fin grid0.N, win0_6.index t 0 = 15 - t ∧ win0_6.index t 1 = 0 := by decide +kernel
theorem index7 : ∀ t : Fin grid0.N, win0_7.index t 0 = 0 ∧ win0_7.index t 1 = 0 := by decide +kernel

theorem iblk0 (r : Fin 256) (j : Fin 512) : (iblk m c 0 t : Vec F S256x512 .bf16) (ix2 r j)
    = V m c main_arg0 (ix2 (tok t r) ⟨j, by have := j.isLt; omega⟩) := by
  unfold iblk
  rw [View.read_apply]
  show V m c main_arg0 _ = V m c main_arg0 _
  congr 1
  funext a
  apply Fin.ext
  match a with
  | ⟨0, _⟩ => show win0_0.index t 0 * 256 + 1 * r.val = 256 * (15 - t) + r.val; rw [(index0 t).1]; omega
  | ⟨1, _⟩ => show win0_0.index t 1 * 512 + 1 * j.val = j.val; rw [(index0 t).2]; omega

theorem iblk1 (r : Fin 256) (j : Fin 512) : (iblk m c 1 t : Vec F S256x512 .bf16) (ix2 r j)
    = V m c main_arg0 (ix2 (tok t r) ⟨512 + j, by have := j.isLt; omega⟩) := by
  unfold iblk
  rw [View.read_apply]
  show V m c main_arg0 _ = V m c main_arg0 _
  congr 1
  funext a
  apply Fin.ext
  match a with
  | ⟨0, _⟩ => show win0_1.index t 0 * 256 + 1 * r.val = 256 * (15 - t) + r.val; rw [(index1 t).1]; omega
  | ⟨1, _⟩ => show win0_1.index t 1 * 512 + 1 * j.val = 512 + j.val; rw [(index1 t).2]; omega

theorem iblk2 (r : Fin 256) (j : Fin 512) : (iblk m c 2 t : Vec F S256x512 .bf16) (ix2 r j)
    = V m c main_arg0 (ix2 (tok t r) ⟨1024 + j, by have := j.isLt; omega⟩) := by
  unfold iblk
  rw [View.read_apply]
  show V m c main_arg0 _ = V m c main_arg0 _
  congr 1
  funext a
  apply Fin.ext
  match a with
  | ⟨0, _⟩ => show win0_2.index t 0 * 256 + 1 * r.val = 256 * (15 - t) + r.val; rw [(index2 t).1]; omega
  | ⟨1, _⟩ => show win0_2.index t 1 * 512 + 1 * j.val = 1024 + j.val; rw [(index2 t).2]; omega

theorem iblk3 (r : Fin 2) (j : Fin 512) : (iblk m c 3 t : Vec F S2x512 .f32) (ix2 r j) = V m c main_arg1 (ix2 r j) := by
  unfold iblk
  rw [View.read_apply]
  show V m c main_arg1 _ = V m c main_arg1 _
  congr 1
  funext a
  apply Fin.ext
  match a with
  | ⟨0, _⟩ => show win0_3.index t 0 * 2 + 1 * r.val = r.val; rw [(index3 t).1]; omega
  | ⟨1, _⟩ => show win0_3.index t 1 * 512 + 1 * j.val = j.val; rw [(index3 t).2]; omega

theorem iblk4 (g : Fin 4) (j : Fin 512) (k : Fin 128) : (iblk m c 4 t : Vec F S4x512x128 .f32) (ix3 g j k)
    = V m c main_v60 (ix3 ⟨4 * blk t + g, by have := blk_le t; have := g.isLt; omega⟩ j k) := by
  unfold iblk
  rw [View.read_apply]
  show V m c main_v60 _ = V m c main_v60 _
  congr 1
  funext a
  apply Fin.ext
  match a with
  | ⟨0, _⟩ => show win0_4.index t 0 * 4 + 1 * g.val = 4 * (15 - t) + g.val; rw [(index4 t).1]; omega
  | ⟨1, _⟩ => show win0_4.index t 1 * 512 + 1 * j.val = j.val; rw [(index4 t).2.1]; omega
  | ⟨2, _⟩ => show win0_4.index t 2 * 128 + 1 * k.val = k.val; rw [(index4 t).2.2]; omega

theorem iblk5 (r : Fin 256) (j : Fin 512) : (iblk m c 5 t : Vec F S256x512 .bf16) (ix2 r j) = V m c main_arg2 (ix2 (tok t r) j) := by
  unfold iblk
  rw [View.read_apply]
  show V m c main_arg2 _ = V m c main_arg2 _
  congr 1
  funext a
  apply Fin.ext
  match a with
  | ⟨0, _⟩ => show win0_5.index t 0 * 256 + 1 * r.val = 256 * (15 - t) + r.val; rw [(index5 t).1]; omega
  | ⟨1, _⟩ => show win0_5.index t 1 * 512 + 1 * j.val = j.val; rw [(index5 t).2]; omega

end Windows

/-! ## The point's reads hold the heads' inputs -/

/-- The projections' array holds the real function. -/
def IsProj (x : Vec Ideal S4096x3584 .bf16) (p : ℕ → ℕ → ℝ) : Prop :=
  ∀ (r : Fin 4096) (j : Fin 3584), j.val < 1536 → x (ix2 r j) = ((p r j : ℝ) : EReal)
def IsLogits (x : Vec Ideal S2x512 .f32) (l : ℕ → ℕ → ℝ) : Prop :=
  ∀ (r : Fin 2) (j : Fin 512), x (ix2 r j) = ((l r j : ℝ) : EReal)
def IsCotangent (x : Vec Ideal S4096x512 .bf16) (o : ℕ → ℕ → ℝ) : Prop :=
  ∀ (r : Fin 4096) (j : Fin 512), x (ix2 r j) = ((o r j : ℝ) : EReal)
/-- The states' array holds every head's states. -/
def IsStates (x : Vec Ideal S64x512x128 .f32) (A : Inputs) : Prop :=
  ∀ (n : Fin 64) (h : Fin 4) (j k : Fin 128), x (ix3 n (col h j) k) = (((A.head h).state 4096 n j k : ℝ) : EReal)

/-- What the kernel finds in its arrays. -/
structure Found (m : (ℓ : Loc nD τ sig) → Buf (Elt Ideal) ℓ) (c : Dev nD) (A : Inputs) : Prop where
  proj : IsProj (V m c main_arg0) A.p
  logits : IsLogits (V m c main_arg1) A.l
  cotangent : IsCotangent (V m c main_arg2) A.o
  states : IsStates (V m c main_v60) A

/-- The reads of a point, with the carried matrices `held`. -/
def readsAt (m : (ℓ : Loc nD τ sig) → Buf (Elt Ideal) ℓ) (c : Dev nD) (t : Fin cfg0.N) (held : Vec Ideal S4x128x128 .f32) : Reads Ideal :=
  ⟨iblk m c 0 t, iblk m c 1 t, iblk m c 2 t, iblk m c 3 t, iblk m c 4 t, iblk m c 5 t, fun h => heldSlab h held⟩

theorem bound_apply (x : Vec Ideal S2x512 .f32) (l : ℕ → ℕ → ℝ) (hx : IsLogits x l) (j : Fin 512) :
    k0_pay3 x (ix2 0 j) = ((sgR (l 0 j - l 1 j) : ℝ) : EReal) := by
  unfold k0_pay3
  pointwise
  have h0 : x (ix2 0 j) = ((l 0 j : ℝ) : EReal) := hx 0 j
  have h1 : x (ix2 1 j) = ((l 1 j : ℝ) : EReal) := hx 1 j
  rw [h0, h1, ← EReal.coe_sub]
  show Ideal.div ((1 : ℝ) : EReal) (((1 : ℝ) : EReal) + Ideal.exp (((0 : ℝ) : EReal) - _)) = _
  rw [← EReal.coe_sub, zero_sub]
  show Ideal.div ((1 : ℝ) : EReal) (((1 : ℝ) : EReal) + ((Real.exp _ : ℝ) : EReal)) = _
  rw [← EReal.coe_add, Ideal.div_coe (by positivity), ← EReal.coe_mul, one_mul]
  rfl

/-- The carried matrices hold the costates at boundary `n`. -/
def IsHeld (x : Vec Ideal S4x128x128 .f32) (A : Inputs) (n : ℕ) : Prop :=
  ∀ (h : Fin 4) (j k : Fin 128), x (ix3 h j k) = (((A.head h).costate 4096 n j k : ℝ) : EReal)

variable {m : (ℓ : Loc nD τ sig) → Buf (Elt Ideal) ℓ} {c : Dev nD} {A : Inputs}

theorem readsAt_lb (H : Found m c A) (t : Fin cfg0.N) (held : Vec Ideal S4x128x128 .f32) (h : Fin 4) :
    IsRow ((readsAt m c t held).lb h) (A.head h).lb := fun j =>
  (boundRow_apply h _ j).trans (bound_apply _ A.l (fun r j => (iblk3 m c t r j).trans (H.logits r j)) (col h j))

theorem readsAt_q (H : Found m c A) (t : Fin cfg0.N) (held : Vec Ideal S4x128x128 .f32) (h : Fin 4) :
    IsBlk (e := .bf16) (lanes h (readsAt m c t held).q) (blk t) (A.head h).q := fun r j =>
  (lanes_apply h _ r j).trans ((iblk0 m c t r (col h j)).trans (H.proj _ _ (lt_trans (col h j).isLt (by decide))))

theorem readsAt_fr (H : Found m c A) (t : Fin cfg0.N) (held : Vec Ideal S4x128x128 .f32) (h : Fin 4) :
    IsBlk (e := .bf16) (lanes h (readsAt m c t held).fr) (blk t) (A.head h).f := fun r j =>
  (lanes_apply h _ r j).trans ((iblk1 m c t r (col h j)).trans (H.proj _ _ (by have := (col h j).isLt; show 512 + (col h j).val < _; omega)))

theorem readsAt_iv (H : Found m c A) (t : Fin cfg0.N) (held : Vec Ideal S4x128x128 .f32) (h : Fin 4) :
    IsBlk (e := .bf16) (lanes h (readsAt m c t held).iv) (blk t) (A.head h).v := fun r j =>
  (lanes_apply h _ r j).trans ((iblk2 m c t r (col h j)).trans (H.proj _ _ (by have := (col h j).isLt; show 1024 + (col h j).val < _; omega)))

theorem readsAt_ov (H : Found m c A) (t : Fin cfg0.N) (held : Vec Ideal S4x128x128 .f32) (h : Fin 4) :
    IsBlk (e := .bf16) (lanes h (readsAt m c t held).ov) (blk t) (A.head h).o := fun r j =>
  (lanes_apply h _ r j).trans ((iblk5 m c t r (col h j)).trans (H.cotangent _ _))

theorem readsAt_st (H : Found m c A) (t : Fin cfg0.N) (held : Vec Ideal S4x128x128 .f32) (g h : Fin 4) :
    IsMat (slab (stateSlab g h (readsAt m c t held).st)) ((A.head h).state 4096 (4 * blk t + g)) := fun j k =>
  (slab_apply _ j k).trans ((stateSlab_apply g h _ 0 j k).trans ((iblk4 m c t g (col h j) k).trans (H.states _ h j k)))

theorem readsAt_holds (H : Found m c A) (t : Fin cfg0.N) {held : Vec Ideal S4x128x128 .f32} (hd : IsHeld held A (4 * blk t + 4)) (h : Fin 4) :
    HeadHolds (A.head h) (blk t) 4096 ((readsAt m c t held).lb h) (lanes h (readsAt m c t held).q) (lanes h (readsAt m c t held).fr)
      (lanes h (readsAt m c t held).iv) (lanes h (readsAt m c t held).ov) ((readsAt m c t held).held h)
      (stateSlab 0 h (readsAt m c t held).st) (stateSlab 1 h (readsAt m c t held).st) (stateSlab 2 h (readsAt m c t held).st)
      (stateSlab 3 h (readsAt m c t held).st) :=
  ⟨readsAt_lb H t held h, readsAt_q H t held h, readsAt_fr H t held h, readsAt_iv H t held h, readsAt_ov H t held h,
    fun j k => (slab_apply _ j k).trans ((heldSlab_apply h held 0 j k).trans (hd h j k)),
    readsAt_st H t held 0 h, readsAt_st H t held 1 h, readsAt_st H t held 2 h, readsAt_st H t held 3 h⟩

end Cert.Hgrn

end
-- ==== Proof.Points.lean ====
/- What the kernel's run leaves after each grid point: the block of input gradients, the accumulated row of the lower
   bound's gradient, and the matrices carried to the block before. -/
module

public import proofs.«01_k».proof.Proof.Blocks

@[expose] public section

set_option maxRecDepth 16384

noncomputable section

namespace Cert.Hgrn

open Idealize.ShloMosaic Idealize.ShloMosaic.TcCoe Idealize.SL.Sem Cert.KernelIdeal Cert.KernelIdeal.Gen

/-- The gradients of one head's three inputs. -/
def HeadIn.out (I : HeadIn) (p : Fin 3) (t : ℕ) (j : Fin 128) : ℝ :=
  match p with
  | 0 => I.dq 4096 t j
  | 1 => I.df 4096 t j
  | 2 => I.di 4096 t j

/-- The gradient of the first 1536 columns of the projections. -/
def Inputs.out (A : Inputs) (t cc : ℕ) : ℝ :=
  (A.head ⟨cc % 512 / 128, by omega⟩).out ⟨cc / 512 % 3, by omega⟩ t ⟨cc % 128, by omega⟩

theorem Inputs.out_at (A : Inputs) (t : ℕ) (p : Fin 3) (h : Fin 4) (j : Fin 128) :
    A.out t (512 * p + 128 * h + j) = (A.head h).out p t j := by
  have hp := p.isLt
  have hh := h.isLt
  have hj := j.isLt
  have e1 : (⟨(512 * p.val + 128 * h.val + j.val) % 512 / 128, by omega⟩ : Fin 4) = h := Fin.ext (by show _ % 512 / 128 = h.val; omega)
  have e2 : (⟨(512 * p.val + 128 * h.val + j.val) / 512 % 3, by omega⟩ : Fin 3) = p := Fin.ext (by show _ / 512 % 3 = p.val; omega)
  have e3 : (⟨(512 * p.val + 128 * h.val + j.val) % 128, by omega⟩ : Fin 128) = j := Fin.ext (by show _ % 128 = j.val; omega)
  unfold Inputs.out
  rw [e1, e2, e3]

/-- The gradient of the lower bounds, from the tokens of block `b` on. -/
def HeadIn.dlbFrom (I : HeadIn) (b : ℕ) (k : Fin 128) : ℝ := ∑ u ∈ Finset.range 4096, if 256 * b ≤ u then I.dlbTerm 4096 u k else 0

theorem HeadIn.dlbFrom_step (I : HeadIn) (b : ℕ) (hb : b < 16) (k : Fin 128) :
    I.dlbFrom (b + 1) k + ∑ r : Fin 256, I.dlbTerm 4096 (256 * b + r) k = I.dlbFrom b k := by
  have e := window_sum 4096 (256 * b) 256 (by omega) (fun u => if 256 * b ≤ u ∧ u < 256 * b + 256 then I.dlbTerm 4096 u k else 0)
    (fun u hu => if_neg hu)
  have e' : ∑ r : Fin 256, I.dlbTerm 4096 (256 * b + r) k
      = ∑ i : Fin 256, (fun u => if 256 * b ≤ u ∧ u < 256 * b + 256 then I.dlbTerm 4096 u k else 0) (256 * b + i) :=
    Finset.sum_congr rfl fun r _ => (if_pos ⟨by omega, by have := r.isLt; omega⟩).symm
  rw [e', e]
  unfold HeadIn.dlbFrom
  rw [← Finset.sum_add_distrib]
  refine Finset.sum_congr rfl fun u _ => ?_
  by_cases c1 : 256 * (b + 1) ≤ u
  · rw [if_pos c1, if_neg (by omega), if_pos (by omega), add_zero]
  by_cases c2 : 256 * b ≤ u
  · rw [if_neg c1, if_pos (by omega), if_pos c2, zero_add]
  · rw [if_neg c1, if_neg (by omega), if_neg c2, zero_add]

theorem HeadIn.dlbFrom_end (I : HeadIn) (k : Fin 128) : I.dlbFrom 16 k = 0 :=
  Finset.sum_eq_zero fun u hu => if_neg (by have := Finset.mem_range.mp hu; omega)

/-! ## The stores, read back -/

section Stores

theorem tile_inb (p : Fin 3) (h : Fin 4) : ∀ a, (![0, 512 * p.val + 128 * h.val] : Fin 2 → ℕ) a + (![256, 128] : Fin 2 → ℕ) a ≤ S256x1536.size a :=
  fun a => by fin_cases a <;> fin_cases h <;> fin_cases p <;> decide

theorem slab_inb (h : Fin 4) : ∀ a, (![h.val, 0, 0] : Fin 3 → ℕ) a + (![1, 128, 128] : Fin 3 → ℕ) a ≤ S4x128x128.size a :=
  fun a => by fin_cases a <;> fin_cases h <;> decide

/-- A tile's store is its part of the block. -/
theorem tile_reads {A : Inputs} {b : ℕ} (p : Fin 3) (h : Fin 4) {w : FVec Ideal S256x128 .bf16} (hw : IsBlk w b ((A.head h).out p)) :
    ∀ x, (Reads.tile p h w).2 x = (fun y : S256x1536.Idx => ((A.out (256 * b + (y 0).val) (y 1).val : ℝ) : EReal)) ((Reads.tile p h w).1.emb x) := fun x => by
  obtain ⟨r, j, rfl⟩ : ∃ (r : Fin 256) (j : Fin 128), x = ix2 r j := ⟨x 0, x 1, funext fun a => by match a with | ⟨0, _⟩ => rfl | ⟨1, _⟩ => rfl⟩
  refine (hw r j).trans ?_
  rw [← A.out_at]
  have e0 : ((Reads.tile p h w).1.emb (ix2 r j) 0).val = 0 + r.val := Rect.idx_unit_val (s := S256x1536) _ _ (tile_inb p h) _ _
  have e1 : ((Reads.tile p h w).1.emb (ix2 r j) 1).val = (512 * p.val + 128 * h.val) + j.val := Rect.idx_unit_val (s := S256x1536) _ _ (tile_inb p h) _ _
  show _ = ((A.out (256 * b + ((Reads.tile p h w).1.emb (ix2 r j) 0).val) ((Reads.tile p h w).1.emb (ix2 r j) 1).val : ℝ) : EReal)
  rw [e0, e1, Nat.zero_add]

theorem tile_mem (p : Fin 3) (h : Fin 4) (w : FVec Ideal S256x128 .bf16) (y : S256x1536.Idx)
    (e : 512 * p.val + 128 * h.val ≤ (y 1).val ∧ (y 1).val < 512 * p.val + 128 * h.val + 128) : y ∈ (Reads.tile p h w).1.set := by
  unfold Reads.tile
  rw [Rect.mem_set_unit]
  intro a
  match a with
  | ⟨0, _⟩ => exact ⟨Nat.zero_le _, (y 0).isLt.trans_eq (Nat.zero_add _).symm⟩
  | ⟨1, _⟩ => exact e

variable {A : Inputs} {b : ℕ} (hT : 256 * (b + 1) ≤ 4096) (x : Reads Ideal)
  (H : ∀ h, HeadHolds (A.head h) b 4096 (x.lb h) (lanes h x.q) (lanes h x.fr) (lanes h x.iv) (lanes h x.ov) (x.held h)
    (stateSlab 0 h x.st) (stateSlab 1 h x.st) (stateSlab 2 h x.st) (stateSlab 3 h x.st))
include hT H

theorem dq_reads (h : Fin 4) : IsBlk (x.dq h) b ((A.head h).out 0) := holds_dq hT (H h)
theorem df_reads (h : Fin 4) : IsBlk (x.df h) b ((A.head h).out 1) := holds_df hT (H h)
theorem di_reads (h : Fin 4) : IsBlk (x.di h) b ((A.head h).out 2) := holds_di hT (H h)

theorem block_reads (r : Fin 256) (cc : Fin 1536) :
    View.canon x.outPieces (ix2 r cc) = ((A.out (256 * b + r) cc : ℝ) : EReal) := by
  have hc := cc.isLt
  refine View.canon_apply_of_pieces (fun y : S256x1536.Idx => ((A.out (256 * b + (y 0).val) (y 1).val : ℝ) : EReal)) x.outPieces ?_ (ix2 r cc) ?_
  · intro p hp
    have q := dq_reads hT x H
    have f := df_reads hT x H
    have i := di_reads hT x H
    simp only [Reads.outPieces, List.mem_cons, List.not_mem_nil, or_false] at hp
    rcases hp with rfl | rfl | rfl | rfl | rfl | rfl | rfl | rfl | rfl | rfl | rfl | rfl
    · exact tile_reads 2 3 (i 3)
    · exact tile_reads 1 3 (f 3)
    · exact tile_reads 0 3 (q 3)
    · exact tile_reads 2 2 (i 2)
    · exact tile_reads 1 2 (f 2)
    · exact tile_reads 0 2 (q 2)
    · exact tile_reads 2 1 (i 1)
    · exact tile_reads 1 1 (f 1)
    · exact tile_reads 0 1 (q 1)
    · exact tile_reads 2 0 (i 0)
    · exact tile_reads 1 0 (f 0)
    · exact tile_reads 0 0 (q 0)
  · obtain ⟨p, h, e⟩ : ∃ (p : Fin 3) (h : Fin 4), 512 * p.val + 128 * h.val ≤ cc.val ∧ cc.val < 512 * p.val + 128 * h.val + 128 :=
      ⟨⟨cc.val / 512, by omega⟩, ⟨cc.val % 512 / 128, by omega⟩, by show 512 * (cc.val / 512) + 128 * (cc.val % 512 / 128) ≤ _; omega,
        by show _ < 512 * (cc.val / 512) + 128 * (cc.val % 512 / 128) + 128; omega⟩
    match p, h with
    | 0, 0 => exact ⟨_, by simp [Reads.outPieces], tile_mem 0 0 (x.dq 0) _ e⟩
    | 0, 1 => exact ⟨_, by simp [Reads.outPieces], tile_mem 0 1 (x.dq 1) _ e⟩
    | 0, 2 => exact ⟨_, by simp [Reads.outPieces], tile_mem 0 2 (x.dq 2) _ e⟩
    | 0, 3 => exact ⟨_, by simp [Reads.outPieces], tile_mem 0 3 (x.dq 3) _ e⟩
    | 1, 0 => exact ⟨_, by simp [Reads.outPieces], tile_mem 1 0 (x.df 0) _ e⟩
    | 1, 1 => exact ⟨_, by simp [Reads.outPieces], tile_mem 1 1 (x.df 1) _ e⟩
    | 1, 2 => exact ⟨_, by simp [Reads.outPieces], tile_mem 1 2 (x.df 2) _ e⟩
    | 1, 3 => exact ⟨_, by simp [Reads.outPieces], tile_mem 1 3 (x.df 3) _ e⟩
    | 2, 0 => exact ⟨_, by simp [Reads.outPieces], tile_mem 2 0 (x.di 0) _ e⟩
    | 2, 1 => exact ⟨_, by simp [Reads.outPieces], tile_mem 2 1 (x.di 1) _ e⟩
    | 2, 2 => exact ⟨_, by simp [Reads.outPieces], tile_mem 2 2 (x.di 2) _ e⟩
    | 2, 3 => exact ⟨_, by simp [Reads.outPieces], tile_mem 2 3 (x.di 3) _ e⟩

theorem dlbRow_reads (h : Fin 4) (k : Fin 128) :
    x.dlbRow (ix2 0 (col h k)) = ((∑ r : Fin 256, (A.head h).dlbTerm 4096 (256 * b + r) k : ℝ) : EReal) := by
  have e := fun h => holds_dlb hT (H h)
  have hk := k.isLt
  unfold Reads.dlbRow
  pointwise
  have at_ : ∀ (h : Fin 4) (j : Fin 128), j.val = k.val → x.dlb h (ix2 0 j) = ((∑ r : Fin 256, (A.head h).dlbTerm 4096 (256 * b + r) k : ℝ) : EReal) :=
    fun h j hj => (congrArg (fun j => x.dlb h (ix2 0 j)) (Fin.ext hj)).trans (e h k)
  match h with
  | 0 =>
    have c : (col 0 k).val = 128 * 0 + k.val := rfl
    rw [dif_pos (by omega)]
    exact at_ 0 _ (by show (col 0 k).val = _; omega)
  | 1 =>
    have c : (col 1 k).val = 128 * 1 + k.val := rfl
    rw [dif_neg (by omega), dif_pos (by omega)]
    exact at_ 1 _ (by show (col 1 k).val - 128 = _; omega)
  | 2 =>
    have c : (col 2 k).val = 128 * 2 + k.val := rfl
    rw [dif_neg (by omega), dif_neg (by omega), dif_pos (by omega)]
    exact at_ 2 _ (by show (col 2 k).val - 128 - 128 = _; omega)
  | 3 =>
    have c : (col 3 k).val = 128 * 3 + k.val := rfl
    rw [dif_neg (by omega), dif_neg (by omega), dif_neg (by omega)]
    exact at_ 3 _ (by show (col 3 k).val - 128 - 128 - 128 = _; omega)

/-- One carried matrix's store is its part of the next matrices. -/
theorem slab_reads (h : Fin 4) : ∀ y, (x.slabPiece h).2 y
    = (fun y : S4x128x128.Idx => (((A.head (y 0)).costate 4096 (4 * b) (y 1) (y 2) : ℝ) : EReal)) ((x.slabPiece h).1.emb y) := fun y => by
  obtain ⟨u, j, k, rfl⟩ : ∃ (u : Fin 1) (j k : Fin 128), y = ix3 u j k :=
    ⟨y 0, y 1, y 2, funext fun a => by match a with | ⟨0, _⟩ => rfl | ⟨1, _⟩ => rfl | ⟨2, _⟩ => rfl⟩
  obtain rfl : u = 0 := Fin.ext (by have := u.isLt; omega)
  have e := holds_carryOut hT (H h) j k
  rw [slab_apply] at e
  refine Eq.trans e ?_
  have e0 : (x.slabPiece h).1.emb (ix3 0 j k) 0 = h := Fin.ext ((Rect.idx_unit_val (s := S4x128x128) _ _ (slab_inb h) _ _).trans (Nat.add_zero _))
  have e1 : (x.slabPiece h).1.emb (ix3 0 j k) 1 = j := Fin.ext ((Rect.idx_unit_val (s := S4x128x128) _ _ (slab_inb h) _ _).trans (Nat.zero_add _))
  have e2 : (x.slabPiece h).1.emb (ix3 0 j k) 2 = k := Fin.ext ((Rect.idx_unit_val (s := S4x128x128) _ _ (slab_inb h) _ _).trans (Nat.zero_add _))
  show _ = (((A.head ((x.slabPiece h).1.emb (ix3 0 j k) 0)).costate 4096 (4 * b) ((x.slabPiece h).1.emb (ix3 0 j k) 1) ((x.slabPiece h).1.emb (ix3 0 j k) 2) : ℝ) : EReal)
  rw [e0, e1, e2]

theorem held_pieces : View.PiecesOf (fun y : S4x128x128.Idx => (((A.head (y 0)).costate 4096 (4 * b) (y 1) (y 2) : ℝ) : EReal)) x.heldPieces :=
  ⟨slab_reads hT x H 3, slab_reads hT x H 2, slab_reads hT x H 1, slab_reads hT x H 0, trivial⟩

omit hT H in
theorem slab_mem (h : Fin 4) (j k : Fin 128) : ix3 h j k ∈ (x.slabPiece h).1.set := by
  unfold Reads.slabPiece
  rw [Rect.mem_set_unit]
  intro a
  match a with
  | ⟨0, _⟩ => exact ⟨le_refl _, Nat.lt_succ_self _⟩
  | ⟨1, _⟩ => exact ⟨Nat.zero_le _, j.isLt.trans_eq (Nat.zero_add _).symm⟩
  | ⟨2, _⟩ => exact ⟨Nat.zero_le _, k.isLt.trans_eq (Nat.zero_add _).symm⟩

omit hT H in
theorem slab_in : ∀ h : Fin 4, x.slabPiece h ∈ x.heldPieces
  | 0 => .tail _ (.tail _ (.tail _ (.head _)))
  | 1 => .tail _ (.tail _ (.head _))
  | 2 => .tail _ (.head _)
  | 3 => .head _

theorem held_reads (L : List (View.Piece (Elt Ideal) S4x128x128 .f32)) : IsHeld (View.canon (x.heldPieces ++ L)) A (4 * b) := fun h j k =>
  View.canon_append_of_piecesOf _ L x.heldPieces (held_pieces hT x H) (ix3 h j k) ⟨x.slabPiece h, slab_in x h, slab_mem x h j k⟩

end Stores

/-! ## The points, in order -/

section Sweep

variable {m : (ℓ : Loc nD τ sig) → Buf (Elt Ideal) ℓ} {c : Dev nD} {A : Inputs}

/-- What the run holds after point `t`. -/
structure After (m : (ℓ : Loc nD τ sig) → Buf (Elt Ideal) ℓ) (c : Dev nD) (A : Inputs) (n : ℕ) (hn : n < cfg0.N) : Prop where
  block : ∀ (r : Fin 256) (cc : Fin 1536), (outsAt0 m c n hn).1 (ix2 r cc) = ((A.out (256 * (15 - n) + r) cc : ℝ) : EReal)
  row : ∀ (h : Fin 4) (k : Fin 128), (outsAt0 m c n hn).2.1 (ix2 0 (col h k)) = (((A.head h).dlbFrom (15 - n) k : ℝ) : EReal)
  held : IsHeld (outsAt0 m c n hn).2.2 A (4 * (15 - n))

theorem held_start : IsHeld (k0_pay2 (F := Ideal)) A 64 := fun h j k => by
  unfold k0_pay2 HeadIn.costate
  rw [costate_end 4096 _ _ _ 64 (by omega)]
  pointwise
  rfl

theorem after_first (H : Found m c A) (t : Fin cfg0.N) (ht : t.val = 0) : After m c A t.val t.isLt := by
  have h0 : t.val % 16 = 0 := by omega
  have hb : blk t = 15 := by unfold blk; omega
  have e := outsAt0_A m c t h0 h0 (by omega)
  obtain ⟨z, hz⟩ : ∃ z, z = k0_pay2 (F := Ideal) := ⟨_, rfl⟩
  have hs : IsHeld z A (4 * blk t + 4) := by rw [hb, hz]; exact held_start
  have Hh := readsAt_holds H t hs
  have hT : 256 * (blk t + 1) ≤ 4096 := by rw [hb]
  refine ⟨fun r cc => ?_, fun h k => ?_, ?_⟩
  · rw [e]; dsimp only
    rw [block_A, View.read_writes_junk_eq_canon, ← hz]
    exact block_reads hT (readsAt m c t z) Hh r cc
  · rw [e]; dsimp only
    rw [dlb_A, ← hz]
    refine (dlbRow_reads hT (readsAt m c t z) Hh h k).trans (congrArg _ ?_)
    rw [← HeadIn.dlbFrom_step _ (15 - t.val) (by omega), show 15 - t.val + 1 = 16 by omega, HeadIn.dlbFrom_end, zero_add]; rfl
  · rw [e]; dsimp only
    rw [held_A, View.read_writes_junk_eq_canon, ← hz]
    exact held_reads hT (readsAt m c t z) Hh _

theorem after_next (H : Found m c A) (n : ℕ) (hn : n + 1 < cfg0.N) (ih : After m c A n (Nat.lt_of_succ_lt hn)) : After m c A (n + 1) hn := by
  have hN : cfg0.N = 16 := N_0
  have hb : blk ⟨n + 1, hn⟩ = 15 - (n + 1) := rfl
  have h1 : ¬(⟨n + 1, hn⟩ : Fin cfg0.N).val % 16 = 0 := by dsimp only; omega
  have e := outsAt0_B m c ⟨n + 1, hn⟩ h1 h1 (Nat.le_add_left _ _)
  have hd : IsHeld (outsAt0 m c n (Nat.lt_of_succ_lt hn)).2.2 A (4 * blk ⟨n + 1, hn⟩ + 4) := by
    rw [hb, show 4 * (15 - (n + 1)) + 4 = 4 * (15 - n) by omega]; exact ih.held
  have Hh := readsAt_holds H ⟨n + 1, hn⟩ hd
  have hT : 256 * (blk ⟨n + 1, hn⟩ + 1) ≤ 4096 := by rw [hb]; omega
  refine ⟨fun r cc => ?_, fun h k => ?_, ?_⟩
  · rw [e]; dsimp only
    rw [block_B, View.read_writes_junk_eq_canon]
    exact block_reads hT (readsAt m c ⟨n + 1, hn⟩ _) Hh r cc
  · rw [e]; dsimp only
    rw [dlb_B, shapeCast_self]
    have r := dlbRow_reads hT (readsAt m c ⟨n + 1, hn⟩ _) Hh h k
    refine (congrArg₂ (· + ·) (ih.row h k) r).trans ?_
    rw [← EReal.coe_add, ← HeadIn.dlbFrom_step _ (15 - (n + 1)) (by omega), show 15 - (n + 1) + 1 = 15 - n by omega]; rfl
  · rw [e]; dsimp only
    rw [held_B, View.read_writes_junk_eq_canon]
    have q := held_reads hT (readsAt m c ⟨n + 1, hn⟩ _) Hh []
    rw [List.append_nil] at q
    exact q

theorem after_point (H : Found m c A) : ∀ (n : ℕ) (hn : n < cfg0.N), After m c A n hn
  | 0, hn => after_first H ⟨0, hn⟩ rfl
  | n + 1, hn => after_next H n hn (after_point H n _)

end Sweep

end Cert.Hgrn

end
-- ==== Proof.Arrays.lean ====
/- The kernel's two result arrays after the run: the projections' gradient, with the columns the kernel does not compute as they
   were, and the row of the lower bound's gradient. -/
module

public import proofs.«01_k».proof.Proof.Points
public import Idealize.ShloMosaic.Lib.Pipeline.ValueKit.Geometry
public import Idealize.ShloMosaic.Lib.Pipeline.Value

@[expose] public section

set_option maxRecDepth 16384

noncomputable section

namespace Cert.Hgrn

open Idealize.ShloMosaic Idealize.ShloMosaic.TcCoe Idealize.SL.Sem Cert.KernelIdeal Cert.KernelIdeal.Gen

variable {m : (ℓ : Loc nD τ sig) → Buf (Elt Ideal) ℓ} {c : Dev nD} {A : Inputs}

theorem size6 : ∀ t : Fin grid0.N, win0_6.xsize (grid0.coords t) 0 = 256 ∧ win0_6.xsize (grid0.coords t) 1 = 1536 := by decide +kernel

/-- The point that handles a token's block. -/
def pointOf (r : Fin 4096) : Fin cfg0.N := ⟨15 - r.val / 256, by rw [show cfg0.N = 16 from N_0]; omega⟩

theorem final_grads (H : Found m c A) (r : Fin 4096) (cc : Fin 3584) (hc : cc.val < 1536) :
    (dats m 0 c).arrAt 6 cfg0.N (ix2 r cc) = ((A.out r cc : ℝ) : EReal) := by
  have hr := r.isLt
  obtain ⟨t, ht⟩ : ∃ t, t = pointOf r := ⟨_, rfl⟩
  have htv : t.val = 15 - r.val / 256 := by rw [ht]; rfl
  have b := Value.blocks6 m c t (flush0_6 t)
  have s := size6 t
  have i := index6 t
  let y : ((cfg0.win 6).xblock (grid0.coords t)).Idx := fun a => match a with
    | ⟨0, _⟩ => ⟨r.val % 256, by show _ < win0_6.xsize (grid0.coords t) 0; rw [s.1]; omega⟩
    | ⟨1, _⟩ => ⟨cc.val, by show _ < win0_6.xsize (grid0.coords t) 1; rw [s.2]; omega⟩
  have e := congrFun b y
  rw [View.read_apply, Value.flushed6] at e
  have ey : ((cfg0.win 6).blk t).view.emb y = ix2 r cc := by
    funext a
    apply Fin.ext
    match a with
    | ⟨0, _⟩ => show win0_6.index t 0 * 256 + 1 * (r.val % 256) = r.val; rw [i.1]; omega
    | ⟨1, _⟩ => show win0_6.index t 1 * 1536 + 1 * cc.val = cc.val; rw [i.2]; omega
  rw [ey] at e
  refine e.trans ?_
  have a := (after_point H t.val t.isLt).block ⟨r.val % 256, by omega⟩ ⟨cc.val, hc⟩
  have ex : (cfg0.win 6).cut (grid0.coords t) (outsAt0 m c t.val t.isLt).1 y = (outsAt0 m c t.val t.isLt).1 (ix2 ⟨r.val % 256, by omega⟩ ⟨cc.val, hc⟩) := by
    refine congrArg (outsAt0 m c t.val t.isLt).1 (funext fun a => Fin.ext ?_)
    match a with
    | ⟨0, _⟩ => rfl
    | ⟨1, _⟩ => rfl
  refine (ex.trans a).trans ?_
  exact congrArg (fun n => ((A.out n cc : ℝ) : EReal)) (show 256 * (15 - t.val) + r.val % 256 = r.val by omega)

theorem final_rest (r : Fin 4096) (cc : Fin 3584) (hc : ¬cc.val < 1536) :
    (dats m 0 c).arrAt 6 cfg0.N (ix2 r cc) = V m c main_v61_0 (ix2 r cc) := by
  refine Value.entry6 m c (ix2 r cc) fun t _ => ?_
  show ix2 r cc ∉ ((View.whole main_v61_0).slice (win0_6.rect t)).set
  rw [View.set_slice_whole, Rect.mem_set_unit]
  intro h
  have h1 : cc.val < win0_6.index t 1 * 1536 + win0_6.xsize (grid0.coords t) 1 := (h 1).2
  rw [(index6 t).2, (size6 t).2] at h1
  omega

theorem final_row (H : Found m c A) (h : Fin 4) (k : Fin 128) :
    (dats m 0 c).arrAt 7 cfg0.N (ix2 0 (col h k)) = (((A.head h).dlbFrom 0 k : ℝ) : EReal) := by
  have hN : cfg0.N = 16 := N_0
  have e : (dats m 0 c).arrAt 7 cfg0.N = (outsAt0 m c t0_15.val t0_15.isLt).2.1 :=
    (dats m 0 c).arrAt_eq_of_cover 7 (outsAt0 m c t0_15.val t0_15.isLt).2.1 (fun t hf => by
      have h15 : t.val = 15 := by have := (flush0_7 t).mp hf; have := t.isLt; omega
      obtain rfl : t = t0_15 := Fin.ext h15
      rw [Value.flushed7]
      have hz' : (fun a => win0_7.index t0_15 a * main_v61_1.ty.shape.size a) = fun _ => 0 := funext fun a => by fin_cases a <;> decide
      exact (Memref.read_access_unit_zero (Elt Ideal) main_v61_1 hz' (fun a => by rw [congrFun hz' a]; simp) (outsAt0 m c t0_15.val t0_15.isLt).2.1).symm) fun i =>
    ⟨t0_15, (flush0_7 t0_15).mpr rfl, by
      show i ∈ ((View.whole main_v61_1).slice (win0_7.rect t0_15)).set
      rw [View.set_slice_whole, Rect.mem_set_unit]
      intro a
      have h0 : (i 0 : Nat) < 1 := (i 0).isLt
      have h1 : (i 1 : Nat) < 512 := (i 1).isLt
      match a with
      | ⟨0, _⟩ => show win0_7.index t0_15 0 * win0_7.size 0 ≤ (i 0 : Nat) ∧ (i 0 : Nat) < win0_7.index t0_15 0 * win0_7.size 0 + win0_7.xsize (grid0.coords t0_15) 0
                  rw [show win0_7.index t0_15 0 * win0_7.size 0 = 0 from by decide +kernel, show win0_7.xsize (grid0.coords t0_15) 0 = 1 from by decide +kernel]; omega
      | ⟨1, _⟩ => show win0_7.index t0_15 1 * win0_7.size 1 ≤ (i 1 : Nat) ∧ (i 1 : Nat) < win0_7.index t0_15 1 * win0_7.size 1 + win0_7.xsize (grid0.coords t0_15) 1
                  rw [show win0_7.index t0_15 1 * win0_7.size 1 = 0 from by decide +kernel, show win0_7.xsize (grid0.coords t0_15) 1 = 512 from by decide +kernel]; omega⟩
  rw [e]
  exact (after_point H t0_15.val t0_15.isLt).row h k

end Cert.Hgrn

end
-- ==== Proof.Sums.lean ====
/- The running sums of the host: a padded window added up is the sum of the tokens up to, or from, one token on. -/
module

public import proofs.«01_k».proof.Proof.HeadRead
public import Idealize.ShloMosaic.Lib.Pointwise.Index

@[expose] public section

set_option maxRecDepth 16384

noncomputable section

namespace Cert.Hgrn

open Idealize.ShloMosaic

/-- Adding up a list in order is adding its sum. -/
theorem fold_add {ι : Type} (l : List ι) (g : ι → EReal) (z : EReal) : l.foldl (fun r n => r + g n) z = z + (l.map g).sum := by
  induction l generalizing z with
  | nil => simp
  | cons a l ih => rw [List.foldl_cons, ih, List.map_cons, List.sum_cons, add_assoc]

/-- A window's sum, free of the order of its positions. -/
theorem window_total {s t u : Shape} (window strides lo hi : Fin s.rank → Nat) (x : FVec Ideal s .f32) (init : FVec Ideal u .f32)
    (h : s.ReduceWindows window strides lo hi t) (hu : 0 < u.numel) (j : t.Idx) :
    Host.reduceWindowAdd window strides lo hi x init h hu j = init (Shape.Idx.first hu) + ∑ i : (⟨s.rank, window⟩ : Shape).Idx,
      (if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else init (Shape.Idx.first hu)) := by
  refine Eq.trans (fold_add _ _ _) ?_
  refine congrArg (init (Shape.Idx.first hu) + ·) ?_
  rw [← Equiv.sum_comp ((⟨s.rank, window⟩ : Shape).rowMajor.symm)]
  have e : ∀ (n : ℕ) (g : Fin n → EReal), ((List.finRange n).map g).sum = ∑ i, g i := fun n g => (Fin.sum_univ_def g).symm
  refine (e _ _).trans (Finset.sum_congr rfl fun n _ => ?_)
  dsimp only
  split <;> rfl

/-- The term of a window down the tokens: position `a` of the window that ends `lo` positions on. -/
def windowTerm (lo t : ℕ) (f : ℕ → ℝ) (a : ℕ) : ℝ := if lo ≤ t + a ∧ t + a - lo < 4096 then f (t + a - lo) else 0

/-- Padded before, the window holds the tokens up to its own. -/
theorem window_low (f : ℕ → ℝ) (t : ℕ) (ht : t < 4096) : ∑ a : Fin 4096, windowTerm 4095 t f a = ∑ u ∈ Finset.range (t + 1), f u := by
  rw [Fin.sum_univ_eq_sum_range (windowTerm 4095 t f) 4096]
  unfold windowTerm
  rw [← Finset.sum_filter]
  refine Finset.sum_nbij' (fun a => t + a - 4095) (fun u => u + 4095 - t) ?_ ?_ ?_ ?_ ?_ <;> intro a ha <;>
    simp only [Finset.mem_filter, Finset.mem_range] at ha ⊢ <;> omega

/-- Padded after, the tokens from its own on. -/
theorem window_high (f : ℕ → ℝ) (t : ℕ) (ht : t < 4096) :
    ∑ a : Fin 4096, windowTerm 0 t f a = ∑ u ∈ Finset.range 4096, if t ≤ u then f u else 0 := by
  rw [Fin.sum_univ_eq_sum_range (windowTerm 0 t f) 4096]
  unfold windowTerm
  rw [← Finset.sum_filter, ← Finset.sum_filter]
  refine Finset.sum_nbij' (fun a => t + a) (fun u => u - t) ?_ ?_ ?_ ?_ ?_ <;> intro a ha <;>
    simp only [Finset.mem_filter, Finset.mem_range] at ha ⊢ <;> first | omega | rfl

/-- A window down the tokens of rows of lanes. -/
theorem window_rows (lo hi' : ℕ) (x : FVec Ideal (⟨2, ![4096, 512]⟩ : Shape) .f32) (f : ℕ → ℝ) (e : Fin 512)
    (hx : ∀ i : Fin 4096, x (ix2 i e) = ((f i : ℝ) : EReal)) (init : FVec Ideal (⟨0, ![]⟩ : Shape) .f32) (hi : ∀ i, init i = ((0 : ℝ) : EReal))
    (h : (⟨2, ![4096, 512]⟩ : Shape).ReduceWindows (![4096, 1] : Fin 2 → Nat) ![1, 1] ![lo, 0] ![hi', 0] (⟨2, ![4096, 512]⟩ : Shape))
    (hu : 0 < (⟨0, ![]⟩ : Shape).numel) (t : Fin 4096) :
    Host.reduceWindowAdd ![4096, 1] ![1, 1] ![lo, 0] ![hi', 0] x init h hu (ix2 t e) = ((∑ a : Fin 4096, windowTerm lo t f a : ℝ) : EReal) := by
  rw [window_total, hi, EReal.coe_zero, zero_add]
  refine (sum_idx2 (n0 := 4096) (n1 := 1) _).trans ?_
  rw [← coe_sum]
  refine Finset.sum_congr rfl fun a _ => (Fin.sum_univ_one _).trans ?_
  unfold windowTerm
  by_cases c : lo ≤ t.val + a.val ∧ t.val + a.val - lo < 4096
  · rw [if_pos c, dif_pos (by
      intro d
      match d with
      | ⟨0, _⟩ => show lo ≤ t.val * 1 + a.val ∧ t.val * 1 + a.val - lo < 4096; omega
      | ⟨1, _⟩ => show 0 ≤ e.val * 1 + 0 ∧ e.val * 1 + 0 - 0 < 512; have := e.isLt; omega)]
    refine Eq.trans (congrArg x (funext fun d => Fin.ext ?_)) (hx ⟨t.val + a.val - lo, c.2⟩)
    match d with
    | ⟨0, _⟩ => show t.val * 1 + a.val - lo = t.val + a.val - lo; omega
    | ⟨1, _⟩ => show e.val * 1 + 0 - 0 = e.val; omega
  · rw [if_neg c, dif_neg (by
      intro hin
      have : lo ≤ t.val * 1 + a.val ∧ t.val * 1 + a.val - lo < 4096 := hin 0
      omega)]
    rfl

/-- A window down the tokens, the lanes of each head on an axis of their own. -/
theorem window_heads (lo hi' : ℕ) (x : FVec Ideal (⟨3, ![4096, 4, 128]⟩ : Shape) .f32) (f : ℕ → ℝ) (p : Fin 4) (e : Fin 128)
    (hx : ∀ i : Fin 4096, x (ix3 i p e) = ((f i : ℝ) : EReal)) (init : FVec Ideal (⟨0, ![]⟩ : Shape) .f32) (hi : ∀ i, init i = ((0 : ℝ) : EReal))
    (h : (⟨3, ![4096, 4, 128]⟩ : Shape).ReduceWindows (![4096, 1, 1] : Fin 3 → Nat) ![1, 1, 1] ![lo, 0, 0] ![hi', 0, 0] (⟨3, ![4096, 4, 128]⟩ : Shape))
    (hu : 0 < (⟨0, ![]⟩ : Shape).numel) (t : Fin 4096) :
    Host.reduceWindowAdd ![4096, 1, 1] ![1, 1, 1] ![lo, 0, 0] ![hi', 0, 0] x init h hu (ix3 t p e)
      = ((∑ a : Fin 4096, windowTerm lo t f a : ℝ) : EReal) := by
  rw [window_total, hi, EReal.coe_zero, zero_add]
  refine (sum_idx3 (n0 := 4096) (n1 := 1) (n2 := 1) _).trans ?_
  rw [← coe_sum]
  refine Finset.sum_congr rfl fun a _ => ?_
  rw [Fin.sum_univ_one, Fin.sum_univ_one]
  unfold windowTerm
  by_cases c : lo ≤ t.val + a.val ∧ t.val + a.val - lo < 4096
  · rw [if_pos c, dif_pos (by
      intro d
      match d with
      | ⟨0, _⟩ => show lo ≤ t.val * 1 + a.val ∧ t.val * 1 + a.val - lo < 4096; omega
      | ⟨1, _⟩ => show 0 ≤ p.val * 1 + 0 ∧ p.val * 1 + 0 - 0 < 4; have := p.isLt; omega
      | ⟨2, _⟩ => show 0 ≤ e.val * 1 + 0 ∧ e.val * 1 + 0 - 0 < 128; have := e.isLt; omega)]
    refine Eq.trans (congrArg x (funext fun d => Fin.ext ?_)) (hx ⟨t.val + a.val - lo, c.2⟩)
    match d with
    | ⟨0, _⟩ => show t.val * 1 + a.val - lo = t.val + a.val - lo; omega
    | ⟨1, _⟩ => show p.val * 1 + 0 - 0 = p.val; omega
    | ⟨2, _⟩ => show e.val * 1 + 0 - 0 = e.val; omega
  · rw [if_neg c, dif_neg (by
      intro hin
      have : lo ≤ t.val * 1 + a.val ∧ t.val * 1 + a.val - lo < 4096 := hin 0
      omega)]
    rfl

end Cert.Hgrn

end
-- ==== Proof.Host.lean ====
/- The host's preparation of the kernel's states: the lower bound, the gates, their running log, and the state at the start of each
   chunk. -/
module

public import proofs.«01_k».proof.Proof.Sums
public import proofs.«01_k».proof.Proof.Points
public import Idealize.ShloMosaic.Lib.StableHlo.RunRead

@[expose] public section

set_option maxRecDepth 16384

noncomputable section

namespace Cert.Hgrn

open Idealize.ShloMosaic Idealize.ShloMosaic.TcCoe Idealize.SL.Sem Cert.KernelIdeal Cert.KernelIdeal.Gen

/-- The exponentials of the logits, each column less its greatest. -/
def hostExp (l : FVec Ideal S2x512 .f32) : FVec Ideal S2x512 .f32 :=
  Host.exp (subf l (broadcastInDim S2x512 ![0, 1] bcast_S1x512_S2x512_0_1 (broadcastInDim S1x512 ![1] bcast_S512_S1x512_1
    (maximumf (broadcastInDim S512 ![] bcast_S_S512 (constant S_ .f32 0xFF800000#32))
      (Host.reduce FloatOps.maximumf l (constant S_ .f32 0xFF800000#32) reducesTo_S2x512_S512_d0 h_S_)))))

/-- The lower bound: the first row of the logits' softmax. -/
def hostLower (l : FVec Ideal S2x512 .f32) : FVec Ideal S512 .f32 :=
  shapeCast S512 (extractStridedSlice S1x512 ![0, 0] (Host.divf (hostExp l) (broadcastInDim S2x512 ![0, 1] bcast_S1x512_S2x512_0_1
    (broadcastInDim S1x512 ![1] bcast_S512_S1x512_1 (Host.reduceAdd (hostExp l) (constant S_ .f32 0x00000000#32) reducesTo_S2x512_S512_d0 h_S_))))
    slices_S2x512_S1x512_0_0) shapeCasts_S1x512_S512

/-- A row of lanes at every token. -/
def everyToken (r : FVec Ideal S512 .f32) : FVec Ideal S4096x512 .f32 :=
  broadcastInDim S4096x512 ![0, 1] bcast_S1x512_S4096x512_0_1 (broadcastInDim S1x512 ![1] bcast_S512_S1x512_1 r)

/-- The number one at every token and lane. -/
def hostOne : FVec Ideal S4096x512 .f32 := broadcastInDim S4096x512 ![] bcast_S_S4096x512 (constant S_ .f32 0x3F800000#32)

/-- The forget gates. -/
def hostGate (x : FVec Ideal S4096x3584 .bf16) (l : FVec Ideal S2x512 .f32) : FVec Ideal S4096x512 .f32 :=
  addf (everyToken (hostLower l)) (mulf (everyToken (subf (broadcastInDim S512 ![] bcast_S_S512 (constant S_ .f32 0x3F800000#32)) (hostLower l)))
    (Host.divf hostOne (addf hostOne (Host.exp (Host.negf (extf .f32 (extractStridedSlice S4096x512 ![0, 512] x slices_S4096x3584_S4096x512_0_512) bitsLt_bf16_f32))))))

/-- The running sum of the gates' logarithms. -/
def hostSum (g : FVec Ideal S4096x512 .f32) : FVec Ideal S4096x512 .f32 :=
  Host.reduceWindowAdd ![4096, 1] ![1, 1] ![4095, 0] ![0, 0] (Host.log g) (broadcastInDim S_ ![] bcast_S_S_ (constant S_ .f32 0x00000000#32))
    reduceWindows_S4096x512_S4096x512_w4096s1p4095_0_w1s1p0_0 h_S_

/-- The running sum before each chunk. -/
def hostBefore (b : FVec Ideal S4096x512 .f32) : FVec Ideal S64x512 .f32 :=
  concatenate S64x512 0 [⟨S1x512, broadcastInDim S1x512 ![] bcast_S_S1x512 (constant S_ .f32 0x00000000#32)⟩,
    ⟨S63x512, Host.slice S63x512 ![63, 0] ![64, 1] b slicesBy_S4096x512_S63x512_63s64_0s1⟩] concatenates_S1x512_S63x512_S64x512_d0

/-- Which tokens come before each chunk. -/
def hostPast : IVec S64x4096 1 :=
  cmpi .slt (iotaInDim S64x4096 32 1) (muli (broadcastInDim S64x4096 ![] bcast_S_S64x4096 (constantI S_ 32 64#32)) (iotaInDim S64x4096 32 0))

/-- The decay from each token to the start of each later chunk. -/
def hostDecay (b : FVec Ideal S4096x512 .f32) : FVec Ideal S64x4096x512 .f32 :=
  select (broadcastInDim S64x4096x512 ![0, 1, 2] bcast_S64x4096x1_S64x4096x512_0_1_2 (broadcastInDim S64x4096x1 ![0, 1] bcast_S64x4096_S64x4096x1_0_1 hostPast))
    (Host.exp (minimumf (subf (broadcastInDim S64x4096x512 ![0, 1, 2] bcast_S64x1x512_S64x4096x512_0_1_2 (broadcastInDim S64x1x512 ![0, 2] bcast_S64x512_S64x1x512_0_2 (hostBefore b)))
        (broadcastInDim S64x4096x512 ![0, 1, 2] bcast_S1x4096x512_S64x4096x512_0_1_2 (broadcastInDim S1x4096x512 ![1, 2] bcast_S4096x512_S1x4096x512_1_2 b)))
      (broadcastInDim S64x4096x512 ![] bcast_S_S64x4096x512 (constant S_ .f32 0x00000000#32))))
    (broadcastInDim S64x4096x512 ![] bcast_S_S64x4096x512 (constant S_ .f32 0x00000000#32))

/-- The decayed keys, the lanes of each head on an axis of their own. -/
def hostKeys (g b : FVec Ideal S4096x512 .f32) : FVec Ideal S64x4096x4x128 .f32 :=
  shapeCast S64x4096x4x128 (mulf (broadcastInDim S64x4096x512 ![0, 1, 2] bcast_S1x4096x512_S64x4096x512_0_1_2
    (broadcastInDim S1x4096x512 ![1, 2] bcast_S4096x512_S1x4096x512_1_2 (subf hostOne g))) (hostDecay b)) shapeCasts_S64x4096x512_S64x4096x4x128

/-- The values, likewise. -/
def hostValues (x : FVec Ideal S4096x3584 .bf16) : FVec Ideal S4096x4x128 .f32 :=
  shapeCast S4096x4x128 (extf .f32 (extractStridedSlice S4096x512 ![0, 1024] x slices_S4096x3584_S4096x512_0_1024) bitsLt_bf16_f32 : FVec Ideal S4096x512 .f32)
    shapeCasts_S4096x512_S4096x4x128

/-- The states. -/
def hostStates (v : FVec Ideal S4096x4x128 .f32) (k : FVec Ideal S64x4096x4x128 .f32) : FVec Ideal S64x512x128 .f32 :=
  shapeCast S64x512x128 (transpose S64x4x128x128 [2, 0, 1, 3] (Host.dotGeneral dot_S4096x4x128_S64x4096x4x128_S4x128x64x128_0_1_2_03_1_2 none v k)
    transposes_S4x128x64x128_S64x4x128x128_2_0_1_3) shapeCasts_S64x4x128x128_S64x512x128

variable {m : (ℓ : Loc nD τ sig) → Buf (Elt Ideal) ℓ} {c : Dev nD} {A : Inputs}

set_option maxHeartbeats 4000000 in
theorem states_read (m : (ℓ : Loc nD τ sig) → Buf (Elt Ideal) ℓ) (c : Dev nD) :
    V m c main_v60 = hostStates (hostValues (m (c, Proc.tc.devRef main_arg0)))
      (hostKeys (hostGate (m (c, Proc.tc.devRef main_arg0)) (m (c, Proc.tc.devRef main_arg1)))
        (hostSum (hostGate (m (c, Proc.tc.devRef main_arg0)) (m (c, Proc.tc.devRef main_arg1))))) := by
  unfold_abbrev_sides
  after_reads_simp
  rfl

theorem rest_read (m : (ℓ : Loc nD τ sig) → Buf (Elt Ideal) ℓ) (c : Dev nD) : V m c main_v61_0 = m (c, Proc.tc.devRef main_arg3) := by
  unfold_abbrev_sides
  after_reads_simp
  rfl

end Cert.Hgrn

end
-- ==== Proof.Scalars.lean ====
/- Single numbers: the softmax of two, the logistic function, words compared, and the gates' running logs, which fall. -/
module

public import proofs.«01_k».proof.Proof.Blocks

@[expose] public section

set_option maxRecDepth 16384

noncomputable section

namespace Cert.Hgrn

open Idealize.ShloMosaic

/-! ## The softmax of two rows -/

/-- The number below all others. -/
theorem bot_word : Ideal.ofBits FTy.f32 4286578688#32 = (⊥ : EReal) := rfl

theorem max_two (f : Fin 2 → EReal) (a b : ℝ) (h0 : f 0 = (a : EReal)) (h1 : f 1 = (b : EReal)) :
    max (⊥ : EReal) (Finset.univ.fold max (⊥ : EReal) f) = ((max a b : ℝ) : EReal) := by
  have e : (Finset.univ : Finset (Fin 2)) = insert 0 {1} := by decide
  rw [e, Finset.fold_insert (by decide), Finset.fold_singleton, h0, h1, max_bot_right, max_bot_left, EReal.coe_strictMono.monotone.map_max]

/-- One entry of the softmax of two numbers, however much both are lowered by. -/
theorem softmax_two (a b M : ℝ) :
    Ideal.div (Ideal.exp ((a : EReal) - (M : EReal))) (Ideal.exp ((a : EReal) - (M : EReal)) + Ideal.exp ((b : EReal) - (M : EReal)))
      = ((sgR (a - b) : ℝ) : EReal) := by
  rw [← EReal.coe_sub, ← EReal.coe_sub]
  show Ideal.div ((Real.exp (a - M) : ℝ) : EReal) (((Real.exp (a - M) : ℝ) : EReal) + ((Real.exp (b - M) : ℝ) : EReal)) = _
  have ha := Real.exp_pos (a - M)
  have hb := Real.exp_pos (b - M)
  rw [← EReal.coe_add, Ideal.div_coe (by positivity), ← EReal.coe_mul]
  refine congrArg (fun r : ℝ => (r : EReal)) ?_
  unfold sgR
  rw [show Real.exp (b - M) = Real.exp (a - M) * Real.exp (-(a - b)) from by rw [← Real.exp_add]; congr 1; ring]
  have hc := Real.exp_pos (-(a - b))
  field_simp

/-- The logistic function, spelled out. -/
theorem logistic_coe (x : ℝ) : Ideal.div ((1 : ℝ) : EReal) (((1 : ℝ) : EReal) + Ideal.exp (-(x : EReal))) = ((sgR x : ℝ) : EReal) := by
  rw [← EReal.coe_neg]
  show Ideal.div ((1 : ℝ) : EReal) (((1 : ℝ) : EReal) + ((Real.exp (-x) : ℝ) : EReal)) = _
  rw [← EReal.coe_add, Ideal.div_coe (by positivity), ← EReal.coe_mul, one_mul]
  rfl

theorem log_pos_coe {x : ℝ} (h : 0 < x) : Ideal.log (x : EReal) = ((Real.log x : ℝ) : EReal) := by
  rw [Ideal.log_coe, if_neg (not_le.mpr h)]

/-- A selection on a comparison of small words. -/
theorem select_lt (i k : ℕ) (hi : i < 2 ^ 31) (hk : k < 2 ^ 31) (a b : EReal) :
    Scalar.select (IntOp.cmpi CmpIPredicate.slt (BitVec.ofNat 32 i) (BitVec.ofNat 32 k)) a b = if i < k then a else b := by
  have e : ∀ n, n < 2 ^ 31 → (BitVec.ofNat 32 n).toInt = n := fun n hn => by
    rw [BitVec.toInt_eq_toNat_cond, BitVec.toNat_ofNat, Nat.mod_eq_of_lt (by omega), if_pos (by omega)]
  unfold Scalar.select
  refine if_congr (IntOp.cmpi_slt.trans ?_) rfl rfl
  rw [e i hi, e k hk]
  omega

namespace HeadIn

variable (I : HeadIn)

theorem gate_lt (t : ℕ) (k : Fin 128) : I.gate t k < 1 := by
  have h := sgR_lt (I.f t k)
  have h2 := I.lb_lt k
  unfold gate
  nlinarith

theorem log_neg (t : ℕ) (k : Fin 128) : Real.log (I.gate t k) < 0 := Real.log_neg (I.gate_pos t k) (I.gate_lt t k)

/-- Past a token the running log is strictly less. -/
theorem X_lt (k : Fin 128) {a b : ℕ} (h : a < b) : I.X k b < I.X k a := by
  unfold X
  rw [← sub_neg, ← Finset.sum_Ico_eq_sub _ h.le]
  exact Finset.sum_neg (fun u _ => I.log_neg u k) ⟨a, Finset.mem_Ico.mpr ⟨le_rfl, h⟩⟩

theorem X_le (k : Fin 128) {a b : ℕ} (h : a ≤ b) : I.X k b ≤ I.X k a := by
  rcases h.lt_or_eq with h | rfl
  · exact (I.X_lt k h).le
  · exact le_rfl

end HeadIn

end Cert.Hgrn

end
-- ==== Proof.States.lean ====
/- What the host's lines before the call hold over real inputs: at the start of each chunk, the state the forward recurrence has. -/
module

public import proofs.«01_k».proof.Proof.Sums
public import proofs.«01_k».proof.Proof.Host
public import proofs.«01_k».proof.Proof.Scalars
public import proofs.«01_k».proof.Proof.Points

@[expose] public section

set_option maxRecDepth 16384

noncomputable section

namespace Cert.Hgrn

open Idealize.ShloMosaic Idealize.ShloMosaic.TcCoe Idealize.SL.Sem Cert.KernelIdeal Cert.KernelIdeal.Gen

/-! ## What the lines hold -/

theorem host_lower (l : FVec Ideal S2x512 .f32) (a : ℕ → ℕ → ℝ) (hl : IsLogits l a) (e : Fin 512) :
    hostLower l (ix1 e) = ((sgR (a 0 e - a 1 e) : ℝ) : EReal) := by
  unfold hostLower hostExp
  pointwise
  rw [bot_word, max_two (fun x => l (ix2 x e)) _ _ (hl 0 e) (hl 1 e), Fin.sum_univ_two, hl 0 e, hl 1 e]
  exact softmax_two _ _ _

theorem host_before (b : FVec Ideal S4096x512 .f32) (n : Fin 64) (e : Fin 512) (X : ℕ → ℝ) (h0 : X 0 = 0)
    (hb : ∀ t : Fin 4096, b (ix2 t e) = ((X (t + 1) : ℝ) : EReal)) : hostBefore b (ix2 n e) = ((X (64 * n) : ℝ) : EReal) := by
  unfold hostBefore
  pointwise
  by_cases h : n.val < 1
  · rw [dif_pos h, show 64 * n.val = 0 by omega, h0]
    rfl
  · rw [dif_neg h, hb]
    exact congrArg (fun t => ((X t : ℝ) : EReal)) (show 63 + 64 * (n.val - 1) + 1 = 64 * n.val by omega)

theorem host_states (v : FVec Ideal S4096x4x128 .f32) (k : FVec Ideal S64x4096x4x128 .f32) (n : Fin 64) (h : Fin 4) (j i : Fin 128) :
  hostStates v k (ix3 n (col h j) i) = ∑ s : Fin 4096, v (ix3 s h j) * k (ix4 n s h i) := by
  unfold hostStates
  pointwise
  have e : (⟨(col h j).val / 128, by have := (col h j).isLt; omega⟩ : Fin 4) = h := Fin.ext (by show (128 * h.val + j.val) / 128 = h.val; omega)
  have e' : (⟨(col h j).val % 128, by omega⟩ : Fin 128) = j := Fin.ext (by show (128 * h.val + j.val) % 128 = j.val; omega)
  rw [e, e']

theorem host_gate (x : FVec Ideal S4096x3584 .bf16) (l : FVec Ideal S2x512 .f32) (A : Inputs) (hx : IsProj x A.p) (hl : IsLogits l A.l)
    (t : Fin 4096) (h : Fin 4) (i : Fin 128) : hostGate x l (ix2 t (col h i)) = (((A.head h).gate t i : ℝ) : EReal) := by
  unfold hostGate everyToken hostOne
  pointwise
  rw [host_lower l A.l hl (col h i), hx _ _ (show 512 + (col h i).val < 1536 by have := (col h i).isLt; omega)]
  have e := logistic_coe (A.p t (512 + (col h i).val))
  rw [EReal.coe_one] at e
  rw [e, ← EReal.coe_one, ← EReal.coe_sub, ← EReal.coe_mul, ← EReal.coe_add]
  rfl

theorem host_sum (g : FVec Ideal S4096x512 .f32) (f : ℕ → ℝ) (e : Fin 512) (hg : ∀ t : Fin 4096, g (ix2 t e) = ((f t : ℝ) : EReal)) (hf : ∀ t, 0 < f t)
    (t : Fin 4096) : hostSum g (ix2 t e) = ((∑ u ∈ Finset.range (t + 1), Real.log (f u) : ℝ) : EReal) := by
  unfold hostSum
  rw [window_rows 4095 0 (Host.log g) (fun u => Real.log (f u)) e (fun i => ?_) _ (fun i => ?_), window_low _ _ t.isLt]
  · pointwise
    rw [hg]
    exact log_pos_coe (hf i)
  · pointwise
    rfl

theorem host_values (x : FVec Ideal S4096x3584 .bf16) (t : Fin 4096) (h : Fin 4) (j : Fin 128) :
  hostValues x (ix3 t h j) = x (ix2 t ⟨1024 + (128 * h + j), by omega⟩) := by
  unfold hostValues
  pointwise
  exact congrArg (fun e => x (ix2 t e)) (Fin.ext (by show 1024 + (h.val * 128 + j.val) = 1024 + (128 * h.val + j.val); omega))

theorem host_keys (g b : FVec Ideal S4096x512 .f32) (n : Fin 64) (s : Fin 4096) (h : Fin 4) (i : Fin 128) (f X : ℕ → ℝ)
    (hg : ∀ t : Fin 4096, g (ix2 t (col h i)) = ((f t : ℝ) : EReal)) (hb : ∀ t : Fin 4096, b (ix2 t (col h i)) = ((X (t + 1) : ℝ) : EReal))
    (h0 : X 0 = 0) (hX : ∀ u w, u ≤ w → X w ≤ X u) :
    hostKeys g b (ix4 n s h i) = (((1 - f s) * (if s.val < 64 * n.val then Real.exp (X (64 * n) - X (s + 1)) else 0) : ℝ) : EReal) := by
  unfold hostKeys hostOne hostDecay hostPast
  pointwise
  have e : ∀ p, (⟨h.val * 128 + i.val, p⟩ : Fin 512) = col h i := fun p => Fin.ext (by show h.val * 128 + i.val = 128 * h.val + i.val; omega)
  rw [e, hg, hb, host_before b n (col h i) X h0 hb, show IntOp.muli (64#32) (BitVec.ofNat 32 n.val) = BitVec.ofNat 32 (64 * n.val) from (BitVec.ofNat_mul 64 n.val).symm]
  rw [select_lt _ _ (by have := s.isLt; omega) (by have := n.isLt; omega)]
  by_cases c : s.val < 64 * n.val
  · rw [if_pos c, if_pos c, ← EReal.coe_one, ← EReal.coe_sub, ← EReal.coe_sub, min_eq_left (by
      rw [← EReal.coe_zero]; exact EReal.coe_le_coe_iff.mpr (sub_nonpos.mpr (hX _ _ (by omega))))]
    exact (EReal.coe_mul _ _).symm
  · rw [if_neg c, if_neg c, mul_zero]
    rfl

/-- The host's states are the forward recurrence's. -/
theorem host_isStates (x : FVec Ideal S4096x3584 .bf16) (l : FVec Ideal S2x512 .f32) (A : Inputs) (hx : IsProj x A.p) (hl : IsLogits l A.l) :
    IsStates (hostStates (hostValues x) (hostKeys (hostGate x l) (hostSum (hostGate x l)))) A := by
  intro n h j i
  have hg := fun t : Fin 4096 => host_gate x l A hx hl t h i
  rw [host_states]
  unfold HeadIn.state stateAt
  rw [← Fin.sum_univ_eq_sum_range (fun s => if s < 64 * n.val then (A.head h).v s j * ((A.head h).key i s * Real.exp ((A.head h).X i (64 * n.val) - (A.head h).X i (s + 1))) else 0) 4096,
    ← coe_sum]
  refine Finset.sum_congr rfl fun s _ => ?_
  rw [host_values, hx _ _ (show 1024 + (128 * h.val + j.val) < 1536 by omega),
    host_keys _ _ n s h i (fun t => (A.head h).gate t i) ((A.head h).X i) hg
      (host_sum _ (fun t => (A.head h).gate t i) (col h i) hg fun t => (A.head h).gate_pos t i) rfl fun u w => (A.head h).X_le i, ← EReal.coe_mul]
  refine congrArg (fun r : ℝ => (r : EReal)) ?_
  show A.p s (1024 + (128 * h.val + j.val)) * _ = _
  by_cases c : s.val < 64 * n.val
  · rw [if_pos c, if_pos c]; rfl
  · rw [if_neg c, if_neg c, mul_zero, mul_zero]

/-- What the kernel finds, from what the program is launched with. -/
theorem found (m : (ℓ : Loc nD τ sig) → Buf (Elt Ideal) ℓ) (c : Dev nD) (A : Inputs)
    (hp : IsProj (m ((c : Thread nD τ).loc main_arg0)) A.p) (hl : IsLogits (m ((c : Thread nD τ).loc main_arg1)) A.l)
    (ho : IsCotangent (m ((c : Thread nD τ).loc main_arg2)) A.o) : Found m c A where
  proj := by rw [V_main_arg0]; exact hp
  logits := by rw [V_main_arg1]; exact hl
  cotangent := by rw [V_main_arg2]; exact ho
  states := by rw [states_read]; exact host_isStates _ _ A hp hl

end Cert.Hgrn

end
-- ==== Proof.RefGates.lean ====
/- The reference's values, token by token and lane by lane of each head: the gates, keys, queries and values, and the gates' running
   log. -/
module

public import proofs.«01_k».proof.Proof.Gen.ReferenceIdeal.Read
public import proofs.«01_k».proof.Proof.Scalars
public import proofs.«01_k».proof.Proof.Sums

@[expose] public section

set_option maxRecDepth 16384

noncomputable section

namespace Cert.Hgrn

open Idealize.ShloMosaic Idealize.ShloMosaic.TcCoe Idealize.SL.Sem Cert.ReferenceIdeal Cert.ReferenceIdeal.Read

/-- What the reference is launched with. -/
structure Given (x : FVec Ideal S4096x3584 .bf16) (l : FVec Ideal S2x512 .f32) (o : FVec Ideal S4096x512 .bf16) (A : Inputs) : Prop where
  proj : IsProj x A.p
  logits : IsLogits l A.l
  cotangent : IsCotangent o A.o

/-- An array over tokens, heads and lanes holds a real function of each head's inputs. -/
def Holds (y : FVec Ideal S4096x4x128 .f32) (A : Inputs) (g : HeadIn → ℕ → Fin 128 → ℝ) : Prop :=
  ∀ (t : Fin 4096) (h : Fin 4) (k : Fin 128), y (ix3 t h k) = ((g (A.head h) t k : ℝ) : EReal)

variable {x : FVec Ideal S4096x3584 .bf16} {l : FVec Ideal S2x512 .f32} {o : FVec Ideal S4096x512 .bf16} {A : Inputs}

theorem col_spelled (h : Fin 4) (k : Fin 128) (p : h.val * 128 + k.val < 512) : (⟨h.val * 128 + k.val, p⟩ : Fin 512) = col h k :=
  Fin.ext (by show h.val * 128 + k.val = 128 * h.val + k.val; omega)

/-- The logistic function, spelled out with the number one. -/
theorem logistic_one (a : ℝ) : Ideal.div 1 (1 + Ideal.exp (-(a : EReal))) = ((sgR a : ℝ) : EReal) := by
  have e := logistic_coe a
  rwa [EReal.coe_one] at e

/-- One less a real number. -/
theorem one_sub_coe (a : ℝ) : (1 : EReal) - (a : EReal) = ((1 - a : ℝ) : EReal) := by
  rw [← EReal.coe_one, ← EReal.coe_sub]

theorem ref_softmax (hl : IsLogits l A.l) (e : Fin 512) : val_main_v12 (F := Ideal) l (ix1 e) = ((sgR (A.l 0 e - A.l 1 e) : ℝ) : EReal) := by
  unfold val_main_v12 val_main_v11 val_main_v10 val_main_v9 val_main_v8 val_main_v7 val_main_cst_1 val_main_v6 val_main_v5 val_main_v4 val_main_v3
    val_main_v2 val_main_v1 val_main_cst_0 val_main_v0 val_main_cst
  pointwise
  rw [bot_word, max_two (fun x => l (ix2 x e)) _ _ (hl 0 e) (hl 1 e), Fin.sum_univ_two, hl 0 e, hl 1 e]
  exact softmax_two _ _ _

theorem ref_lower (hl : IsLogits l A.l) (h : Fin 4) (k : Fin 128) : val_main_v19 (F := Ideal) l (ix2 h k) = (((A.head h).lb k : ℝ) : EReal) := by
  unfold val_main_v19
  pointwise
  rw [col_spelled, ref_softmax hl]
  rfl

/-- A token's three inputs in a head's lane. -/
theorem given_q (hx : IsProj x A.p) (t : Fin 4096) (h : Fin 4) (k : Fin 128) (p) :
    x (ix2 t ⟨h.val * 128 + k.val, p⟩) = (((A.head h).q t k : ℝ) : EReal) := by
  rw [hx t ⟨h.val * 128 + k.val, p⟩ (show h.val * 128 + k.val < 1536 by omega)]
  exact congrArg (fun e => ((A.p t e : ℝ) : EReal)) (show h.val * 128 + k.val = 128 * h.val + k.val by omega)

theorem given_f (hx : IsProj x A.p) (t : Fin 4096) (h : Fin 4) (k : Fin 128) (p) :
    x (ix2 t ⟨512 + (h.val * 128 + k.val), p⟩) = (((A.head h).f t k : ℝ) : EReal) := by
  rw [hx t ⟨512 + (h.val * 128 + k.val), p⟩ (show 512 + (h.val * 128 + k.val) < 1536 by omega)]
  exact congrArg (fun e => ((A.p t e : ℝ) : EReal)) (show 512 + (h.val * 128 + k.val) = 512 + (128 * h.val + k.val) by omega)

theorem given_v (hx : IsProj x A.p) (t : Fin 4096) (h : Fin 4) (k : Fin 128) (p) :
    x (ix2 t ⟨1024 + (h.val * 128 + k.val), p⟩) = (((A.head h).v t k : ℝ) : EReal) := by
  rw [hx t ⟨1024 + (h.val * 128 + k.val), p⟩ (show 1024 + (h.val * 128 + k.val) < 1536 by omega)]
  exact congrArg (fun e => ((A.p t e : ℝ) : EReal)) (show 1024 + (h.val * 128 + k.val) = 1024 + (128 * h.val + k.val) by omega)

theorem ref_sg (hx : IsProj x A.p) : Holds (val_main_v28 (F := Ideal) x) A fun I t k => sgR (I.f t k) := by
  intro t h k
  unfold val_main_v28 val_main_v27 val_main_cst_4 val_main_v26 val_main_v25 val_main_cst_3 val_main_v24 val_main_v23 val_main_v22 val_main_v16 val_main_v15
  pointwise
  rw [given_f hx, logistic_one]

/-- The logistic function's slope at the forget projections. -/
theorem ref_slope (hx : IsProj x A.p) : Holds (val_main_v31 (F := Ideal) x) A fun I t k => sgR (I.f t k) * (1 - sgR (I.f t k)) := by
  intro t h k
  unfold val_main_v31 val_main_v30 val_main_v29 val_main_cst_5
  pointwise
  rw [ref_sg hx, one_sub_coe, ← EReal.coe_mul]

/-- What the lower bound leaves, as the reference has it at every token. -/
theorem ref_room (hl : IsLogits l A.l) (h : Fin 4) (k : Fin 128) : val_main_v32 (F := Ideal) l (ix3 0 h k) = ((1 - (A.head h).lb k : ℝ) : EReal) := by
  unfold val_main_v32 val_main_v21 val_main_v20 val_main_cst_2
  pointwise
  rw [ref_lower hl, one_sub_coe]

theorem ref_gate (hx : IsProj x A.p) (hl : IsLogits l A.l) : Holds (val_main_v37 (F := Ideal) x l) A fun I t k => I.gate t k := by
  intro t h k
  unfold val_main_v37 val_main_v36 val_main_v35 val_main_v34 val_main_v33
  pointwise
  rw [ref_lower hl, ref_room hl, ref_sg hx, ← EReal.coe_mul, ← EReal.coe_add]
  rfl

theorem ref_key (hx : IsProj x A.p) (hl : IsLogits l A.l) : Holds (val_main_v39 (F := Ideal) x l) A fun I t k => I.key k t := by
  intro t h k
  unfold val_main_v39 val_main_v38 val_main_cst_6
  pointwise
  rw [ref_gate hx hl, one_sub_coe]
  rfl

theorem ref_q (hx : IsProj x A.p) : Holds (val_main_v41 (F := Ideal) x) A fun I t k => I.q t k := by
  intro t h k
  unfold val_main_v41 val_main_v14 val_main_v13
  pointwise
  rw [given_q hx]

theorem ref_sgq (hx : IsProj x A.p) : Holds (val_main_v42_2 (F := Ideal) x) A fun I t k => sgR (I.q t k) := by
  intro t h k
  unfold val_main_v42_2 val_main_call0_v4 val_main_call0_cst_0 val_main_call0_v3 val_main_call0_v2 val_main_call0_cst val_main_call0_v1 val_main_call0_v0
  pointwise
  rw [ref_q hx, logistic_one]

theorem ref_slopeq (hx : IsProj x A.p) : Holds (val_main_v42_1 (F := Ideal) x) A fun I t k => sgR (I.q t k) * (1 - sgR (I.q t k)) := by
  intro t h k
  unfold val_main_v42_1 val_main_call0_v7 val_main_call0_v6 val_main_call0_cst_1
  pointwise
  rw [ref_sgq hx, one_sub_coe, ← EReal.coe_mul]

theorem ref_query (hx : IsProj x A.p) : Holds (val_main_v42_0 (F := Ideal) x) A fun I t k => I.query k t := by
  intro t h k
  unfold val_main_v42_0
  pointwise
  rw [ref_q hx, ref_sgq hx, ← EReal.coe_mul]
  rfl

theorem ref_value (hx : IsProj x A.p) : Holds (val_main_v43 (F := Ideal) x) A fun I t j => I.v t j := by
  intro t h k
  unfold val_main_v43 val_main_v18 val_main_v17
  pointwise
  rw [given_v hx]

theorem ref_ct (ho : IsCotangent o A.o) : Holds (val_main_v77 (F := Ideal) o) A fun I t j => I.o t j := by
  intro t h k
  unfold val_main_v77 val_main_v76
  pointwise
  rw [col_spelled, ho]
  rfl

theorem ref_sum (hx : IsProj x A.p) (hl : IsLogits l A.l) : Holds (val_main_v44 (F := Ideal) x l) A fun I t k => I.X k (t + 1) := by
  intro t h k
  unfold val_main_v44
  rw [window_heads 4095 0 _ (fun u => Real.log ((A.head h).gate u k)) h k (fun i => ?_) _ (fun i => ?_), window_low _ _ t.isLt]
  · rfl
  · unfold val_main_v40
    pointwise
    rw [ref_gate hx hl]
    exact log_pos_coe ((A.head h).gate_pos i k)
  · unfold val_main_call1_call0_v0 val_main_call1_call0_cst
    pointwise
    rfl

end Cert.Hgrn

end
-- ==== Proof.RefPairs.lean ====
/- The reference's tables over pairs of tokens: the decay, the scores, the pairing of cotangents and values, and what the gradient
   sends back through the decay. -/
module

public import proofs.«01_k».proof.Proof.RefGates

@[expose] public section

set_option maxRecDepth 16384

noncomputable section

namespace Cert.Hgrn

open Idealize.ShloMosaic Idealize.ShloMosaic.TcCoe Idealize.SL.Sem Cert.ReferenceIdeal Cert.ReferenceIdeal.Read

namespace HeadIn

variable (I : HeadIn)

/-- The decay from token `s` to token `t`, nothing for a later `s`. -/
def decay (t s : ℕ) (k : Fin 128) : ℝ := if s ≤ t then Real.exp (I.X k (t + 1) - I.X k (s + 1)) else 0

/-- The score of the pair. -/
def score (t s : ℕ) : ℝ := ∑ k, I.query k t * I.key k s * I.decay t s k

/-- What the gradient sends back to the decay's exponent. On the diagonal, where the exponent meets its bound, half of it. -/
def back (t s : ℕ) (k : Fin 128) : ℝ := if s ≤ t then I.query k t * I.key k s * I.W t s * I.decay t s k * (if s = t then 1 / 2 else 1) else 0

/-- The pair's whole share of the gradient. -/
def share (t s : ℕ) (k : Fin 128) : ℝ := I.query k t * I.key k s * I.W t s * I.decay t s k

theorem back_eq (t s : ℕ) (k : Fin 128) : I.back t s k = I.share t s k - if s = t then I.share t t k / 2 else 0 := by
  unfold back share
  by_cases h : s = t
  · subst h
    rw [if_pos le_rfl, if_pos rfl, if_pos rfl]
    ring
  · rw [if_neg h, if_neg h]
    by_cases c : s ≤ t
    · rw [if_pos c]; ring
    · rw [if_neg c]
      unfold decay
      rw [if_neg c]
      ring

theorem share_row (T u : ℕ) (k : Fin 128) : ∑ s ∈ Finset.range T, I.share u s k = I.query k u * I.dQuery T u k := by
  unfold dQuery queryGrad share decay
  rw [Finset.mul_sum]
  refine Finset.sum_congr rfl fun s _ => ?_
  split <;> ring

theorem share_column (T u : ℕ) (k : Fin 128) : ∑ t ∈ Finset.range T, I.share t u k = I.key k u * I.dKey T u k := by
  unfold dKey keyGrad share decay
  rw [Finset.mul_sum]
  refine Finset.sum_congr rfl fun s _ => ?_
  split <;> ring

/-- The halves on the diagonal cancel. -/
theorem back_balance (T u : ℕ) (hu : u < T) (k : Fin 128) :
    ∑ t ∈ Finset.range T, -I.back t u k + ∑ s ∈ Finset.range T, I.back u s k = I.query k u * I.dQuery T u k - I.key k u * I.dKey T u k := by
  rw [← share_row, ← share_column, Finset.sum_neg_distrib, Finset.sum_congr rfl fun t _ => I.back_eq t u k, Finset.sum_congr rfl fun s _ => I.back_eq u s k,
    Finset.sum_sub_distrib, Finset.sum_sub_distrib, Finset.sum_ite_eq' (Finset.range T) u, if_pos (Finset.mem_range.mpr hu),
    Finset.sum_ite_eq (Finset.range T) u fun t => I.share t t k / 2, if_pos (Finset.mem_range.mpr hu)]
  ring

end HeadIn

variable {x : FVec Ideal S4096x3584 .bf16} {l : FVec Ideal S2x512 .f32} {o : FVec Ideal S4096x512 .bf16} {A : Inputs}

/-- An array over pairs of tokens, heads and lanes holds a real function of each head's inputs. -/
def HoldsPairs (y : FVec Ideal S4096x4096x4x128 .f32) (A : Inputs) (g : HeadIn → ℕ → ℕ → Fin 128 → ℝ) : Prop :=
  ∀ (t s : Fin 4096) (h : Fin 4) (k : Fin 128), y (ix4 t s h k) = ((g (A.head h) t s k : ℝ) : EReal)

/-- A selection on a comparison of small words the other way. -/
theorem select_ge (i k : ℕ) (hi : i < 2 ^ 31) (hk : k < 2 ^ 31) :
    Scalar.select (IntOp.cmpi CmpIPredicate.sge (IntOp.addi (BitVec.ofNat 32 i) 0#32) (BitVec.ofNat 32 k)) (1#1) (0#1) = if k ≤ i then 1#1 else 0#1 := by
  have e : ∀ n, n < 2 ^ 31 → (BitVec.ofNat 32 n).toInt = n := fun n hn => by
    rw [BitVec.toInt_eq_toNat_cond, BitVec.toNat_ofNat, Nat.mod_eq_of_lt (by omega), if_pos (by omega)]
  unfold Scalar.select
  refine if_congr (IntOp.cmpi_sge.trans ?_) rfl rfl
  rw [show IntOp.addi (BitVec.ofNat 32 i) 0#32 = BitVec.ofNat 32 i from BitVec.add_zero _, e i hi, e k hk]
  omega

theorem ref_mask (t s : Fin 4096) : val_main_v46 (F := Ideal) (ix2 t s) = if s.val ≤ t.val then 1#1 else 0#1 := by
  unfold val_main_v46 val_main_call2_v4 val_main_call2_v2 val_main_call2_v0 val_main_call2_v1 val_main_call2_c val_main_call2_v3 val_main_v45 val_main_c val_main_call2_v5 val_main_call2_c_0
  pointwise
  exact select_ge _ _ (by have := t.isLt; omega) (by have := s.isLt; omega)

theorem ref_diff (hx : IsProj x A.p) (hl : IsLogits l A.l) : HoldsPairs (val_main_v51 (F := Ideal) x l) A fun I t s k => I.X k (t + 1) - I.X k (s + 1) := by
  intro t s h k
  unfold val_main_v51 val_main_v49 val_main_v50 val_main_v47 val_main_v48
  pointwise
  rw [ref_sum hx hl, ref_sum hx hl, ← EReal.coe_sub]

theorem ref_exp (hx : IsProj x A.p) (hl : IsLogits l A.l) : HoldsPairs (val_main_v64 (F := Ideal) x l) A fun I t s k => Real.exp (min (I.X k (t + 1) - I.X k (s + 1)) 0) := by
  intro t s h k
  unfold val_main_v64 val_main_v54 val_main_v53 val_main_cst_7
  pointwise
  rw [ref_diff hx hl, ← EReal.coe_zero, ← EReal.coe_strictMono.monotone.map_min]
  rfl

theorem ref_past (t s : Fin 4096) (h : Fin 4) (k : Fin 128) : val_main_v65_1 (F := Ideal) (ix4 t s h k) = if s.val ≤ t.val then 1#1 else 0#1 := by
  unfold val_main_v65_1 val_main_v52
  pointwise
  rw [ref_mask]

/-- A sum over the tokens. -/
theorem token_sum (g : ℕ → ℝ) : ∑ u : Fin 4096, ((g u : ℝ) : EReal) = ((∑ u ∈ Finset.range 4096, g u : ℝ) : EReal) := by
  rw [coe_sum, Fin.sum_univ_eq_sum_range g 4096]

/-- The same of extended reals that are real numbers. -/
theorem token_sum_of (y : Fin 4096 → EReal) (g : ℕ → ℝ) (h : ∀ u, y u = ((g u : ℝ) : EReal)) : ∑ u, y u = ((∑ u ∈ Finset.range 4096, g u : ℝ) : EReal) :=
  (Finset.sum_congr rfl fun u _ => h u).trans (token_sum g)

theorem half_word : Ideal.ofBits FTy.f32 1056964608#32 = ((1 / 2 : ℝ) : EReal) := by
  have sign : ¬BitVec.extractLsb' 31 1 1056964608#32 = 1#1 := by decide
  norm_num [Ideal.ofBits, Ideal.ieee, Nat.shiftRight_eq_div_pow, sign]

theorem ref_decay (hx : IsProj x A.p) (hl : IsLogits l A.l) : HoldsPairs (val_main_v65_0 (F := Ideal) x l) A fun I t s k => I.decay t s k := by
  intro t s h k
  unfold val_main_v65_0 val_main_call3_v2 val_main_call3_v0 val_main_cst_13
  pointwise
  rw [ref_past, ref_exp hx hl]
  unfold HeadIn.decay
  dsimp only
  by_cases c : s.val ≤ t.val
  · rw [if_pos c, if_pos c]
    exact congrArg (fun r => ((Real.exp r : ℝ) : EReal)) (min_eq_left (sub_nonpos.mpr ((A.head h).X_le k (by omega))))
  · rw [if_neg c, if_neg c]
    show id (Ideal.ofBits FTy.f32 0#32) = _
    exact Ideal.ofBits_zero_f32

theorem ref_tie (hx : IsProj x A.p) (hl : IsLogits l A.l) (t s : Fin 4096) (h : Fin 4) (k : Fin 128) (c : s.val ≤ t.val) :
    val_main_v63 (F := Ideal) x l (ix4 t s h k) = ((if s.val = t.val then 1 / 2 else 1 : ℝ) : EReal) := by
  unfold val_main_v63 val_main_v56 val_main_v55 val_main_cst_8 val_main_v59 val_main_cst_10 val_main_v62 val_main_v58 val_main_v57 val_main_cst_9 val_main_v60 val_main_cst_11
    val_main_v61 val_main_cst_12
  pointwise
  rw [ref_diff hx hl]
  dsimp only
  by_cases e : s.val = t.val
  · have z : (A.head h).X k (t.val + 1) - (A.head h).X k (s.val + 1) = 0 := by rw [e, sub_self]
    rw [if_pos e, if_neg (by rw [z]; exact lt_irrefl _), if_pos (by rw [z]; rfl), half_word]
  · rw [if_neg e, if_pos (by rw [← EReal.coe_zero]; exact EReal.coe_lt_coe_iff.mpr (sub_neg.mpr ((A.head h).X_lt k (by omega))))]
    rfl

theorem ref_product (hx : IsProj x A.p) (hl : IsLogits l A.l) : HoldsPairs (val_main_v70 (F := Ideal) x l) A fun I t s k => I.query k t * I.key k s := by
  intro t s h k
  unfold val_main_v70 val_main_v68 val_main_v66 val_main_v69 val_main_v67
  pointwise
  rw [ref_query hx, ref_key hx hl, ← EReal.coe_mul]

theorem ref_score (hx : IsProj x A.p) (hl : IsLogits l A.l) (t s : Fin 4096) (h : Fin 4) :
    val_main_v72 (F := Ideal) x l (ix3 t s h) = (((A.head h).score t s : ℝ) : EReal) := by
  unfold val_main_v72 val_main_cst_14 val_main_v71
  pointwise
  unfold HeadIn.score
  rw [← coe_sum]
  refine Finset.sum_congr rfl fun k _ => ?_
  rw [ref_product hx hl, ref_decay hx hl, ← EReal.coe_mul]

theorem ref_pairing (hx : IsProj x A.p) (ho : IsCotangent o A.o) (t s : Fin 4096) (h : Fin 4) :
    val_main_v80 (F := Ideal) x o (ix3 t s h) = (((A.head h).W t s : ℝ) : EReal) := by
  unfold val_main_v80 val_main_v79 val_main_v78
  pointwise
  unfold HeadIn.W pairing
  rw [← coe_sum]
  refine Finset.sum_congr rfl fun j _ => ?_
  rw [ref_ct ho, ref_value hx, ← EReal.coe_mul]

theorem ref_di (hx : IsProj x A.p) (hl : IsLogits l A.l) (ho : IsCotangent o A.o) : Holds (val_main_v82 (F := Ideal) x l o) A fun I s j => I.di 4096 s j := by
  intro s h j
  unfold val_main_v82 val_main_v81 val_main_v78
  pointwise
  unfold HeadIn.di
  refine token_sum_of _ (fun t => if s.val ≤ t then (A.head h).o t j * ∑ k, (A.head h).query k t * (A.head h).key k s * Real.exp ((A.head h).X k (t + 1) - (A.head h).X k (s + 1)) else 0)
    fun t => ?_
  rw [ref_ct ho, ref_score hx hl, ← EReal.coe_mul]
  refine congrArg (fun r : ℝ => (r : EReal)) ?_
  unfold HeadIn.score HeadIn.decay
  by_cases c : s.val ≤ t.val
  · rw [if_pos c]
    exact congrArg (_ * ·) (Finset.sum_congr rfl fun k _ => by rw [if_pos c])
  · rw [if_neg c, Finset.sum_eq_zero (fun k _ => by rw [if_neg c, mul_zero]), mul_zero]

theorem ref_dkey (hx : IsProj x A.p) (hl : IsLogits l A.l) (ho : IsCotangent o A.o) : Holds (val_main_v94 (F := Ideal) x l o) A fun I s k => I.dKey 4096 s k := by
  intro s h k
  unfold val_main_v94 val_main_cst_17 val_main_v89 val_main_v88 val_main_cst_15 val_main_v87 val_main_v86 val_main_v85 val_main_v83 val_main_v66
  pointwise
  rw [Fin.sum_univ_one]
  unfold HeadIn.dKey keyGrad
  refine token_sum_of _ (fun t => if s.val ≤ t then (A.head h).W t s * (A.head h).query k t * Real.exp ((A.head h).X k (t + 1) - (A.head h).X k (s + 1)) else 0) fun t => ?_
  rw [ref_query hx, ref_pairing hx ho, ref_decay hx hl, ← EReal.coe_mul, ← EReal.coe_mul]
  refine congrArg (fun r : ℝ => (r : EReal)) ?_
  unfold HeadIn.decay
  dsimp only
  by_cases c : s.val ≤ t.val
  · rw [if_pos c, if_pos c]; ring
  · rw [if_neg c, if_neg c]; ring

theorem ref_dquery (hx : IsProj x A.p) (hl : IsLogits l A.l) (ho : IsCotangent o A.o) : Holds (val_main_v95 (F := Ideal) x l o) A fun I t k => I.dQuery 4096 t k := by
  intro t h k
  unfold val_main_v95 val_main_cst_18 val_main_v93 val_main_v92 val_main_cst_16 val_main_v91 val_main_v90 val_main_v85 val_main_v83 val_main_v67
  pointwise
  rw [Fin.sum_univ_one]
  unfold HeadIn.dQuery queryGrad
  refine token_sum_of _ (fun s => if s ≤ t.val then (A.head h).W t s * (A.head h).key k s * Real.exp ((A.head h).X k (t + 1) - (A.head h).X k (s + 1)) else 0) fun s => ?_
  rw [ref_pairing hx ho, ref_decay hx hl, ref_key hx hl, ← EReal.coe_mul, ← EReal.coe_mul]
  refine congrArg (fun r : ℝ => (r : EReal)) ?_
  unfold HeadIn.decay
  dsimp only
  by_cases c : s.val ≤ t.val
  · rw [if_pos c, if_pos c]; ring
  · rw [if_neg c, if_neg c]; ring

theorem ref_back (hx : IsProj x A.p) (hl : IsLogits l A.l) (ho : IsCotangent o A.o) : HoldsPairs (val_main_v98 (F := Ideal) x l o) A fun I t s k => I.back t s k := by
  intro t s h k
  unfold val_main_v98 val_main_v97 val_main_v96 val_main_call4_v0 val_main_call4_cst val_main_v84 val_main_v83
  pointwise
  rw [ref_past]
  unfold HeadIn.back
  by_cases c : s.val ≤ t.val
  · rw [if_pos c, if_pos c, ref_product hx hl, ref_pairing hx ho, ref_exp hx hl, ref_tie hx hl t s h k c]
    unfold HeadIn.decay
    rw [if_pos c]
    dsimp only
    rw [min_eq_left (sub_nonpos.mpr ((A.head h).X_le k (by omega)))]
    show (_ : EReal) * _ * _ * _ = _
    rw [← EReal.coe_mul, ← EReal.coe_mul, ← EReal.coe_mul]
  · rw [if_neg c, if_neg c]
    rfl

/-- What comes back to the running log of the gates. -/
theorem ref_dsum (hx : IsProj x A.p) (hl : IsLogits l A.l) (ho : IsCotangent o A.o) :
    Holds (val_main_v106 (F := Ideal) x l o) A fun I u k => I.query k u * I.dQuery 4096 u k - I.key k u * I.dKey 4096 u k := by
  intro u h k
  unfold val_main_v106 val_main_v105 val_main_cst_22 val_main_v100 val_main_v99 val_main_cst_19 val_main_v104 val_main_cst_21 val_main_v103 val_main_v102 val_main_cst_20 val_main_v101
  pointwise
  rw [Fin.sum_univ_one, Fin.sum_univ_one, token_sum_of _ (fun t => -(A.head h).back t u k) fun t => by rw [ref_back hx hl ho]; exact (EReal.coe_neg _).symm,
    token_sum_of _ (fun s => (A.head h).back u s k) fun s => by rw [ref_back hx hl ho], ← EReal.coe_add, (A.head h).back_balance 4096 u u.isLt k]

theorem ref_dlog (hx : IsProj x A.p) (hl : IsLogits l A.l) (ho : IsCotangent o A.o) : Holds (val_main_v107 (F := Ideal) x l o) A fun I t k => I.dLog 4096 t k := by
  intro t h k
  unfold val_main_v107
  rw [window_heads 0 4095 _ (fun u => (A.head h).query k u * (A.head h).dQuery 4096 u k - (A.head h).key k u * (A.head h).dKey 4096 u k) h k
    (fun i => ref_dsum hx hl ho i h k) _ (fun i => ?_), window_high _ _ t.isLt]
  · rfl
  · unfold val_main_call5_call0_v0 val_main_call5_call0_cst
    pointwise
    rfl

end Cert.Hgrn

end
-- ==== Proof.RefGrads.lean ====
/- The reference's gradients of each head's inputs, token by token and lane by lane, and of the lower bound. -/
module

public import proofs.«01_k».proof.Proof.RefPairs
public import proofs.«01_k».proof.Proof.Points

@[expose] public section

set_option maxRecDepth 16384

noncomputable section

namespace Cert.Hgrn

open Idealize.ShloMosaic Idealize.ShloMosaic.TcCoe Idealize.SL.Sem Cert.ReferenceIdeal Cert.ReferenceIdeal.Read

variable {x : FVec Ideal S4096x3584 .bf16} {l : FVec Ideal S2x512 .f32} {o : FVec Ideal S4096x512 .bf16} {A : Inputs}

theorem ref_dq (hx : IsProj x A.p) (hl : IsLogits l A.l) (ho : IsCotangent o A.o) : Holds (val_main_v109 (F := Ideal) x l o) A fun I t k => I.dq 4096 t k := by
  intro t h k
  unfold val_main_v109 val_main_call6_v1 val_main_call6_v2 val_main_call6_v0
  pointwise
  rw [ref_dquery hx hl ho, ref_sgq hx, ref_q hx, ref_slopeq hx, ← EReal.coe_mul, ← EReal.coe_mul, ← EReal.coe_mul, ← EReal.coe_add]
  refine congrArg (fun r : ℝ => (r : EReal)) ?_
  unfold HeadIn.dq
  dsimp only
  ring

theorem ref_dgate (hx : IsProj x A.p) (hl : IsLogits l A.l) (ho : IsCotangent o A.o) : Holds (val_main_v113 (F := Ideal) x l o) A fun I t k => I.dGate 4096 t k := by
  intro t h k
  unfold val_main_v113 val_main_v111 val_main_v112
  pointwise
  rw [ref_dlog hx hl ho, ref_gate hx hl, ref_dkey hx hl ho]
  dsimp only
  show Ideal.div _ _ + -_ = _
  rw [Ideal.div_coe ((A.head h).gate_pos t k).ne', ← EReal.coe_mul, ← EReal.coe_neg, ← EReal.coe_add]
  refine congrArg (fun r : ℝ => (r : EReal)) ?_
  unfold HeadIn.dGate
  ring

theorem ref_df (hx : IsProj x A.p) (hl : IsLogits l A.l) (ho : IsCotangent o A.o) : Holds (val_main_v123 (F := Ideal) x l o) A fun I t k => I.df 4096 t k := by
  intro t h k
  unfold val_main_v123 val_main_v118 val_main_v117
  pointwise
  rw [ref_room hl, ref_dgate hx hl ho, ref_slope hx, ← EReal.coe_mul, ← EReal.coe_mul]
  refine congrArg (fun r : ℝ => (r : EReal)) ?_
  unfold HeadIn.df
  dsimp only
  ring

/-- The gradient of the lower bound, lane by lane of each head. -/
theorem ref_dlb (hx : IsProj x A.p) (hl : IsLogits l A.l) (ho : IsCotangent o A.o) (h : Fin 4) (k : Fin 128) :
    val_main_v126 (F := Ideal) x l o (ix2 h k) = (((A.head h).dlbFrom 0 k : ℝ) : EReal) := by
  unfold val_main_v126 val_main_v116 val_main_cst_24 val_main_v115 val_main_v114 val_main_cst_23 val_main_v125 val_main_v122 val_main_cst_26 val_main_v121 val_main_v120 val_main_cst_25 val_main_v119
  pointwise
  rw [Fin.sum_univ_one, Fin.sum_univ_one, token_sum_of _ (fun t => (A.head h).dGate 4096 t k) fun t => ref_dgate hx hl ho t h k,
    token_sum_of _ (fun t => (A.head h).dGate 4096 t k * sgR ((A.head h).f t k)) fun t => by rw [ref_dgate hx hl ho, ref_sg hx, ← EReal.coe_mul]]
  show _ + -_ = _
  rw [← EReal.coe_neg, ← EReal.coe_add, ← sub_eq_add_neg, ← Finset.sum_sub_distrib]
  refine congrArg (fun r : ℝ => (r : EReal)) (Finset.sum_congr rfl fun t _ => ?_)
  rw [if_pos (by omega)]
  unfold HeadIn.dlbTerm
  ring

/-- A part's column, named by its number. -/
theorem out_spelled (A : Inputs) (t : ℕ) (p : Fin 3) (h : Fin 4) (j : Fin 128) {cc : ℕ} (e : 512 * p.val + 128 * h.val + j.val = cc) :
    (((A.head h).out p t j : ℝ) : EReal) = ((A.out t cc : ℝ) : EReal) := by
  rw [← e, A.out_at]

/-- A token's gradient of the first 1536 columns, as the reference leaves it. -/
theorem ref_grads (hx : IsProj x A.p) (hl : IsLogits l A.l) (ho : IsCotangent o A.o) (d : FVec Ideal S4096x3584 .bf16) (r : Fin 4096) (cc : Fin 3584) (hc : cc.val < 1536) :
    val_main_v131 (F := Ideal) x l o d (ix2 r cc) = ((A.out r cc : ℝ) : EReal) := by
  unfold val_main_v131 val_main_v130 val_main_v110 val_main_v124 val_main_v108
  pointwise
  by_cases c : cc.val < 512
  · rw [dif_pos c, ref_dq hx hl ho]
    exact out_spelled A r 0 _ _ (show 512 * 0 + 128 * (cc.val / 128) + cc.val % 128 = cc.val by omega)
  · rw [dif_neg c]
    by_cases c' : cc.val - 512 < 512
    · rw [dif_pos c', ref_df hx hl ho]
      exact out_spelled A r 1 _ _ (show 512 * 1 + 128 * ((cc.val - 512) / 128) + (cc.val - 512) % 128 = cc.val by omega)
    · rw [dif_neg c', dif_pos (show cc.val - 512 - 512 < 512 by omega), ref_di hx hl ho]
      exact out_spelled A r 2 _ _ (show 512 * 2 + 128 * ((cc.val - 512 - 512) / 128) + (cc.val - 512 - 512) % 128 = cc.val by omega)

/-- The columns after them are the incoming gradient's own. -/
theorem ref_rest (d : FVec Ideal S4096x3584 .bf16) (r : Fin 4096) (cc : Fin 3584) (hc : ¬cc.val < 1536) :
    val_main_v131 (F := Ideal) x l o d (ix2 r cc) = d (ix2 r cc) := by
  unfold val_main_v131 val_main_v130 val_main_v129 val_main_v128
  pointwise
  rw [dif_neg (show ¬cc.val < 512 by omega), dif_neg (show ¬cc.val - 512 < 512 by omega), dif_neg (show ¬cc.val - 512 - 512 < 512 by omega)]
  exact congrArg (fun e => d (ix2 r e)) (Fin.ext (show 1536 + (cc.val - 512 - 512 - 512) = cc.val by omega))

/-- The row of the lower bound's gradient. -/
theorem ref_row (hx : IsProj x A.p) (hl : IsLogits l A.l) (ho : IsCotangent o A.o) (h : Fin 4) (k : Fin 128) :
    val_main_v132 (F := Ideal) x l o (ix2 0 (col h k)) = (((A.head h).dlbFrom 0 k : ℝ) : EReal) := by
  unfold val_main_v132 val_main_v127
  pointwise
  have eh : (⟨(col h k).val / 128, by have := (col h k).isLt; omega⟩ : Fin 4) = h := Fin.ext (by show (128 * h.val + k.val) / 128 = h.val; omega)
  have ek : (⟨(col h k).val % 128, by omega⟩ : Fin 128) = k := Fin.ext (by show (128 * h.val + k.val) % 128 = k.val; omega)
  rw [eh, ek, ref_dlb hx hl ho]

end Cert.Hgrn

end
-- ==== Proof.Finite.lean ====
/- Finite arguments are real numbers: what the precondition says of the projections, the logits and the incoming gradient. -/
module

public import proofs.«01_k».proof.Proof.Gen.Pre_finite
public import proofs.«01_k».proof.Proof.Blocks
public import Idealize.ShloMosaic.Lib.ReduceAll

@[expose] public section

set_option maxRecDepth 16384

noncomputable section

namespace Cert.Hgrn

open Idealize.ShloMosaic Idealize.ShloMosaic.TcCoe

instance : Subsingleton Cert.Pre_finite.S_.Idx := ⟨fun _ _ => funext fun a => a.elim0⟩

theorem top_word : Ideal.ofBits FTy.f32 0x7F800000#32 = ⊤ := by
  have sign : ¬BitVec.extractLsb' 31 1 0x7F800000#32 = 1#1 := by decide
  norm_num [Ideal.ofBits, Ideal.ieee, Nat.shiftRight_eq_div_pow, sign]

/-- An extended real whose absolute value is below infinity is a real number. -/
theorem real_of_abs (a : EReal) (h : max a (-a) < ⊤) : a = ((a.toReal : ℝ) : EReal) := by
  refine (EReal.coe_toReal ?_ ?_).symm
  · rintro rfl
    exact absurd h (by simp)
  · rintro rfl
    exact absurd h (by simp)

/-- One bit of two, both one. -/
theorem both_one (a b : BitVec 1) (h : IntOp.andi a b = 1#1) : a = 1#1 ∧ b = 1#1 := by
  revert a b
  decide

/-- The numbers a memory's arguments stand for. -/
def inputsOf (x : Vec Ideal Cert.KernelIdeal.S4096x3584 .bf16) (l : Vec Ideal Cert.KernelIdeal.S2x512 .f32) (o : Vec Ideal Cert.KernelIdeal.S4096x512 .bf16) : Inputs where
  p r j := if h : r < 4096 ∧ j < 3584 then EReal.toReal (x (ix2 ⟨r, h.1⟩ ⟨j, h.2⟩)) else 0
  l r j := if h : r < 2 ∧ j < 512 then EReal.toReal (l (ix2 ⟨r, h.1⟩ ⟨j, h.2⟩)) else 0
  o r j := if h : r < 4096 ∧ j < 512 then EReal.toReal (o (ix2 ⟨r, h.1⟩ ⟨j, h.2⟩)) else 0

variable {x : Vec Ideal Cert.KernelIdeal.S4096x3584 .bf16} {l : Vec Ideal Cert.KernelIdeal.S2x512 .f32} {o : Vec Ideal Cert.KernelIdeal.S4096x512 .bf16}
  {d : Vec Ideal Cert.KernelIdeal.S4096x3584 .bf16}

/-- The precondition, read at every entry. -/
theorem finite_entries [Cert.Pre_finite.Facts] (h : Cert.Pre_finite.fn (F := Ideal) x l o d = fun _ => 1#1) :
    (∀ i, x i = ((EReal.toReal (x i) : ℝ) : EReal)) ∧ (∀ i, l i = ((EReal.toReal (l i) : ℝ) : EReal)) ∧ ∀ i, o i = ((EReal.toReal (o i) : ℝ) : EReal) := by
  have e := congrFun h (fun a => a.elim0)
  dsimp only [Cert.Pre_finite.fn] at e
  obtain ⟨e₁, e₃⟩ := both_one _ _ e
  obtain ⟨e₁, e₂⟩ := both_one _ _ e₁
  have bit : ∀ a : EReal, BitVec.ofBool (decide (max a (-a) < Ideal.ofBits FTy.f32 0x7F800000#32)) = 1#1 → a = ((a.toReal : ℝ) : EReal) := fun a q => by
    rw [top_word] at q
    refine real_of_abs a ?_
    by_contra n
    rw [decide_eq_false n] at q
    exact absurd q (by decide)
  refine ⟨fun i => bit _ ?_, fun i => bit _ ?_, fun i => bit _ ?_⟩
  · exact Host.reduce_andi_all _ _ _ _ _ e₁ i
  · exact Host.reduce_andi_all _ _ _ _ _ e₂ i
  · exact Host.reduce_andi_all _ _ _ _ _ e₃ i

theorem finite_proj (hx : ∀ i, x i = ((EReal.toReal (x i) : ℝ) : EReal)) : IsProj x (inputsOf x l o).p := by
  intro r j _
  have e : (inputsOf x l o).p r j = EReal.toReal (x (ix2 r j)) := dif_pos ⟨r.isLt, j.isLt⟩
  rw [e]
  exact hx _

theorem finite_logits (hl : ∀ i, l i = ((EReal.toReal (l i) : ℝ) : EReal)) : IsLogits l (inputsOf x l o).l := by
  intro r j
  have e : (inputsOf x l o).l r j = EReal.toReal (l (ix2 r j)) := dif_pos ⟨r.isLt, j.isLt⟩
  rw [e]
  exact hl _

theorem finite_cotangent (ho : ∀ i, o i = ((EReal.toReal (o i) : ℝ) : EReal)) : IsCotangent o (inputsOf x l o).o := by
  intro r j
  have e : (inputsOf x l o).o r j = EReal.toReal (o (ix2 r j)) := dif_pos ⟨r.isLt, j.isLt⟩
  rw [e]
  exact ho _

end Cert.Hgrn

end
-- ==== Proof.Value.lean ====
/- The kernel's results are the reference's: both arrays, entry by entry, and the two runs side by side. -/
module

public import proofs.«01_k».proof.Defs
public import proofs.«01_k».proof.Proof.Gen.ReferenceIdeal.Run
public import proofs.«01_k».proof.Proof.Arrays
public import proofs.«01_k».proof.Proof.States
public import proofs.«01_k».proof.Proof.RefGrads
public import proofs.«01_k».proof.Proof.Finite

@[expose] public section

set_option maxRecDepth 16384

noncomputable section

namespace Cert.Hgrn

open Idealize.ShloMosaic Idealize.ShloMosaic.TcCoe Idealize.SL.Sem Cert.ReferenceIdeal.Read
open Cert.KernelIdeal (S4096x3584 S2x512 S4096x512 nD τ sig main_arg0 main_arg1 main_arg2 main_arg3 cfg0)
open Cert.KernelIdeal.Gen (dats)

/-- A lane of the 512 by its head and its place in it. -/
theorem col_split (e : Fin 512) : ∃ (h : Fin 4) (k : Fin 128), e = col h k :=
  ⟨⟨e.val / 128, by omega⟩, ⟨e.val % 128, by omega⟩, Fin.ext (by show e.val = 128 * (e.val / 128) + e.val % 128; omega)⟩

section
variable (m : (ℓ : Loc nD τ sig) → Buf (Elt Ideal) ℓ) (c : Dev nD) (A : Inputs)
  (hp : IsProj (m ((c : Thread nD τ).loc main_arg0)) A.p) (hl : IsLogits (m ((c : Thread nD τ).loc main_arg1)) A.l)
  (ho : IsCotangent (m ((c : Thread nD τ).loc main_arg2)) A.o)
include hp hl ho

theorem same_grads : (dats m 0 c).arrAt 6 cfg0.N =
    val_main_v131 (F := Ideal) (m ((c : Thread nD τ).loc main_arg0)) (m ((c : Thread nD τ).loc main_arg1)) (m ((c : Thread nD τ).loc main_arg2)) (m ((c : Thread nD τ).loc main_arg3)) := by
  refine funext fun (i : S4096x3584.Idx) => ?_
  obtain ⟨r, cc, rfl⟩ : ∃ (r : Fin 4096) (cc : Fin 3584), i = ix2 r cc := ⟨i 0, i 1, funext fun a => match a with | ⟨0, _⟩ => rfl | ⟨1, _⟩ => rfl⟩
  by_cases hc : cc.val < 1536
  · exact (final_grads (found m c A hp hl ho) r cc hc).trans (ref_grads hp hl ho _ r cc hc).symm
  · exact ((final_rest r cc hc).trans (congrFun (rest_read m c) _)).trans (ref_rest _ r cc hc).symm

theorem same_row : (dats m 0 c).arrAt 7 cfg0.N =
    val_main_v132 (F := Ideal) (m ((c : Thread nD τ).loc main_arg0)) (m ((c : Thread nD τ).loc main_arg1)) (m ((c : Thread nD τ).loc main_arg2)) := by
  refine funext fun (i : Cert.KernelIdeal.S1x512.Idx) => ?_
  obtain ⟨h, k, rfl⟩ : ∃ (h : Fin 4) (k : Fin 128), i = ix2 0 (col h k) := by
    obtain ⟨h, k, e⟩ := col_split (i 1)
    exact ⟨h, k, funext fun a => match a with | ⟨0, _⟩ => Subsingleton.elim (α := Fin 1) _ _ | ⟨1, _⟩ => e⟩
  exact (final_row (found m c A hp hl ho) h k).trans (ref_row hp hl ho h k).symm

end

/-- The value claim: the gradient of the projections and the gradient of the lower bound are the reference's. -/
theorem algebraic : Cert.algebraic_KernelIdeal_ReferenceIdeal_pre_finite := by
  intro m g m' g' hpre hagree
  refine ⟨_, _, Cert.KernelIdeal.Value.run_blocks m g, ?_⟩
  refine (θ_run _ _ _).mono (fun _ h c => ?_) (Cert.ReferenceIdeal.Value.run (F := Ideal) m' g')
  obtain ⟨fx, fl, fo⟩ := finite_entries (hpre c)
  obtain ⟨a0, a1, a2, a3⟩ := hagree c
  obtain ⟨h0, h1, hrest⟩ := h c
  refine ⟨h0.trans ((val_main_v131_eq _).trans ?_), h1.trans ((val_main_v132_eq _).trans ?_), hrest⟩
  · rw [Idealize.ShloMosaic.StableHlo.launchContents_devRef, Idealize.ShloMosaic.StableHlo.launchContents_devRef,
      Idealize.ShloMosaic.StableHlo.launchContents_devRef, Idealize.ShloMosaic.StableHlo.launchContents_devRef, a0, a1, a2, a3]
    exact (same_grads m c _ (finite_proj fx) (finite_logits fl) (finite_cotangent fo)).symm
  · rw [Idealize.ShloMosaic.StableHlo.launchContents_devRef, Idealize.ShloMosaic.StableHlo.launchContents_devRef,
      Idealize.ShloMosaic.StableHlo.launchContents_devRef, a0, a1, a2]
    exact (same_row m c _ (finite_proj fx) (finite_logits fl) (finite_cotangent fo)).symm

end Cert.Hgrn

end
-- ==== Proof.GateUpGrad.lean ====
/- The gradient of the feed-forward's first weight: the kernel's two result arrays, entry by entry, are the reference's sum over the
   tokens. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.StableHlo.RunRead

@[expose] public section

set_option maxRecDepth 16384

noncomputable section

namespace Cert.GateUpGrad

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The tokens' activations. -/
abbrev acts : Vec Ideal S4096x1024 .bf16 := m ((c : Thread nD τ).loc main_arg0)

/-- The cotangents of the product. -/
abbrev cots : Vec Ideal S4096x5632 .bf16 := m ((c : Thread nD τ).loc main_arg1)

theorem index0 : ∀ t : Fin grid0.N, win0_0.index t 0 = 0 ∧ win0_0.index t 1 = t.val / 4 := by decide +kernel
theorem index1 : ∀ t : Fin grid0.N, win0_1.index t 0 = 0 ∧ win0_1.index t 1 = t.val % 4 := by decide +kernel
theorem index2 : ∀ t : Fin grid0.N, win0_2.index t 0 = t.val % 4 ∧ win0_2.index t 1 = t.val / 4 ∧ win0_2.index t 2 = 0 := by decide +kernel
theorem index3 : ∀ t : Fin grid0.N, win0_3.index t 0 = t.val % 4 ∧ win0_3.index t 1 = t.val / 4 ∧ win0_3.index t 2 = 0 := by decide +kernel
theorem size2 : ∀ t : Fin grid0.N, win0_2.xsize (grid0.coords t) 0 = 1 ∧ win0_2.xsize (grid0.coords t) 1 = 512 ∧ win0_2.xsize (grid0.coords t) 2 = 1408 := by decide +kernel
theorem size3 : ∀ t : Fin grid0.N, win0_3.xsize (grid0.coords t) 0 = 1 ∧ win0_3.xsize (grid0.coords t) 1 = 512 ∧ win0_3.xsize (grid0.coords t) 2 = 1408 := by decide +kernel

/-- The activations' block at a point: all tokens, half of the columns. -/
theorem block0 (t : Fin cfg0.N) (n : Fin 4096) (k : Fin 512) (K : Fin 1024) (h : K.val = 512 * (t.val / 4) + k.val) :
    (iblk m c 0 t : Vec Ideal S4096x512 .bf16) (ix2 n k) = acts m c (ix2 n K) := by
  have i := index0 t
  unfold iblk
  rw [View.read_apply]
  refine congrArg (acts m c) (funext fun a => Fin.ext ?_)
  match a with
  | ⟨0, _⟩ => show win0_0.index t 0 * 4096 + 1 * n.val = n.val; rw [i.1]; omega
  | ⟨1, _⟩ => show win0_0.index t 1 * 512 + 1 * k.val = K.val; rw [i.2, h]; omega

/-- The cotangents' block at a point: all tokens, one part of the columns. -/
theorem block1 (t : Fin cfg0.N) (n : Fin 4096) (j : Fin 1408) (J : Fin 5632) (h : J.val = 1408 * (t.val % 4) + j.val) :
    (iblk m c 1 t : Vec Ideal S4096x1408 .bf16) (ix2 n j) = cots m c (ix2 n J) := by
  have i := index1 t
  unfold iblk
  rw [View.read_apply]
  refine congrArg (cots m c) (funext fun a => Fin.ext ?_)
  match a with
  | ⟨0, _⟩ => show win0_1.index t 0 * 4096 + 1 * n.val = n.val; rw [i.1]; omega
  | ⟨1, _⟩ => show win0_1.index t 1 * 1408 + 1 * j.val = J.val; rw [i.2, h]; omega

/-- The product of two blocks, at an entry. -/
theorem product (a : Vec Ideal S4096x512 .bf16) (b : Vec Ideal S4096x1408 .bf16) (k : Fin 512) (j : Fin 1408) :
    k0_pay1 (F := Ideal) a b (ix2 k j) = ∑ n : Fin 4096, a (ix2 n k) * b (ix2 n j) := by
  unfold k0_pay1
  pointwise

/-- A column of a part among all the columns. -/
def whole (s : Fin 4) (j : Fin 1408) : Fin 5632 := ⟨1408 * s.val + j.val, by omega⟩

/-- One entry of the gradient. -/
def grad (s : Fin 4) (k : Fin 1024) (j : Fin 1408) : EReal := ∑ n : Fin 4096, acts m c (ix2 n k) * cots m c (ix2 n (whole s j))

/-- The point that handles an entry. -/
def pointOf (s : Fin 4) (k : Fin 1024) : Fin cfg0.N := ⟨4 * (k.val / 512) + s.val, by rw [show cfg0.N = 8 from N_0]; omega⟩

theorem loaded (t : Fin cfg0.N) (s : Fin 4) (k : Fin 1024) (j : Fin 1408) (ht : t.val = 4 * (k.val / 512) + s.val) (h : k.val % 512 < 512) :
    k0_pay1 (F := Ideal) (View.ld (iblk m c 0 t) r0_0) (View.ld (iblk m c 1 t) r0_1) (ix2 ⟨k.val % 512, h⟩ j) = grad m c s k j := by
  have hs := s.isLt
  rw [product]
  refine Finset.sum_congr rfl fun n _ => ?_
  refine congr (congrArg HMul.hMul ?_) ?_
  · refine Eq.trans (congrArg (iblk m c 0 t) (funext fun a => Fin.ext ?_)) (block0 m c t n ⟨k.val % 512, h⟩ k (by show k.val = 512 * (t.val / 4) + k.val % 512; omega))
    match a with
    | ⟨0, _⟩ => show 0 + 1 * n.val = n.val; omega
    | ⟨1, _⟩ => show 0 + 1 * (k.val % 512) = k.val % 512; omega
  · refine Eq.trans (congrArg (iblk m c 1 t) (funext fun a => Fin.ext ?_)) (block1 m c t n j (whole s j) (by show 1408 * s.val + j.val = 1408 * (t.val % 4) + j.val; omega))
    match a with
    | ⟨0, _⟩ => show 0 + 1 * n.val = n.val; omega
    | ⟨1, _⟩ => show 0 + 1 * j.val = j.val; omega

theorem final2 (s : Fin 4) (k : Fin 1024) (j : Fin 1408) : (dats m 0 c).arrAt 2 cfg0.N (ix3 s k j) = grad m c s k j := by
  have hk := k.isLt
  have hs := s.isLt
  have hkm : k.val % 512 < 512 := by omega
  obtain ⟨t, ht⟩ : ∃ t, t = pointOf s k := ⟨_, rfl⟩
  have htv : t.val = 4 * (k.val / 512) + s.val := by rw [ht]; rfl
  have b := Value.blocks2 m c t (flush0_2 t)
  have z := size2 t
  have i := index2 t
  let y : ((cfg0.win 2).xblock (grid0.coords t)).Idx := fun a => match a with
    | ⟨0, _⟩ => ⟨0, by show _ < win0_2.xsize (grid0.coords t) 0; rw [z.1]; omega⟩
    | ⟨1, _⟩ => ⟨k.val % 512, by show _ < win0_2.xsize (grid0.coords t) 1; rw [z.2.1]; omega⟩
    | ⟨2, _⟩ => ⟨j.val, by show _ < win0_2.xsize (grid0.coords t) 2; rw [z.2.2]; omega⟩
  have e := congrFun b y
  rw [View.read_apply, Value.flushed2] at e
  have ey : ((cfg0.win 2).blk t).view.emb y = ix3 s k j := by
    funext a
    apply Fin.ext
    match a with
    | ⟨0, _⟩ => show win0_2.index t 0 * 1 + 1 * 0 = s.val; rw [i.1]; omega
    | ⟨1, _⟩ => show win0_2.index t 1 * 512 + 1 * (k.val % 512) = k.val; rw [i.2.1]; omega
    | ⟨2, _⟩ => show win0_2.index t 2 * 1408 + 1 * j.val = j.val; rw [i.2.2]; omega
  rw [ey] at e
  refine e.trans ?_
  have ex : (cfg0.win 2).cut (grid0.coords t) (out0_2 (iblk m c 0 t) (iblk m c 1 t)) y = out0_2 (iblk m c 0 t) (iblk m c 1 t) (ix3 0 ⟨k.val % 512, hkm⟩ j) := by
    refine congrArg (out0_2 (iblk m c 0 t) (iblk m c 1 t)) (funext fun a => Fin.ext ?_)
    match a with
    | ⟨0, _⟩ => rfl
    | ⟨1, _⟩ => rfl
    | ⟨2, _⟩ => rfl
  refine ex.trans ((Value.canon2_eq _ _ _).trans (Eq.trans (congrArg (k0_pay1 (F := Ideal) (View.ld (iblk m c 0 t) r0_0) (View.ld (iblk m c 1 t) r0_1)) (funext fun a => ?_)) (loaded m c t s k j htv hkm)))
  match a with
  | ⟨0, _⟩ => rfl
  | ⟨1, _⟩ => rfl

theorem final3 (s : Fin 4) (k : Fin 1024) (j : Fin 1408) : (dats m 0 c).arrAt 3 cfg0.N (ix3 s k j) = grad m c s k j := by
  have hk := k.isLt
  have hs := s.isLt
  have hkm : k.val % 512 < 512 := by omega
  obtain ⟨t, ht⟩ : ∃ t, t = pointOf s k := ⟨_, rfl⟩
  have htv : t.val = 4 * (k.val / 512) + s.val := by rw [ht]; rfl
  have b := Value.blocks3 m c t (flush0_3 t)
  have z := size3 t
  have i := index3 t
  let y : ((cfg0.win 3).xblock (grid0.coords t)).Idx := fun a => match a with
    | ⟨0, _⟩ => ⟨0, by show _ < win0_3.xsize (grid0.coords t) 0; rw [z.1]; omega⟩
    | ⟨1, _⟩ => ⟨k.val % 512, by show _ < win0_3.xsize (grid0.coords t) 1; rw [z.2.1]; omega⟩
    | ⟨2, _⟩ => ⟨j.val, by show _ < win0_3.xsize (grid0.coords t) 2; rw [z.2.2]; omega⟩
  have e := congrFun b y
  rw [View.read_apply, Value.flushed3] at e
  have ey : ((cfg0.win 3).blk t).view.emb y = ix3 s k j := by
    funext a
    apply Fin.ext
    match a with
    | ⟨0, _⟩ => show win0_3.index t 0 * 1 + 1 * 0 = s.val; rw [i.1]; omega
    | ⟨1, _⟩ => show win0_3.index t 1 * 512 + 1 * (k.val % 512) = k.val; rw [i.2.1]; omega
    | ⟨2, _⟩ => show win0_3.index t 2 * 1408 + 1 * j.val = j.val; rw [i.2.2]; omega
  rw [ey] at e
  refine e.trans ?_
  have ex : (cfg0.win 3).cut (grid0.coords t) (out0_3 (iblk m c 0 t) (iblk m c 1 t)) y = out0_3 (iblk m c 0 t) (iblk m c 1 t) (ix3 0 ⟨k.val % 512, hkm⟩ j) := by
    refine congrArg (out0_3 (iblk m c 0 t) (iblk m c 1 t)) (funext fun a => Fin.ext ?_)
    match a with
    | ⟨0, _⟩ => rfl
    | ⟨1, _⟩ => rfl
    | ⟨2, _⟩ => rfl
  refine ex.trans ((Value.canon3_eq _ _ _).trans (Eq.trans (congrArg (k0_pay1 (F := Ideal) (View.ld (iblk m c 0 t) r0_0) (View.ld (iblk m c 1 t) r0_1)) (funext fun a => ?_)) (loaded m c t s k j htv hkm)))
  match a with
  | ⟨0, _⟩ => rfl
  | ⟨1, _⟩ => rfl

open Cert.Reference2Ideal.Read

/-- The reference's gradient, the columns in their parts. -/
theorem ref_grad (x : Vec Ideal S4096x1024 .bf16) (d : Vec Ideal S4096x5632 .bf16) (s : Fin 4) (k : Fin 1024) (j : Fin 1408) :
    val_main_v7 (F := Ideal) x d (ix3 s k j) = ∑ n : Fin 4096, x (ix2 n k) * d (ix2 n (whole s j)) := by
  have hs := s.isLt
  have hk := k.isLt
  have hj := j.isLt
  rw [val_main_v7_apply, val_main_v6_apply, val_main_v5_apply, val_main_v4_apply]
  refine Finset.sum_congr rfl fun n _ => (mul_comm _ _).trans (congr (congrArg HMul.hMul (congrArg x (funext fun a => Fin.ext ?_))) (congrArg d (funext fun a => Fin.ext ?_)))
  · match a with
    | ⟨0, _⟩ => rfl
    | ⟨1, _⟩ => show ((k.val * 4 + s.val) * 1408 + j.val) / 5632 = k.val; omega
  · match a with
    | ⟨0, _⟩ => rfl
    | ⟨1, _⟩ => show ((k.val * 4 + s.val) * 1408 + j.val) % 5632 = 1408 * s.val + j.val; omega

/-- An index of a result by its three coordinates. -/
theorem entry (i : S4x1024x1408.Idx) : ∃ (s : Fin 4) (k : Fin 1024) (j : Fin 1408), i = ix3 s k j :=
  ⟨i 0, i 1, i 2, funext fun a => match a with | ⟨0, _⟩ => rfl | ⟨1, _⟩ => rfl | ⟨2, _⟩ => rfl⟩

theorem same2 : val_main_v7 (F := Ideal) (acts m c) (cots m c) = (dats m 0 c).arrAt 2 cfg0.N := by
  refine funext fun (i : S4x1024x1408.Idx) => ?_
  obtain ⟨s, k, j, rfl⟩ := entry i
  exact (ref_grad _ _ s k j).trans (final2 m c s k j).symm

theorem same3 : val_main_v8 (F := Ideal) (acts m c) (cots m c) = (dats m 0 c).arrAt 3 cfg0.N := by
  refine funext fun (i : S4x1024x1408.Idx) => ?_
  obtain ⟨s, k, j, rfl⟩ := entry i
  exact ((val_main_v8_apply _ _ _).trans (ref_grad _ _ s k j)).trans (final3 m c s k j).symm

/-- The value claim: both copies of the gradient are the reference's. -/
theorem algebraic : Cert.algebraic_Kernel2Ideal_Reference2Ideal := by
  intro m g m' g' _ hagree
  refine ⟨_, _, Value.run_blocks m g, ?_⟩
  refine (θ_run _ _ _).mono (fun _ h c => ?_) (Cert.Reference2Ideal.Value.run (F := Ideal) m' g')
  obtain ⟨a0, a1⟩ := hagree c
  obtain ⟨h0, h1, hrest⟩ := h c
  refine ⟨h0.trans ((val_main_v7_eq _ _).trans ?_), h1.trans ((val_main_v8_eq _ _).trans ?_), hrest⟩
  · rw [a0, a1]
    exact same2 m c
  · rw [a0, a1]
    exact same3 m c

end Cert.GateUpGrad

end
-- ==== Proof.InGrad.lean ====
/- The gradient of the mixer's first weight: the kernel's two result arrays, entry by entry, are the reference's sum over the
   tokens. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.StableHlo.RunRead

@[expose] public section

set_option maxRecDepth 16384

noncomputable section

namespace Cert.InGrad

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The tokens' activations. -/
abbrev acts : Vec Ideal S4096x1024 .bf16 := m ((c : Thread nD τ).loc main_arg0)

/-- The cotangents of the product. -/
abbrev cots : Vec Ideal S4096x3584 .bf16 := m ((c : Thread nD τ).loc main_arg1)

theorem index0 : ∀ t : Fin grid0.N, win0_0.index t 0 = 0 ∧ win0_0.index t 1 = t.val / 2 := by decide +kernel
theorem index1 : ∀ t : Fin grid0.N, win0_1.index t 0 = 0 ∧ win0_1.index t 1 = t.val % 2 := by decide +kernel
theorem index2 : ∀ t : Fin grid0.N, win0_2.index t 0 = t.val % 2 ∧ win0_2.index t 1 = t.val / 2 ∧ win0_2.index t 2 = 0 := by decide +kernel
theorem index3 : ∀ t : Fin grid0.N, win0_3.index t 0 = t.val % 2 ∧ win0_3.index t 1 = t.val / 2 ∧ win0_3.index t 2 = 0 := by decide +kernel
theorem size2 : ∀ t : Fin grid0.N, win0_2.xsize (grid0.coords t) 0 = 2 ∧ win0_2.xsize (grid0.coords t) 1 = 512 ∧ win0_2.xsize (grid0.coords t) 2 = 896 := by decide +kernel
theorem size3 : ∀ t : Fin grid0.N, win0_3.xsize (grid0.coords t) 0 = 2 ∧ win0_3.xsize (grid0.coords t) 1 = 512 ∧ win0_3.xsize (grid0.coords t) 2 = 896 := by decide +kernel

/-- The activations' block at a point: all tokens, a block of the columns. -/
theorem block0 (t : Fin cfg0.N) (n : Fin 4096) (k : Fin 512) (K : Fin 1024) (h : K.val = 512 * (t.val / 2) + k.val) :
    (iblk m c 0 t : Vec Ideal S4096x512 .bf16) (ix2 n k) = acts m c (ix2 n K) := by
  have i := index0 t
  unfold iblk
  rw [View.read_apply]
  refine congrArg (acts m c) (funext fun a => Fin.ext ?_)
  match a with
  | ⟨0, _⟩ => show win0_0.index t 0 * 4096 + 1 * n.val = n.val; rw [i.1]; omega
  | ⟨1, _⟩ => show win0_0.index t 1 * 512 + 1 * k.val = K.val; rw [i.2, h]; omega

/-- The cotangents' block at a point: all tokens, a block of the columns. -/
theorem block1 (t : Fin cfg0.N) (n : Fin 4096) (j : Fin 1792) (J : Fin 3584) (h : J.val = 1792 * (t.val % 2) + j.val) :
    (iblk m c 1 t : Vec Ideal S4096x1792 .bf16) (ix2 n j) = cots m c (ix2 n J) := by
  have i := index1 t
  unfold iblk
  rw [View.read_apply]
  refine congrArg (cots m c) (funext fun a => Fin.ext ?_)
  match a with
  | ⟨0, _⟩ => show win0_1.index t 0 * 4096 + 1 * n.val = n.val; rw [i.1]; omega
  | ⟨1, _⟩ => show win0_1.index t 1 * 1792 + 1 * j.val = J.val; rw [i.2, h]; omega

/-- The product of two blocks, at an entry. -/
theorem product (a : Vec Ideal S4096x512 .bf16) (b : Vec Ideal S4096x1792 .bf16) (k : Fin 512) (j : Fin 1792) :
    k0_pay1 (F := Ideal) a b (ix2 k j) = ∑ n : Fin 4096, a (ix2 n k) * b (ix2 n j) := by
  unfold k0_pay1
  pointwise

/-- A column of a part among all the columns. -/
def whole (s : Fin 4) (j : Fin 896) : Fin 3584 := ⟨896 * s.val + j.val, by omega⟩

/-- One entry of the gradient. -/
def grad (s : Fin 4) (k : Fin 1024) (j : Fin 896) : EReal := ∑ n : Fin 4096, acts m c (ix2 n k) * cots m c (ix2 n (whole s j))

/-- The point that handles an entry. -/
def pointOf (s : Fin 4) (k : Fin 1024) : Fin cfg0.N := ⟨2 * (k.val / 512) + s.val / 2, by rw [show cfg0.N = 4 from N_0]; omega⟩

theorem loaded (t : Fin cfg0.N) (s : Fin 4) (k : Fin 1024) (j : Fin 896) (ht : t.val = 2 * (k.val / 512) + s.val / 2) (h : k.val % 512 < 512)
    (hj : 896 * (s.val % 2) + j.val < 1792) :
    k0_pay1 (F := Ideal) (View.ld (iblk m c 0 t) r0_0) (View.ld (iblk m c 1 t) r0_1) (ix2 ⟨k.val % 512, h⟩ ⟨896 * (s.val % 2) + j.val, hj⟩) = grad m c s k j := by
  have hs := s.isLt
  rw [product]
  refine Finset.sum_congr rfl fun n _ => ?_
  refine congr (congrArg HMul.hMul ?_) ?_
  · refine Eq.trans (congrArg (iblk m c 0 t) (funext fun a => Fin.ext ?_)) (block0 m c t n ⟨k.val % 512, h⟩ k (by show k.val = 512 * (t.val / 2) + k.val % 512; omega))
    match a with
    | ⟨0, _⟩ => show 0 + 1 * n.val = n.val; omega
    | ⟨1, _⟩ => show 0 + 1 * (k.val % 512) = k.val % 512; omega
  · refine Eq.trans (congrArg (iblk m c 1 t) (funext fun a => Fin.ext ?_)) (block1 m c t n ⟨896 * (s.val % 2) + j.val, hj⟩ (whole s j) (by show 896 * s.val + j.val = 1792 * (t.val % 2) + (896 * (s.val % 2) + j.val); omega))
    match a with
    | ⟨0, _⟩ => show 0 + 1 * n.val = n.val; omega
    | ⟨1, _⟩ => show 0 + 1 * (896 * (s.val % 2) + j.val) = 896 * (s.val % 2) + j.val; omega

theorem final2 (s : Fin 4) (k : Fin 1024) (j : Fin 896) : (dats m 0 c).arrAt 2 cfg0.N (ix3 s k j) = grad m c s k j := by
  have hk := k.isLt
  have hs := s.isLt
  have hjl := j.isLt
  have hj : 896 * (s.val % 2) + j.val < 1792 := by omega
  have hg : s.val % 2 < 2 := by omega
  have hkm : k.val % 512 < 512 := by omega
  obtain ⟨t, ht⟩ : ∃ t, t = pointOf s k := ⟨_, rfl⟩
  have htv : t.val = 2 * (k.val / 512) + s.val / 2 := by rw [ht]; rfl
  have b := Value.blocks2 m c t (flush0_2 t)
  have z := size2 t
  have i := index2 t
  let y : ((cfg0.win 2).xblock (grid0.coords t)).Idx := fun a => match a with
    | ⟨0, _⟩ => ⟨s.val % 2, by show _ < win0_2.xsize (grid0.coords t) 0; rw [z.1]; omega⟩
    | ⟨1, _⟩ => ⟨k.val % 512, by show _ < win0_2.xsize (grid0.coords t) 1; rw [z.2.1]; omega⟩
    | ⟨2, _⟩ => ⟨j.val, by show _ < win0_2.xsize (grid0.coords t) 2; rw [z.2.2]; omega⟩
  have e := congrFun b y
  rw [View.read_apply, Value.flushed2] at e
  have ey : ((cfg0.win 2).blk t).view.emb y = ix3 s k j := by
    funext a
    apply Fin.ext
    match a with
    | ⟨0, _⟩ => show win0_2.index t 0 * 2 + 1 * (s.val % 2) = s.val; rw [i.1]; omega
    | ⟨1, _⟩ => show win0_2.index t 1 * 512 + 1 * (k.val % 512) = k.val; rw [i.2.1]; omega
    | ⟨2, _⟩ => show win0_2.index t 2 * 896 + 1 * j.val = j.val; rw [i.2.2]; omega
  rw [ey] at e
  refine e.trans ?_
  have ex : (cfg0.win 2).cut (grid0.coords t) (out0_2 (iblk m c 0 t) (iblk m c 1 t)) y = out0_2 (iblk m c 0 t) (iblk m c 1 t) (ix3 ⟨s.val % 2, hg⟩ ⟨k.val % 512, hkm⟩ j) := by
    refine congrArg (out0_2 (iblk m c 0 t) (iblk m c 1 t)) (funext fun a => Fin.ext ?_)
    match a with
    | ⟨0, _⟩ => rfl
    | ⟨1, _⟩ => rfl
    | ⟨2, _⟩ => rfl
  refine ex.trans ((Value.canon2_eq _ _ _).trans (Eq.trans (congrArg (k0_pay1 (F := Ideal) (View.ld (iblk m c 0 t) r0_0) (View.ld (iblk m c 1 t) r0_1)) (funext fun a => ?_)) (loaded m c t s k j htv hkm hj)))
  match a with
  | ⟨0, _⟩ => rfl
  | ⟨1, _⟩ => exact Fin.ext (by show s.val % 2 * 896 + j.val = 896 * (s.val % 2) + j.val; omega)

theorem final3 (s : Fin 4) (k : Fin 1024) (j : Fin 896) : (dats m 0 c).arrAt 3 cfg0.N (ix3 s k j) = grad m c s k j := by
  have hk := k.isLt
  have hs := s.isLt
  have hjl := j.isLt
  have hj : 896 * (s.val % 2) + j.val < 1792 := by omega
  have hg : s.val % 2 < 2 := by omega
  have hkm : k.val % 512 < 512 := by omega
  obtain ⟨t, ht⟩ : ∃ t, t = pointOf s k := ⟨_, rfl⟩
  have htv : t.val = 2 * (k.val / 512) + s.val / 2 := by rw [ht]; rfl
  have b := Value.blocks3 m c t (flush0_3 t)
  have z := size3 t
  have i := index3 t
  let y : ((cfg0.win 3).xblock (grid0.coords t)).Idx := fun a => match a with
    | ⟨0, _⟩ => ⟨s.val % 2, by show _ < win0_3.xsize (grid0.coords t) 0; rw [z.1]; omega⟩
    | ⟨1, _⟩ => ⟨k.val % 512, by show _ < win0_3.xsize (grid0.coords t) 1; rw [z.2.1]; omega⟩
    | ⟨2, _⟩ => ⟨j.val, by show _ < win0_3.xsize (grid0.coords t) 2; rw [z.2.2]; omega⟩
  have e := congrFun b y
  rw [View.read_apply, Value.flushed3] at e
  have ey : ((cfg0.win 3).blk t).view.emb y = ix3 s k j := by
    funext a
    apply Fin.ext
    match a with
    | ⟨0, _⟩ => show win0_3.index t 0 * 2 + 1 * (s.val % 2) = s.val; rw [i.1]; omega
    | ⟨1, _⟩ => show win0_3.index t 1 * 512 + 1 * (k.val % 512) = k.val; rw [i.2.1]; omega
    | ⟨2, _⟩ => show win0_3.index t 2 * 896 + 1 * j.val = j.val; rw [i.2.2]; omega
  rw [ey] at e
  refine e.trans ?_
  have ex : (cfg0.win 3).cut (grid0.coords t) (out0_3 (iblk m c 0 t) (iblk m c 1 t)) y = out0_3 (iblk m c 0 t) (iblk m c 1 t) (ix3 ⟨s.val % 2, hg⟩ ⟨k.val % 512, hkm⟩ j) := by
    refine congrArg (out0_3 (iblk m c 0 t) (iblk m c 1 t)) (funext fun a => Fin.ext ?_)
    match a with
    | ⟨0, _⟩ => rfl
    | ⟨1, _⟩ => rfl
    | ⟨2, _⟩ => rfl
  refine ex.trans ((Value.canon3_eq _ _ _).trans (Eq.trans (congrArg (k0_pay1 (F := Ideal) (View.ld (iblk m c 0 t) r0_0) (View.ld (iblk m c 1 t) r0_1)) (funext fun a => ?_)) (loaded m c t s k j htv hkm hj)))
  match a with
  | ⟨0, _⟩ => rfl
  | ⟨1, _⟩ => exact Fin.ext (by show s.val % 2 * 896 + j.val = 896 * (s.val % 2) + j.val; omega)

open Cert.Reference3Ideal.Read

/-- The reference's gradient, the columns in their parts. -/
theorem ref_grad (x : Vec Ideal S4096x1024 .bf16) (d : Vec Ideal S4096x3584 .bf16) (s : Fin 4) (k : Fin 1024) (j : Fin 896) :
    val_main_v7 (F := Ideal) x d (ix3 s k j) = ∑ n : Fin 4096, x (ix2 n k) * d (ix2 n (whole s j)) := by
  have hs := s.isLt
  have hk := k.isLt
  have hj := j.isLt
  rw [val_main_v7_apply, val_main_v6_apply, val_main_v5_apply, val_main_v4_apply]
  refine Finset.sum_congr rfl fun n _ => (mul_comm _ _).trans (congr (congrArg HMul.hMul (congrArg x (funext fun a => Fin.ext ?_))) (congrArg d (funext fun a => Fin.ext ?_)))
  · match a with
    | ⟨0, _⟩ => rfl
    | ⟨1, _⟩ => show ((k.val * 4 + s.val) * 896 + j.val) / 3584 = k.val; omega
  · match a with
    | ⟨0, _⟩ => rfl
    | ⟨1, _⟩ => show ((k.val * 4 + s.val) * 896 + j.val) % 3584 = 896 * s.val + j.val; omega

/-- An index of a result by its three coordinates. -/
theorem entry (i : S4x1024x896.Idx) : ∃ (s : Fin 4) (k : Fin 1024) (j : Fin 896), i = ix3 s k j :=
  ⟨i 0, i 1, i 2, funext fun a => match a with | ⟨0, _⟩ => rfl | ⟨1, _⟩ => rfl | ⟨2, _⟩ => rfl⟩

theorem same2 : val_main_v7 (F := Ideal) (acts m c) (cots m c) = (dats m 0 c).arrAt 2 cfg0.N := by
  refine funext fun (i : S4x1024x896.Idx) => ?_
  obtain ⟨s, k, j, rfl⟩ := entry i
  exact (ref_grad _ _ s k j).trans (final2 m c s k j).symm

theorem same3 : val_main_v8 (F := Ideal) (acts m c) (cots m c) = (dats m 0 c).arrAt 3 cfg0.N := by
  refine funext fun (i : S4x1024x896.Idx) => ?_
  obtain ⟨s, k, j, rfl⟩ := entry i
  exact ((val_main_v8_apply _ _ _).trans (ref_grad _ _ s k j)).trans (final3 m c s k j).symm

/-- The value claim: both copies of the gradient are the reference's. -/
theorem algebraic : Cert.algebraic_Kernel3Ideal_Reference3Ideal := by
  intro m g m' g' _ hagree
  refine ⟨_, _, Value.run_blocks m g, ?_⟩
  refine (θ_run _ _ _).mono (fun _ h c => ?_) (Cert.Reference3Ideal.Value.run (F := Ideal) m' g')
  obtain ⟨a0, a1⟩ := hagree c
  obtain ⟨h0, h1, hrest⟩ := h c
  refine ⟨h0.trans ((val_main_v7_eq _ _).trans ?_), h1.trans ((val_main_v8_eq _ _).trans ?_), hrest⟩
  · rw [a0, a1]
    exact same2 m c
  · rw [a0, a1]
    exact same3 m c

end Cert.InGrad

end
-- ==== Proof.DownGrad.lean ====
/- The gradient of the feed-forward's second weight: the kernel's two result arrays, entry by entry, are the reference's sum over the
   tokens. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.StableHlo.RunRead

@[expose] public section

set_option maxRecDepth 16384

noncomputable section

namespace Cert.DownGrad

open Idealize.ShloMosaic Idealize.ShloMosaic.TcCoe Idealize.SL.Sem Cert.Kernel4Ideal Cert.Kernel4Ideal.Gen

variable (m : (ℓ : Loc nD τ sig) → Buf (Elt Ideal) ℓ) (c : Dev nD)

/-- The tokens' activations. -/
abbrev acts : Vec Ideal S4096x2816 .bf16 := m ((c : Thread nD τ).loc main_arg0)

/-- The cotangents of the product. -/
abbrev cots : Vec Ideal S4096x1024 .bf16 := m ((c : Thread nD τ).loc main_arg1)

theorem index0 : ∀ t : Fin grid0.N, win0_0.index t 0 = 0 ∧ win0_0.index t 1 = t.val / 1 := by decide +kernel
theorem index1 : ∀ t : Fin grid0.N, win0_1.index t 0 = 0 ∧ win0_1.index t 1 = t.val % 1 := by decide +kernel
theorem index2 : ∀ t : Fin grid0.N, win0_2.index t 0 = t.val % 1 ∧ win0_2.index t 1 = t.val / 1 ∧ win0_2.index t 2 = 0 := by decide +kernel
theorem index3 : ∀ t : Fin grid0.N, win0_3.index t 0 = t.val % 1 ∧ win0_3.index t 1 = t.val / 1 ∧ win0_3.index t 2 = 0 := by decide +kernel
theorem size2 : ∀ t : Fin grid0.N, win0_2.xsize (grid0.coords t) 0 = 1 ∧ win0_2.xsize (grid0.coords t) 1 = 256 ∧ win0_2.xsize (grid0.coords t) 2 = 1024 := by decide +kernel
theorem size3 : ∀ t : Fin grid0.N, win0_3.xsize (grid0.coords t) 0 = 1 ∧ win0_3.xsize (grid0.coords t) 1 = 256 ∧ win0_3.xsize (grid0.coords t) 2 = 1024 := by decide +kernel

/-- The activations' block at a point: all tokens, a block of the columns. -/
theorem block0 (t : Fin cfg0.N) (n : Fin 4096) (k : Fin 256) (K : Fin 2816) (h : K.val = 256 * (t.val / 1) + k.val) :
    (iblk m c 0 t : Vec Ideal S4096x256 .bf16) (ix2 n k) = acts m c (ix2 n K) := by
  have i := index0 t
  unfold iblk
  rw [View.read_apply]
  refine congrArg (acts m c) (funext fun a => Fin.ext ?_)
  match a with
  | ⟨0, _⟩ => show win0_0.index t 0 * 4096 + 1 * n.val = n.val; rw [i.1]; omega
  | ⟨1, _⟩ => show win0_0.index t 1 * 256 + 1 * k.val = K.val; rw [i.2, h]; omega

/-- The cotangents' block at a point: all tokens, a block of the columns. -/
theorem block1 (t : Fin cfg0.N) (n : Fin 4096) (j : Fin 1024) (J : Fin 1024) (h : J.val = 1024 * (t.val % 1) + j.val) :
    (iblk m c 1 t : Vec Ideal S4096x1024 .bf16) (ix2 n j) = cots m c (ix2 n J) := by
  have i := index1 t
  unfold iblk
  rw [View.read_apply]
  refine congrArg (cots m c) (funext fun a => Fin.ext ?_)
  match a with
  | ⟨0, _⟩ => show win0_1.index t 0 * 4096 + 1 * n.val = n.val; rw [i.1]; omega
  | ⟨1, _⟩ => show win0_1.index t 1 * 1024 + 1 * j.val = J.val; rw [i.2, h]; omega

/-- The product of two blocks, at an entry. -/
theorem product (a : Vec Ideal S4096x256 .bf16) (b : Vec Ideal S4096x1024 .bf16) (k : Fin 256) (j : Fin 1024) :
    k0_pay1 (F := Ideal) a b (ix2 k j) = ∑ n : Fin 4096, a (ix2 n k) * b (ix2 n j) := by
  unfold k0_pay1
  pointwise

/-- A column of a part among all the columns. -/
def whole (s : Fin 1) (j : Fin 1024) : Fin 1024 := ⟨1024 * s.val + j.val, by omega⟩

/-- One entry of the gradient. -/
def grad (s : Fin 1) (k : Fin 2816) (j : Fin 1024) : EReal := ∑ n : Fin 4096, acts m c (ix2 n k) * cots m c (ix2 n (whole s j))

/-- The point that handles an entry. -/
def pointOf (s : Fin 1) (k : Fin 2816) : Fin cfg0.N := ⟨1 * (k.val / 256) + s.val / 1, by rw [show cfg0.N = 11 from N_0]; omega⟩

theorem loaded (t : Fin cfg0.N) (s : Fin 1) (k : Fin 2816) (j : Fin 1024) (ht : t.val = 1 * (k.val / 256) + s.val / 1) (h : k.val % 256 < 256)
    (hj : 1024 * (s.val % 1) + j.val < 1024) :
    k0_pay1 (F := Ideal) (View.ld (iblk m c 0 t) r0_0) (View.ld (iblk m c 1 t) r0_1) (ix2 ⟨k.val % 256, h⟩ ⟨1024 * (s.val % 1) + j.val, hj⟩) = grad m c s k j := by
  have hs := s.isLt
  rw [product]
  refine Finset.sum_congr rfl fun n _ => ?_
  refine congr (congrArg HMul.hMul ?_) ?_
  · refine Eq.trans (congrArg (iblk m c 0 t) (funext fun a => Fin.ext ?_)) (block0 m c t n ⟨k.val % 256, h⟩ k (by show k.val = 256 * (t.val / 1) + k.val % 256; omega))
    match a with
    | ⟨0, _⟩ => show 0 + 1 * n.val = n.val; omega
    | ⟨1, _⟩ => show 0 + 1 * (k.val % 256) = k.val % 256; omega
  · refine Eq.trans (congrArg (iblk m c 1 t) (funext fun a => Fin.ext ?_)) (block1 m c t n ⟨1024 * (s.val % 1) + j.val, hj⟩ (whole s j) (by show 1024 * s.val + j.val = 1024 * (t.val % 1) + (1024 * (s.val % 1) + j.val); omega))
    match a with
    | ⟨0, _⟩ => show 0 + 1 * n.val = n.val; omega
    | ⟨1, _⟩ => show 0 + 1 * (1024 * (s.val % 1) + j.val) = 1024 * (s.val % 1) + j.val; omega

theorem final2 (s : Fin 1) (k : Fin 2816) (j : Fin 1024) : (dats m 0 c).arrAt 2 cfg0.N (ix3 s k j) = grad m c s k j := by
  have hk := k.isLt
  have hs := s.isLt
  have hjl := j.isLt
  have hj : 1024 * (s.val % 1) + j.val < 1024 := by omega
  have hg : s.val % 1 < 1 := by omega
  have hkm : k.val % 256 < 256 := by omega
  obtain ⟨t, ht⟩ : ∃ t, t = pointOf s k := ⟨_, rfl⟩
  have htv : t.val = 1 * (k.val / 256) + s.val / 1 := by rw [ht]; rfl
  have b := Value.blocks2 m c t (flush0_2 t)
  have z := size2 t
  have i := index2 t
  let y : ((cfg0.win 2).xblock (grid0.coords t)).Idx := fun a => match a with
    | ⟨0, _⟩ => ⟨s.val % 1, by show _ < win0_2.xsize (grid0.coords t) 0; rw [z.1]; omega⟩
    | ⟨1, _⟩ => ⟨k.val % 256, by show _ < win0_2.xsize (grid0.coords t) 1; rw [z.2.1]; omega⟩
    | ⟨2, _⟩ => ⟨j.val, by show _ < win0_2.xsize (grid0.coords t) 2; rw [z.2.2]; omega⟩
  have e := congrFun b y
  rw [View.read_apply, Value.flushed2] at e
  have ey : ((cfg0.win 2).blk t).view.emb y = ix3 s k j := by
    funext a
    apply Fin.ext
    match a with
    | ⟨0, _⟩ => show win0_2.index t 0 * 1 + 1 * (s.val % 1) = s.val; rw [i.1]; omega
    | ⟨1, _⟩ => show win0_2.index t 1 * 256 + 1 * (k.val % 256) = k.val; rw [i.2.1]; omega
    | ⟨2, _⟩ => show win0_2.index t 2 * 1024 + 1 * j.val = j.val; rw [i.2.2]; omega
  rw [ey] at e
  refine e.trans ?_
  have ex : (cfg0.win 2).cut (grid0.coords t) (out0_2 (iblk m c 0 t) (iblk m c 1 t)) y = out0_2 (iblk m c 0 t) (iblk m c 1 t) (ix3 ⟨s.val % 1, hg⟩ ⟨k.val % 256, hkm⟩ j) := by
    refine congrArg (out0_2 (iblk m c 0 t) (iblk m c 1 t)) (funext fun a => Fin.ext ?_)
    match a with
    | ⟨0, _⟩ => rfl
    | ⟨1, _⟩ => rfl
    | ⟨2, _⟩ => rfl
  refine ex.trans ((Value.canon2_eq _ _ _).trans (Eq.trans (congrArg (k0_pay1 (F := Ideal) (View.ld (iblk m c 0 t) r0_0) (View.ld (iblk m c 1 t) r0_1)) (funext fun a => ?_)) (loaded m c t s k j htv hkm hj)))
  match a with
  | ⟨0, _⟩ => rfl
  | ⟨1, _⟩ => exact Fin.ext (by show j.val = 1024 * (s.val % 1) + j.val; omega)

theorem final3 (s : Fin 1) (k : Fin 2816) (j : Fin 1024) : (dats m 0 c).arrAt 3 cfg0.N (ix3 s k j) = grad m c s k j := by
  have hk := k.isLt
  have hs := s.isLt
  have hjl := j.isLt
  have hj : 1024 * (s.val % 1) + j.val < 1024 := by omega
  have hg : s.val % 1 < 1 := by omega
  have hkm : k.val % 256 < 256 := by omega
  obtain ⟨t, ht⟩ : ∃ t, t = pointOf s k := ⟨_, rfl⟩
  have htv : t.val = 1 * (k.val / 256) + s.val / 1 := by rw [ht]; rfl
  have b := Value.blocks3 m c t (flush0_3 t)
  have z := size3 t
  have i := index3 t
  let y : ((cfg0.win 3).xblock (grid0.coords t)).Idx := fun a => match a with
    | ⟨0, _⟩ => ⟨s.val % 1, by show _ < win0_3.xsize (grid0.coords t) 0; rw [z.1]; omega⟩
    | ⟨1, _⟩ => ⟨k.val % 256, by show _ < win0_3.xsize (grid0.coords t) 1; rw [z.2.1]; omega⟩
    | ⟨2, _⟩ => ⟨j.val, by show _ < win0_3.xsize (grid0.coords t) 2; rw [z.2.2]; omega⟩
  have e := congrFun b y
  rw [View.read_apply, Value.flushed3] at e
  have ey : ((cfg0.win 3).blk t).view.emb y = ix3 s k j := by
    funext a
    apply Fin.ext
    match a with
    | ⟨0, _⟩ => show win0_3.index t 0 * 1 + 1 * (s.val % 1) = s.val; rw [i.1]; omega
    | ⟨1, _⟩ => show win0_3.index t 1 * 256 + 1 * (k.val % 256) = k.val; rw [i.2.1]; omega
    | ⟨2, _⟩ => show win0_3.index t 2 * 1024 + 1 * j.val = j.val; rw [i.2.2]; omega
  rw [ey] at e
  refine e.trans ?_
  have ex : (cfg0.win 3).cut (grid0.coords t) (out0_3 (iblk m c 0 t) (iblk m c 1 t)) y = out0_3 (iblk m c 0 t) (iblk m c 1 t) (ix3 ⟨s.val % 1, hg⟩ ⟨k.val % 256, hkm⟩ j) := by
    refine congrArg (out0_3 (iblk m c 0 t) (iblk m c 1 t)) (funext fun a => Fin.ext ?_)
    match a with
    | ⟨0, _⟩ => rfl
    | ⟨1, _⟩ => rfl
    | ⟨2, _⟩ => rfl
  refine ex.trans ((Value.canon3_eq _ _ _).trans (Eq.trans (congrArg (k0_pay1 (F := Ideal) (View.ld (iblk m c 0 t) r0_0) (View.ld (iblk m c 1 t) r0_1)) (funext fun a => ?_)) (loaded m c t s k j htv hkm hj)))
  match a with
  | ⟨0, _⟩ => rfl
  | ⟨1, _⟩ => exact Fin.ext (by show j.val = 1024 * (s.val % 1) + j.val; omega)

open Cert.Reference4Ideal.Read

/-- The reference's gradient, the columns in their parts. -/
theorem ref_grad (x : Vec Ideal S4096x2816 .bf16) (d : Vec Ideal S4096x1024 .bf16) (s : Fin 1) (k : Fin 2816) (j : Fin 1024) :
    val_main_v7 (F := Ideal) x d (ix3 s k j) = ∑ n : Fin 4096, x (ix2 n k) * d (ix2 n (whole s j)) := by
  have hs := s.isLt
  have hk := k.isLt
  have hj := j.isLt
  rw [val_main_v7_apply, val_main_v6_apply, val_main_v5_apply, val_main_v4_apply]
  refine Finset.sum_congr rfl fun n _ => (mul_comm _ _).trans (congr (congrArg HMul.hMul (congrArg x (funext fun a => Fin.ext ?_))) (congrArg d (funext fun a => Fin.ext ?_)))
  · match a with
    | ⟨0, _⟩ => rfl
    | ⟨1, _⟩ => show ((k.val * 1 + s.val) * 1024 + j.val) / 1024 = k.val; omega
  · match a with
    | ⟨0, _⟩ => rfl
    | ⟨1, _⟩ => show ((k.val * 1 + s.val) * 1024 + j.val) % 1024 = 1024 * s.val + j.val; omega

/-- An index of a result by its three coordinates. -/
theorem entry (i : S1x2816x1024.Idx) : ∃ (s : Fin 1) (k : Fin 2816) (j : Fin 1024), i = ix3 s k j :=
  ⟨i 0, i 1, i 2, funext fun a => match a with | ⟨0, _⟩ => rfl | ⟨1, _⟩ => rfl | ⟨2, _⟩ => rfl⟩

theorem same2 : val_main_v7 (F := Ideal) (acts m c) (cots m c) = (dats m 0 c).arrAt 2 cfg0.N := by
  refine funext fun (i : S1x2816x1024.Idx) => ?_
  obtain ⟨s, k, j, rfl⟩ := entry i
  exact (ref_grad _ _ s k j).trans (final2 m c s k j).symm

theorem same3 : val_main_v8 (F := Ideal) (acts m c) (cots m c) = (dats m 0 c).arrAt 3 cfg0.N := by
  refine funext fun (i : S1x2816x1024.Idx) => ?_
  obtain ⟨s, k, j, rfl⟩ := entry i
  exact ((val_main_v8_apply _ _ _).trans (ref_grad _ _ s k j)).trans (final3 m c s k j).symm

/-- The value claim: both copies of the gradient are the reference's. -/
theorem algebraic : Cert.algebraic_Kernel4Ideal_Reference4Ideal := by
  intro m g m' g' _ hagree
  refine ⟨_, _, Value.run_blocks m g, ?_⟩
  refine (θ_run _ _ _).mono (fun _ h c => ?_) (Cert.Reference4Ideal.Value.run (F := Ideal) m' g')
  obtain ⟨a0, a1⟩ := hagree c
  obtain ⟨h0, h1, hrest⟩ := h c
  refine ⟨h0.trans ((val_main_v7_eq _ _).trans ?_), h1.trans ((val_main_v8_eq _ _).trans ?_), hrest⟩
  · rw [a0, a1]
    exact same2 m c
  · rw [a0, a1]
    exact same3 m c

end Cert.DownGrad

end
-- ==== Proof.OutGrad.lean ====
/- The gradient of the mixer's second weight: the kernel's two result arrays, entry by entry, are the reference's sum over the
   tokens. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.StableHlo.RunRead

@[expose] public section

set_option maxRecDepth 16384

noncomputable section

namespace Cert.OutGrad

open Idealize.ShloMosaic Idealize.ShloMosaic.TcCoe Idealize.SL.Sem Cert.Kernel5Ideal Cert.Kernel5Ideal.Gen

variable (m : (ℓ : Loc nD τ sig) → Buf (Elt Ideal) ℓ) (c : Dev nD)

/-- The tokens' activations. -/
abbrev acts : Vec Ideal S4096x1024 .bf16 := m ((c : Thread nD τ).loc main_arg0)

/-- The cotangents of the product. -/
abbrev cots : Vec Ideal S4096x1024 .bf16 := m ((c : Thread nD τ).loc main_arg1)

theorem index0 : ∀ t : Fin grid0.N, win0_0.index t 0 = 0 ∧ win0_0.index t 1 = t.val / 1 := by decide +kernel
theorem index1 : ∀ t : Fin grid0.N, win0_1.index t 0 = 0 ∧ win0_1.index t 1 = t.val % 1 := by decide +kernel
theorem index2 : ∀ t : Fin grid0.N, win0_2.index t 0 = t.val % 1 ∧ win0_2.index t 1 = t.val / 1 ∧ win0_2.index t 2 = 0 := by decide +kernel
theorem index3 : ∀ t : Fin grid0.N, win0_3.index t 0 = t.val % 1 ∧ win0_3.index t 1 = t.val / 1 ∧ win0_3.index t 2 = 0 := by decide +kernel
theorem size2 : ∀ t : Fin grid0.N, win0_2.xsize (grid0.coords t) 0 = 1 ∧ win0_2.xsize (grid0.coords t) 1 = 512 ∧ win0_2.xsize (grid0.coords t) 2 = 1024 := by decide +kernel
theorem size3 : ∀ t : Fin grid0.N, win0_3.xsize (grid0.coords t) 0 = 1 ∧ win0_3.xsize (grid0.coords t) 1 = 512 ∧ win0_3.xsize (grid0.coords t) 2 = 1024 := by decide +kernel

/-- The activations' block at a point: all tokens, a block of the columns. -/
theorem block0 (t : Fin cfg0.N) (n : Fin 4096) (k : Fin 512) (K : Fin 1024) (h : K.val = 512 * (t.val / 1) + k.val) :
    (iblk m c 0 t : Vec Ideal S4096x512 .bf16) (ix2 n k) = acts m c (ix2 n K) := by
  have i := index0 t
  unfold iblk
  rw [View.read_apply]
  refine congrArg (acts m c) (funext fun a => Fin.ext ?_)
  match a with
  | ⟨0, _⟩ => show win0_0.index t 0 * 4096 + 1 * n.val = n.val; rw [i.1]; omega
  | ⟨1, _⟩ => show win0_0.index t 1 * 512 + 1 * k.val = K.val; rw [i.2, h]; omega

/-- The cotangents' block at a point: all tokens, a block of the columns. -/
theorem block1 (t : Fin cfg0.N) (n : Fin 4096) (j : Fin 1024) (J : Fin 1024) (h : J.val = 1024 * (t.val % 1) + j.val) :
    (iblk m c 1 t : Vec Ideal S4096x1024 .bf16) (ix2 n j) = cots m c (ix2 n J) := by
  have i := index1 t
  unfold iblk
  rw [View.read_apply]
  refine congrArg (cots m c) (funext fun a => Fin.ext ?_)
  match a with
  | ⟨0, _⟩ => show win0_1.index t 0 * 4096 + 1 * n.val = n.val; rw [i.1]; omega
  | ⟨1, _⟩ => show win0_1.index t 1 * 1024 + 1 * j.val = J.val; rw [i.2, h]; omega

/-- The product of two blocks, at an entry. -/
theorem product (a : Vec Ideal S4096x512 .bf16) (b : Vec Ideal S4096x1024 .bf16) (k : Fin 512) (j : Fin 1024) :
    k0_pay1 (F := Ideal) a b (ix2 k j) = ∑ n : Fin 4096, a (ix2 n k) * b (ix2 n j) := by
  unfold k0_pay1
  pointwise

/-- A column of a part among all the columns. -/
def whole (s : Fin 1) (j : Fin 1024) : Fin 1024 := ⟨1024 * s.val + j.val, by omega⟩

/-- One entry of the gradient. -/
def grad (s : Fin 1) (k : Fin 1024) (j : Fin 1024) : EReal := ∑ n : Fin 4096, acts m c (ix2 n k) * cots m c (ix2 n (whole s j))

/-- The point that handles an entry. -/
def pointOf (s : Fin 1) (k : Fin 1024) : Fin cfg0.N := ⟨1 * (k.val / 512) + s.val / 1, by rw [show cfg0.N = 2 from N_0]; omega⟩

theorem loaded (t : Fin cfg0.N) (s : Fin 1) (k : Fin 1024) (j : Fin 1024) (ht : t.val = 1 * (k.val / 512) + s.val / 1) (h : k.val % 512 < 512)
    (hj : 1024 * (s.val % 1) + j.val < 1024) :
    k0_pay1 (F := Ideal) (View.ld (iblk m c 0 t) r0_0) (View.ld (iblk m c 1 t) r0_1) (ix2 ⟨k.val % 512, h⟩ ⟨1024 * (s.val % 1) + j.val, hj⟩) = grad m c s k j := by
  have hs := s.isLt
  rw [product]
  refine Finset.sum_congr rfl fun n _ => ?_
  refine congr (congrArg HMul.hMul ?_) ?_
  · refine Eq.trans (congrArg (iblk m c 0 t) (funext fun a => Fin.ext ?_)) (block0 m c t n ⟨k.val % 512, h⟩ k (by show k.val = 512 * (t.val / 1) + k.val % 512; omega))
    match a with
    | ⟨0, _⟩ => show 0 + 1 * n.val = n.val; omega
    | ⟨1, _⟩ => show 0 + 1 * (k.val % 512) = k.val % 512; omega
  · refine Eq.trans (congrArg (iblk m c 1 t) (funext fun a => Fin.ext ?_)) (block1 m c t n ⟨1024 * (s.val % 1) + j.val, hj⟩ (whole s j) (by show 1024 * s.val + j.val = 1024 * (t.val % 1) + (1024 * (s.val % 1) + j.val); omega))
    match a with
    | ⟨0, _⟩ => show 0 + 1 * n.val = n.val; omega
    | ⟨1, _⟩ => show 0 + 1 * (1024 * (s.val % 1) + j.val) = 1024 * (s.val % 1) + j.val; omega

theorem final2 (s : Fin 1) (k : Fin 1024) (j : Fin 1024) : (dats m 0 c).arrAt 2 cfg0.N (ix3 s k j) = grad m c s k j := by
  have hk := k.isLt
  have hs := s.isLt
  have hjl := j.isLt
  have hj : 1024 * (s.val % 1) + j.val < 1024 := by omega
  have hg : s.val % 1 < 1 := by omega
  have hkm : k.val % 512 < 512 := by omega
  obtain ⟨t, ht⟩ : ∃ t, t = pointOf s k := ⟨_, rfl⟩
  have htv : t.val = 1 * (k.val / 512) + s.val / 1 := by rw [ht]; rfl
  have b := Value.blocks2 m c t (flush0_2 t)
  have z := size2 t
  have i := index2 t
  let y : ((cfg0.win 2).xblock (grid0.coords t)).Idx := fun a => match a with
    | ⟨0, _⟩ => ⟨s.val % 1, by show _ < win0_2.xsize (grid0.coords t) 0; rw [z.1]; omega⟩
    | ⟨1, _⟩ => ⟨k.val % 512, by show _ < win0_2.xsize (grid0.coords t) 1; rw [z.2.1]; omega⟩
    | ⟨2, _⟩ => ⟨j.val, by show _ < win0_2.xsize (grid0.coords t) 2; rw [z.2.2]; omega⟩
  have e := congrFun b y
  rw [View.read_apply, Value.flushed2] at e
  have ey : ((cfg0.win 2).blk t).view.emb y = ix3 s k j := by
    funext a
    apply Fin.ext
    match a with
    | ⟨0, _⟩ => show win0_2.index t 0 * 1 + 1 * (s.val % 1) = s.val; rw [i.1]; omega
    | ⟨1, _⟩ => show win0_2.index t 1 * 512 + 1 * (k.val % 512) = k.val; rw [i.2.1]; omega
    | ⟨2, _⟩ => show win0_2.index t 2 * 1024 + 1 * j.val = j.val; rw [i.2.2]; omega
  rw [ey] at e
  refine e.trans ?_
  have ex : (cfg0.win 2).cut (grid0.coords t) (out0_2 (iblk m c 0 t) (iblk m c 1 t)) y = out0_2 (iblk m c 0 t) (iblk m c 1 t) (ix3 ⟨s.val % 1, hg⟩ ⟨k.val % 512, hkm⟩ j) := by
    refine congrArg (out0_2 (iblk m c 0 t) (iblk m c 1 t)) (funext fun a => Fin.ext ?_)
    match a with
    | ⟨0, _⟩ => rfl
    | ⟨1, _⟩ => rfl
    | ⟨2, _⟩ => rfl
  refine ex.trans ((Value.canon2_eq _ _ _).trans (Eq.trans (congrArg (k0_pay1 (F := Ideal) (View.ld (iblk m c 0 t) r0_0) (View.ld (iblk m c 1 t) r0_1)) (funext fun a => ?_)) (loaded m c t s k j htv hkm hj)))
  match a with
  | ⟨0, _⟩ => rfl
  | ⟨1, _⟩ => exact Fin.ext (by show j.val = 1024 * (s.val % 1) + j.val; omega)

theorem final3 (s : Fin 1) (k : Fin 1024) (j : Fin 1024) : (dats m 0 c).arrAt 3 cfg0.N (ix3 s k j) = grad m c s k j := by
  have hk := k.isLt
  have hs := s.isLt
  have hjl := j.isLt
  have hj : 1024 * (s.val % 1) + j.val < 1024 := by omega
  have hg : s.val % 1 < 1 := by omega
  have hkm : k.val % 512 < 512 := by omega
  obtain ⟨t, ht⟩ : ∃ t, t = pointOf s k := ⟨_, rfl⟩
  have htv : t.val = 1 * (k.val / 512) + s.val / 1 := by rw [ht]; rfl
  have b := Value.blocks3 m c t (flush0_3 t)
  have z := size3 t
  have i := index3 t
  let y : ((cfg0.win 3).xblock (grid0.coords t)).Idx := fun a => match a with
    | ⟨0, _⟩ => ⟨s.val % 1, by show _ < win0_3.xsize (grid0.coords t) 0; rw [z.1]; omega⟩
    | ⟨1, _⟩ => ⟨k.val % 512, by show _ < win0_3.xsize (grid0.coords t) 1; rw [z.2.1]; omega⟩
    | ⟨2, _⟩ => ⟨j.val, by show _ < win0_3.xsize (grid0.coords t) 2; rw [z.2.2]; omega⟩
  have e := congrFun b y
  rw [View.read_apply, Value.flushed3] at e
  have ey : ((cfg0.win 3).blk t).view.emb y = ix3 s k j := by
    funext a
    apply Fin.ext
    match a with
    | ⟨0, _⟩ => show win0_3.index t 0 * 1 + 1 * (s.val % 1) = s.val; rw [i.1]; omega
    | ⟨1, _⟩ => show win0_3.index t 1 * 512 + 1 * (k.val % 512) = k.val; rw [i.2.1]; omega
    | ⟨2, _⟩ => show win0_3.index t 2 * 1024 + 1 * j.val = j.val; rw [i.2.2]; omega
  rw [ey] at e
  refine e.trans ?_
  have ex : (cfg0.win 3).cut (grid0.coords t) (out0_3 (iblk m c 0 t) (iblk m c 1 t)) y = out0_3 (iblk m c 0 t) (iblk m c 1 t) (ix3 ⟨s.val % 1, hg⟩ ⟨k.val % 512, hkm⟩ j) := by
    refine congrArg (out0_3 (iblk m c 0 t) (iblk m c 1 t)) (funext fun a => Fin.ext ?_)
    match a with
    | ⟨0, _⟩ => rfl
    | ⟨1, _⟩ => rfl
    | ⟨2, _⟩ => rfl
  refine ex.trans ((Value.canon3_eq _ _ _).trans (Eq.trans (congrArg (k0_pay1 (F := Ideal) (View.ld (iblk m c 0 t) r0_0) (View.ld (iblk m c 1 t) r0_1)) (funext fun a => ?_)) (loaded m c t s k j htv hkm hj)))
  match a with
  | ⟨0, _⟩ => rfl
  | ⟨1, _⟩ => exact Fin.ext (by show j.val = 1024 * (s.val % 1) + j.val; omega)

open Cert.Reference5Ideal.Read

/-- The reference's gradient, the columns in their parts. -/
theorem ref_grad (x : Vec Ideal S4096x1024 .bf16) (d : Vec Ideal S4096x1024 .bf16) (s : Fin 1) (k : Fin 1024) (j : Fin 1024) :
    val_main_v7 (F := Ideal) x d (ix3 s k j) = ∑ n : Fin 4096, x (ix2 n k) * d (ix2 n (whole s j)) := by
  have hs := s.isLt
  have hk := k.isLt
  have hj := j.isLt
  rw [val_main_v7_apply, val_main_v6_apply, val_main_v5_apply, val_main_v4_apply]
  refine Finset.sum_congr rfl fun n _ => (mul_comm _ _).trans (congr (congrArg HMul.hMul (congrArg x (funext fun a => Fin.ext ?_))) (congrArg d (funext fun a => Fin.ext ?_)))
  · match a with
    | ⟨0, _⟩ => rfl
    | ⟨1, _⟩ => show ((k.val * 1 + s.val) * 1024 + j.val) / 1024 = k.val; omega
  · match a with
    | ⟨0, _⟩ => rfl
    | ⟨1, _⟩ => show ((k.val * 1 + s.val) * 1024 + j.val) % 1024 = 1024 * s.val + j.val; omega

/-- An index of a result by its three coordinates. -/
theorem entry (i : S1x1024x1024.Idx) : ∃ (s : Fin 1) (k : Fin 1024) (j : Fin 1024), i = ix3 s k j :=
  ⟨i 0, i 1, i 2, funext fun a => match a with | ⟨0, _⟩ => rfl | ⟨1, _⟩ => rfl | ⟨2, _⟩ => rfl⟩

theorem same2 : val_main_v7 (F := Ideal) (acts m c) (cots m c) = (dats m 0 c).arrAt 2 cfg0.N := by
  refine funext fun (i : S1x1024x1024.Idx) => ?_
  obtain ⟨s, k, j, rfl⟩ := entry i
  exact (ref_grad _ _ s k j).trans (final2 m c s k j).symm

theorem same3 : val_main_v8 (F := Ideal) (acts m c) (cots m c) = (dats m 0 c).arrAt 3 cfg0.N := by
  refine funext fun (i : S1x1024x1024.Idx) => ?_
  obtain ⟨s, k, j, rfl⟩ := entry i
  exact ((val_main_v8_apply _ _ _).trans (ref_grad _ _ s k j)).trans (final3 m c s k j).symm

/-- The value claim: both copies of the gradient are the reference's. -/
theorem algebraic : Cert.algebraic_Kernel5Ideal_Reference5Ideal := by
  intro m g m' g' _ hagree
  refine ⟨_, _, Value.run_blocks m g, ?_⟩
  refine (θ_run _ _ _).mono (fun _ h c => ?_) (Cert.Reference5Ideal.Value.run (F := Ideal) m' g')
  obtain ⟨a0, a1⟩ := hagree c
  obtain ⟨h0, h1, hrest⟩ := h c
  refine ⟨h0.trans ((val_main_v7_eq _ _).trans ?_), h1.trans ((val_main_v8_eq _ _).trans ?_), hrest⟩
  · rw [a0, a1]
    exact same2 m c
  · rw [a0, a1]
    exact same3 m c

end Cert.OutGrad

end
-- ==== Proof.Gate.lean ====
/- The feed-forward's gate on single numbers: one product through x/(1+exp(-x)), times another, and the derivatives by both. -/
module

public import proofs.«01_k».proof.Proof.Scalars
public import proofs.«01_k».proof.Proof.HeadRead
public import proofs.«01_k».proof.Proof.Finite

@[expose] public section

noncomputable section

namespace Cert.Gate

open Idealize.ShloMosaic Cert.Hgrn

theorem zero_word : Ideal.ofBits FTy.f32 0x00000000#32 = ((0 : ℝ) : EReal) := by
  have sign : ¬BitVec.extractLsb' 31 1 0x00000000#32 = 1#1 := by decide
  norm_num [Ideal.ofBits, Ideal.ieee, Nat.shiftRight_eq_div_pow, sign]

theorem one_word : Ideal.ofBits FTy.f32 0x3F800000#32 = ((1 : ℝ) : EReal) := by
  have sign : ¬BitVec.extractLsb' 31 1 0x3F800000#32 = 1#1 := by decide
  norm_num [Ideal.ofBits, Ideal.ieee, Nat.shiftRight_eq_div_pow, sign]

/-- An entry that is a real number. -/
def IsReal (x : EReal) : Prop := x = ((x.toReal : ℝ) : EReal)

theorem isReal_coe (r : ℝ) : IsReal (r : EReal) := by
  unfold IsReal
  rw [EReal.toReal_coe]

/-- A comparison of the precondition, read. -/
theorem isReal_of_bit (a : EReal) (q : BitVec.ofBool (decide (max a (-a) < Ideal.ofBits FTy.f32 0x7F800000#32)) = 1#1) : IsReal a := by
  rw [top_word] at q
  refine real_of_abs a ?_
  by_contra n
  rw [decide_eq_false n] at q
  exact absurd q (by decide)

/-- A sum of products of real numbers is real. -/
theorem isReal_dot {ι : Type} [Fintype ι] (f g : ι → EReal) (hf : ∀ i, IsReal (f i)) (hg : ∀ i, IsReal (g i)) : IsReal (∑ i, f i * g i) := by
  have e : ∑ i, f i * g i = ((∑ i, (f i).toReal * (g i).toReal : ℝ) : EReal) := by
    rw [← coe_sum]
    refine Finset.sum_congr rfl fun i _ => ?_
    rw [EReal.coe_mul, ← hf, ← hg]
  rw [e]
  exact isReal_coe _

/-- The logistic function, as both programs spell it. -/
def logi (x : EReal) : EReal := Ideal.div ((1 : ℝ) : EReal) (((1 : ℝ) : EReal) + Ideal.exp (-x))

theorem logi_coe (x : ℝ) : logi (x : EReal) = ((sgR x : ℝ) : EReal) := logistic_coe x

/-- The derivative of the gate by its first argument, the kernel's way and the derivative rule's. -/
theorem grad_first (a u : EReal) (ha : IsReal a) (hu : IsReal u) :
    u * logi a * (((1 : ℝ) : EReal) + a * (((1 : ℝ) : EReal) - logi a))
      = ((1 : ℝ) : EReal) * u * logi a + a * (((1 : ℝ) : EReal) * u) * (logi a * (((1 : ℝ) : EReal) - logi a)) := by
  rw [ha, hu, logi_coe]
  norm_cast
  ring

end Cert.Gate

end
-- ==== Proof.GateUp.lean ====
/- The feed-forward's gate: the kernel multiplies a block of tokens by two matched slabs of the weight, kept side by side
   in a buffer for all blocks of tokens, and writes the gated product and its two derivatives. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite6
public import proofs.«01_k».proof.Proof.Gate
public import Idealize.ShloMosaic.Lib.Pointwise
public import Idealize.ShloMosaic.Lib.StableHlo.RunRead

@[expose] public section

set_option maxRecDepth 16384

noncomputable section

namespace Cert.GateUp

open Idealize.ShloMosaic Idealize.ShloMosaic.TcCoe Idealize.SL.Sem Cert.Kernel6Ideal Cert.Kernel6Ideal.Gen Cert.Gate

variable {F : FTy → Type} [FloatOps F]

/-- Offsets zero on two axes. -/
theorem zero2 : (![0, 0] : Fin 2 → ℕ) = fun _ => 0 := funext fun a => by fin_cases a <;> rfl
theorem zero3 : (![0, 0, 0] : Fin 3 → ℕ) = fun _ => 0 := funext fun a => by fin_cases a <;> rfl

/-- The two slabs side by side. -/
def pair (wa wu : Vec F S1x1024x1408 .bf16) : List (View.Piece (Elt F) S1024x2816 .bf16) :=
  [⟨Rect.unit (s := S1024x2816) ![0, 1408] S1024x1408.size inb_S1024x2816_S1024x1408_0_1408, k0_pay2 wu⟩,
   ⟨Rect.unit (s := S1024x2816) ![0, 0] S1024x1408.size inb_S1024x2816_S1024x1408_0_0, k0_pay1 wa⟩]

/-- A store of a whole block leaves the block. -/
theorem stored (inb) (w : S1024x1408.Idx → Elt F .bf16) :
    View.canon [(⟨Rect.unit (s := S1024x1408) ![0, 0] ![1024, 1408] inb, w⟩ : View.Piece (Elt F) S1024x1408 .bf16)] = w :=
  View.canon_cons_unit_zero (S := S1024x1408) zero2 inb w []

/-- The whole buffer, read after its stores. -/
theorem reloaded (v : View sig .tc .vmem S1024x2816 .bf16) (inb) (L : List (View.Piece (Elt F) S1024x2816 .bf16)) :
    v.readCov L (Rect.unit (s := S1024x2816) ![0, 0] ![1024, 2816] inb).toLoadRect = View.canon L :=
  (View.readCov_eq_canon' v L _).trans (View.ld_unit_zero (S := S1024x2816) (off := ![0, 0]) zero2 inb (View.canon L))

section Points

variable (c : Dev nD) (i : grid0.Coords) (arg2 : Memref sig .tc .vmem S1024x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1024x2816 .bf16) (harg8 : arg8.IsWhole)
  (x0 : Vec F S1024x1024 .bf16) (x1 x2 : Vec F S1x1024x1408 .bf16)

theorem held_A (hc0 : cond0_0 i) :
    sout0_A_0 c i arg2 harg2 arg3 harg3 arg4 harg4 arg5 harg5 arg6 harg6 arg7 harg7 arg8 harg8 hc0 x0 x1 x2 = View.canon (pair x1 x2) := by
  unfold sout0_A_0 kernelRun0_A
  dsimp only
  sl_unfold_words
  refine (View.read_writes_junk_eq_canon _ _).trans ?_
  simp only [View.readAt_eq_ld, harg3.read_unread, harg4.read_unread, View.ld_unit_zero (S := S1x1024x1408) (off := ![0, 0, 0]) zero3]
  rfl

theorem block3_A (hc0 : cond0_0 i) :
    out0_A_3 c i arg2 harg2 arg3 harg3 arg4 harg4 arg5 harg5 arg6 harg6 arg7 harg7 arg8 harg8 hc0 x0 x1 x2 = k0_pay8 x0 (View.canon (pair x1 x2)) := by
  unfold out0_A_3 kernelRun0_A
  dsimp only
  sl_unfold_words
  simp only [View.readAt_eq_ld, harg2.read_unread, harg3.read_unread, harg4.read_unread, View.ld_unit_zero (S := S1x1024x1408) (off := ![0, 0, 0]) zero3,
    View.ld_unit_zero (S := S1024x1024) (off := ![0, 0]) zero2, reloaded]
  exact (View.read_writes_junk_eq_canon _ _).trans (stored _ _)

theorem block4_A (hc0 : cond0_0 i) :
    out0_A_4 c i arg2 harg2 arg3 harg3 arg4 harg4 arg5 harg5 arg6 harg6 arg7 harg7 arg8 harg8 hc0 x0 x1 x2 = k0_pay9 x0 (View.canon (pair x1 x2)) := by
  unfold out0_A_4 kernelRun0_A
  dsimp only
  sl_unfold_words
  simp only [View.readAt_eq_ld, harg2.read_unread, harg3.read_unread, harg4.read_unread, View.ld_unit_zero (S := S1x1024x1408) (off := ![0, 0, 0]) zero3,
    View.ld_unit_zero (S := S1024x1024) (off := ![0, 0]) zero2, reloaded]
  exact (View.read_writes_junk_eq_canon _ _).trans (stored _ _)

theorem block5_A (hc0 : cond0_0 i) :
    out0_A_5 c i arg2 harg2 arg3 harg3 arg4 harg4 arg5 harg5 arg6 harg6 arg7 harg7 arg8 harg8 hc0 x0 x1 x2 = k0_pay10 x0 (View.canon (pair x1 x2)) := by
  unfold out0_A_5 kernelRun0_A
  dsimp only
  sl_unfold_words
  simp only [View.readAt_eq_ld, harg2.read_unread, harg3.read_unread, harg4.read_unread, View.ld_unit_zero (S := S1x1024x1408) (off := ![0, 0, 0]) zero3,
    View.ld_unit_zero (S := S1024x1024) (off := ![0, 0]) zero2, reloaded]
  exact (View.read_writes_junk_eq_canon _ _).trans (stored _ _)

variable (xs : Vec F S1024x2816 .bf16)

theorem block3_B (hc0 : ¬cond0_0 i) :
    out0_B_3 c i arg2 harg2 arg3 harg3 arg4 harg4 arg5 harg5 arg6 harg6 arg7 harg7 arg8 harg8 hc0 x0 x1 x2 xs = k0_pay8 x0 xs := by
  unfold out0_B_3 kernelRun0_B
  dsimp only
  sl_unfold_words
  refine (View.read_writes_junk_eq_canon _ _).trans ((stored _ _).trans ?_)
  simp only [View.readAt_eq_ld, harg2.read_unread, harg8.read_unread, View.ld_unit_zero (S := S1024x2816) (off := ![0, 0]) zero2,
    View.ld_unit_zero (S := S1024x1024) (off := ![0, 0]) zero2]

theorem block4_B (hc0 : ¬cond0_0 i) :
    out0_B_4 c i arg2 harg2 arg3 harg3 arg4 harg4 arg5 harg5 arg6 harg6 arg7 harg7 arg8 harg8 hc0 x0 x1 x2 xs = k0_pay9 x0 xs := by
  unfold out0_B_4 kernelRun0_B
  dsimp only
  sl_unfold_words
  refine (View.read_writes_junk_eq_canon _ _).trans ((stored _ _).trans ?_)
  simp only [View.readAt_eq_ld, harg2.read_unread, harg8.read_unread, View.ld_unit_zero (S := S1024x2816) (off := ![0, 0]) zero2,
    View.ld_unit_zero (S := S1024x1024) (off := ![0, 0]) zero2]

theorem block5_B (hc0 : ¬cond0_0 i) :
    out0_B_5 c i arg2 harg2 arg3 harg3 arg4 harg4 arg5 harg5 arg6 harg6 arg7 harg7 arg8 harg8 hc0 x0 x1 x2 xs = k0_pay10 x0 xs := by
  unfold out0_B_5 kernelRun0_B
  dsimp only
  sl_unfold_words
  refine (View.read_writes_junk_eq_canon _ _).trans ((stored _ _).trans ?_)
  simp only [View.readAt_eq_ld, harg2.read_unread, harg8.read_unread, View.ld_unit_zero (S := S1024x2816) (off := ![0, 0]) zero2,
    View.ld_unit_zero (S := S1024x1024) (off := ![0, 0]) zero2]

end Points

variable (m : (ℓ : Loc nD τ sig) → Buf (Elt Ideal) ℓ) (c : Dev nD)

/-- The tokens' activations. -/
abbrev acts : Vec Ideal S4096x1024 .bf16 := m ((c : Thread nD τ).loc main_arg0)

/-- The weight's four slabs. -/
abbrev slabs : Vec Ideal S4x1024x1408 .bf16 := m ((c : Thread nD τ).loc main_arg1)

theorem index0 : ∀ t : Fin grid0.N, win0_0.index t 0 = t.val % 4 ∧ win0_0.index t 1 = 0 := by decide +kernel
theorem index1 : ∀ t : Fin grid0.N, win0_1.index t 0 = t.val / 4 ∧ win0_1.index t 1 = 0 ∧ win0_1.index t 2 = 0 := by decide +kernel
theorem index2 : ∀ t : Fin grid0.N, win0_2.index t 0 = t.val / 4 + 2 ∧ win0_2.index t 1 = 0 ∧ win0_2.index t 2 = 0 := by decide +kernel
theorem index3 : ∀ t : Fin grid0.N, win0_3.index t 0 = t.val % 4 ∧ win0_3.index t 1 = t.val / 4 := by decide +kernel
theorem index4 : ∀ t : Fin grid0.N, win0_4.index t 0 = t.val % 4 ∧ win0_4.index t 1 = t.val / 4 := by decide +kernel
theorem index5 : ∀ t : Fin grid0.N, win0_5.index t 0 = t.val % 4 ∧ win0_5.index t 1 = t.val / 4 := by decide +kernel
theorem size3 : ∀ t : Fin grid0.N, win0_3.xsize (grid0.coords t) 0 = 1024 ∧ win0_3.xsize (grid0.coords t) 1 = 1408 := by decide +kernel
theorem size4 : ∀ t : Fin grid0.N, win0_4.xsize (grid0.coords t) 0 = 1024 ∧ win0_4.xsize (grid0.coords t) 1 = 1408 := by decide +kernel
theorem size5 : ∀ t : Fin grid0.N, win0_5.xsize (grid0.coords t) 0 = 1024 ∧ win0_5.xsize (grid0.coords t) 1 = 1408 := by decide +kernel

theorem block0 (t : Fin cfg0.N) (r : Fin 1024) (k : Fin 1024) (R : Fin 4096) (h : R.val = 1024 * (t.val % 4) + r.val) :
    (iblk m c 0 t : Vec Ideal S1024x1024 .bf16) (ix2 r k) = acts m c (ix2 R k) := by
  have i := index0 t
  unfold iblk
  rw [View.read_apply]
  refine congrArg (acts m c) (funext fun a => Fin.ext ?_)
  match a with
  | ⟨0, _⟩ => show win0_0.index t 0 * 1024 + 1 * r.val = R.val; rw [i.1, h]; omega
  | ⟨1, _⟩ => show win0_0.index t 1 * 1024 + 1 * k.val = k.val; rw [i.2]; omega

theorem block1 (t : Fin cfg0.N) (k : Fin 1024) (j : Fin 1408) (s : Fin 4) (h : s.val = t.val / 4) :
    (iblk m c 1 t : Vec Ideal S1x1024x1408 .bf16) (ix3 0 k j) = slabs m c (ix3 s k j) := by
  have i := index1 t
  unfold iblk
  rw [View.read_apply]
  refine congrArg (slabs m c) (funext fun a => Fin.ext ?_)
  match a with
  | ⟨0, _⟩ => show win0_1.index t 0 * 1 + 1 * 0 = s.val; rw [i.1, h]; omega
  | ⟨1, _⟩ => show win0_1.index t 1 * 1024 + 1 * k.val = k.val; rw [i.2.1]; omega
  | ⟨2, _⟩ => show win0_1.index t 2 * 1408 + 1 * j.val = j.val; rw [i.2.2]; omega

theorem block2 (t : Fin cfg0.N) (k : Fin 1024) (j : Fin 1408) (s : Fin 4) (h : s.val = t.val / 4 + 2) :
    (iblk m c 2 t : Vec Ideal S1x1024x1408 .bf16) (ix3 0 k j) = slabs m c (ix3 s k j) := by
  have i := index2 t
  unfold iblk
  rw [View.read_apply]
  refine congrArg (slabs m c) (funext fun a => Fin.ext ?_)
  match a with
  | ⟨0, _⟩ => show win0_2.index t 0 * 1 + 1 * 0 = s.val; rw [i.1, h]; omega
  | ⟨1, _⟩ => show win0_2.index t 1 * 1024 + 1 * k.val = k.val; rw [i.2.1]; omega
  | ⟨2, _⟩ => show win0_2.index t 2 * 1408 + 1 * j.val = j.val; rw [i.2.2]; omega

/-- The buffer holds slabs `s` and `s + 2`. -/
def Holds (x : Vec Ideal S1024x2816 .bf16) (s : Fin 2) : Prop :=
  (∀ (k : Fin 1024) (j : Fin 1408), x (ix2 k ⟨j.val, by omega⟩) = slabs m c (ix3 ⟨s.val, by omega⟩ k j))
    ∧ ∀ (k : Fin 1024) (j : Fin 1408), x (ix2 k ⟨1408 + j.val, by omega⟩) = slabs m c (ix3 ⟨s.val + 2, by omega⟩ k j)

theorem pair_low (wa wu : Vec Ideal S1x1024x1408 .bf16) (k : Fin 1024) (j : Fin 1408) :
    View.canon (pair wa wu) (ix2 k ⟨j.val, by omega⟩) = wa (ix3 0 k j) := by
  have hj := j.isLt
  unfold pair
  rw [View.canon_cons_of_not_mem]
  · have e : (ix2 k ⟨j.val, by omega⟩ : S1024x2816.Idx) = (Rect.unit (s := S1024x2816) ![0, 0] S1024x1408.size inb_S1024x2816_S1024x1408_0_0).emb (ix2 k j) :=
      funext fun a => Fin.ext (match a with
        | ⟨0, _⟩ => by show k.val = 0 + 1 * k.val; omega
        | ⟨1, _⟩ => by show j.val = 0 + 1 * j.val; omega)
    rw [e, View.canon_cons_emb]
    unfold k0_pay1
    pointwise
  · rw [Rect.mem_set_unit]
    intro h
    have h1 : 1408 ≤ j.val := (h 1).1
    omega

theorem pair_high (wa wu : Vec Ideal S1x1024x1408 .bf16) (k : Fin 1024) (j : Fin 1408) :
    View.canon (pair wa wu) (ix2 k ⟨1408 + j.val, by omega⟩) = wu (ix3 0 k j) := by
  unfold pair
  have e : (ix2 k ⟨1408 + j.val, by omega⟩ : S1024x2816.Idx) = (Rect.unit (s := S1024x2816) ![0, 1408] S1024x1408.size inb_S1024x2816_S1024x1408_0_1408).emb (ix2 k j) :=
    funext fun a => Fin.ext (match a with
      | ⟨0, _⟩ => by show k.val = 0 + 1 * k.val; omega
      | ⟨1, _⟩ => by show 1408 + j.val = 1408 + 1 * j.val; omega)
  rw [e, View.canon_cons_emb]
  unfold k0_pay2
  pointwise

theorem pair_holds (t : Fin cfg0.N) (s : Fin 2) (h : s.val = t.val / 4) : Holds m c (View.canon (pair (iblk m c 1 t) (iblk m c 2 t))) s :=
  ⟨fun k j => (pair_low _ _ k j).trans (block1 m c t k j ⟨s.val, by omega⟩ h),
   fun k j => (pair_high _ _ k j).trans (block2 m c t k j ⟨s.val + 2, by omega⟩ (by show s.val + 2 = _; omega))⟩

/-- What a point leaves: the three blocks over a buffer with the two slabs, and that buffer. -/
def Left (n : ℕ) (t : Fin cfg0.N) (o : Vec Ideal S1024x1408 .bf16 × Vec Ideal S1024x1408 .bf16 × Vec Ideal S1024x1408 .bf16 × Vec Ideal S1024x2816 .bf16) : Prop :=
  (∀ s : Fin 2, s.val = n / 4 → Holds m c o.2.2.2 s) ∧ o.1 = k0_pay8 (iblk m c 0 t) o.2.2.2 ∧ o.2.1 = k0_pay9 (iblk m c 0 t) o.2.2.2 ∧ o.2.2.1 = k0_pay10 (iblk m c 0 t) o.2.2.2

theorem left : ∀ (n : ℕ) (h : n < cfg0.N), Left m c n ⟨n, h⟩ (outsAt0 m c n h) := by
  have first : ∀ (n : ℕ) (h : n < cfg0.N), n % 4 = 0 → Left m c n ⟨n, h⟩ (outsAt0 m c n h) := by
    intro n h e
    rw [outsAt0_A m c ⟨n, h⟩ e]
    refine ⟨fun s hs => ?_, ?_, ?_, ?_⟩ <;> dsimp only
    · rw [held_A]; exact pair_holds m c ⟨n, h⟩ s hs
    · rw [block3_A, held_A]
    · rw [block4_A, held_A]
    · rw [block5_A, held_A]
  intro n
  induction n with
  | zero => intro h; exact first 0 h rfl
  | succ n ih =>
    intro h
    by_cases e : (n + 1) % 4 = 0
    · exact first (n + 1) h e
    · have q := (ih (Nat.lt_of_succ_lt h)).1
      rw [outsAt0_B m c ⟨n + 1, h⟩ e]
      refine ⟨fun s hs => ?_, ?_, ?_, ?_⟩ <;> dsimp only
      · exact q s (by omega)
      · exact block3_B ..
      · exact block4_B ..
      · exact block5_B ..

/-! ## Entries -/

/-- A product of a token with a column of a slab. -/
def dotAt (R : Fin 4096) (s : Fin 4) (j : Fin 1408) : EReal := ∑ k : Fin 1024, acts m c (ix2 R k) * slabs m c (ix3 s k j)

/-- The three entries: the derivatives by the first and the second product, and the gated product. -/
def firstAt (R : Fin 4096) (s : Fin 2) (j : Fin 1408) : EReal :=
  dotAt m c R ⟨s.val + 2, by omega⟩ j * logi (dotAt m c R ⟨s.val, by omega⟩ j)
    * (((1 : ℝ) : EReal) + dotAt m c R ⟨s.val, by omega⟩ j * (((1 : ℝ) : EReal) - logi (dotAt m c R ⟨s.val, by omega⟩ j)))
def secondAt (R : Fin 4096) (s : Fin 2) (j : Fin 1408) : EReal := dotAt m c R ⟨s.val, by omega⟩ j * logi (dotAt m c R ⟨s.val, by omega⟩ j)
def gatedAt (R : Fin 4096) (s : Fin 2) (j : Fin 1408) : EReal := secondAt m c R s j * dotAt m c R ⟨s.val + 2, by omega⟩ j

section Entry

variable {m c} {x0 : Vec Ideal S1024x1024 .bf16} {xs : Vec Ideal S1024x2816 .bf16} {s : Fin 2} {r : Fin 1024} {R : Fin 4096}
  (hx : ∀ k : Fin 1024, x0 (ix2 r k) = acts m c (ix2 R k)) (hs : Holds m c xs s) (j : Fin 1408)
include hx hs

theorem pay4_at : k0_pay4 (F := Ideal) x0 xs (ix2 r j) = dotAt m c R ⟨s.val, by omega⟩ j := by
  unfold k0_pay4 k0_pay3
  pointwise
  exact Finset.sum_congr rfl fun k _ => congr (congrArg HMul.hMul (hx k)) (hs.1 k j)

theorem pay5_at : k0_pay5 (F := Ideal) x0 xs (ix2 r j) = dotAt m c R ⟨s.val + 2, by omega⟩ j := by
  unfold k0_pay5 k0_pay3
  pointwise
  exact Finset.sum_congr rfl fun k _ => congr (congrArg HMul.hMul (hx k)) (hs.2 k j)

theorem pay6_at : k0_pay6 (F := Ideal) x0 xs (ix2 r j) = logi (dotAt m c R ⟨s.val, by omega⟩ j) := by
  unfold k0_pay6
  pointwise
  rw [pay4_at hx hs j, zero_sub]
  rfl

theorem pay8_at : k0_pay8 (F := Ideal) x0 xs (ix2 r j) = firstAt m c R s j := by
  unfold k0_pay8
  pointwise
  rw [pay4_at hx hs j, pay5_at hx hs j, pay6_at hx hs j]
  rfl

theorem pay7_at : k0_pay7 (F := Ideal) x0 xs (ix2 r j) = secondAt m c R s j := by
  unfold k0_pay7
  pointwise
  rw [pay4_at hx hs j, pay6_at hx hs j]
  rfl

theorem pay9_at : k0_pay9 (F := Ideal) x0 xs (ix2 r j) = secondAt m c R s j := by
  unfold k0_pay9
  pointwise
  exact pay7_at hx hs j

theorem pay10_at : k0_pay10 (F := Ideal) x0 xs (ix2 r j) = gatedAt m c R s j := by
  unfold k0_pay10
  pointwise
  rw [pay7_at hx hs j, pay5_at hx hs j]
  rfl

end Entry

/-- A column among all the columns. -/
def whole (s : Fin 2) (j : Fin 1408) : Fin 2816 := ⟨1408 * s.val + j.val, by omega⟩

/-- The point that handles an entry. -/
def pointOf (R : Fin 4096) (s : Fin 2) : Fin cfg0.N := ⟨4 * s.val + R.val / 1024, by rw [show cfg0.N = 8 from N_0]; omega⟩

theorem final3 (R : Fin 4096) (s : Fin 2) (j : Fin 1408) : (dats m 0 c).arrAt 3 cfg0.N (ix2 R (whole s j)) = firstAt m c R s j := by
  have hR := R.isLt
  have hs := s.isLt
  have hr : R.val % 1024 < 1024 := by omega
  obtain ⟨t, ht⟩ : ∃ t, t = pointOf R s := ⟨_, rfl⟩
  have htv : t.val = 4 * s.val + R.val / 1024 := by rw [ht]; rfl
  have z := size3 t
  have i := index3 t
  let y : ((cfg0.win 3).xblock (grid0.coords t)).Idx := fun a => match a with
    | ⟨0, _⟩ => ⟨R.val % 1024, by show _ < win0_3.xsize (grid0.coords t) 0; rw [z.1]; omega⟩
    | ⟨1, _⟩ => ⟨j.val, by show _ < win0_3.xsize (grid0.coords t) 1; rw [z.2]; omega⟩
  have e := congrFun (Value.blocks3 m c t (flush0_3 t)) y
  rw [View.read_apply, Value.flushed3] at e
  have ey : ((cfg0.win 3).blk t).view.emb y = ix2 R (whole s j) := by
    funext a
    apply Fin.ext
    match a with
    | ⟨0, _⟩ => show win0_3.index t 0 * 1024 + 1 * (R.val % 1024) = R.val; rw [i.1]; omega
    | ⟨1, _⟩ => show win0_3.index t 1 * 1408 + 1 * j.val = 1408 * s.val + j.val; rw [i.2]; omega
  rw [ey] at e
  obtain ⟨q, q3, q4, q5⟩ := left m c t.val t.isLt
  have ex : (cfg0.win 3).cut (grid0.coords t) (outsAt0 m c t.val t.isLt).1 y = (outsAt0 m c t.val t.isLt).1 (ix2 ⟨R.val % 1024, hr⟩ j) := by
    refine congrArg (outsAt0 m c t.val t.isLt).1 (funext fun a => Fin.ext ?_)
    match a with
    | ⟨0, _⟩ => rfl
    | ⟨1, _⟩ => rfl
  refine e.trans (ex.trans ((congrFun q3 _).trans (pay8_at (fun k => block0 m c t ⟨R.val % 1024, hr⟩ k R ?_) (q s ?_) j)))
  · show R.val = 1024 * (t.val % 4) + R.val % 1024
    omega
  · omega

theorem final4 (R : Fin 4096) (s : Fin 2) (j : Fin 1408) : (dats m 0 c).arrAt 4 cfg0.N (ix2 R (whole s j)) = secondAt m c R s j := by
  have hR := R.isLt
  have hs := s.isLt
  have hr : R.val % 1024 < 1024 := by omega
  obtain ⟨t, ht⟩ : ∃ t, t = pointOf R s := ⟨_, rfl⟩
  have htv : t.val = 4 * s.val + R.val / 1024 := by rw [ht]; rfl
  have z := size4 t
  have i := index4 t
  let y : ((cfg0.win 4).xblock (grid0.coords t)).Idx := fun a => match a with
    | ⟨0, _⟩ => ⟨R.val % 1024, by show _ < win0_4.xsize (grid0.coords t) 0; rw [z.1]; omega⟩
    | ⟨1, _⟩ => ⟨j.val, by show _ < win0_4.xsize (grid0.coords t) 1; rw [z.2]; omega⟩
  have e := congrFun (Value.blocks4 m c t (flush0_4 t)) y
  rw [View.read_apply, Value.flushed4] at e
  have ey : ((cfg0.win 4).blk t).view.emb y = ix2 R (whole s j) := by
    funext a
    apply Fin.ext
    match a with
    | ⟨0, _⟩ => show win0_4.index t 0 * 1024 + 1 * (R.val % 1024) = R.val; rw [i.1]; omega
    | ⟨1, _⟩ => show win0_4.index t 1 * 1408 + 1 * j.val = 1408 * s.val + j.val; rw [i.2]; omega
  rw [ey] at e
  obtain ⟨q, q3, q4, q5⟩ := left m c t.val t.isLt
  have ex : (cfg0.win 4).cut (grid0.coords t) (outsAt0 m c t.val t.isLt).2.1 y = (outsAt0 m c t.val t.isLt).2.1 (ix2 ⟨R.val % 1024, hr⟩ j) := by
    refine congrArg (outsAt0 m c t.val t.isLt).2.1 (funext fun a => Fin.ext ?_)
    match a with
    | ⟨0, _⟩ => rfl
    | ⟨1, _⟩ => rfl
  refine e.trans (ex.trans ((congrFun q4 _).trans (pay9_at (fun k => block0 m c t ⟨R.val % 1024, hr⟩ k R ?_) (q s ?_) j)))
  · show R.val = 1024 * (t.val % 4) + R.val % 1024
    omega
  · omega

theorem final5 (R : Fin 4096) (s : Fin 2) (j : Fin 1408) : (dats m 0 c).arrAt 5 cfg0.N (ix2 R (whole s j)) = gatedAt m c R s j := by
  have hR := R.isLt
  have hs := s.isLt
  have hr : R.val % 1024 < 1024 := by omega
  obtain ⟨t, ht⟩ : ∃ t, t = pointOf R s := ⟨_, rfl⟩
  have htv : t.val = 4 * s.val + R.val / 1024 := by rw [ht]; rfl
  have z := size5 t
  have i := index5 t
  let y : ((cfg0.win 5).xblock (grid0.coords t)).Idx := fun a => match a with
    | ⟨0, _⟩ => ⟨R.val % 1024, by show _ < win0_5.xsize (grid0.coords t) 0; rw [z.1]; omega⟩
    | ⟨1, _⟩ => ⟨j.val, by show _ < win0_5.xsize (grid0.coords t) 1; rw [z.2]; omega⟩
  have e := congrFun (Value.blocks5 m c t (flush0_5 t)) y
  rw [View.read_apply, Value.flushed5] at e
  have ey : ((cfg0.win 5).blk t).view.emb y = ix2 R (whole s j) := by
    funext a
    apply Fin.ext
    match a with
    | ⟨0, _⟩ => show win0_5.index t 0 * 1024 + 1 * (R.val % 1024) = R.val; rw [i.1]; omega
    | ⟨1, _⟩ => show win0_5.index t 1 * 1408 + 1 * j.val = 1408 * s.val + j.val; rw [i.2]; omega
  rw [ey] at e
  obtain ⟨q, q3, q4, q5⟩ := left m c t.val t.isLt
  have ex : (cfg0.win 5).cut (grid0.coords t) (outsAt0 m c t.val t.isLt).2.2.1 y = (outsAt0 m c t.val t.isLt).2.2.1 (ix2 ⟨R.val % 1024, hr⟩ j) := by
    refine congrArg (outsAt0 m c t.val t.isLt).2.2.1 (funext fun a => Fin.ext ?_)
    match a with
    | ⟨0, _⟩ => rfl
    | ⟨1, _⟩ => rfl
  refine e.trans (ex.trans ((congrFun q5 _).trans (pay10_at (fun k => block0 m c t ⟨R.val % 1024, hr⟩ k R ?_) (q s ?_) j)))
  · show R.val = 1024 * (t.val % 4) + R.val % 1024
    omega
  · omega

section Reference

open Cert.Reference6Ideal.Read

variable (x : Vec Ideal S4096x1024 .bf16) (w : Vec Ideal S4x1024x1408 .bf16)

theorem ref_first (R : Fin 4096) (s : Fin 2) (j : Fin 1408) :
    val_main_v5 (F := Ideal) x w (ix2 R (whole s j)) = ∑ k : Fin 1024, x (ix2 R k) * w (ix3 ⟨s.val, by omega⟩ k j) := by
  have hs := s.isLt
  have hj := j.isLt
  rw [val_main_v5_apply, val_main_v4_apply]
  refine Finset.sum_congr rfl fun k _ => ?_
  have hk := k.isLt
  rw [val_main_v0_apply, val_main_v3_apply, val_main_v2_apply, val_main_v1_apply]
  refine congr (congrArg HMul.hMul (congrArg x (funext fun a => Fin.ext ?_))) (congrArg w (funext fun a => Fin.ext ?_))
  · match a with
    | ⟨0, _⟩ => rfl
    | ⟨1, _⟩ => rfl
  · match a with
    | ⟨0, _⟩ => show (k.val * 5632 + (1408 * s.val + j.val)) / 1408 % 4 = s.val; omega
    | ⟨1, _⟩ => show (k.val * 5632 + (1408 * s.val + j.val)) / 5632 = k.val; omega
    | ⟨2, _⟩ => show (k.val * 5632 + (1408 * s.val + j.val)) % 1408 = j.val; omega

theorem ref_second (R : Fin 4096) (s : Fin 2) (j : Fin 1408) :
    val_main_v6 (F := Ideal) x w (ix2 R (whole s j)) = ∑ k : Fin 1024, x (ix2 R k) * w (ix3 ⟨s.val + 2, by omega⟩ k j) := by
  have hs := s.isLt
  have hj := j.isLt
  rw [val_main_v6_apply, val_main_v4_apply]
  refine Finset.sum_congr rfl fun k _ => ?_
  have hk := k.isLt
  rw [val_main_v0_apply, val_main_v3_apply, val_main_v2_apply, val_main_v1_apply]
  refine congr (congrArg HMul.hMul (congrArg x (funext fun a => Fin.ext ?_))) (congrArg w (funext fun a => Fin.ext ?_))
  · match a with
    | ⟨0, _⟩ => rfl
    | ⟨1, _⟩ => rfl
  · match a with
    | ⟨0, _⟩ => show (k.val * 5632 + (2816 + (1408 * s.val + j.val))) / 1408 % 4 = s.val + 2; omega
    | ⟨1, _⟩ => show (k.val * 5632 + (2816 + (1408 * s.val + j.val))) / 5632 = k.val; omega
    | ⟨2, _⟩ => show (k.val * 5632 + (2816 + (1408 * s.val + j.val))) % 1408 = j.val; omega

theorem ref_logistic (i : S4096x2816.Idx) : val_main_v7_2 (F := Ideal) x w i = logi (val_main_v5 (F := Ideal) x w i) := by
  rw [val_main_v7_2_apply, val_main_call0_v4_apply, val_main_call0_cst_0_apply, val_main_call0_v3_apply, val_main_call0_v2_apply, val_main_call0_cst_apply,
    val_main_call0_v1_apply, val_main_call0_v0_apply]
  show Ideal.div (Ideal.ofBits FTy.f32 0x3F800000#32) (Ideal.ofBits FTy.f32 0x3F800000#32 + Ideal.exp (-_)) = _
  rw [one_word]
  rfl

theorem ref_again (i : S4096x2816.Idx) : val_main_call2_v5 (F := Ideal) x w i = logi (val_main_v5 (F := Ideal) x w i) := by
  rw [val_main_call2_v5_apply, val_main_call2_v4_apply, val_main_call2_cst_0_apply, val_main_call2_v3_apply, val_main_call2_v2_apply, val_main_call2_cst_apply,
    val_main_call2_v1_apply, val_main_call2_v0_apply]
  show Ideal.div (Ideal.ofBits FTy.f32 0x3F800000#32) (Ideal.ofBits FTy.f32 0x3F800000#32 + Ideal.exp (-_)) = _
  rw [one_word]
  rfl

theorem ref_da (i : S4096x2816.Idx) : val_main_v13 (F := Ideal) x w i
    = ((1 : ℝ) : EReal) * val_main_v6 (F := Ideal) x w i * logi (val_main_v5 (F := Ideal) x w i)
      + val_main_v5 (F := Ideal) x w i * (((1 : ℝ) : EReal) * val_main_v6 (F := Ideal) x w i)
        * (logi (val_main_v5 (F := Ideal) x w i) * (((1 : ℝ) : EReal) - logi (val_main_v5 (F := Ideal) x w i))) := by
  rw [val_main_v13_apply, val_main_v12_apply, val_main_call1_v1_apply, val_main_call1_v2_apply, val_main_call1_v0_apply, val_main_v11_apply,
    val_main_v9_apply, val_main_cst_apply, val_main_v7_1_apply, val_main_call0_v7_apply, val_main_call0_v6_apply, val_main_call0_cst_1_apply, ref_logistic]
  show Ideal.ofBits FTy.f32 0x3F800000#32 * _ * _ + _ * (Ideal.ofBits FTy.f32 0x3F800000#32 * _) * (_ * (Ideal.ofBits FTy.f32 0x3F800000#32 - _)) = _
  rw [one_word]

theorem ref_du (i : S4096x2816.Idx) : val_main_v14 (F := Ideal) x w i = val_main_v5 (F := Ideal) x w i * logi (val_main_v5 (F := Ideal) x w i) := by
  rw [val_main_v14_apply, val_main_v10_apply, val_main_v7_0_apply, val_main_v9_apply, val_main_cst_apply, ref_logistic]
  show _ * _ * Ideal.ofBits FTy.f32 0x3F800000#32 = _
  rw [one_word, EReal.coe_one, mul_one]

theorem ref_act (i : S4096x2816.Idx) : val_main_v17 (F := Ideal) x w i
    = val_main_v5 (F := Ideal) x w i * logi (val_main_v5 (F := Ideal) x w i) * val_main_v6 (F := Ideal) x w i := by
  rw [val_main_v17_apply, val_main_v16_apply, val_main_v15_apply, ref_again]
  rfl

end Reference

/-- An index of a result by its row, its slab and its column there. -/
theorem entry (i : S4096x2816.Idx) : ∃ (R : Fin 4096) (s : Fin 2) (j : Fin 1408), i = ix2 R (whole s j) := by
  have h : (i 1).val < 2816 := (i 1).isLt
  refine ⟨i 0, ⟨(i 1).val / 1408, by omega⟩, ⟨(i 1).val % 1408, by omega⟩, funext fun a => Fin.ext ?_⟩
  match a with
  | ⟨0, _⟩ => rfl
  | ⟨1, _⟩ => show (i 1).val = 1408 * ((i 1).val / 1408) + (i 1).val % 1408; omega

/-- The precondition, read at every entry. -/
theorem finite_entries {x : Vec Ideal S4096x1024 .bf16} {w : Vec Ideal S4x1024x1408 .bf16} [Cert.Pre_finite6.Facts]
    (h : Cert.Pre_finite6.fn (F := Ideal) x w = fun _ => 1#1) : (∀ i, IsReal (x i)) ∧ ∀ i, IsReal (w i) := by
  have e := congrFun h (fun a => a.elim0)
  dsimp only [Cert.Pre_finite6.fn] at e
  obtain ⟨e₁, e₂⟩ := Cert.Hgrn.both_one _ _ e
  exact ⟨fun i => isReal_of_bit _ (Host.reduce_andi_all _ _ _ _ _ e₁ i), fun i => isReal_of_bit _ (Host.reduce_andi_all _ _ _ _ _ e₂ i)⟩

open Cert.Reference6Ideal.Read

theorem same3 (hx : ∀ i, IsReal (acts m c i)) (hw : ∀ i, IsReal (slabs m c i)) : val_main_v13 (F := Ideal) (acts m c) (slabs m c) = (dats m 0 c).arrAt 3 cfg0.N := by
  refine funext fun (i : S4096x2816.Idx) => ?_
  obtain ⟨R, s, j, rfl⟩ := entry i
  rw [ref_da, ref_first, ref_second]
  exact (grad_first _ _ (isReal_dot _ _ (fun _ => hx _) fun _ => hw _) (isReal_dot _ _ (fun _ => hx _) fun _ => hw _)).symm.trans (final3 m c R s j).symm

theorem same4 : val_main_v14 (F := Ideal) (acts m c) (slabs m c) = (dats m 0 c).arrAt 4 cfg0.N := by
  refine funext fun (i : S4096x2816.Idx) => ?_
  obtain ⟨R, s, j, rfl⟩ := entry i
  rw [ref_du, ref_first]
  exact (final4 m c R s j).symm

theorem same5 : val_main_v17 (F := Ideal) (acts m c) (slabs m c) = (dats m 0 c).arrAt 5 cfg0.N := by
  refine funext fun (i : S4096x2816.Idx) => ?_
  obtain ⟨R, s, j, rfl⟩ := entry i
  rw [ref_act, ref_first, ref_second]
  exact (final5 m c R s j).symm

/-- The value claim: the gated product and its two derivatives are the reference's. -/
theorem algebraic : Cert.algebraic_Kernel6Ideal_Reference6Ideal_pre_finite6 := by
  intro m g m' g' hpre hagree
  refine ⟨_, _, _, Value.run_blocks m g, ?_⟩
  refine (θ_run _ _ _).mono (fun _ h c => ?_) (Cert.Reference6Ideal.Value.run (F := Ideal) m' g')
  obtain ⟨a0, a1⟩ := hagree c
  obtain ⟨hx, hw⟩ := finite_entries (hpre c)
  obtain ⟨h0, h1, h2, hrest⟩ := h c
  refine ⟨h0.trans ((val_main_v13_eq _ _).trans ?_), h1.trans ((val_main_v14_eq _ _).trans ?_), h2.trans ((val_main_v17_eq _ _).trans ?_), hrest⟩
  · rw [a0, a1]
    exact same3 m c hx hw
  · rw [a0, a1]
    exact same4 m c
  · rw [a0, a1]
    exact same5 m c

end Cert.GateUp

end
-- ==== Proof.DownInput.lean ====
/- The gradient of the second product and of the gate: the two saved derivatives arrive through rings of three buffers, a point's blocks
   in the slot of its number, and each half of the columns is the product's gradient times one of them. -/
module

public import proofs.«01_k».proof.Proof.Gate
public import proofs.«01_k».proof.Defs
public import proofs.«01_k».proof.Proof.Gen.Kernel7Ideal.Value
public import proofs.«01_k».proof.Proof.Gen.Pre_finite7
public import proofs.«01_k».proof.Proof.Gen.Reference7Ideal.Run
public import proofs.«01_k».proof.Proof.Gen.Reference7Ideal.Read
public import Idealize.ShloMosaic.Lib.StableHlo.RunRead

@[expose] public section

set_option maxRecDepth 16384

noncomputable section

namespace Cert.DownInput

open Cert.Kernel7Ideal Cert.Kernel7Ideal.Gen Idealize.ShloMosaic Idealize.ShloMosaic.TcCoe Idealize.SL.Sem Cert.Gate

theorem zero2 : (![0, 0] : Fin 2 → ℕ) = fun _ => 0 := funext fun a => by fin_cases a <;> rfl
theorem zero3 : (![0, 0, 0] : Fin 3 → ℕ) = fun _ => 0 := funext fun a => by fin_cases a <;> rfl

/-- What a slot of the two rings holds at a point: the point's block of the saved derivative, loaded whole. -/
abbrev held0 (c : Dev nD) (t : Fin cfg0.N) (f : HbBuf0 (F := Ideal) c hbM0_0) : Vec Ideal S1x512x2816 .bf16 :=
  View.readAt (Elt Ideal) scM0_0.view (Rect.unit (s := S3x512x2816) (k0_off9 (grid0.coords t)) ![1, 512, 2816] (k0_off9_inb _)).toLoadRect
    ((rslot0_0 (Ring.sl 3 t.val)).view.writes (Elt Ideal) (rslot0_0 (Ring.sl 3 t.val)).view.junk
      [⟨Rect.whole S512x2816, ReadAs.same.apply ((srcB0_0 (Ring.bk 8 t.val)).view.read (Elt Ideal) f)⟩])
abbrev held1 (c : Dev nD) (t : Fin cfg0.N) (f : HbBuf0 (F := Ideal) c hbM0_1) : Vec Ideal S1x512x2816 .bf16 :=
  View.readAt (Elt Ideal) scM0_1.view (Rect.unit (s := S3x512x2816) (k0_off9 (grid0.coords t)) ![1, 512, 2816] (k0_off9_inb _)).toLoadRect
    ((rslot0_1 (Ring.sl 3 t.val)).view.writes (Elt Ideal) (rslot0_1 (Ring.sl 3 t.val)).view.junk
      [⟨Rect.whole S512x2816, ReadAs.same.apply ((srcB0_1 (Ring.bk 8 t.val)).view.read (Elt Ideal) f)⟩])

/-- The two stores of a point: the gradient by the gate's argument in the first half of the columns, by the other factor in the second. -/
abbrev halves (c : Dev nD) (t : Fin cfg0.N) (x0 : Vec Ideal S512x1024 .bf16) (x1 : Vec Ideal S1x2816x1024 .bf16) (f0 : HbBuf0 (F := Ideal) c hbM0_0)
    (f1 : HbBuf0 (F := Ideal) c hbM0_1) : Vec Ideal S512x5632 .bf16 :=
  View.canon [⟨Rect.unit (s := S512x5632) ![0, 2816] ![512, 2816] inb_S512x5632_S512x2816_0_2816, k0_pay3 x0 x1 (held1 c t f1)⟩,
    ⟨Rect.unit (s := S512x5632) ![0, 0] ![512, 2816] inb_S512x5632_S512x2816_0_0, k0_pay2 x0 x1 (held0 c t f0)⟩]

theorem block_A (c : Dev nD) (t : Fin cfg0.N) (arg1 : Memref sig .tc .vmem S512x1024 .bf16) (harg1 : arg1.IsWhole)
    (arg2 : Memref sig .tc .vmem S1x2816x1024 .bf16) (harg2 : arg2.IsWhole) (arg5 : Memref sig .tc .vmem S512x5632 .bf16) (harg5 : arg5.IsWhole)
    (hc0 : cond0_0 (grid0.coords t)) (hc1 : cond0_1 (grid0.coords t)) (x0 : Vec Ideal S512x1024 .bf16) (x1 : Vec Ideal S1x2816x1024 .bf16)
    (f0 : HbBuf0 (F := Ideal) c hbM0_0) (f1 : HbBuf0 (F := Ideal) c hbM0_1) :
    out0_A_2 c t arg1 harg1 arg2 harg2 arg5 harg5 hc0 hc1 x0 x1 f0 f1 = halves c t x0 x1 f0 f1 := by
  unfold out0_A_2 kernelRun0_A
  dsimp only
  sl_unfold_words
  simp only [View.readAt_eq_ld, harg1.read_unread, harg2.read_unread, View.ld_unit_zero (S := S512x1024) (off := ![0, 0]) zero2,
    View.ld_unit_zero (S := S1x2816x1024) (off := ![0, 0, 0]) zero3]
  exact View.read_writes_junk_eq_canon _ _

theorem block_B (c : Dev nD) (t : Fin cfg0.N) (arg1 : Memref sig .tc .vmem S512x1024 .bf16) (harg1 : arg1.IsWhole)
    (arg2 : Memref sig .tc .vmem S1x2816x1024 .bf16) (harg2 : arg2.IsWhole) (arg5 : Memref sig .tc .vmem S512x5632 .bf16) (harg5 : arg5.IsWhole)
    (hc0 : ¬cond0_0 (grid0.coords t)) (hc1 : cond0_1 (grid0.coords t)) (x0 : Vec Ideal S512x1024 .bf16) (x1 : Vec Ideal S1x2816x1024 .bf16)
    (f0 : HbBuf0 (F := Ideal) c hbM0_0) (f1 : HbBuf0 (F := Ideal) c hbM0_1) :
    out0_B_2 c t arg1 harg1 arg2 harg2 arg5 harg5 hc0 hc1 x0 x1 f0 f1 = halves c t x0 x1 f0 f1 := by
  unfold out0_B_2 kernelRun0_B
  dsimp only
  sl_unfold_words
  simp only [View.readAt_eq_ld, harg1.read_unread, harg2.read_unread, View.ld_unit_zero (S := S512x1024) (off := ![0, 0]) zero2,
    View.ld_unit_zero (S := S1x2816x1024) (off := ![0, 0, 0]) zero3]
  exact View.read_writes_junk_eq_canon _ _

theorem block_C (c : Dev nD) (t : Fin cfg0.N) (arg1 : Memref sig .tc .vmem S512x1024 .bf16) (harg1 : arg1.IsWhole)
    (arg2 : Memref sig .tc .vmem S1x2816x1024 .bf16) (harg2 : arg2.IsWhole) (arg5 : Memref sig .tc .vmem S512x5632 .bf16) (harg5 : arg5.IsWhole)
    (hc0 : ¬cond0_0 (grid0.coords t)) (hc1 : ¬cond0_1 (grid0.coords t)) (x0 : Vec Ideal S512x1024 .bf16) (x1 : Vec Ideal S1x2816x1024 .bf16)
    (f0 : HbBuf0 (F := Ideal) c hbM0_0) (f1 : HbBuf0 (F := Ideal) c hbM0_1) :
    out0_C_2 c t arg1 harg1 arg2 harg2 arg5 harg5 hc0 hc1 x0 x1 f0 f1 = halves c t x0 x1 f0 f1 := by
  unfold out0_C_2 kernelRun0_C
  dsimp only
  sl_unfold_words
  simp only [View.readAt_eq_ld, harg1.read_unread, harg2.read_unread, View.ld_unit_zero (S := S512x1024) (off := ![0, 0]) zero2,
    View.ld_unit_zero (S := S1x2816x1024) (off := ![0, 0, 0]) zero3]
  exact View.read_writes_junk_eq_canon _ _

theorem slot_at (t : Fin cfg0.N) : k0_off9 (grid0.coords t) = ![(Ring.sl 3 t.val).val, 0, 0] :=
  (by decide +kernel : ∀ t : Fin 8, k0_off9 (grid0.coords t) = ![t.val % 3, 0, 0]) t

/-- One transfer over a whole buffer leaves what it carried. -/
theorem landed (w : S512x2816.Idx → Elt Ideal .bf16) : View.canon [(⟨Rect.whole S512x2816, w⟩ : View.Piece (Elt Ideal) S512x2816 .bf16)] = w := by
  funext y
  have e := View.canon_cons_emb (Val := Elt Ideal) (Rect.whole S512x2816) w [] y
  rw [Rect.emb_whole_apply] at e
  exact e

theorem held0_eq (c : Dev nD) (t : Fin cfg0.N) (f : HbBuf0 (F := Ideal) c hbM0_0) :
    shapeCast S512x2816 (held0 c t f) shapeCasts_S1x512x2816_S512x2816 = (srcB0_0 (Ring.bk 8 t.val)).view.read (Elt Ideal) f := by
  have key : ∀ (off : Fin 3 → ℕ) (inb : ∀ a, off a + S1x512x2816.size a ≤ S3x512x2816.size a) (s : Fin 3) (b : HbBuf0 (F := Ideal) c (rslot0_0 s)),
      off = ![s.val, 0, 0] → shapeCast S512x2816 (View.readAt (Elt Ideal) scM0_0.view (Rect.unit (s := S3x512x2816) off S1x512x2816.size inb).toLoadRect b)
        shapeCasts_S1x512x2816_S512x2816 = (rslot0_0 s).view.read (Elt Ideal) b := by
    rintro off inb s b rfl
    rfl
  exact (key _ _ (Ring.sl 3 t.val) _ (slot_at t)).trans ((View.read_writes_junk_eq_canon _ _).trans (landed _))

theorem src0 (c : Dev nD) (t : Fin cfg0.N) (f : HbBuf0 (F := Ideal) c hbM0_0) (r : Fin 512) (j : Fin 2816) (R : Fin 4096) (h : R.val = 512 * t.val + r.val) :
    (srcB0_0 (Ring.bk 8 t.val)).view.read (Elt Ideal) f (ix2 r j) = (f : Vec Ideal S4096x2816 .bf16) (ix2 R j) := by
  have hN : t.val < 8 := lt_of_lt_of_eq t.isLt (show cfg0.N = 8 from N_0)
  refine congrArg (f : Vec Ideal S4096x2816 .bf16) (funext fun a => Fin.ext ?_)
  match a with
  | ⟨0, _⟩ => show 512 * (t.val % 8) + 1 * r.val = R.val; omega
  | ⟨1, _⟩ => show 0 + 1 * j.val = j.val; omega

theorem held1_eq (c : Dev nD) (t : Fin cfg0.N) (f : HbBuf0 (F := Ideal) c hbM0_1) :
    shapeCast S512x2816 (held1 c t f) shapeCasts_S1x512x2816_S512x2816 = (srcB0_1 (Ring.bk 8 t.val)).view.read (Elt Ideal) f := by
  have key : ∀ (off : Fin 3 → ℕ) (inb : ∀ a, off a + S1x512x2816.size a ≤ S3x512x2816.size a) (s : Fin 3) (b : HbBuf0 (F := Ideal) c (rslot0_1 s)),
      off = ![s.val, 0, 0] → shapeCast S512x2816 (View.readAt (Elt Ideal) scM0_1.view (Rect.unit (s := S3x512x2816) off S1x512x2816.size inb).toLoadRect b)
        shapeCasts_S1x512x2816_S512x2816 = (rslot0_1 s).view.read (Elt Ideal) b := by
    rintro off inb s b rfl
    rfl
  exact (key _ _ (Ring.sl 3 t.val) _ (slot_at t)).trans ((View.read_writes_junk_eq_canon _ _).trans (landed _))

theorem src1 (c : Dev nD) (t : Fin cfg0.N) (f : HbBuf0 (F := Ideal) c hbM0_1) (r : Fin 512) (j : Fin 2816) (R : Fin 4096) (h : R.val = 512 * t.val + r.val) :
    (srcB0_1 (Ring.bk 8 t.val)).view.read (Elt Ideal) f (ix2 r j) = (f : Vec Ideal S4096x2816 .bf16) (ix2 R j) := by
  have hN : t.val < 8 := lt_of_lt_of_eq t.isLt (show cfg0.N = 8 from N_0)
  refine congrArg (f : Vec Ideal S4096x2816 .bf16) (funext fun a => Fin.ext ?_)
  match a with
  | ⟨0, _⟩ => show 512 * (t.val % 8) + 1 * r.val = R.val; omega
  | ⟨1, _⟩ => show 0 + 1 * j.val = j.val; omega

variable (m : (ℓ : Loc nD τ sig) → Buf (Elt Ideal) ℓ) (c : Dev nD)

/-- The arguments: the gradient of the product, the weight, and what the gate takes. -/
def grads : Vec Ideal S4096x1024 .bf16 := m ((c : Thread nD τ).loc main_arg0)
def weight : Vec Ideal S1x2816x1024 .bf16 := m ((c : Thread nD τ).loc main_arg1)
def gateIn : FVec Ideal S4096x2816 .f32 := m ((c : Thread nD τ).loc main_arg2)
def factor : FVec Ideal S4096x2816 .f32 := m ((c : Thread nD τ).loc main_arg3)

/-! The host's two derivatives of the gated product. -/

def hostOne : FVec Ideal S4096x2816 .f32 := broadcastInDim S4096x2816 ![] bcast_S_S4096x2816 (constant S_ .f32 0x3F800000#32)
def hostLogi (a : FVec Ideal S4096x2816 .f32) : FVec Ideal S4096x2816 .f32 := Host.divf hostOne (addf hostOne (Host.exp (Host.negf a)))
def hostFirst (a u : FVec Ideal S4096x2816 .f32) : FVec Ideal S4096x2816 .f32 :=
  addf (mulf (mulf hostOne u) (hostLogi a)) (mulf (mulf a (mulf hostOne u)) (mulf (hostLogi a) (subf hostOne (hostLogi a))))
def hostSecond (a : FVec Ideal S4096x2816 .f32) : FVec Ideal S4096x2816 .f32 := mulf (mulf a (hostLogi a)) hostOne

set_option maxHeartbeats 4000000 in
theorem saved0 : V m c main_v6 = truncf .bf16 (hostFirst (m (c, Proc.tc.devRef main_arg2)) (m (c, Proc.tc.devRef main_arg3))) bitsLt_bf16_f32 := by
  unfold_abbrev_sides
  after_reads_simp
  rfl

set_option maxHeartbeats 4000000 in
theorem saved1 : V m c main_v7 = truncf .bf16 (hostSecond (m (c, Proc.tc.devRef main_arg2))) bitsLt_bf16_f32 := by
  unfold_abbrev_sides
  after_reads_simp
  rfl

theorem hostOne_at (i : S4096x2816.Idx) : hostOne i = ((1 : ℝ) : EReal) := by
  unfold hostOne
  pointwise
  rfl

theorem hostLogi_at (a : FVec Ideal S4096x2816 .f32) (i : S4096x2816.Idx) : hostLogi a i = logi (a i) := by
  show Ideal.div (hostOne i) (hostOne i + Ideal.exp (-(a i))) = _
  rw [hostOne_at]
  rfl

theorem saved0_at (i : S4096x2816.Idx) : (V m c main_v6 : Vec Ideal S4096x2816 .bf16) i = ((1 : ℝ) : EReal) * factor m c i * logi (gateIn m c i)
    + gateIn m c i * (((1 : ℝ) : EReal) * factor m c i) * (logi (gateIn m c i) * (((1 : ℝ) : EReal) - logi (gateIn m c i))) := by
  rw [saved0]
  show hostOne i * factor m c i * hostLogi (gateIn m c) i + gateIn m c i * (hostOne i * factor m c i) * (hostLogi (gateIn m c) i * (hostOne i - hostLogi (gateIn m c) i)) = _
  rw [hostOne_at, hostLogi_at]

theorem saved1_at (i : S4096x2816.Idx) : (V m c main_v7 : Vec Ideal S4096x2816 .bf16) i = gateIn m c i * logi (gateIn m c i) * ((1 : ℝ) : EReal) := by
  rw [saved1]
  show gateIn m c i * hostLogi (gateIn m c) i * hostOne i = _
  rw [hostOne_at, hostLogi_at]

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel
theorem size2 : ∀ t : Fin grid0.N, win0_2.xsize (grid0.coords t) 0 = 512 ∧ win0_2.xsize (grid0.coords t) 1 = 5632 := by decide +kernel

theorem block0 (t : Fin cfg0.N) (r : Fin 512) (k : Fin 1024) (R : Fin 4096) (h : R.val = 512 * t.val + r.val) :
    (iblk m c 0 t : Vec Ideal S512x1024 .bf16) (ix2 r k) = grads m c (ix2 R k) := by
  have i := index0 t
  unfold iblk
  rw [View.read_apply]
  refine congrArg (grads m c) (funext fun a => Fin.ext ?_)
  match a with
  | ⟨0, _⟩ => show win0_0.index t 0 * 512 + 1 * r.val = R.val; rw [i.1, h]; omega
  | ⟨1, _⟩ => show win0_0.index t 1 * 1024 + 1 * k.val = k.val; rw [i.2]; omega

theorem block1 (t : Fin cfg0.N) (j : Fin 2816) (k : Fin 1024) : (iblk m c 1 t : Vec Ideal S1x2816x1024 .bf16) (ix3 0 j k) = weight m c (ix3 0 j k) := by
  have i := index1 t
  unfold iblk
  rw [View.read_apply]
  refine congrArg (weight m c) (funext fun a => Fin.ext ?_)
  match a with
  | ⟨0, _⟩ => show win0_1.index t 0 * 1 + 1 * 0 = 0; rw [i.1]
  | ⟨1, _⟩ => show win0_1.index t 1 * 2816 + 1 * j.val = j.val; rw [i.2.1]; omega
  | ⟨2, _⟩ => show win0_1.index t 2 * 1024 + 1 * k.val = k.val; rw [i.2.2]; omega

/-- The gradient of the product by its first factor. -/
def dotAt (R : Fin 4096) (j : Fin 2816) : EReal := ∑ k : Fin 1024, grads m c (ix2 R k) * weight m c (ix3 0 j k)

theorem pay1_at (t : Fin cfg0.N) (r : Fin 512) (j : Fin 2816) (R : Fin 4096) (h : R.val = 512 * t.val + r.val) :
    k0_pay1 (F := Ideal) (iblk m c 0 t) (iblk m c 1 t) (ix2 r j) = dotAt m c R j := by
  unfold k0_pay1
  pointwise
  exact Finset.sum_congr rfl fun k _ => congr (congrArg HMul.hMul (block0 m c t r k R h)) (block1 m c t j k)

theorem pay2_at (t : Fin cfg0.N) (r : Fin 512) (j : Fin 2816) (R : Fin 4096) (h : R.val = 512 * t.val + r.val) (f : HbBuf0 (F := Ideal) c hbM0_0) :
    k0_pay2 (F := Ideal) (iblk m c 0 t) (iblk m c 1 t) (held0 c t f) (ix2 r j) = dotAt m c R j * (f : Vec Ideal S4096x2816 .bf16) (ix2 R j) := by
  unfold k0_pay2
  rw [held0_eq]
  exact congr (congrArg HMul.hMul (pay1_at m c t r j R h)) (src0 c t f r j R h)

theorem pay3_at (t : Fin cfg0.N) (r : Fin 512) (j : Fin 2816) (R : Fin 4096) (h : R.val = 512 * t.val + r.val) (f : HbBuf0 (F := Ideal) c hbM0_1) :
    k0_pay3 (F := Ideal) (iblk m c 0 t) (iblk m c 1 t) (held1 c t f) (ix2 r j) = dotAt m c R j * (f : Vec Ideal S4096x2816 .bf16) (ix2 R j) := by
  unfold k0_pay3
  rw [held1_eq]
  exact congr (congrArg HMul.hMul (pay1_at m c t r j R h)) (src1 c t f r j R h)

theorem left (t : Fin cfg0.N) : outsAt0 m c t.val t.isLt = halves c t (iblk m c 0 t) (iblk m c 1 t) (V m c main_v6) (V m c main_v7) := by
  have hN : t.val < 8 := lt_of_lt_of_eq t.isLt (show cfg0.N = 8 from N_0)
  by_cases h0 : t.val % 8 = 0
  · rw [outsAt0_A m c t h0 (by omega), block_A]
  · by_cases h1 : t.val < 6
    · rw [outsAt0_B m c t h0 h1, block_B]
    · rw [outsAt0_C m c t h0 h1, block_C]

/-- A column of the first half, and of the second. -/
def low (j : Fin 2816) : Fin 5632 := ⟨j.val, by omega⟩
def high (j : Fin 2816) : Fin 5632 := ⟨2816 + j.val, by omega⟩

theorem halves_low (t : Fin cfg0.N) (r : Fin 512) (j : Fin 2816) (R : Fin 4096) (h : R.val = 512 * t.val + r.val) (f0 : HbBuf0 (F := Ideal) c hbM0_0)
    (f1 : HbBuf0 (F := Ideal) c hbM0_1) : halves c t (iblk m c 0 t) (iblk m c 1 t) f0 f1 (ix2 r (low j)) = dotAt m c R j * (f0 : Vec Ideal S4096x2816 .bf16) (ix2 R j) := by
  have hj := j.isLt
  unfold halves
  rw [View.canon_cons_of_not_mem]
  · have e : (ix2 r (low j) : S512x5632.Idx) = (Rect.unit (s := S512x5632) ![0, 0] ![512, 2816] inb_S512x5632_S512x2816_0_0).emb (ix2 r j) :=
      funext fun a => Fin.ext (match a with
        | ⟨0, _⟩ => by show r.val = 0 + 1 * r.val; omega
        | ⟨1, _⟩ => by show j.val = 0 + 1 * j.val; omega)
    rw [e, View.canon_cons_emb]
    exact pay2_at m c t r j R h f0
  · rw [Rect.mem_set_unit]
    intro h
    have h1 : 2816 ≤ j.val := (h 1).1
    omega

theorem halves_high (t : Fin cfg0.N) (r : Fin 512) (j : Fin 2816) (R : Fin 4096) (h : R.val = 512 * t.val + r.val) (f0 : HbBuf0 (F := Ideal) c hbM0_0)
    (f1 : HbBuf0 (F := Ideal) c hbM0_1) : halves c t (iblk m c 0 t) (iblk m c 1 t) f0 f1 (ix2 r (high j)) = dotAt m c R j * (f1 : Vec Ideal S4096x2816 .bf16) (ix2 R j) := by
  unfold halves
  have e : (ix2 r (high j) : S512x5632.Idx) = (Rect.unit (s := S512x5632) ![0, 2816] ![512, 2816] inb_S512x5632_S512x2816_0_2816).emb (ix2 r j) :=
    funext fun a => Fin.ext (match a with
      | ⟨0, _⟩ => by show r.val = 0 + 1 * r.val; omega
      | ⟨1, _⟩ => by show 2816 + j.val = 2816 + 1 * j.val; omega)
  rw [e, View.canon_cons_emb]
  exact pay3_at m c t r j R h f1

theorem final (R : Fin 4096) (C : Fin 5632) (x : EReal)
    (hx : ∀ (t : Fin cfg0.N) (r : Fin 512), R.val = 512 * t.val + r.val → halves c t (iblk m c 0 t) (iblk m c 1 t) (V m c main_v6) (V m c main_v7) (ix2 r C) = x) :
    (dats m 0 c).arrAt 2 cfg0.N (ix2 R C) = x := by
  have hR := R.isLt
  have hC := C.isLt
  have hr : R.val % 512 < 512 := by omega
  obtain ⟨t, htv⟩ : ∃ t : Fin cfg0.N, t.val = R.val / 512 := ⟨⟨R.val / 512, by rw [show cfg0.N = 8 from N_0]; omega⟩, rfl⟩
  have z := size2 t
  have i := index2 t
  let y : ((cfg0.win 2).xblock (grid0.coords t)).Idx := fun a => match a with
    | ⟨0, _⟩ => ⟨R.val % 512, by show _ < win0_2.xsize (grid0.coords t) 0; rw [z.1]; omega⟩
    | ⟨1, _⟩ => ⟨C.val, by show _ < win0_2.xsize (grid0.coords t) 1; rw [z.2]; omega⟩
  have e := congrFun (Value.blocks2 m c t (flush0_2 t)) y
  rw [View.read_apply, Value.flushed2] at e
  have ey : ((cfg0.win 2).blk t).view.emb y = ix2 R C := by
    funext a
    apply Fin.ext
    match a with
    | ⟨0, _⟩ => show win0_2.index t 0 * 512 + 1 * (R.val % 512) = R.val; rw [i.1]; omega
    | ⟨1, _⟩ => show win0_2.index t 1 * 5632 + 1 * C.val = C.val; rw [i.2]; omega
  rw [ey] at e
  have ex : (cfg0.win 2).cut (grid0.coords t) (outsAt0 m c t.val t.isLt) y = outsAt0 m c t.val t.isLt (ix2 ⟨R.val % 512, hr⟩ C) := by
    refine congrArg (outsAt0 m c t.val t.isLt) (funext fun a => Fin.ext ?_)
    match a with
    | ⟨0, _⟩ => rfl
    | ⟨1, _⟩ => rfl
  refine e.trans (ex.trans ((congrFun (left m c t) _).trans (hx t ⟨R.val % 512, hr⟩ ?_)))
  show R.val = 512 * t.val + R.val % 512
  omega

section Reference

open Cert.Reference7Ideal.Read

variable (d : Vec Ideal S4096x1024 .bf16) (w : Vec Ideal S1x2816x1024 .bf16) (a u : FVec Ideal S4096x2816 .f32)

theorem ref_dot (R : Fin 4096) (j : Fin 2816) : val_main_v6 (F := Ideal) d w (ix2 R j) = ∑ k : Fin 1024, d (ix2 R k) * w (ix3 0 j k) := by
  have hj := j.isLt
  rw [val_main_v6_apply]
  refine Finset.sum_congr rfl fun k _ => ?_
  have hk := k.isLt
  rw [val_main_v5_apply, val_main_v1_apply, val_main_v0_apply]
  refine congr (congrArg HMul.hMul (congrArg d (funext fun a => Fin.ext ?_))) (congrArg w (funext fun a => Fin.ext ?_))
  · match a with
    | ⟨0, _⟩ => rfl
    | ⟨1, _⟩ => rfl
  · match a with
    | ⟨0, _⟩ => rfl
    | ⟨1, _⟩ => show (j.val * 1024 + k.val) / 1024 % 2816 = j.val; omega
    | ⟨2, _⟩ => show (j.val * 1024 + k.val) % 1024 = k.val; omega

theorem ref_logistic (i : S4096x2816.Idx) : val_main_v2_2 (F := Ideal) a i = logi (a i) := by
  rw [val_main_v2_2_apply, val_main_call0_v4_apply, val_main_call0_cst_0_apply, val_main_call0_v3_apply, val_main_call0_v2_apply, val_main_call0_cst_apply,
    val_main_call0_v1_apply, val_main_call0_v0_apply]
  show Ideal.div (Ideal.ofBits FTy.f32 0x3F800000#32) (Ideal.ofBits FTy.f32 0x3F800000#32 + Ideal.exp (-_)) = _
  rw [one_word]
  rfl

theorem ref_first (i : S4096x2816.Idx) : val_main_v9 (F := Ideal) d w a u i
    = val_main_v6 (F := Ideal) d w i * u i * logi (a i) + a i * (val_main_v6 (F := Ideal) d w i * u i) * (logi (a i) * (((1 : ℝ) : EReal) - logi (a i))) := by
  rw [val_main_v9_apply, val_main_call1_v1_apply, val_main_call1_v2_apply, val_main_call1_v0_apply, val_main_v8_apply, val_main_v2_1_apply,
    val_main_call0_v7_apply, val_main_call0_v6_apply, val_main_call0_cst_1_apply, ref_logistic]
  show _ * _ * _ + _ * (_ * _) * (_ * (Ideal.ofBits FTy.f32 0x3F800000#32 - _)) = _
  rw [one_word]

theorem ref_second (i : S4096x2816.Idx) : val_main_v7 (F := Ideal) d w a i = a i * logi (a i) * val_main_v6 (F := Ideal) d w i := by
  rw [val_main_v7_apply, val_main_v2_0_apply, ref_logistic]
  rfl

theorem ref_low (R : Fin 4096) (j : Fin 2816) : val_main_v11 (F := Ideal) d w a u (ix2 R (low j)) = val_main_v9 (F := Ideal) d w a u (ix2 R j) := by
  rw [val_main_v11_apply]
  show val_main_v10 (F := Ideal) d w a u _ = _
  unfold val_main_v10
  refine concatenate_pair_apply_left (t := Cert.Reference7Ideal.S4096x5632) (s₁ := Cert.Reference7Ideal.S4096x2816) (s₂ := Cert.Reference7Ideal.S4096x2816) 1 (val_main_v9 (F := Ideal) d w a u)
    (val_main_v7 (F := Ideal) d w a) _ (ix2 R (low j)) rfl (ix2 R j) fun b => ?_
  match b with
  | ⟨0, _⟩ => rfl
  | ⟨1, _⟩ => rfl

theorem ref_high (R : Fin 4096) (j : Fin 2816) : val_main_v11 (F := Ideal) d w a u (ix2 R (high j)) = val_main_v7 (F := Ideal) d w a (ix2 R j) := by
  rw [val_main_v11_apply]
  show val_main_v10 (F := Ideal) d w a u _ = _
  unfold val_main_v10
  refine concatenate_pair_apply_right (t := Cert.Reference7Ideal.S4096x5632) (s₁ := Cert.Reference7Ideal.S4096x2816) (s₂ := Cert.Reference7Ideal.S4096x2816) 1 (val_main_v9 (F := Ideal) d w a u)
    (val_main_v7 (F := Ideal) d w a) _ (ix2 R (high j)) rfl rfl (ix2 R j) (fun b hb => ?_) ?_
  · match b with
    | ⟨0, _⟩ => rfl
    | ⟨1, _⟩ => exact absurd rfl hb
  · show j.val + 2816 = 2816 + j.val
    omega

end Reference

/-- The product multiplied out, where everything is finite. -/
theorem spread_first (P a u : EReal) (hP : IsReal P) (ha : IsReal a) (hu : IsReal u) :
    P * u * logi a + a * (P * u) * (logi a * (((1 : ℝ) : EReal) - logi a))
      = P * (((1 : ℝ) : EReal) * u * logi a + a * (((1 : ℝ) : EReal) * u) * (logi a * (((1 : ℝ) : EReal) - logi a))) := by
  rw [hP, ha, hu, logi_coe]
  norm_cast
  ring

/-- The precondition, read at every entry. -/
theorem finite_entries {d : Vec Ideal S4096x1024 .bf16} {w : Vec Ideal S1x2816x1024 .bf16} {a u : FVec Ideal S4096x2816 .f32} [Cert.Pre_finite7.Facts]
    (h : Cert.Pre_finite7.fn (F := Ideal) d w a u = fun _ => 1#1) : (∀ i, IsReal (d i)) ∧ (∀ i, IsReal (w i)) ∧ (∀ i, IsReal (a i)) ∧ ∀ i, IsReal (u i) := by
  have e := congrFun h (fun a => a.elim0)
  dsimp only [Cert.Pre_finite7.fn] at e
  obtain ⟨e, e₃⟩ := Cert.Hgrn.both_one _ _ e
  obtain ⟨e, e₂⟩ := Cert.Hgrn.both_one _ _ e
  obtain ⟨e₀, e₁⟩ := Cert.Hgrn.both_one _ _ e
  exact ⟨fun i => isReal_of_bit _ (Host.reduce_andi_all _ _ _ _ _ e₀ i), fun i => isReal_of_bit _ (Host.reduce_andi_all _ _ _ _ _ e₁ i),
    fun i => isReal_of_bit _ (Host.reduce_andi_all _ _ _ _ _ e₂ i), fun i => isReal_of_bit _ (Host.reduce_andi_all _ _ _ _ _ e₃ i)⟩

open Cert.Reference7Ideal.Read

theorem same (hd : ∀ i, IsReal (grads m c i)) (hw : ∀ i, IsReal (weight m c i)) (ha : ∀ i, IsReal (gateIn m c i)) (hu : ∀ i, IsReal (factor m c i)) :
    val_main_v11 (F := Ideal) (grads m c) (weight m c) (gateIn m c) (factor m c) = (dats m 0 c).arrAt 2 cfg0.N := by
  refine funext fun (i : S4096x5632.Idx) => ?_
  have hi : (i 1).val < 5632 := (i 1).isLt
  by_cases h : (i 1).val < 2816
  · obtain ⟨R, j, rfl⟩ : ∃ (R : Fin 4096) (j : Fin 2816), i = ix2 R (low j) :=
      ⟨i 0, ⟨(i 1).val, h⟩, funext fun a => match a with | ⟨0, _⟩ => rfl | ⟨1, _⟩ => rfl⟩
    rw [ref_low, ref_first, ref_dot]
    refine ((spread_first _ _ _ (isReal_dot _ _ (fun _ => hd _) fun _ => hw _) (ha _) (hu _)).trans ?_).trans
      (final m c R (low j) _ fun t r e => halves_low m c t r j R e _ _).symm
    rw [saved0_at]
    rfl
  · obtain ⟨R, j, rfl⟩ : ∃ (R : Fin 4096) (j : Fin 2816), i = ix2 R (high j) :=
      ⟨i 0, ⟨(i 1).val - 2816, by omega⟩, funext fun a => Fin.ext (match a with
        | ⟨0, _⟩ => rfl
        | ⟨1, _⟩ => by show (i 1).val = 2816 + ((i 1).val - 2816); omega)⟩
    rw [ref_high, ref_second, ref_dot]
    refine Eq.trans ?_ (final m c R (high j) _ fun t r e => halves_high m c t r j R e _ _).symm
    rw [saved1_at, EReal.coe_one, mul_one, mul_comm]
    rfl

/-- The value claim: the gradient by the gate's two arguments is the reference's. -/
theorem algebraic : Cert.algebraic_Kernel7Ideal_Reference7Ideal_pre_finite7 := by
  intro m g m' g' hpre hagree
  refine ⟨_, Value.run_blocks m g, ?_⟩
  refine (θ_run _ _ _).mono (fun _ h c => ?_) (Cert.Reference7Ideal.Value.run (F := Ideal) m' g')
  obtain ⟨a0, a1, a2, a3⟩ := hagree c
  obtain ⟨hd, hw, ha, hu⟩ := finite_entries (hpre c)
  obtain ⟨h0, hrest⟩ := h c
  refine ⟨h0.trans ((val_main_v11_eq _ _ _ _).trans ?_), hrest⟩
  rw [a0, a1, a2, a3]
  exact same m c hd hw ha hu

end Cert.DownInput

end
-- ==== Proof.Norm.lean ====
/- A row's division by its root mean square, and the derivative of that, on real numbers: the kernels' spelling of the derivative and the
   derivative rule's are one; and a sum down a column, taken by blocks of rows. -/
module

public import proofs.«01_k».proof.Proof.Gate

@[expose] public section

noncomputable section

namespace Cert.Norm

open Idealize.ShloMosaic Cert.Hgrn Cert.Gate

/-- What is added to the mean square. -/
def eps : ℝ := 8796093 / 8796093022208

theorem eps_word : Ideal.ofBits FTy.f32 0x358637BD#32 = ((eps : ℝ) : EReal) := by
  have sign : ¬BitVec.extractLsb' 31 1 0x358637BD#32 = 1#1 := by decide
  norm_num [Ideal.ofBits, Ideal.ieee, Nat.shiftRight_eq_div_pow, sign, eps]

theorem width_word : Ideal.ofBits FTy.f32 0x44800000#32 = ((1024 : ℝ) : EReal) := by
  have sign : ¬BitVec.extractLsb' 31 1 0x44800000#32 = 1#1 := by decide
  norm_num [Ideal.ofBits, Ideal.ieee, Nat.shiftRight_eq_div_pow, sign]

theorem share_word : Ideal.ofBits FTy.f32 0x3A800000#32 = ((1 / 1024 : ℝ) : EReal) := by
  have sign : ¬BitVec.extractLsb' 31 1 0x3A800000#32 = 1#1 := by decide
  norm_num [Ideal.ofBits, Ideal.ieee, Nat.shiftRight_eq_div_pow, sign]

theorem half_word : Ideal.ofBits FTy.f32 0xBF000000#32 = ((-(1 / 2) : ℝ) : EReal) := by
  have sign : BitVec.extractLsb' 31 1 0xBF000000#32 = 1#1 := by decide
  norm_num [Ideal.ofBits, Ideal.ieee, Nat.shiftRight_eq_div_pow, sign]

/-- A row's mean square, the reciprocal of its root, and the derivative of the normed row applied to `d`. -/
def var (x : Fin 1024 → ℝ) : ℝ := (∑ j, x j * x j) / 1024 + eps
def inv (x : Fin 1024 → ℝ) : ℝ := (Real.sqrt (var x))⁻¹
def back (x d : Fin 1024 → ℝ) (j : Fin 1024) : ℝ := inv x * (d j - x j * inv x * ((∑ k, d k * (x k * inv x)) / 1024))

theorem var_pos (x : Fin 1024 → ℝ) : 0 < var x :=
  add_pos_of_nonneg_of_pos (div_nonneg (Finset.sum_nonneg fun j _ => mul_self_nonneg (x j)) (by norm_num)) (by norm_num [eps])

theorem inv_sq (x : Fin 1024 → ℝ) : inv x * inv x = (var x)⁻¹ := by
  unfold inv
  rw [← mul_inv, Real.mul_self_sqrt (var_pos x).le]

/-- The derivative rule's spelling. -/
theorem back_rule (x d : Fin 1024 → ℝ) (j : Fin 1024) :
    d j * inv x + x j * ((∑ k, x k * d k) * (-(1 / 2) * (inv x / var x)) / 1024) + (∑ k, x k * d k) * (-(1 / 2) * (inv x / var x)) / 1024 * x j = back x d j := by
  have e : ∑ k, d k * (x k * inv x) = (∑ k, x k * d k) * inv x := by
    rw [Finset.sum_mul]
    exact Finset.sum_congr rfl fun k _ => by ring
  unfold back
  rw [e, div_eq_mul_inv (inv x) (var x), ← inv_sq]
  ring

theorem div_width (s : ℝ) : Ideal.div (s : EReal) ((1024 : ℝ) : EReal) = ((s / 1024 : ℝ) : EReal) := by
  rw [Ideal.div_coe (by norm_num), ← EReal.coe_mul, mul_one_div]

theorem div_var (s : ℝ) (x : Fin 1024 → ℝ) : Ideal.div (s : EReal) ((var x : ℝ) : EReal) = ((s / var x : ℝ) : EReal) := by
  rw [Ideal.div_coe (var_pos x).ne', ← EReal.coe_mul, mul_one_div]

theorem rsqrt_var (x : Fin 1024 → ℝ) : Ideal.rsqrt ((var x : ℝ) : EReal) = ((inv x : ℝ) : EReal) := by
  rw [Ideal.rsqrt_coe, if_neg (var_pos x).le.not_gt, if_neg (var_pos x).ne']
  rfl

/-- The mean square of a row, from the row's entries. -/
theorem mean_coe (x : Fin 1024 → ℝ) : Ideal.div ((∑ j, x j * x j : ℝ) : EReal) ((1024 : ℝ) : EReal) + ((eps : ℝ) : EReal) = ((var x : ℝ) : EReal) := by
  rw [div_width]
  rfl

/-- Sums of real numbers. -/
theorem sum_coe {ι : Type} [Fintype ι] {f : ι → EReal} {f' : ι → ℝ} (h : ∀ i, f i = ((f' i : ℝ) : EReal)) : ∑ i, f i = ((∑ i, f' i : ℝ) : EReal) := by
  rw [← coe_sum]
  exact Finset.sum_congr rfl fun i _ => h i

theorem dot_coe {ι : Type} [Fintype ι] {f g : ι → EReal} {f' g' : ι → ℝ} (hf : ∀ i, f i = ((f' i : ℝ) : EReal)) (hg : ∀ i, g i = ((g' i : ℝ) : EReal)) :
    ∑ i, f i * g i = ((∑ i, f' i * g' i : ℝ) : EReal) :=
  sum_coe fun i => by rw [hf, hg, EReal.coe_mul]

/-- The sum of a column's first blocks of 512 rows. -/
def upTo (f : Fin 4096 → ℝ) (n : ℕ) : ℝ := ∑ i ∈ Finset.range (512 * n), if h : i < 4096 then f ⟨i, h⟩ else 0

theorem upTo_zero (f : Fin 4096 → ℝ) : upTo f 0 = 0 := rfl

theorem upTo_succ (f : Fin 4096 → ℝ) (n : ℕ) (hn : n < 8) : upTo f (n + 1) = upTo f n + ∑ r : Fin 512, f ⟨512 * n + r.val, by omega⟩ := by
  unfold upTo
  rw [show 512 * (n + 1) = 512 * n + 512 from by ring, Finset.sum_range_add, Finset.sum_range (fun x => _) (n := 512)]
  refine congrArg _ (Finset.sum_congr rfl fun r _ => dif_pos ?_)
  have := r.isLt
  omega

theorem upTo_all (f : Fin 4096 → ℝ) : upTo f 8 = ∑ R, f R := by
  unfold upTo
  rw [show 512 * 8 = 4096 from rfl, Finset.sum_range]
  exact Finset.sum_congr rfl fun r _ => dif_pos r.isLt

/-- A row that begins with the first block's sum and gains the next block's sum at each point holds the column's sum after the eighth. -/
theorem added_up (f : Fin 4096 → ℝ) {M : ℕ} (hM : M = 8) (s : ∀ n, n < M → EReal) {b : ∀ n, n < M → EReal}
    (hb : ∀ n (hn : n < M), b n hn = ((∑ r : Fin 512, f ⟨512 * n + r.val, by omega⟩ : ℝ) : EReal))
    (h0 : ∀ h, s 0 h = b 0 h) (hs : ∀ n (hn : n + 1 < M), s (n + 1) hn = s n (Nat.lt_of_succ_lt hn) + b (n + 1) hn) (h7 : 7 < M) :
    s 7 h7 = ((∑ R, f R : ℝ) : EReal) := by
  rw [← upTo_all]
  suffices ∀ n hn, s n hn = ((upTo f (n + 1) : ℝ) : EReal) from this 7 h7
  intro n hn
  induction n with
  | zero => rw [upTo_succ f 0 (by omega), h0, hb, upTo_zero, zero_add]
  | succ n ih => rw [hs n hn, ih, hb, upTo_succ f (n + 1) (by omega), EReal.coe_add]

/-- A place in an array lies in a block that starts at zero and is as large as the array. -/
theorem inside {i n a b : ℕ} (hi : i < n) (h : a = 0 ∧ b = n) : a ≤ i ∧ i < a + b := by omega

theorem no {p q : Prop} (e : p ↔ q) (h : ¬q) : ¬p := fun a => h (e.mp a)

end Cert.Norm

end
-- ==== Proof.LossHeadBlocks.lean ====
/- The loss and what lies before it: a block of tokens goes through the second product, the gated residual and the last norm; the kernel
   writes the gradients of the two summands and adds three rows up over the blocks of tokens. -/
module

public import proofs.«01_k».proof.Proof.Norm
public import proofs.«01_k».proof.Defs
public import proofs.«01_k».proof.Proof.Gen.Kernel8Ideal.Value

@[expose] public section

set_option maxRecDepth 16384

noncomputable section

namespace Cert.LossHead

open Cert.Kernel8Ideal Cert.Kernel8Ideal.Gen Idealize.ShloMosaic Idealize.ShloMosaic.TcCoe Idealize.SL.Sem Cert.Gate Cert.Norm

theorem zero2 : (![0, 0] : Fin 2 → ℕ) = fun _ => 0 := funext fun a => by fin_cases a <;> rfl
theorem zero3 : (![0, 0, 0] : Fin 3 → ℕ) = fun _ => 0 := funext fun a => by fin_cases a <;> rfl

/-! What a point leaves, by its blocks of the arguments. -/

abbrev prod (x1 : Vec Ideal S512x2816 .bf16) (x2 : Vec Ideal S1x2816x1024 .bf16) := k0_pay1 x1 x2
section Blocks

variable (x0 : Vec Ideal S512x1024 .f32) (x1 : Vec Ideal S512x2816 .bf16) (x2 : Vec Ideal S1x2816x1024 .bf16) (x3 x4 : Vec Ideal S1x1024 .f32) (x5 : Vec Ideal S512x1024 .f32)

abbrev rInv := k0_pay3 x1 x2 x0 x3
abbrev rNorm := k0_pay4 x1 x2 x0 x3
abbrev rErr := k0_pay5 x1 x2 x0 x3 x4 x5
abbrev rDy := k0_pay6 x1 x2 x0 x3 x4 x5
abbrev rDn := k0_pay7 x1 x2 x0 x3 x4 x5 x4
abbrev rMean := k0_pay8 x1 x2 x0 x3 x4 x5 x4
abbrev toRow := k0_pay9 (rInv x0 x1 x2 x3) (rNorm x0 x1 x2 x3) (rDn x0 x1 x2 x3 x4 x5) (rMean x0 x1 x2 x3 x4 x5)
abbrev toProd := k0_pay10 (rInv x0 x1 x2 x3) (rNorm x0 x1 x2 x3) (rDn x0 x1 x2 x3 x4 x5) (rMean x0 x1 x2 x3 x4 x5) x3
abbrev loss := k0_pay11 (rErr x0 x1 x2 x3 x4 x5)
abbrev toWeight := k0_pay13 (rNorm x0 x1 x2 x3) (rDy x0 x1 x2 x3 x4 x5)
abbrev toGate := k0_pay15 (prod x1 x2) (rInv x0 x1 x2 x3) (rNorm x0 x1 x2 x3) (rDn x0 x1 x2 x3 x4 x5) (rMean x0 x1 x2 x3 x4 x5)

end Blocks

theorem left6_A
    (c : Dev nD) (i : grid0.Coords) (arg1 : Memref sig .tc .vmem S512x1024 .f32) (harg1 : arg1.IsWhole) (arg2 : Memref sig .tc .vmem S512x2816 .bf16)
    (harg2 : arg2.IsWhole) (arg3 : Memref sig .tc .vmem S1x2816x1024 .bf16) (harg3 : arg3.IsWhole) (arg4 : Memref sig .tc .vmem S1x1024 .f32)
    (harg4 : arg4.IsWhole) (arg5 : Memref sig .tc .vmem S1x1024 .f32) (harg5 : arg5.IsWhole) (arg6 : Memref sig .tc .vmem S512x1024 .f32)
    (harg6 : arg6.IsWhole) (arg7 : Memref sig .tc .vmem S512x1024 .f32) (harg7 : arg7.IsWhole) (arg8 : Memref sig .tc .vmem S512x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (hc0 : cond0_0 i) (hc1 : ¬cond0_1 i)
    (hc2 : cond0_2 i) (hc3 : ¬cond0_3 i) (hc4 : cond0_4 i) (hc5 : ¬cond0_5 i) (x0 : Vec Ideal S512x1024 .f32) (x1 : Vec Ideal S512x2816 .bf16)
    (x2 : Vec Ideal S1x2816x1024 .bf16) (x3 : Vec Ideal S1x1024 .f32) (x4 : Vec Ideal S1x1024 .f32) (x5 : Vec Ideal S512x1024 .f32) :
    out0_A_6 c i arg1 harg1 arg2 harg2 arg3 harg3 arg4 harg4 arg5 harg5 arg6 harg6 arg7 harg7 arg8 harg8 arg9 harg9 arg10 harg10 arg11 harg11 hc0 hc1 hc2 hc3 hc4 hc5 x0 x1 x2 x3 x4 x5 = toRow x0 x1 x2 x3 x4 x5 := by
  unfold out0_A_6 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x2816) (off := ![0, 0]) zero2, View.ld_unit_zero (S := S1x2816x1024) (off := ![0, 0, 0]) zero3]
  exact (View.read_writes_junk_eq_canon _ _).trans (View.canon_unit_zero zero2 _ _)

theorem left7_A
    (c : Dev nD) (i : grid0.Coords) (arg1 : Memref sig .tc .vmem S512x1024 .f32) (harg1 : arg1.IsWhole) (arg2 : Memref sig .tc .vmem S512x2816 .bf16)
    (harg2 : arg2.IsWhole) (arg3 : Memref sig .tc .vmem S1x2816x1024 .bf16) (harg3 : arg3.IsWhole) (arg4 : Memref sig .tc .vmem S1x1024 .f32)
    (harg4 : arg4.IsWhole) (arg5 : Memref sig .tc .vmem S1x1024 .f32) (harg5 : arg5.IsWhole) (arg6 : Memref sig .tc .vmem S512x1024 .f32)
    (harg6 : arg6.IsWhole) (arg7 : Memref sig .tc .vmem S512x1024 .f32) (harg7 : arg7.IsWhole) (arg8 : Memref sig .tc .vmem S512x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (hc0 : cond0_0 i) (hc1 : ¬cond0_1 i)
    (hc2 : cond0_2 i) (hc3 : ¬cond0_3 i) (hc4 : cond0_4 i) (hc5 : ¬cond0_5 i) (x0 : Vec Ideal S512x1024 .f32) (x1 : Vec Ideal S512x2816 .bf16)
    (x2 : Vec Ideal S1x2816x1024 .bf16) (x3 : Vec Ideal S1x1024 .f32) (x4 : Vec Ideal S1x1024 .f32) (x5 : Vec Ideal S512x1024 .f32) :
    out0_A_7 c i arg1 harg1 arg2 harg2 arg3 harg3 arg4 harg4 arg5 harg5 arg6 harg6 arg7 harg7 arg8 harg8 arg9 harg9 arg10 harg10 arg11 harg11 hc0 hc1 hc2 hc3 hc4 hc5 x0 x1 x2 x3 x4 x5 = toProd x0 x1 x2 x3 x4 x5 := by
  unfold out0_A_7 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x2816) (off := ![0, 0]) zero2, View.ld_unit_zero (S := S1x2816x1024) (off := ![0, 0, 0]) zero3]
  exact (View.read_writes_junk_eq_canon _ _).trans (View.canon_unit_zero zero2 _ _)

theorem left8_A
    (c : Dev nD) (i : grid0.Coords) (arg1 : Memref sig .tc .vmem S512x1024 .f32) (harg1 : arg1.IsWhole) (arg2 : Memref sig .tc .vmem S512x2816 .bf16)
    (harg2 : arg2.IsWhole) (arg3 : Memref sig .tc .vmem S1x2816x1024 .bf16) (harg3 : arg3.IsWhole) (arg4 : Memref sig .tc .vmem S1x1024 .f32)
    (harg4 : arg4.IsWhole) (arg5 : Memref sig .tc .vmem S1x1024 .f32) (harg5 : arg5.IsWhole) (arg6 : Memref sig .tc .vmem S512x1024 .f32)
    (harg6 : arg6.IsWhole) (arg7 : Memref sig .tc .vmem S512x1024 .f32) (harg7 : arg7.IsWhole) (arg8 : Memref sig .tc .vmem S512x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (hc0 : cond0_0 i) (hc1 : ¬cond0_1 i)
    (hc2 : cond0_2 i) (hc3 : ¬cond0_3 i) (hc4 : cond0_4 i) (hc5 : ¬cond0_5 i) (x0 : Vec Ideal S512x1024 .f32) (x1 : Vec Ideal S512x2816 .bf16)
    (x2 : Vec Ideal S1x2816x1024 .bf16) (x3 : Vec Ideal S1x1024 .f32) (x4 : Vec Ideal S1x1024 .f32) (x5 : Vec Ideal S512x1024 .f32) :
    out0_A_8 c i arg1 harg1 arg2 harg2 arg3 harg3 arg4 harg4 arg5 harg5 arg6 harg6 arg7 harg7 arg8 harg8 arg9 harg9 arg10 harg10 arg11 harg11 hc0 hc1 hc2 hc3 hc4 hc5 x0 x1 x2 x3 x4 x5 = loss x0 x1 x2 x3 x4 x5 := by
  unfold out0_A_8 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x2816) (off := ![0, 0]) zero2, View.ld_unit_zero (S := S1x2816x1024) (off := ![0, 0, 0]) zero3]
  exact (View.read_writes_junk_eq_canon _ _).trans (View.canon_unit_zero zero2 _ _)

theorem left9_A
    (c : Dev nD) (i : grid0.Coords) (arg1 : Memref sig .tc .vmem S512x1024 .f32) (harg1 : arg1.IsWhole) (arg2 : Memref sig .tc .vmem S512x2816 .bf16)
    (harg2 : arg2.IsWhole) (arg3 : Memref sig .tc .vmem S1x2816x1024 .bf16) (harg3 : arg3.IsWhole) (arg4 : Memref sig .tc .vmem S1x1024 .f32)
    (harg4 : arg4.IsWhole) (arg5 : Memref sig .tc .vmem S1x1024 .f32) (harg5 : arg5.IsWhole) (arg6 : Memref sig .tc .vmem S512x1024 .f32)
    (harg6 : arg6.IsWhole) (arg7 : Memref sig .tc .vmem S512x1024 .f32) (harg7 : arg7.IsWhole) (arg8 : Memref sig .tc .vmem S512x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (hc0 : cond0_0 i) (hc1 : ¬cond0_1 i)
    (hc2 : cond0_2 i) (hc3 : ¬cond0_3 i) (hc4 : cond0_4 i) (hc5 : ¬cond0_5 i) (x0 : Vec Ideal S512x1024 .f32) (x1 : Vec Ideal S512x2816 .bf16)
    (x2 : Vec Ideal S1x2816x1024 .bf16) (x3 : Vec Ideal S1x1024 .f32) (x4 : Vec Ideal S1x1024 .f32) (x5 : Vec Ideal S512x1024 .f32) :
    out0_A_9 c i arg1 harg1 arg2 harg2 arg3 harg3 arg4 harg4 arg5 harg5 arg6 harg6 arg7 harg7 arg8 harg8 arg9 harg9 arg10 harg10 arg11 harg11 hc0 hc1 hc2 hc3 hc4 hc5 x0 x1 x2 x3 x4 x5 = toWeight x0 x1 x2 x3 x4 x5 := by
  unfold out0_A_9 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x2816) (off := ![0, 0]) zero2, View.ld_unit_zero (S := S1x2816x1024) (off := ![0, 0, 0]) zero3]
  exact (View.read_writes_junk_eq_canon _ _).trans (View.canon_unit_zero zero2 _ _)

theorem left10_A
    (c : Dev nD) (i : grid0.Coords) (arg1 : Memref sig .tc .vmem S512x1024 .f32) (harg1 : arg1.IsWhole) (arg2 : Memref sig .tc .vmem S512x2816 .bf16)
    (harg2 : arg2.IsWhole) (arg3 : Memref sig .tc .vmem S1x2816x1024 .bf16) (harg3 : arg3.IsWhole) (arg4 : Memref sig .tc .vmem S1x1024 .f32)
    (harg4 : arg4.IsWhole) (arg5 : Memref sig .tc .vmem S1x1024 .f32) (harg5 : arg5.IsWhole) (arg6 : Memref sig .tc .vmem S512x1024 .f32)
    (harg6 : arg6.IsWhole) (arg7 : Memref sig .tc .vmem S512x1024 .f32) (harg7 : arg7.IsWhole) (arg8 : Memref sig .tc .vmem S512x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (hc0 : cond0_0 i) (hc1 : ¬cond0_1 i)
    (hc2 : cond0_2 i) (hc3 : ¬cond0_3 i) (hc4 : cond0_4 i) (hc5 : ¬cond0_5 i) (x0 : Vec Ideal S512x1024 .f32) (x1 : Vec Ideal S512x2816 .bf16)
    (x2 : Vec Ideal S1x2816x1024 .bf16) (x3 : Vec Ideal S1x1024 .f32) (x4 : Vec Ideal S1x1024 .f32) (x5 : Vec Ideal S512x1024 .f32) :
    out0_A_10 c i arg1 harg1 arg2 harg2 arg3 harg3 arg4 harg4 arg5 harg5 arg6 harg6 arg7 harg7 arg8 harg8 arg9 harg9 arg10 harg10 arg11 harg11 hc0 hc1 hc2 hc3 hc4 hc5 x0 x1 x2 x3 x4 x5 = toGate x0 x1 x2 x3 x4 x5 := by
  unfold out0_A_10 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x2816) (off := ![0, 0]) zero2, View.ld_unit_zero (S := S1x2816x1024) (off := ![0, 0, 0]) zero3]
  exact (View.read_writes_junk_eq_canon _ _).trans (View.canon_unit_zero zero2 _ _)

theorem left6_B
    (c : Dev nD) (i : grid0.Coords) (arg1 : Memref sig .tc .vmem S512x1024 .f32) (harg1 : arg1.IsWhole) (arg2 : Memref sig .tc .vmem S512x2816 .bf16)
    (harg2 : arg2.IsWhole) (arg3 : Memref sig .tc .vmem S1x2816x1024 .bf16) (harg3 : arg3.IsWhole) (arg4 : Memref sig .tc .vmem S1x1024 .f32)
    (harg4 : arg4.IsWhole) (arg5 : Memref sig .tc .vmem S1x1024 .f32) (harg5 : arg5.IsWhole) (arg6 : Memref sig .tc .vmem S512x1024 .f32)
    (harg6 : arg6.IsWhole) (arg7 : Memref sig .tc .vmem S512x1024 .f32) (harg7 : arg7.IsWhole) (arg8 : Memref sig .tc .vmem S512x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (hc0 : ¬cond0_0 i) (hc1 : cond0_1 i)
    (hc2 : ¬cond0_2 i) (hc3 : cond0_3 i) (hc4 : ¬cond0_4 i) (hc5 : cond0_5 i) (x0 : Vec Ideal S512x1024 .f32) (x1 : Vec Ideal S512x2816 .bf16)
    (x2 : Vec Ideal S1x2816x1024 .bf16) (x3 : Vec Ideal S1x1024 .f32) (x4 : Vec Ideal S1x1024 .f32) (x5 : Vec Ideal S512x1024 .f32)
    (xo8 : Vec Ideal S1x1024 .f32) (xo9 : Vec Ideal S1x1024 .f32) (xo10 : Vec Ideal S1x1024 .f32) :
    out0_B_6 c i arg1 harg1 arg2 harg2 arg3 harg3 arg4 harg4 arg5 harg5 arg6 harg6 arg7 harg7 arg8 harg8 arg9 harg9 arg10 harg10 arg11 harg11 hc0 hc1 hc2 hc3 hc4 hc5 x0 x1 x2 x3 x4 x5 xo8 xo9 xo10 = toRow x0 x1 x2 x3 x4 x5 := by
  unfold out0_B_6 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x2816) (off := ![0, 0]) zero2, View.ld_unit_zero (S := S1x2816x1024) (off := ![0, 0, 0]) zero3]
  exact (View.read_writes_junk_eq_canon _ _).trans (View.canon_unit_zero zero2 _ _)

theorem left7_B
    (c : Dev nD) (i : grid0.Coords) (arg1 : Memref sig .tc .vmem S512x1024 .f32) (harg1 : arg1.IsWhole) (arg2 : Memref sig .tc .vmem S512x2816 .bf16)
    (harg2 : arg2.IsWhole) (arg3 : Memref sig .tc .vmem S1x2816x1024 .bf16) (harg3 : arg3.IsWhole) (arg4 : Memref sig .tc .vmem S1x1024 .f32)
    (harg4 : arg4.IsWhole) (arg5 : Memref sig .tc .vmem S1x1024 .f32) (harg5 : arg5.IsWhole) (arg6 : Memref sig .tc .vmem S512x1024 .f32)
    (harg6 : arg6.IsWhole) (arg7 : Memref sig .tc .vmem S512x1024 .f32) (harg7 : arg7.IsWhole) (arg8 : Memref sig .tc .vmem S512x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (hc0 : ¬cond0_0 i) (hc1 : cond0_1 i)
    (hc2 : ¬cond0_2 i) (hc3 : cond0_3 i) (hc4 : ¬cond0_4 i) (hc5 : cond0_5 i) (x0 : Vec Ideal S512x1024 .f32) (x1 : Vec Ideal S512x2816 .bf16)
    (x2 : Vec Ideal S1x2816x1024 .bf16) (x3 : Vec Ideal S1x1024 .f32) (x4 : Vec Ideal S1x1024 .f32) (x5 : Vec Ideal S512x1024 .f32)
    (xo8 : Vec Ideal S1x1024 .f32) (xo9 : Vec Ideal S1x1024 .f32) (xo10 : Vec Ideal S1x1024 .f32) :
    out0_B_7 c i arg1 harg1 arg2 harg2 arg3 harg3 arg4 harg4 arg5 harg5 arg6 harg6 arg7 harg7 arg8 harg8 arg9 harg9 arg10 harg10 arg11 harg11 hc0 hc1 hc2 hc3 hc4 hc5 x0 x1 x2 x3 x4 x5 xo8 xo9 xo10 = toProd x0 x1 x2 x3 x4 x5 := by
  unfold out0_B_7 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x2816) (off := ![0, 0]) zero2, View.ld_unit_zero (S := S1x2816x1024) (off := ![0, 0, 0]) zero3]
  exact (View.read_writes_junk_eq_canon _ _).trans (View.canon_unit_zero zero2 _ _)

theorem left8_B
    (c : Dev nD) (i : grid0.Coords) (arg1 : Memref sig .tc .vmem S512x1024 .f32) (harg1 : arg1.IsWhole) (arg2 : Memref sig .tc .vmem S512x2816 .bf16)
    (harg2 : arg2.IsWhole) (arg3 : Memref sig .tc .vmem S1x2816x1024 .bf16) (harg3 : arg3.IsWhole) (arg4 : Memref sig .tc .vmem S1x1024 .f32)
    (harg4 : arg4.IsWhole) (arg5 : Memref sig .tc .vmem S1x1024 .f32) (harg5 : arg5.IsWhole) (arg6 : Memref sig .tc .vmem S512x1024 .f32)
    (harg6 : arg6.IsWhole) (arg7 : Memref sig .tc .vmem S512x1024 .f32) (harg7 : arg7.IsWhole) (arg8 : Memref sig .tc .vmem S512x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (hc0 : ¬cond0_0 i) (hc1 : cond0_1 i)
    (hc2 : ¬cond0_2 i) (hc3 : cond0_3 i) (hc4 : ¬cond0_4 i) (hc5 : cond0_5 i) (x0 : Vec Ideal S512x1024 .f32) (x1 : Vec Ideal S512x2816 .bf16)
    (x2 : Vec Ideal S1x2816x1024 .bf16) (x3 : Vec Ideal S1x1024 .f32) (x4 : Vec Ideal S1x1024 .f32) (x5 : Vec Ideal S512x1024 .f32)
    (xo8 : Vec Ideal S1x1024 .f32) (xo9 : Vec Ideal S1x1024 .f32) (xo10 : Vec Ideal S1x1024 .f32) :
    out0_B_8 c i arg1 harg1 arg2 harg2 arg3 harg3 arg4 harg4 arg5 harg5 arg6 harg6 arg7 harg7 arg8 harg8 arg9 harg9 arg10 harg10 arg11 harg11 hc0 hc1 hc2 hc3 hc4 hc5 x0 x1 x2 x3 x4 x5 xo8 xo9 xo10 = k0_pay12 (rErr x0 x1 x2 x3 x4 x5) xo8 := by
  unfold out0_B_8 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x2816) (off := ![0, 0]) zero2, View.ld_unit_zero (S := S1x2816x1024) (off := ![0, 0, 0]) zero3]
  exact (View.read_writes_junk_eq_canon _ _).trans (View.canon_unit_zero zero2 _ _)

theorem left9_B
    (c : Dev nD) (i : grid0.Coords) (arg1 : Memref sig .tc .vmem S512x1024 .f32) (harg1 : arg1.IsWhole) (arg2 : Memref sig .tc .vmem S512x2816 .bf16)
    (harg2 : arg2.IsWhole) (arg3 : Memref sig .tc .vmem S1x2816x1024 .bf16) (harg3 : arg3.IsWhole) (arg4 : Memref sig .tc .vmem S1x1024 .f32)
    (harg4 : arg4.IsWhole) (arg5 : Memref sig .tc .vmem S1x1024 .f32) (harg5 : arg5.IsWhole) (arg6 : Memref sig .tc .vmem S512x1024 .f32)
    (harg6 : arg6.IsWhole) (arg7 : Memref sig .tc .vmem S512x1024 .f32) (harg7 : arg7.IsWhole) (arg8 : Memref sig .tc .vmem S512x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (hc0 : ¬cond0_0 i) (hc1 : cond0_1 i)
    (hc2 : ¬cond0_2 i) (hc3 : cond0_3 i) (hc4 : ¬cond0_4 i) (hc5 : cond0_5 i) (x0 : Vec Ideal S512x1024 .f32) (x1 : Vec Ideal S512x2816 .bf16)
    (x2 : Vec Ideal S1x2816x1024 .bf16) (x3 : Vec Ideal S1x1024 .f32) (x4 : Vec Ideal S1x1024 .f32) (x5 : Vec Ideal S512x1024 .f32)
    (xo8 : Vec Ideal S1x1024 .f32) (xo9 : Vec Ideal S1x1024 .f32) (xo10 : Vec Ideal S1x1024 .f32) :
    out0_B_9 c i arg1 harg1 arg2 harg2 arg3 harg3 arg4 harg4 arg5 harg5 arg6 harg6 arg7 harg7 arg8 harg8 arg9 harg9 arg10 harg10 arg11 harg11 hc0 hc1 hc2 hc3 hc4 hc5 x0 x1 x2 x3 x4 x5 xo8 xo9 xo10 = k0_pay14 (rNorm x0 x1 x2 x3) (rDy x0 x1 x2 x3 x4 x5) xo9 := by
  unfold out0_B_9 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x2816) (off := ![0, 0]) zero2, View.ld_unit_zero (S := S1x2816x1024) (off := ![0, 0, 0]) zero3]
  exact (View.read_writes_junk_eq_canon _ _).trans (View.canon_unit_zero zero2 _ _)

theorem left10_B
    (c : Dev nD) (i : grid0.Coords) (arg1 : Memref sig .tc .vmem S512x1024 .f32) (harg1 : arg1.IsWhole) (arg2 : Memref sig .tc .vmem S512x2816 .bf16)
    (harg2 : arg2.IsWhole) (arg3 : Memref sig .tc .vmem S1x2816x1024 .bf16) (harg3 : arg3.IsWhole) (arg4 : Memref sig .tc .vmem S1x1024 .f32)
    (harg4 : arg4.IsWhole) (arg5 : Memref sig .tc .vmem S1x1024 .f32) (harg5 : arg5.IsWhole) (arg6 : Memref sig .tc .vmem S512x1024 .f32)
    (harg6 : arg6.IsWhole) (arg7 : Memref sig .tc .vmem S512x1024 .f32) (harg7 : arg7.IsWhole) (arg8 : Memref sig .tc .vmem S512x1024 .bf16)
    (harg8 : arg8.IsWhole) (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (hc0 : ¬cond0_0 i) (hc1 : cond0_1 i)
    (hc2 : ¬cond0_2 i) (hc3 : cond0_3 i) (hc4 : ¬cond0_4 i) (hc5 : cond0_5 i) (x0 : Vec Ideal S512x1024 .f32) (x1 : Vec Ideal S512x2816 .bf16)
    (x2 : Vec Ideal S1x2816x1024 .bf16) (x3 : Vec Ideal S1x1024 .f32) (x4 : Vec Ideal S1x1024 .f32) (x5 : Vec Ideal S512x1024 .f32)
    (xo8 : Vec Ideal S1x1024 .f32) (xo9 : Vec Ideal S1x1024 .f32) (xo10 : Vec Ideal S1x1024 .f32) :
    out0_B_10 c i arg1 harg1 arg2 harg2 arg3 harg3 arg4 harg4 arg5 harg5 arg6 harg6 arg7 harg7 arg8 harg8 arg9 harg9 arg10 harg10 arg11 harg11 hc0 hc1 hc2 hc3 hc4 hc5 x0 x1 x2 x3 x4 x5 xo8 xo9 xo10 = k0_pay16 (prod x1 x2) (rInv x0 x1 x2 x3) (rNorm x0 x1 x2 x3) (rDn x0 x1 x2 x3 x4 x5) (rMean x0 x1 x2 x3 x4 x5) xo10 := by
  unfold out0_B_10 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x2816) (off := ![0, 0]) zero2, View.ld_unit_zero (S := S1x2816x1024) (off := ![0, 0, 0]) zero3]
  exact (View.read_writes_junk_eq_canon _ _).trans (View.canon_unit_zero zero2 _ _)

end Cert.LossHead

end
-- ==== Proof.LossHeadNums.lean ====
/- The last norm, the loss and their gradients on real numbers. -/
module

public import proofs.«01_k».proof.Proof.Norm

@[expose] public section

set_option maxRecDepth 16384

noncomputable section

namespace Cert.LossHead

open Cert.Norm

/-- The arguments as real numbers. -/
structure Nums where
  x : Fin 4096 → Fin 1024 → ℝ
  act : Fin 4096 → Fin 2816 → ℝ
  w : Fin 2816 → Fin 1024 → ℝ
  gate : Fin 1024 → ℝ
  fg : Fin 1024 → ℝ
  tgt : Fin 4096 → Fin 1024 → ℝ

namespace Nums

variable (N : Nums)

def ffn (R : Fin 4096) (j : Fin 1024) : ℝ := ∑ k, N.act R k * N.w k j
def row (R : Fin 4096) (j : Fin 1024) : ℝ := N.x R j + N.gate j * N.ffn R j
def xh (R : Fin 4096) (j : Fin 1024) : ℝ := N.row R j * inv (N.row R)
def err (R : Fin 4096) (j : Fin 1024) : ℝ := N.xh R j * N.fg j - N.tgt R j
def dy (R : Fin 4096) (j : Fin 1024) : ℝ := N.err R j / 1024
def dn (R : Fin 4096) (j : Fin 1024) : ℝ := N.dy R j * N.fg j
def dx (R : Fin 4096) (j : Fin 1024) : ℝ := back (N.row R) (N.dn R) j

end Nums

end Cert.LossHead

end
-- ==== Proof.LossHeadPoint.lean ====
/- What a point of the kernel leaves, entry by entry. -/
module

public import proofs.«01_k».proof.Proof.LossHeadBlocks
public import proofs.«01_k».proof.Proof.LossHeadNums
public import Idealize.ShloMosaic.Lib.Pointwise

@[expose] public section

set_option maxRecDepth 16384

noncomputable section

namespace Cert.LossHead

open Cert.Kernel8Ideal Cert.Kernel8Ideal.Gen Idealize.ShloMosaic Idealize.ShloMosaic.TcCoe Idealize.SL.Sem Cert.Gate Cert.Norm

/-- A row of a point's blocks holds a row of the arguments. -/
structure Holds (N : Nums) (R : Fin 4096) (r : Fin 512) (x0 : Vec Ideal S512x1024 .f32) (x1 : Vec Ideal S512x2816 .bf16) (x2 : Vec Ideal S1x2816x1024 .bf16)
    (x3 x4 : Vec Ideal S1x1024 .f32) (x5 : Vec Ideal S512x1024 .f32) : Prop where
  x : ∀ j : Fin 1024, x0 (ix2 r j) = ((N.x R j : ℝ) : EReal)
  act : ∀ k : Fin 2816, x1 (ix2 r k) = ((N.act R k : ℝ) : EReal)
  w : ∀ (k : Fin 2816) (j : Fin 1024), x2 (ix3 0 k j) = ((N.w k j : ℝ) : EReal)
  gate : ∀ j : Fin 1024, x3 (ix2 0 j) = ((N.gate j : ℝ) : EReal)
  fg : ∀ j : Fin 1024, x4 (ix2 0 j) = ((N.fg j : ℝ) : EReal)
  tgt : ∀ j : Fin 1024, x5 (ix2 r j) = ((N.tgt R j : ℝ) : EReal)

variable {N : Nums} {R : Fin 4096} {r : Fin 512} {x0 : Vec Ideal S512x1024 .f32} {x1 : Vec Ideal S512x2816 .bf16} {x2 : Vec Ideal S1x2816x1024 .bf16}
  {x3 x4 : Vec Ideal S1x1024 .f32} {x5 : Vec Ideal S512x1024 .f32} (H : Holds N R r x0 x1 x2 x3 x4 x5)
include H

theorem prod_at (j : Fin 1024) : k0_pay1 x1 x2 (ix2 r j) = ((N.ffn R j : ℝ) : EReal) := by
  unfold k0_pay1
  pointwise
  exact dot_coe H.act fun k => H.w k j

theorem row_at (j : Fin 1024) : k0_pay2 x1 x2 x0 x3 (ix2 r j) = ((N.row R j : ℝ) : EReal) := by
  unfold k0_pay2
  have e := prod_at H j
  pointwise
  rw [e, H.x, H.gate, ← EReal.coe_mul, ← EReal.coe_add]
  rfl

theorem inv_at (z : Fin 1) : k0_pay3 x1 x2 x0 x3 (ix2 r z) = ((inv (N.row R) : ℝ) : EReal) := by
  unfold k0_pay3
  pointwise
  rw [dot_coe (row_at H) (row_at H), width_word, eps_word, mean_coe, rsqrt_var]

theorem norm_at (j : Fin 1024) : k0_pay4 x1 x2 x0 x3 (ix2 r j) = ((N.xh R j : ℝ) : EReal) := by
  unfold k0_pay4
  pointwise
  rw [row_at H, inv_at H, ← EReal.coe_mul]
  rfl

theorem err_at (j : Fin 1024) : k0_pay5 x1 x2 x0 x3 x4 x5 (ix2 r j) = ((N.err R j : ℝ) : EReal) := by
  have e := norm_at H j
  unfold k0_pay5
  pointwise
  rw [e, H.fg, H.tgt, ← EReal.coe_mul, ← EReal.coe_sub]
  rfl

theorem dy_at (j : Fin 1024) : k0_pay6 x1 x2 x0 x3 x4 x5 (ix2 r j) = ((N.dy R j : ℝ) : EReal) := by
  have e := err_at H j
  unfold k0_pay6
  pointwise
  rw [e, share_word, ← EReal.coe_mul, mul_one_div]
  rfl

theorem dn_at (j : Fin 1024) : k0_pay7 x1 x2 x0 x3 x4 x5 x4 (ix2 r j) = ((N.dn R j : ℝ) : EReal) := by
  have e := dy_at H j
  unfold k0_pay7
  pointwise
  rw [e, H.fg, ← EReal.coe_mul]
  rfl

theorem mean_at (j : Fin 1024) : k0_pay8 x1 x2 x0 x3 x4 x5 x4 (ix2 r j) = (((∑ k, N.dn R k * N.xh R k) / 1024 : ℝ) : EReal) := by
  unfold k0_pay8
  pointwise
  rw [dot_coe (dn_at H) (norm_at H), width_word, div_width]

theorem toRow_at (j : Fin 1024) : toRow x0 x1 x2 x3 x4 x5 (ix2 r j) = ((N.dx R j : ℝ) : EReal) := by
  have e1 := inv_at H 0
  have e2 := norm_at H j
  have e3 := dn_at H j
  have e4 := mean_at H j
  unfold toRow rInv rNorm rDn rMean k0_pay9
  pointwise
  rw [e1, e2, e3, e4, ← EReal.coe_mul, ← EReal.coe_sub, ← EReal.coe_mul]
  rfl

theorem toProd_at (j : Fin 1024) : toProd x0 x1 x2 x3 x4 x5 (ix2 r j) = ((N.dx R j * N.gate j : ℝ) : EReal) := by
  have e := toRow_at H j
  unfold toRow at e
  unfold toProd k0_pay10
  pointwise
  rw [e, H.gate, ← EReal.coe_mul]

omit H in
theorem loss_at (Rs : Fin 512 → Fin 4096) (Hs : ∀ r, Holds N (Rs r) r x0 x1 x2 x3 x4 x5) (j : Fin 1024) :
    loss x0 x1 x2 x3 x4 x5 (ix2 0 j) = ((∑ r, N.err (Rs r) j * N.err (Rs r) j : ℝ) : EReal) := by
  unfold loss rErr k0_pay11
  pointwise
  exact dot_coe (fun r => err_at (Hs r) j) fun r => err_at (Hs r) j

omit H in
theorem toWeight_at (Rs : Fin 512 → Fin 4096) (Hs : ∀ r, Holds N (Rs r) r x0 x1 x2 x3 x4 x5) (j : Fin 1024) :
    toWeight x0 x1 x2 x3 x4 x5 (ix2 0 j) = ((∑ r, N.dy (Rs r) j * N.xh (Rs r) j : ℝ) : EReal) := by
  unfold toWeight rNorm rDy k0_pay13
  pointwise
  exact dot_coe (fun r => dy_at (Hs r) j) fun r => norm_at (Hs r) j

omit H in
theorem toGate_at (Rs : Fin 512 → Fin 4096) (Hs : ∀ r, Holds N (Rs r) r x0 x1 x2 x3 x4 x5) (j : Fin 1024) :
    toGate x0 x1 x2 x3 x4 x5 (ix2 0 j) = ((∑ r, N.dx (Rs r) j * N.ffn (Rs r) j : ℝ) : EReal) := by
  unfold toGate prod k0_pay15
  pointwise
  exact dot_coe (fun r => toRow_at (Hs r) j) fun r => prod_at (Hs r) j

end Cert.LossHead

end
-- ==== Proof.LossHeadReference.lean ====
/- The reference, entry by entry: the derivative rule through the norm, the gated sum and the squared differences. -/
module

public import proofs.«01_k».proof.Proof.LossHeadNums
public import proofs.«01_k».proof.Proof.Gen.Reference8Ideal.Run
public import proofs.«01_k».proof.Proof.Gen.Reference8Ideal.Read

@[expose] public section

set_option maxRecDepth 16384

noncomputable section

namespace Cert.LossHead

open Cert.Reference8Ideal Cert.Reference8Ideal.Gen Cert.Reference8Ideal.Read Idealize.ShloMosaic Idealize.ShloMosaic.TcCoe Cert.Gate Cert.Norm

/-- The six arguments hold these numbers. -/
structure Given (N : Nums) (x0 : Vec Ideal S4096x1024 .f32) (x1 : Vec Ideal S4096x2816 .bf16) (x2 : Vec Ideal S1x2816x1024 .bf16)
    (x3 x4 : Vec Ideal S1x1024 .f32) (x5 : Vec Ideal S4096x1024 .f32) : Prop where
  x : ∀ i : S4096x1024.Idx, x0 i = ((N.x (i 0) (i 1) : ℝ) : EReal)
  act : ∀ i : S4096x2816.Idx, x1 i = ((N.act (i 0) (i 1) : ℝ) : EReal)
  w : ∀ i : S1x2816x1024.Idx, x2 i = ((N.w (i 1) (i 2) : ℝ) : EReal)
  gate : ∀ i : S1x1024.Idx, x3 i = ((N.gate (i 1) : ℝ) : EReal)
  fg : ∀ i : S1x1024.Idx, x4 i = ((N.fg (i 1) : ℝ) : EReal)
  tgt : ∀ i : S4096x1024.Idx, x5 i = ((N.tgt (i 0) (i 1) : ℝ) : EReal)

variable {N : Nums} {x0 : Vec Ideal S4096x1024 .f32} {x1 : Vec Ideal S4096x2816 .bf16} {x2 : Vec Ideal S1x2816x1024 .bf16}
  {x3 x4 : Vec Ideal S1x1024 .f32} {x5 : Vec Ideal S4096x1024 .f32} (G : Given N x0 x1 x2 x3 x4 x5)
include G

theorem ref_ffn (i : S4096x1024.Idx) : val_main_v3 (F := Ideal) x1 x2 i = ((N.ffn (i 0) (i 1) : ℝ) : EReal) := by
  rw [val_main_v3_apply]
  refine dot_coe (fun k => ?_) fun k => ?_
  · rw [val_main_v0_apply]
    exact G.act _
  · rw [val_main_v2_apply, val_main_v1_apply]
    refine (G.w _).trans (congrArg (fun y : ℝ => (y : EReal)) (congr (congrArg N.w (Fin.ext ?_)) (Fin.ext ?_)))
    · have hk := k.isLt
      have hi : (i 1).val < 1024 := (i 1).isLt
      show (k.val * 1024 + (i 1).val) / 1024 % 2816 = k.val
      omega
    · have hk := k.isLt
      have hi : (i 1).val < 1024 := (i 1).isLt
      show (k.val * 1024 + (i 1).val) % 1024 = (i 1).val
      omega

theorem ref_row (i : S4096x1024.Idx) : val_main_v6 (F := Ideal) x0 x1 x2 x3 i = ((N.row (i 0) (i 1) : ℝ) : EReal) := by
  rw [val_main_v6_apply, val_main_v5_apply, val_main_v4_apply, ref_ffn G, G.x, G.gate]
  show (_ : EReal) + _ * _ = _
  rw [← EReal.coe_mul, ← EReal.coe_add]
  rfl

theorem ref_var (i : S4096x1.Idx) : val_main_v13 (F := Ideal) x0 x1 x2 x3 i = ((var (N.row (i 0)) : ℝ) : EReal) := by
  rw [val_main_v13_apply, val_main_v12_apply, val_main_cst_1_apply, val_main_v11_apply, val_main_v10_apply, val_main_cst_0_apply, val_main_v9_apply,
    val_main_v8_apply, val_main_cst_apply]
  have e : ∑ k : Fin 1024, val_main_v7 (F := Ideal) x0 x1 x2 x3 (idx_main_v8 (idx_main_v9 i) k) = ((∑ k, N.row (i 0) k * N.row (i 0) k : ℝ) : EReal) :=
    dot_coe (fun k => ref_row G _) fun k => ref_row G _
  rw [e]
  show Ideal.div (Ideal.ofBits FTy.f32 0x00000000#32 + _) (Ideal.ofBits FTy.f32 0x44800000#32) + Ideal.ofBits FTy.f32 0x358637BD#32 = _
  rw [zero_word, width_word, eps_word, EReal.coe_zero, zero_add, mean_coe]

theorem ref_inv (i : S4096x1.Idx) : val_main_v14 (F := Ideal) x0 x1 x2 x3 i = ((inv (N.row (i 0)) : ℝ) : EReal) := by
  rw [val_main_v14_apply, ref_var G]
  exact rsqrt_var _

theorem ref_slope (i : S4096x1.Idx) : val_main_v17 (F := Ideal) x0 x1 x2 x3 i = ((-(1 / 2) * (inv (N.row (i 0)) / var (N.row (i 0))) : ℝ) : EReal) := by
  rw [val_main_v17_apply, val_main_v16_apply, val_main_cst_2_apply, val_main_v15_apply, ref_inv G, ref_var G]
  show Ideal.ofBits FTy.f32 0xBF000000#32 * Ideal.div _ _ = _
  rw [half_word, div_var, ← EReal.coe_mul]

theorem ref_norm (i : S4096x1024.Idx) : val_main_v19 (F := Ideal) x0 x1 x2 x3 i = ((N.xh (i 0) (i 1) : ℝ) : EReal) := by
  rw [val_main_v19_apply, val_main_v18_apply, ref_row G, ref_inv G]
  exact (EReal.coe_mul _ _).symm

theorem ref_err (i : S4096x1024.Idx) : val_main_v22 (F := Ideal) x0 x1 x2 x3 x4 x5 i = ((N.err (i 0) (i 1) : ℝ) : EReal) := by
  rw [val_main_v22_apply, val_main_v21_apply, val_main_v20_apply, ref_norm G, G.fg, G.tgt]
  show (_ : EReal) * _ - _ = _
  rw [← EReal.coe_mul, ← EReal.coe_sub]
  rfl

theorem ref_dy (i : S4096x1024.Idx) : val_main_v24 (F := Ideal) x0 x1 x2 x3 x4 x5 i = ((N.dy (i 0) (i 1) : ℝ) : EReal) := by
  rw [val_main_v24_apply, val_main_v23_apply, val_main_cst_3_apply, ref_err G]
  show Ideal.div _ (Ideal.ofBits FTy.f32 0x44800000#32) = _
  rw [width_word]
  exact div_width _

theorem ref_dn (i : S4096x1024.Idx) : val_main_v29 (F := Ideal) x0 x1 x2 x3 x4 x5 i = ((N.dn (i 0) (i 1) : ℝ) : EReal) := by
  rw [val_main_v29_apply, val_main_v28_apply, ref_dy G, G.fg]
  exact (EReal.coe_mul _ _).symm

theorem ref_pull (i : S4096x1024.Idx) : val_main_v39 (F := Ideal) x0 x1 x2 x3 x4 x5 i
    = (((∑ k, N.row (i 0) k * N.dn (i 0) k) * (-(1 / 2) * (inv (N.row (i 0)) / var (N.row (i 0)))) / 1024 : ℝ) : EReal) := by
  rw [val_main_v39_apply, val_main_v38_apply, val_main_cst_7_apply, Fin.sum_univ_one, val_main_v37_apply, val_main_v36_apply, val_main_cst_6_apply,
    val_main_v35_apply, val_main_v32_apply, val_main_v31_apply, val_main_cst_5_apply, ref_slope G]
  have e : ∑ k : Fin 1024, val_main_v30 (F := Ideal) x0 x1 x2 x3 x4 x5 (idx_main_v31 (idx_main_v32 (idx_main_v38 (idx_main_v39 i) 0)) k)
      = ((∑ k, N.row (i 0) k * N.dn (i 0) k : ℝ) : EReal) := by
    refine dot_coe (fun k => (ref_row G _).trans ?_) fun k => (ref_dn G _).trans ?_
    · exact congrArg (fun y : Fin 4096 => ((N.row y k : ℝ) : EReal)) (Fin.ext (show (i 0).val * 1 + 0 = (i 0).val by omega))
    · exact congrArg (fun y : Fin 4096 => ((N.dn y k : ℝ) : EReal)) (Fin.ext (show (i 0).val * 1 + 0 = (i 0).val by omega))
  rw [e]
  show Ideal.ofBits FTy.f32 0x00000000#32 + Ideal.div ((Ideal.ofBits FTy.f32 0x00000000#32 + _) * _) (Ideal.ofBits FTy.f32 0x44800000#32) = _
  rw [zero_word, width_word, EReal.coe_zero, zero_add, zero_add, ← EReal.coe_mul]
  exact div_width _

theorem ref_dx (i : S4096x1024.Idx) : val_main_v43 (F := Ideal) x0 x1 x2 x3 x4 x5 i = ((N.dx (i 0) (i 1) : ℝ) : EReal) := by
  rw [val_main_v43_apply, val_main_v42_apply, val_main_v41_apply, val_main_v40_apply, val_main_v34_apply, val_main_v33_apply, ref_pull G, ref_row G, ref_dn G, ref_inv G]
  show (_ : EReal) * _ + _ * _ + _ * _ = _
  rw [← EReal.coe_mul, ← EReal.coe_mul, ← EReal.coe_mul, ← EReal.coe_add, ← EReal.coe_add]
  exact congrArg (fun y : ℝ => (y : EReal)) (back_rule (N.row (i 0)) (N.dn (i 0)) (i 1))

theorem ref_dffn (i : S4096x1024.Idx) : val_main_v49 (F := Ideal) x0 x1 x2 x3 x4 x5 i = ((N.dx (i 0) (i 1) * N.gate (i 1) : ℝ) : EReal) := by
  rw [val_main_v49_apply, val_main_v45_apply, val_main_v44_apply, ref_dx G, G.gate]
  exact (EReal.coe_mul _ _).symm.trans (congrArg (fun y : ℝ => (y : EReal)) (mul_comm _ _))

theorem ref_loss (i : S1x1024.Idx) : val_main_v52 (F := Ideal) x0 x1 x2 x3 x4 x5 i = ((∑ R, N.err R (i 1) * N.err R (i 1) : ℝ) : EReal) := by
  rw [val_main_v52_apply, val_main_v51_apply, val_main_cst_9_apply]
  have e : ∑ k : Fin 4096, val_main_v50 (F := Ideal) x0 x1 x2 x3 x4 x5 (idx_main_v51 (idx_main_v52 i) k) = ((∑ R, N.err R (i 1) * N.err R (i 1) : ℝ) : EReal) :=
    dot_coe (fun k => ref_err G _) fun k => ref_err G _
  rw [e]
  show Ideal.ofBits FTy.f32 0x00000000#32 + _ = _
  rw [zero_word, EReal.coe_zero, zero_add]

omit G in
/-- A row of sums, read through its reshaping. -/
theorem column (i : S1x1024.Idx) (h : (i 0).val * 1024 + (i 1).val < 1024) : (⟨(i 0).val * 1024 + (i 1).val, h⟩ : Fin 1024) = i 1 :=
  Fin.ext (show (i 0).val * 1024 + (i 1).val = (i 1).val by omega)

theorem ref_dfg (i : S1x1024.Idx) : val_main_v27 (F := Ideal) x0 x1 x2 x3 x4 x5 i = ((∑ R, N.dy R (i 1) * N.xh R (i 1) : ℝ) : EReal) := by
  rw [val_main_v27_apply, val_main_v26_apply, val_main_cst_4_apply]
  have e : ∑ k : Fin 4096, val_main_v25 (F := Ideal) x0 x1 x2 x3 x4 x5 (idx_main_v26 (idx_main_v27 i) k) = ((∑ R, N.xh R (i 1) * N.dy R (i 1) : ℝ) : EReal) := by
    have hc := column i
    refine dot_coe (fun k => (ref_norm G _).trans ?_) fun k => (ref_dy G _).trans ?_
    · exact congrArg (fun y : Fin 1024 => ((N.xh k y : ℝ) : EReal)) (hc _)
    · exact congrArg (fun y : Fin 1024 => ((N.dy k y : ℝ) : EReal)) (hc _)
  rw [e]
  show Ideal.ofBits FTy.f32 0x00000000#32 + _ = _
  rw [zero_word, EReal.coe_zero, zero_add]
  exact congrArg (fun y : ℝ => (y : EReal)) (Finset.sum_congr rfl fun R _ => mul_comm _ _)

theorem ref_dgate (i : S1x1024.Idx) : val_main_v48 (F := Ideal) x0 x1 x2 x3 x4 x5 i = ((∑ R, N.dx R (i 1) * N.ffn R (i 1) : ℝ) : EReal) := by
  rw [val_main_v48_apply, val_main_v47_apply, val_main_cst_8_apply]
  have e : ∑ k : Fin 4096, val_main_v46 (F := Ideal) x0 x1 x2 x3 x4 x5 (idx_main_v47 (idx_main_v48 i) k) = ((∑ R, N.dx R (i 1) * N.ffn R (i 1) : ℝ) : EReal) := by
    have hc := column i
    refine dot_coe (fun k => (ref_dx G _).trans ?_) fun k => (ref_ffn G _).trans ?_
    · exact congrArg (fun y : Fin 1024 => ((N.dx k y : ℝ) : EReal)) (hc _)
    · exact congrArg (fun y : Fin 1024 => ((N.ffn k y : ℝ) : EReal)) (hc _)
  rw [e]
  show Ideal.ofBits FTy.f32 0x00000000#32 + _ = _
  rw [zero_word, EReal.coe_zero, zero_add]

end Cert.LossHead

end
-- ==== Proof.LossHeadArrays.lean ====
/- The kernel's arrays after its last point: rows block by block, and three sums of columns added up from point to point. -/
module

public import proofs.«01_k».proof.Proof.LossHeadPoint
public import proofs.«01_k».proof.Proof.LossHeadReference
public import proofs.«01_k».proof.Proof.Gen.Kernel8Ideal.Value

@[expose] public section

set_option maxRecDepth 16384

noncomputable section

namespace Cert.LossHead

open Cert.Kernel8Ideal Cert.Kernel8Ideal.Gen Idealize.ShloMosaic Idealize.ShloMosaic.TcCoe Idealize.SL.Sem Cert.Gate Cert.Norm

variable (m : (ℓ : Loc nD τ sig) → Buf (Elt Ideal) ℓ) (c : Dev nD)

/-- The arguments. -/
def stream : Vec Ideal S4096x1024 .f32 := m ((c : Thread nD τ).loc main_arg0)
def acts : Vec Ideal S4096x2816 .bf16 := m ((c : Thread nD τ).loc main_arg1)
def weight : Vec Ideal S1x2816x1024 .bf16 := m ((c : Thread nD τ).loc main_arg2)
def gates : Vec Ideal S1x1024 .f32 := m ((c : Thread nD τ).loc main_arg3)
def scales : Vec Ideal S1x1024 .f32 := m ((c : Thread nD τ).loc main_arg4)
def targets : Vec Ideal S4096x1024 .f32 := m ((c : Thread nD τ).loc main_arg5)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem size6 : ∀ t : Fin grid0.N, win0_6.xsize (grid0.coords t) 0 = 512 ∧ win0_6.xsize (grid0.coords t) 1 = 1024 := by decide +kernel
theorem size7 : ∀ t : Fin grid0.N, win0_7.xsize (grid0.coords t) 0 = 512 ∧ win0_7.xsize (grid0.coords t) 1 = 1024 := by decide +kernel

theorem block0 (t : Fin cfg0.N) (r : Fin 512) (k : Fin 1024) (R : Fin 4096) (h : R.val = 512 * t.val + r.val) :
    (iblk m c 0 t : Vec Ideal S512x1024 .f32) (ix2 r k) = stream m c (ix2 R k) := by
  have i := index0 t
  unfold iblk
  rw [View.read_apply]
  refine congrArg (stream m c) (funext fun a => Fin.ext ?_)
  match a with
  | ⟨0, _⟩ => show win0_0.index t 0 * 512 + 1 * r.val = R.val; rw [i.1, h]; omega
  | ⟨1, _⟩ => show win0_0.index t 1 * 1024 + 1 * k.val = k.val; rw [i.2]; omega

theorem block1 (t : Fin cfg0.N) (r : Fin 512) (k : Fin 2816) (R : Fin 4096) (h : R.val = 512 * t.val + r.val) :
    (iblk m c 1 t : Vec Ideal S512x2816 .bf16) (ix2 r k) = acts m c (ix2 R k) := by
  have i := index1 t
  unfold iblk
  rw [View.read_apply]
  refine congrArg (acts m c) (funext fun a => Fin.ext ?_)
  match a with
  | ⟨0, _⟩ => show win0_1.index t 0 * 512 + 1 * r.val = R.val; rw [i.1, h]; omega
  | ⟨1, _⟩ => show win0_1.index t 1 * 2816 + 1 * k.val = k.val; rw [i.2]; omega

theorem block2 (t : Fin cfg0.N) (k : Fin 2816) (j : Fin 1024) : (iblk m c 2 t : Vec Ideal S1x2816x1024 .bf16) (ix3 0 k j) = weight m c (ix3 0 k j) := by
  have i := index2 t
  unfold iblk
  rw [View.read_apply]
  refine congrArg (weight m c) (funext fun a => Fin.ext ?_)
  match a with
  | ⟨0, _⟩ => show win0_2.index t 0 * 1 + 1 * 0 = 0; rw [i.1]
  | ⟨1, _⟩ => show win0_2.index t 1 * 2816 + 1 * k.val = k.val; rw [i.2.1]; omega
  | ⟨2, _⟩ => show win0_2.index t 2 * 1024 + 1 * j.val = j.val; rw [i.2.2]; omega

theorem block3 (t : Fin cfg0.N) (k : Fin 1024) : (iblk m c 3 t : Vec Ideal S1x1024 .f32) (ix2 0 k) = gates m c (ix2 0 k) := by
  have i := index3 t
  unfold iblk
  rw [View.read_apply]
  refine congrArg (gates m c) (funext fun a => Fin.ext ?_)
  match a with
  | ⟨0, _⟩ => show win0_3.index t 0 * 1 + 1 * 0 = 0; rw [i.1]
  | ⟨1, _⟩ => show win0_3.index t 1 * 1024 + 1 * k.val = k.val; rw [i.2]; omega

theorem block4 (t : Fin cfg0.N) (k : Fin 1024) : (iblk m c 4 t : Vec Ideal S1x1024 .f32) (ix2 0 k) = scales m c (ix2 0 k) := by
  have i := index4 t
  unfold iblk
  rw [View.read_apply]
  refine congrArg (scales m c) (funext fun a => Fin.ext ?_)
  match a with
  | ⟨0, _⟩ => show win0_4.index t 0 * 1 + 1 * 0 = 0; rw [i.1]
  | ⟨1, _⟩ => show win0_4.index t 1 * 1024 + 1 * k.val = k.val; rw [i.2]; omega

theorem block5 (t : Fin cfg0.N) (r : Fin 512) (k : Fin 1024) (R : Fin 4096) (h : R.val = 512 * t.val + r.val) :
    (iblk m c 5 t : Vec Ideal S512x1024 .f32) (ix2 r k) = targets m c (ix2 R k) := by
  have i := index5 t
  unfold iblk
  rw [View.read_apply]
  refine congrArg (targets m c) (funext fun a => Fin.ext ?_)
  match a with
  | ⟨0, _⟩ => show win0_5.index t 0 * 512 + 1 * r.val = R.val; rw [i.1, h]; omega
  | ⟨1, _⟩ => show win0_5.index t 1 * 1024 + 1 * k.val = k.val; rw [i.2]; omega

/-- What a point leaves in its five windows. -/
theorem left_first (t : Fin cfg0.N) (h : t.val = 0) : outsAt0 m c t.val t.isLt
    = (toRow (iblk m c 0 t) (iblk m c 1 t) (iblk m c 2 t) (iblk m c 3 t) (iblk m c 4 t) (iblk m c 5 t), toProd (iblk m c 0 t) (iblk m c 1 t) (iblk m c 2 t) (iblk m c 3 t) (iblk m c 4 t) (iblk m c 5 t),
      loss (iblk m c 0 t) (iblk m c 1 t) (iblk m c 2 t) (iblk m c 3 t) (iblk m c 4 t) (iblk m c 5 t), toWeight (iblk m c 0 t) (iblk m c 1 t) (iblk m c 2 t) (iblk m c 3 t) (iblk m c 4 t) (iblk m c 5 t),
      toGate (iblk m c 0 t) (iblk m c 1 t) (iblk m c 2 t) (iblk m c 3 t) (iblk m c 4 t) (iblk m c 5 t)) := by
  rw [outsAt0_A m c t (by omega) (by omega) (by omega) (by omega) (by omega) (by omega), left6_A, left7_A, left8_A, left9_A, left10_A]

theorem left_later (t : Fin cfg0.N) (h : 1 ≤ t.val) (before : t.val - 1 < cfg0.N) : outsAt0 m c t.val t.isLt
    = (toRow (iblk m c 0 t) (iblk m c 1 t) (iblk m c 2 t) (iblk m c 3 t) (iblk m c 4 t) (iblk m c 5 t), toProd (iblk m c 0 t) (iblk m c 1 t) (iblk m c 2 t) (iblk m c 3 t) (iblk m c 4 t) (iblk m c 5 t),
      k0_pay12 (rErr (iblk m c 0 t) (iblk m c 1 t) (iblk m c 2 t) (iblk m c 3 t) (iblk m c 4 t) (iblk m c 5 t)) (outsAt0 m c (t.val - 1) before).2.2.1,
      k0_pay14 (rNorm (iblk m c 0 t) (iblk m c 1 t) (iblk m c 2 t) (iblk m c 3 t)) (rDy (iblk m c 0 t) (iblk m c 1 t) (iblk m c 2 t) (iblk m c 3 t) (iblk m c 4 t) (iblk m c 5 t)) (outsAt0 m c (t.val - 1) before).2.2.2.1,
      k0_pay16 (prod (iblk m c 1 t) (iblk m c 2 t)) (rInv (iblk m c 0 t) (iblk m c 1 t) (iblk m c 2 t) (iblk m c 3 t))
        (rNorm (iblk m c 0 t) (iblk m c 1 t) (iblk m c 2 t) (iblk m c 3 t)) (rDn (iblk m c 0 t) (iblk m c 1 t) (iblk m c 2 t) (iblk m c 3 t) (iblk m c 4 t) (iblk m c 5 t))
        (rMean (iblk m c 0 t) (iblk m c 1 t) (iblk m c 2 t) (iblk m c 3 t) (iblk m c 4 t) (iblk m c 5 t)) (outsAt0 m c (t.val - 1) before).2.2.2.2) := by
  have hN : t.val < 8 := lt_of_lt_of_eq t.isLt (show cfg0.N = 8 from N_0)
  rw [outsAt0_B m c t (by omega) h (by omega) h (by omega) h, left6_B, left7_B, left8_B, left9_B, left10_B]

theorem left_row (t : Fin cfg0.N) : (outsAt0 m c t.val t.isLt).1 = toRow (iblk m c 0 t) (iblk m c 1 t) (iblk m c 2 t) (iblk m c 3 t) (iblk m c 4 t) (iblk m c 5 t) := by
  by_cases h : t.val = 0
  · rw [left_first m c t h]
  · rw [left_later m c t (by omega) (by omega)]

theorem left_prod (t : Fin cfg0.N) : (outsAt0 m c t.val t.isLt).2.1 = toProd (iblk m c 0 t) (iblk m c 1 t) (iblk m c 2 t) (iblk m c 3 t) (iblk m c 4 t) (iblk m c 5 t) := by
  by_cases h : t.val = 0
  · rw [left_first m c t h]
  · rw [left_later m c t (by omega) (by omega)]

variable {m c} {N : Nums} (G : Given N (stream m c) (acts m c) (weight m c) (gates m c) (scales m c) (targets m c))
include G

theorem holds (t : Fin cfg0.N) (r : Fin 512) (R : Fin 4096) (h : R.val = 512 * t.val + r.val) :
    Holds N R r (iblk m c 0 t) (iblk m c 1 t) (iblk m c 2 t) (iblk m c 3 t) (iblk m c 4 t) (iblk m c 5 t) where
  x j := (block0 m c t r j R h).trans (G.x _)
  act k := (block1 m c t r k R h).trans (G.act _)
  w k j := (block2 m c t k j).trans (G.w _)
  gate j := (block3 m c t j).trans (G.gate _)
  fg j := (block4 m c t j).trans (G.fg _)
  tgt j := (block5 m c t r j R h).trans (G.tgt _)

omit G in
theorem row_lt (n : ℕ) (hn : n < cfg0.N) (r : Fin 512) : 512 * n + r.val < 4096 := by
  have hN : n < 8 := lt_of_lt_of_eq hn (show cfg0.N = 8 from N_0)
  omega

theorem sum_loss (j : Fin 1024) : ((outsAt0 m c t0_7.val t0_7.isLt).2.2.1 : Vec Ideal S1x1024 .f32) (ix2 0 j) = ((∑ R, N.err R j * N.err R j : ℝ) : EReal) := by
  refine added_up (fun R => N.err R j * N.err R j) N_0 (fun n hn => (outsAt0 m c n hn).2.2.1 (ix2 0 j))
    (fun n hn => loss_at (fun r : Fin 512 => (⟨512 * n + r.val, row_lt n hn r⟩ : Fin 4096)) (fun r => holds G ⟨n, hn⟩ r ⟨512 * n + r.val, row_lt n hn r⟩ rfl) j)
    (fun hn => ?_) (fun n hn => ?_) t0_7.isLt
  · rw [left_first m c ⟨0, hn⟩ rfl]
  · rw [left_later m c ⟨n + 1, hn⟩ (Nat.le_add_left 1 n) (Nat.lt_of_le_of_lt (Nat.sub_le _ _) hn)]
    dsimp only
    unfold k0_pay12
    pointwise
    rfl

theorem sum_weight (j : Fin 1024) : ((outsAt0 m c t0_7.val t0_7.isLt).2.2.2.1 : Vec Ideal S1x1024 .f32) (ix2 0 j) = ((∑ R, N.dy R j * N.xh R j : ℝ) : EReal) := by
  refine added_up (fun R => N.dy R j * N.xh R j) N_0 (fun n hn => (outsAt0 m c n hn).2.2.2.1 (ix2 0 j))
    (fun n hn => toWeight_at (fun r : Fin 512 => (⟨512 * n + r.val, row_lt n hn r⟩ : Fin 4096)) (fun r => holds G ⟨n, hn⟩ r ⟨512 * n + r.val, row_lt n hn r⟩ rfl) j)
    (fun hn => ?_) (fun n hn => ?_) t0_7.isLt
  · rw [left_first m c ⟨0, hn⟩ rfl]
  · rw [left_later m c ⟨n + 1, hn⟩ (Nat.le_add_left 1 n) (Nat.lt_of_le_of_lt (Nat.sub_le _ _) hn)]
    dsimp only
    unfold k0_pay14
    pointwise
    rfl

theorem sum_gate (j : Fin 1024) : ((outsAt0 m c t0_7.val t0_7.isLt).2.2.2.2 : Vec Ideal S1x1024 .f32) (ix2 0 j) = ((∑ R, N.dx R j * N.ffn R j : ℝ) : EReal) := by
  refine added_up (fun R => N.dx R j * N.ffn R j) N_0 (fun n hn => (outsAt0 m c n hn).2.2.2.2 (ix2 0 j))
    (fun n hn => toGate_at (fun r : Fin 512 => (⟨512 * n + r.val, row_lt n hn r⟩ : Fin 4096)) (fun r => holds G ⟨n, hn⟩ r ⟨512 * n + r.val, row_lt n hn r⟩ rfl) j)
    (fun hn => ?_) (fun n hn => ?_) t0_7.isLt
  · rw [left_first m c ⟨0, hn⟩ rfl]
  · rw [left_later m c ⟨n + 1, hn⟩ (Nat.le_add_left 1 n) (Nat.lt_of_le_of_lt (Nat.sub_le _ _) hn)]
    dsimp only
    unfold k0_pay16
    pointwise
    rfl

theorem final6 (R : Fin 4096) (j : Fin 1024) : (dats m 0 c).arrAt 6 cfg0.N (ix2 R j) = ((N.dx R j : ℝ) : EReal) := by
  have hR := R.isLt
  have hj := j.isLt
  have hr : R.val % 512 < 512 := by omega
  obtain ⟨t, htv⟩ : ∃ t : Fin cfg0.N, t.val = R.val / 512 := ⟨⟨R.val / 512, by rw [show cfg0.N = 8 from N_0]; omega⟩, rfl⟩
  have z := size6 t
  have i := index6 t
  let y : ((cfg0.win 6).xblock (grid0.coords t)).Idx := fun a => match a with
    | ⟨0, _⟩ => ⟨R.val % 512, by show _ < win0_6.xsize (grid0.coords t) 0; rw [z.1]; omega⟩
    | ⟨1, _⟩ => ⟨j.val, by show _ < win0_6.xsize (grid0.coords t) 1; rw [z.2]; omega⟩
  have e := congrFun (Value.blocks6 m c t (flush0_6 t)) y
  rw [View.read_apply, Value.flushed6] at e
  have ey : ((cfg0.win 6).blk t).view.emb y = ix2 R j := by
    funext a
    apply Fin.ext
    match a with
    | ⟨0, _⟩ => show win0_6.index t 0 * 512 + 1 * (R.val % 512) = R.val; rw [i.1]; omega
    | ⟨1, _⟩ => show win0_6.index t 1 * 1024 + 1 * j.val = j.val; rw [i.2]; omega
  rw [ey] at e
  have ex : (cfg0.win 6).cut (grid0.coords t) (outsAt0 m c t.val t.isLt).1 y = (outsAt0 m c t.val t.isLt).1 (ix2 ⟨R.val % 512, hr⟩ j) := by
    refine congrArg (outsAt0 m c t.val t.isLt).1 (funext fun a => Fin.ext ?_)
    match a with
    | ⟨0, _⟩ => rfl
    | ⟨1, _⟩ => rfl
  refine e.trans (ex.trans ((congrFun (left_row m c t) _).trans (toRow_at (holds G t ⟨R.val % 512, hr⟩ R ?_) j)))
  show R.val = 512 * t.val + R.val % 512
  omega

theorem final7 (R : Fin 4096) (j : Fin 1024) : (dats m 0 c).arrAt 7 cfg0.N (ix2 R j) = ((N.dx R j * N.gate j : ℝ) : EReal) := by
  have hR := R.isLt
  have hj := j.isLt
  have hr : R.val % 512 < 512 := by omega
  obtain ⟨t, htv⟩ : ∃ t : Fin cfg0.N, t.val = R.val / 512 := ⟨⟨R.val / 512, by rw [show cfg0.N = 8 from N_0]; omega⟩, rfl⟩
  have z := size7 t
  have i := index7 t
  let y : ((cfg0.win 7).xblock (grid0.coords t)).Idx := fun a => match a with
    | ⟨0, _⟩ => ⟨R.val % 512, by show _ < win0_7.xsize (grid0.coords t) 0; rw [z.1]; omega⟩
    | ⟨1, _⟩ => ⟨j.val, by show _ < win0_7.xsize (grid0.coords t) 1; rw [z.2]; omega⟩
  have e := congrFun (Value.blocks7 m c t (flush0_7 t)) y
  rw [View.read_apply, Value.flushed7] at e
  have ey : ((cfg0.win 7).blk t).view.emb y = ix2 R j := by
    funext a
    apply Fin.ext
    match a with
    | ⟨0, _⟩ => show win0_7.index t 0 * 512 + 1 * (R.val % 512) = R.val; rw [i.1]; omega
    | ⟨1, _⟩ => show win0_7.index t 1 * 1024 + 1 * j.val = j.val; rw [i.2]; omega
  rw [ey] at e
  have ex : (cfg0.win 7).cut (grid0.coords t) (outsAt0 m c t.val t.isLt).2.1 y = (outsAt0 m c t.val t.isLt).2.1 (ix2 ⟨R.val % 512, hr⟩ j) := by
    refine congrArg (outsAt0 m c t.val t.isLt).2.1 (funext fun a => Fin.ext ?_)
    match a with
    | ⟨0, _⟩ => rfl
    | ⟨1, _⟩ => rfl
  refine e.trans (ex.trans ((congrFun (left_prod m c t) _).trans (toProd_at (holds G t ⟨R.val % 512, hr⟩ R ?_) j)))
  show R.val = 512 * t.val + R.val % 512
  omega

theorem final8 (j : Fin 1024) : (dats m 0 c).arrAt 8 cfg0.N (ix2 0 j) = ((∑ R, N.err R j * N.err R j : ℝ) : EReal) := by
  have hN : cfg0.N = 8 := N_0
  have e : (dats m 0 c).arrAt 8 cfg0.N = (outsAt0 m c t0_7.val t0_7.isLt).2.2.1 :=
    (dats m 0 c).arrAt_eq_of_cover 8 (outsAt0 m c t0_7.val t0_7.isLt).2.2.1 (fun t hf => by
      have h7 : t.val = 7 := by have := (flush0_8 t).mp hf; have := t.isLt; omega
      obtain rfl : t = t0_7 := Fin.ext h7
      rw [Value.flushed8]
      have hz' : (fun a => win0_8.index t0_7 a * main_v0_2.ty.shape.size a) = fun _ => 0 := funext fun a => by fin_cases a <;> decide
      exact (Memref.read_access_unit_zero (Elt Ideal) main_v0_2 hz' (fun a => by rw [congrFun hz' a]; simp) (outsAt0 m c t0_7.val t0_7.isLt).2.2.1).symm) fun i =>
    ⟨t0_7, (flush0_8 t0_7).mpr rfl, by
      show i ∈ ((View.whole main_v0_2).slice (win0_8.rect t0_7)).set
      rw [View.set_slice_whole, Rect.mem_set_unit]
      have z : ∀ a, win0_8.index t0_7 a * win0_8.size a = 0 ∧ win0_8.xsize (grid0.coords t0_7) a = main_v0_2.ty.shape.size a := by decide +kernel
      exact fun a => inside (i a).isLt (z a)⟩
  rw [e]
  exact sum_loss G j

theorem final9 (j : Fin 1024) : (dats m 0 c).arrAt 9 cfg0.N (ix2 0 j) = ((∑ R, N.dy R j * N.xh R j : ℝ) : EReal) := by
  have hN : cfg0.N = 8 := N_0
  have e : (dats m 0 c).arrAt 9 cfg0.N = (outsAt0 m c t0_7.val t0_7.isLt).2.2.2.1 :=
    (dats m 0 c).arrAt_eq_of_cover 9 (outsAt0 m c t0_7.val t0_7.isLt).2.2.2.1 (fun t hf => by
      have h7 : t.val = 7 := by have := (flush0_9 t).mp hf; have := t.isLt; omega
      obtain rfl : t = t0_7 := Fin.ext h7
      rw [Value.flushed9]
      have hz' : (fun a => win0_9.index t0_7 a * main_v0_3.ty.shape.size a) = fun _ => 0 := funext fun a => by fin_cases a <;> decide
      exact (Memref.read_access_unit_zero (Elt Ideal) main_v0_3 hz' (fun a => by rw [congrFun hz' a]; simp) (outsAt0 m c t0_7.val t0_7.isLt).2.2.2.1).symm) fun i =>
    ⟨t0_7, (flush0_9 t0_7).mpr rfl, by
      show i ∈ ((View.whole main_v0_3).slice (win0_9.rect t0_7)).set
      rw [View.set_slice_whole, Rect.mem_set_unit]
      have z : ∀ a, win0_9.index t0_7 a * win0_9.size a = 0 ∧ win0_9.xsize (grid0.coords t0_7) a = main_v0_3.ty.shape.size a := by decide +kernel
      exact fun a => inside (i a).isLt (z a)⟩
  rw [e]
  exact sum_weight G j

theorem final10 (j : Fin 1024) : (dats m 0 c).arrAt 10 cfg0.N (ix2 0 j) = ((∑ R, N.dx R j * N.ffn R j : ℝ) : EReal) := by
  have hN : cfg0.N = 8 := N_0
  have e : (dats m 0 c).arrAt 10 cfg0.N = (outsAt0 m c t0_7.val t0_7.isLt).2.2.2.2 :=
    (dats m 0 c).arrAt_eq_of_cover 10 (outsAt0 m c t0_7.val t0_7.isLt).2.2.2.2 (fun t hf => by
      have h7 : t.val = 7 := by have := (flush0_10 t).mp hf; have := t.isLt; omega
      obtain rfl : t = t0_7 := Fin.ext h7
      rw [Value.flushed10]
      have hz' : (fun a => win0_10.index t0_7 a * main_v0_4.ty.shape.size a) = fun _ => 0 := funext fun a => by fin_cases a <;> decide
      exact (Memref.read_access_unit_zero (Elt Ideal) main_v0_4 hz' (fun a => by rw [congrFun hz' a]; simp) (outsAt0 m c t0_7.val t0_7.isLt).2.2.2.2).symm) fun i =>
    ⟨t0_7, (flush0_10 t0_7).mpr rfl, by
      show i ∈ ((View.whole main_v0_4).slice (win0_10.rect t0_7)).set
      rw [View.set_slice_whole, Rect.mem_set_unit]
      have z : ∀ a, win0_10.index t0_7 a * win0_10.size a = 0 ∧ win0_10.xsize (grid0.coords t0_7) a = main_v0_4.ty.shape.size a := by decide +kernel
      exact fun a => inside (i a).isLt (z a)⟩
  rw [e]
  exact sum_gate G j

end Cert.LossHead

end
-- ==== Proof.LossHead.lean ====
/- The last norm, the loss and their gradients: the kernel and the reference leave the same five arrays. -/
module

public import proofs.«01_k».proof.Proof.LossHeadArrays
public import proofs.«01_k».proof.Defs
public import proofs.«01_k».proof.Proof.Gen.Pre_finite8

@[expose] public section

set_option maxRecDepth 16384

noncomputable section

namespace Cert.LossHead

open Cert.Kernel8Ideal Cert.Kernel8Ideal.Gen Idealize.ShloMosaic Idealize.ShloMosaic.TcCoe Idealize.SL.Sem Cert.Gate Cert.Norm

/-- The precondition, read at every entry. -/
theorem finite_entries {x : Vec Ideal S4096x1024 .f32} {a : Vec Ideal S4096x2816 .bf16} {w : Vec Ideal S1x2816x1024 .bf16} {g s : Vec Ideal S1x1024 .f32}
    {t : Vec Ideal S4096x1024 .f32} [Cert.Pre_finite8.Facts] (h : Cert.Pre_finite8.fn (F := Ideal) x a w g s t = fun _ => 1#1) :
    (∀ i, IsReal (x i)) ∧ (∀ i, IsReal (a i)) ∧ (∀ i, IsReal (w i)) ∧ (∀ i, IsReal (g i)) ∧ (∀ i, IsReal (s i)) ∧ ∀ i, IsReal (t i) := by
  have e := congrFun h (fun a => a.elim0)
  dsimp only [Cert.Pre_finite8.fn] at e
  obtain ⟨e, e₅⟩ := Cert.Hgrn.both_one _ _ e
  obtain ⟨e, e₄⟩ := Cert.Hgrn.both_one _ _ e
  obtain ⟨e, e₃⟩ := Cert.Hgrn.both_one _ _ e
  obtain ⟨e, e₂⟩ := Cert.Hgrn.both_one _ _ e
  obtain ⟨e₀, e₁⟩ := Cert.Hgrn.both_one _ _ e
  exact ⟨fun i => isReal_of_bit _ (Host.reduce_andi_all _ _ _ _ _ e₀ i), fun i => isReal_of_bit _ (Host.reduce_andi_all _ _ _ _ _ e₁ i),
    fun i => isReal_of_bit _ (Host.reduce_andi_all _ _ _ _ _ e₂ i), fun i => isReal_of_bit _ (Host.reduce_andi_all _ _ _ _ _ e₃ i),
    fun i => isReal_of_bit _ (Host.reduce_andi_all _ _ _ _ _ e₄ i), fun i => isReal_of_bit _ (Host.reduce_andi_all _ _ _ _ _ e₅ i)⟩

variable (m : (ℓ : Loc nD τ sig) → Buf (Elt Ideal) ℓ) (c : Dev nD)

/-- The arguments' entries as real numbers. -/
def nums : Nums where
  x R j := (stream m c (ix2 R j)).toReal
  act R k := (acts m c (ix2 R k)).toReal
  w k j := (weight m c (ix3 0 k j)).toReal
  gate j := (gates m c (ix2 0 j)).toReal
  fg j := (scales m c (ix2 0 j)).toReal
  tgt R j := (targets m c (ix2 R j)).toReal

theorem two {n k : ℕ} (i : (⟨2, ![n, k]⟩ : Shape).Idx) : i = ix2 (i 0) (i 1) :=
  funext fun a => match a with | ⟨0, _⟩ => rfl | ⟨1, _⟩ => rfl

theorem one_row {k : ℕ} (i : (⟨2, ![1, k]⟩ : Shape).Idx) : i = ix2 0 (i 1) :=
  funext fun a => match a with | ⟨0, _⟩ => Subsingleton.elim (α := Fin 1) _ _ | ⟨1, _⟩ => rfl

theorem one_page {n k : ℕ} (i : (⟨3, ![1, n, k]⟩ : Shape).Idx) : i = ix3 0 (i 1) (i 2) :=
  funext fun a => match a with | ⟨0, _⟩ => Subsingleton.elim (α := Fin 1) _ _ | ⟨1, _⟩ => rfl | ⟨2, _⟩ => rfl

theorem given (h : (∀ i, IsReal (stream m c i)) ∧ (∀ i, IsReal (acts m c i)) ∧ (∀ i, IsReal (weight m c i)) ∧ (∀ i, IsReal (gates m c i))
    ∧ (∀ i, IsReal (scales m c i)) ∧ ∀ i, IsReal (targets m c i)) :
    Given (nums m c) (stream m c) (acts m c) (weight m c) (gates m c) (scales m c) (targets m c) where
  x i := (h.1 i).trans (congrArg (fun i => (((stream m c i).toReal : ℝ) : EReal)) (two i))
  act i := (h.2.1 i).trans (congrArg (fun i => (((acts m c i).toReal : ℝ) : EReal)) (two i))
  w i := (h.2.2.1 i).trans (congrArg (fun i => (((weight m c i).toReal : ℝ) : EReal)) (one_page i))
  gate i := (h.2.2.2.1 i).trans (congrArg (fun i => (((gates m c i).toReal : ℝ) : EReal)) (one_row i))
  fg i := (h.2.2.2.2.1 i).trans (congrArg (fun i => (((scales m c i).toReal : ℝ) : EReal)) (one_row i))
  tgt i := (h.2.2.2.2.2 i).trans (congrArg (fun i => (((targets m c i).toReal : ℝ) : EReal)) (two i))

open Cert.Reference8Ideal.Read

section Same

variable {m c}
variable (G : Given (nums m c) (stream m c) (acts m c) (weight m c) (gates m c) (scales m c) (targets m c))
include G

theorem same_dx : val_main_v43 (F := Ideal) (stream m c) (acts m c) (weight m c) (gates m c) (scales m c) (targets m c) = (dats m 0 c).arrAt 6 cfg0.N :=
  funext fun (i : S4096x1024.Idx) => (ref_dx G i).trans ((final6 G (i 0) (i 1)).symm.trans (congrArg ((dats m 0 c).arrAt 6 cfg0.N) (two i).symm))

theorem same_dffn : val_main_v49 (F := Ideal) (stream m c) (acts m c) (weight m c) (gates m c) (scales m c) (targets m c) = (dats m 0 c).arrAt 7 cfg0.N :=
  funext fun (i : S4096x1024.Idx) => (ref_dffn G i).trans ((final7 G (i 0) (i 1)).symm.trans (congrArg ((dats m 0 c).arrAt 7 cfg0.N) (two i).symm))

theorem same_loss : val_main_v52 (F := Ideal) (stream m c) (acts m c) (weight m c) (gates m c) (scales m c) (targets m c) = (dats m 0 c).arrAt 8 cfg0.N :=
  funext fun (i : S1x1024.Idx) => (ref_loss G i).trans ((final8 G (i 1)).symm.trans (congrArg ((dats m 0 c).arrAt 8 cfg0.N) (one_row i).symm))

theorem same_dfg : val_main_v27 (F := Ideal) (stream m c) (acts m c) (weight m c) (gates m c) (scales m c) (targets m c) = (dats m 0 c).arrAt 9 cfg0.N :=
  funext fun (i : S1x1024.Idx) => (ref_dfg G i).trans ((final9 G (i 1)).symm.trans (congrArg ((dats m 0 c).arrAt 9 cfg0.N) (one_row i).symm))

theorem same_dgate : val_main_v48 (F := Ideal) (stream m c) (acts m c) (weight m c) (gates m c) (scales m c) (targets m c) = (dats m 0 c).arrAt 10 cfg0.N :=
  funext fun (i : S1x1024.Idx) => (ref_dgate G i).trans ((final10 G (i 1)).symm.trans (congrArg ((dats m 0 c).arrAt 10 cfg0.N) (one_row i).symm))

end Same

/-- The value claim: the five arrays are the reference's. -/
theorem algebraic : Cert.algebraic_Kernel8Ideal_Reference8Ideal_pre_finite8 := by
  intro m g m' g' hpre hagree
  refine ⟨_, _, _, _, _, Value.run_blocks m g, ?_⟩
  refine (θ_run _ _ _).mono (fun _ h c => ?_) (Cert.Reference8Ideal.Value.run (F := Ideal) m' g')
  obtain ⟨a0, a1, a2, a3, a4, a5⟩ := hagree c
  have G := given m c (finite_entries (hpre c))
  obtain ⟨h0, h1, h2, h3, h4, hrest⟩ := h c
  refine ⟨h0.trans ((val_main_v43_eq _ _).trans ?_), h1.trans ((val_main_v49_eq _ _).trans ?_), h2.trans ((val_main_v52_eq _ _ _ _ _ _).trans ?_),
    h3.trans ((val_main_v27_eq _ _ _ _ _ _).trans ?_), h4.trans ((val_main_v48_eq _ _).trans ?_), hrest⟩
  all_goals rw [a0, a1, a2, a3, a4, a5]
  · exact same_dx G
  · exact same_dffn G
  · exact same_loss G
  · exact same_dfg G
  · exact same_dgate G

end Cert.LossHead

end
-- ==== Proof.NormBwdFirst.lean ====
/- The body at the first point: the weight is copied into scratch, shard by shard, and every output is stored. -/
module

public import proofs.«01_k».proof.Proof.Gen.Kernel9Ideal.Frame.Runs

@[expose] public section

set_option maxRecDepth 16384

noncomputable section

namespace Cert.NormBwd

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The pieces that the first point stores into each output and into the scratch, and that the body runs and leaves them. -/
def runFirst (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .bf16) (harg14 : arg14.IsWhole) (arg15 : Memref sig .tc .vmem S1024x5632 .bf16) (harg15 : arg15.IsWhole) (hc0 : cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i)
    (x0 : Vec F S512x5632 .bf16) (x1 : Vec F S512x1024 .f32) (x2 : Vec F S1x1024 .f32) (x3 : Vec F S1x1024 .f32) (x4 : Vec F S512x1024 .f32) (x5 : Vec F S1x1024 .f32) (x6 : Vec F S512x1024 .f32) (fh0 : HbBuf0 (F := F) c hbM0_0) :
    Σ' (L7 : List (View.Piece (Elt F) S512x1024 .f32)), Σ' (L8 : List (View.Piece (Elt F) S1x1024 .f32)), Σ' (L9 : List (View.Piece (Elt F) S1x1024 .f32)), Σ' (L10 : List (View.Piece (Elt F) S1x1024 .f32)), Σ' (L11 : List (View.Piece (Elt F) S1x1024 .f32)), Σ' (L12 : List (View.Piece (Elt F) S512x1024 .bf16)), { LS0 : List (View.Piece (Elt F) S1024x5632 .bf16) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ (∃ W', owes (c : Thread nD τ) 0 W')) -∗ K ⟨⟩))
          ⊢ wp frame (wpE (defs₀ (F := F)) Variants.none c none) Set.univ (cc0_mm_gu_dx_norm_bwd i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 cc0_scratch1) K } := by
  refine ⟨?_, ?_, ?_, ?_, ?_, ?_, ?_, fun W K => ?run⟩
  case run =>
    simp only [cc0_mm_gu_dx_norm_bwd_eq_skeleton]; unfold cc0_mm_gu_dx_norm_bwd_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    set_option sl_exec.dmaWindow true in
    set_option sl_exec.dmaWindowSet true in
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [Hq0]; · iexact Hq0
    isplitl [Hq1]; · iexact Hq1
    isplitl [Hq2]; · iexact Hq2
    isplitl [Hq3]; · iexact Hq3
    isplitl [Hh0]; · iexact Hh0
    iexists _; iexact HW

end Cert.NormBwd

end
-- ==== Proof.NormBwdLater.lean ====
/- The body at a later point: the weight stays in scratch, and the sums of columns are added to what the point before left. -/
module

public import proofs.«01_k».proof.Proof.Gen.Kernel9Ideal.Frame.Runs

@[expose] public section

set_option maxRecDepth 16384

noncomputable section

namespace Cert.NormBwd

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The pieces that a later point stores into each output, and that the body runs and leaves them. -/
def runLater (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .bf16) (harg14 : arg14.IsWhole) (arg15 : Memref sig .tc .vmem S1024x5632 .bf16) (harg15 : arg15.IsWhole) (hc0 : ¬cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i)
    (x0 : Vec F S512x5632 .bf16) (x1 : Vec F S512x1024 .f32) (x2 : Vec F S1x1024 .f32) (x3 : Vec F S1x1024 .f32) (x4 : Vec F S512x1024 .f32) (x5 : Vec F S1x1024 .f32) (x6 : Vec F S512x1024 .f32) (xo8 : Vec F S1x1024 .f32) (xo9 : Vec F S1x1024 .f32) (xo10 : Vec F S1x1024 .f32) (xo11 : Vec F S1x1024 .f32) (xs0 : Vec F S1024x5632 .bf16) (fh0 : HbBuf0 (F := F) c hbM0_0) :
    Σ' (L7 : List (View.Piece (Elt F) S512x1024 .f32)), Σ' (L8 : List (View.Piece (Elt F) S1x1024 .f32)), Σ' (L9 : List (View.Piece (Elt F) S1x1024 .f32)), Σ' (L10 : List (View.Piece (Elt F) S1x1024 .f32)), Σ' (L11 : List (View.Piece (Elt F) S1x1024 .f32)), Σ' (L12 : List (View.Piece (Elt F) S512x1024 .bf16)), { LS0 : List (View.Piece (Elt F) S1024x5632 .bf16) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ owns (c : Thread nD τ) arg11 fullShare xo9 ∗ owns (c : Thread nD τ) arg12 fullShare xo10 ∗ owns (c : Thread nD τ) arg13 fullShare xo11 ∗ (∃ d, owns (c : Thread nD τ) arg14 fullShare d) ∗ owns (c : Thread nD τ) arg15 fullShare xs0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xs0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ (∃ W', owes (c : Thread nD τ) 0 W')) -∗ K ⟨⟩))
          ⊢ wp frame (wpE (defs₀ (F := F)) Variants.none c none) Set.univ (cc0_mm_gu_dx_norm_bwd i arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 cc0_scratch1) K } := by
  refine ⟨?_, ?_, ?_, ?_, ?_, ?_, [], fun W K => ?run⟩
  case run =>
    simp only [cc0_mm_gu_dx_norm_bwd_eq_skeleton]; unfold cc0_mm_gu_dx_norm_bwd_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10; obtain rfl := harg13.eq_unread hf11; obtain rfl := harg15.eq_unread hfs0
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg15.read_unread _
      iexact HS0
    isplitl [Hq0]; · iexact Hq0
    isplitl [Hq1]; · iexact Hq1
    isplitl [Hq2]; · iexact Hq2
    isplitl [Hq3]; · iexact Hq3
    isplitl [Hh0]; · iexact Hh0
    iexists _; iexact HW

end Cert.NormBwd

end
-- ==== Proof.NormBwdPoints.lean ====
/- What the outputs and the scratch hold point by point. -/
module

public import proofs.«01_k».proof.Proof.NormBwdFirst
public import proofs.«01_k».proof.Proof.NormBwdLater
public import proofs.«01_k».proof.Proof.Norm

@[expose] public section

set_option maxRecDepth 16384

noncomputable section

namespace Cert.NormBwd

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the outputs and the scratch hold after a point, in the order of the outputs. -/
abbrev Held (F : FTy → Type) : Type := Vec F S512x1024 .f32 × Vec F S1x1024 .f32 × Vec F S1x1024 .f32 × Vec F S1x1024 .f32 × Vec F S1x1024 .f32 × Vec F S512x1024 .bf16 × Vec F S1024x5632 .bf16

section First

variable (c : Dev nD) (i : grid0.Coords) (arg1 : Memref sig .tc .vmem S512x5632 .bf16) (harg1 : arg1.IsWhole)
  (arg3 : Memref sig .tc .vmem S512x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .f32) (harg8 : arg8.IsWhole)
  (arg9 : Memref sig .tc .vmem S512x1024 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S1x1024 .f32) (harg12 : arg12.IsWhole)
  (arg13 : Memref sig .tc .vmem S1x1024 .f32) (harg13 : arg13.IsWhole) (arg14 : Memref sig .tc .vmem S512x1024 .bf16) (harg14 : arg14.IsWhole)
  (arg15 : Memref sig .tc .vmem S1024x5632 .bf16) (harg15 : arg15.IsWhole) (hc0 : cond0_0 i) (hc1 : cond0_1 i) (hc2 : ¬cond0_2 i) (hc3 : cond0_3 i)
  (hc4 : ¬cond0_4 i) (hc5 : cond0_5 i) (hc6 : ¬cond0_6 i) (hc7 : cond0_7 i) (hc8 : ¬cond0_8 i) (x0 : Vec F S512x5632 .bf16) (x1 : Vec F S512x1024 .f32)
  (x2 : Vec F S1x1024 .f32) (x3 : Vec F S1x1024 .f32) (x4 : Vec F S512x1024 .f32) (x5 : Vec F S1x1024 .f32) (x6 : Vec F S512x1024 .f32)
  (fh0 : HbBuf0 (F := F) c hbM0_0)

theorem cover_first_7 (y : S512x1024.Idx) :
    ∃ pc ∈ (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).1, y ∈ pc.1.set :=
  View.cover_of_tiledL _ S512x1024.size (by sl_kernel_rfl) y

def first_7 : Vec F S512x1024 .f32 :=
  VO0_7.read (Elt F) (VO0_7.writes (Elt F) VO0_7.junk (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).1)

theorem cover_first_8 (y : S1x1024.Idx) :
    ∃ pc ∈ (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.1, y ∈ pc.1.set :=
  View.cover_of_tiledL _ S1x1024.size (by sl_kernel_rfl) y

def first_8 : Vec F S1x1024 .f32 :=
  VO0_8.read (Elt F) (VO0_8.writes (Elt F) VO0_8.junk (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.1)

theorem cover_first_9 (y : S1x1024.Idx) :
    ∃ pc ∈ (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.1, y ∈ pc.1.set :=
  View.cover_of_tiledL _ S1x1024.size (by sl_kernel_rfl) y

def first_9 : Vec F S1x1024 .f32 :=
  VO0_9.read (Elt F) (VO0_9.writes (Elt F) VO0_9.junk (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.1)

theorem cover_first_10 (y : S1x1024.Idx) :
    ∃ pc ∈ (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.1, y ∈ pc.1.set :=
  View.cover_of_tiledL _ S1x1024.size (by sl_kernel_rfl) y

def first_10 : Vec F S1x1024 .f32 :=
  VO0_10.read (Elt F) (VO0_10.writes (Elt F) VO0_10.junk (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.1)

theorem cover_first_11 (y : S1x1024.Idx) :
    ∃ pc ∈ (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.2.1, y ∈ pc.1.set :=
  View.cover_of_tiledL _ S1x1024.size (by sl_kernel_rfl) y

def first_11 : Vec F S1x1024 .f32 :=
  VO0_11.read (Elt F) (VO0_11.writes (Elt F) VO0_11.junk (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.2.1)

theorem cover_first_12 (y : S512x1024.Idx) :
    ∃ pc ∈ (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.2.2.1, y ∈ pc.1.set :=
  View.cover_of_tiledL _ S512x1024.size (by sl_kernel_rfl) y

def first_12 : Vec F S512x1024 .bf16 :=
  VO0_12.read (Elt F) (VO0_12.writes (Elt F) VO0_12.junk (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.2.2.1)

theorem scratch_cover_first (y : S1024x5632.Idx) :
    ∃ pc ∈ (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.2.2.2.1, y ∈ pc.1.set :=
  View.cover_of_tiledL (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.2.2.2.1 S1024x1408.size (by sl_kernel_rfl) y

def first_scratch : Vec F S1024x5632 .bf16 :=
  VS0_0.read (Elt F) (VS0_0.writes (Elt F) VS0_0.junk (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.2.2.2.1)

/-- All of these. -/
def allFirst : Held F :=
  (first_7 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0,
   first_8 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0,
   first_9 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0,
   first_10 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0,
   first_11 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0,
   first_12 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0,
   first_scratch c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0)

end First

section Later

variable (c : Dev nD) (i : grid0.Coords) (arg1 : Memref sig .tc .vmem S512x5632 .bf16) (harg1 : arg1.IsWhole)
  (arg3 : Memref sig .tc .vmem S512x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .f32) (harg8 : arg8.IsWhole)
  (arg9 : Memref sig .tc .vmem S512x1024 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S1x1024 .f32) (harg12 : arg12.IsWhole)
  (arg13 : Memref sig .tc .vmem S1x1024 .f32) (harg13 : arg13.IsWhole) (arg14 : Memref sig .tc .vmem S512x1024 .bf16) (harg14 : arg14.IsWhole)
  (arg15 : Memref sig .tc .vmem S1024x5632 .bf16) (harg15 : arg15.IsWhole) (hc0 : ¬cond0_0 i) (hc1 : ¬cond0_1 i) (hc2 : cond0_2 i) (hc3 : ¬cond0_3 i)
  (hc4 : cond0_4 i) (hc5 : ¬cond0_5 i) (hc6 : cond0_6 i) (hc7 : ¬cond0_7 i) (hc8 : cond0_8 i) (x0 : Vec F S512x5632 .bf16) (x1 : Vec F S512x1024 .f32)
  (x2 : Vec F S1x1024 .f32) (x3 : Vec F S1x1024 .f32) (x4 : Vec F S512x1024 .f32) (x5 : Vec F S1x1024 .f32) (x6 : Vec F S512x1024 .f32)
  (xo8 : Vec F S1x1024 .f32) (xo9 : Vec F S1x1024 .f32) (xo10 : Vec F S1x1024 .f32) (xo11 : Vec F S1x1024 .f32) (xs0 : Vec F S1024x5632 .bf16)
  (fh0 : HbBuf0 (F := F) c hbM0_0)

theorem cover_later_7 (y : S512x1024.Idx) :
    ∃ pc ∈ (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).1, y ∈ pc.1.set :=
  View.cover_of_tiledL _ S512x1024.size (by sl_kernel_rfl) y

def later_7 : Vec F S512x1024 .f32 :=
  VO0_7.read (Elt F) (VO0_7.writes (Elt F) VO0_7.junk (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).1)

theorem cover_later_8 (y : S1x1024.Idx) :
    ∃ pc ∈ (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).2.1, y ∈ pc.1.set :=
  View.cover_of_tiledL _ S1x1024.size (by sl_kernel_rfl) y

def later_8 : Vec F S1x1024 .f32 :=
  VO0_8.read (Elt F) (VO0_8.writes (Elt F) VO0_8.junk (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).2.1)

theorem cover_later_9 (y : S1x1024.Idx) :
    ∃ pc ∈ (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).2.2.1, y ∈ pc.1.set :=
  View.cover_of_tiledL _ S1x1024.size (by sl_kernel_rfl) y

def later_9 : Vec F S1x1024 .f32 :=
  VO0_9.read (Elt F) (VO0_9.writes (Elt F) VO0_9.junk (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).2.2.1)

theorem cover_later_10 (y : S1x1024.Idx) :
    ∃ pc ∈ (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).2.2.2.1, y ∈ pc.1.set :=
  View.cover_of_tiledL _ S1x1024.size (by sl_kernel_rfl) y

def later_10 : Vec F S1x1024 .f32 :=
  VO0_10.read (Elt F) (VO0_10.writes (Elt F) VO0_10.junk (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).2.2.2.1)

theorem cover_later_11 (y : S1x1024.Idx) :
    ∃ pc ∈ (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).2.2.2.2.1, y ∈ pc.1.set :=
  View.cover_of_tiledL _ S1x1024.size (by sl_kernel_rfl) y

def later_11 : Vec F S1x1024 .f32 :=
  VO0_11.read (Elt F) (VO0_11.writes (Elt F) VO0_11.junk (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).2.2.2.2.1)

theorem cover_later_12 (y : S512x1024.Idx) :
    ∃ pc ∈ (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).2.2.2.2.2.1, y ∈ pc.1.set :=
  View.cover_of_tiledL _ S512x1024.size (by sl_kernel_rfl) y

def later_12 : Vec F S512x1024 .bf16 :=
  VO0_12.read (Elt F) (VO0_12.writes (Elt F) VO0_12.junk (runLater c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0).2.2.2.2.2.1)

/-- All of these. -/
def allLater : Held F :=
  (later_7 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0,
   later_8 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0,
   later_9 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0,
   later_10 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0,
   later_11 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0,
   later_12 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0,
   xs0)

end Later

variable (m : (ℓ : Loc nD τ sig) → Buf (Elt F) ℓ) (ρ : Dev nD → PrngReg)

/-- After the first point. -/
def first (c : Dev nD) (t : Fin cfg0.N) (h : t.val % 8 = 0) (h1 : ¬1 ≤ t.val) : Held F :=
  allFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    ((hcond0_0 t).mpr h) ((hcond0_1 t).mpr h) (Norm.no (hcond0_2 t) h1) ((hcond0_3 t).mpr h) (Norm.no (hcond0_4 t) h1) ((hcond0_5 t).mpr h) (Norm.no (hcond0_6 t) h1) ((hcond0_7 t).mpr h) (Norm.no (hcond0_8 t) h1)
    (iblk m c 0 t) (iblk m c 1 t) (iblk m c 2 t) (iblk m c 3 t) (iblk m c 4 t) (iblk m c 5 t) (iblk m c 6 t) (V m c main_arg1)

/-- After a later point, over what the point before left. -/
def later (c : Dev nD) (t : Fin cfg0.N) (h : ¬t.val % 8 = 0) (h1 : 1 ≤ t.val) (p : Held F) : Held F :=
  allLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)
    (iblk m c 0 t) (iblk m c 1 t) (iblk m c 2 t) (iblk m c 3 t) (iblk m c 4 t) (iblk m c 5 t) (iblk m c 6 t) p.2.1 p.2.2.1 p.2.2.2.1 p.2.2.2.2.1 p.2.2.2.2.2.2 (V m c main_arg1)

theorem eighth (n : ℕ) (hn : n + 1 < cfg0.N) : ¬(n + 1) % 8 = 0 := by
  have hN : n + 1 < 8 := lt_of_lt_of_eq hn (show cfg0.N = 8 from N_0)
  omega

/-- After every point. -/
def outsAt0 (c : Dev nD) : (n : ℕ) → n < cfg0.N → Held F
  | 0, hn => first m c ⟨0, hn⟩ (Nat.zero_mod _) (Nat.not_succ_le_zero 0)
  | n + 1, hn => later m c ⟨n + 1, hn⟩ (eighth n hn) (Nat.le_add_left 1 n) (outsAt0 c n (Nat.lt_of_succ_lt hn))

theorem outsAt0_first (c : Dev nD) (t : Fin cfg0.N) (h : t.val % 8 = 0) (h1 : ¬1 ≤ t.val) : outsAt0 m c t.val t.isLt = first m c t h h1 := by
  obtain ⟨n, hn⟩ := t
  cases n with
  | zero => rfl
  | succ n => exact absurd (Nat.le_add_left 1 n) h1

theorem outsAt0_later (c : Dev nD) (t : Fin cfg0.N) (h : ¬t.val % 8 = 0) (h1 : 1 ≤ t.val) :
    outsAt0 m c t.val t.isLt = later m c t h h1 (outsAt0 m c (t.val - 1) (Nat.lt_of_le_of_lt (Nat.sub_le _ _) t.isLt)) := by
  obtain ⟨n, hn⟩ := t
  cases n with
  | zero => exact absurd (Nat.zero_mod _) h
  | succ n => rfl

end Cert.NormBwd

end
-- ==== Proof.NormBwdBlocks.lean ====
/- What a point leaves, by its blocks of the arguments and the matrix gathered from its four shards. -/
module

public import proofs.«01_k».proof.Proof.NormBwdPoints
public import proofs.«01_k».proof.Proof.Norm
public import Idealize.ShloMosaic.Lib.ValueLayout

@[expose] public section

set_option maxRecDepth 16384

noncomputable section

namespace Cert.NormBwd

open Cert.Kernel9Ideal Cert.Kernel9Ideal.Gen Idealize.ShloMosaic Idealize.ShloMosaic.TcCoe Idealize.SL.Sem Cert.Norm

theorem zero2 : (![0, 0] : Fin 2 → ℕ) = fun _ => 0 := funext fun a => by fin_cases a <;> rfl

/-- The matrix whose columns are the four shards' columns. -/
def gathered (f : Vec Ideal S4x1024x1408 .bf16) : Vec Ideal S1024x5632 .bf16 := fun y =>
  f (ix3 ⟨(y 1).val / 1408, Nat.div_lt_of_lt_mul (lt_of_lt_of_eq (y 1).isLt rfl)⟩ (y 0) ⟨(y 1).val % 1408, Nat.mod_lt _ (by norm_num)⟩)

theorem shard_at {c : Dev nD} (fh0 : HbBuf0 (F := Ideal) c hbM0_0) (s : Fin 4) (inb : ∀ a, ![s.val, 0, 0] a + ![1, 1024, 1408] a ≤ S4x1024x1408.size a)
    (hs : S1024x1408.numel = (Rect.unit (s := S4x1024x1408) ![s.val, 0, 0] ![1, 1024, 1408] inb).shape.numel)
    (at_ : ∀ a, ![0, 1408 * s.val] a + ![1024, 1408] a ≤ S1024x5632.size a) (x : S1024x1408.Idx) :
    (fh0 : Vec Ideal S4x1024x1408 .bf16) ((Rect.unit (s := S4x1024x1408) ![s.val, 0, 0] ![1, 1024, 1408] inb).emb (Shape.reshapeEquiv hs x))
      = gathered fh0 ((Rect.unit (s := S1024x5632) ![0, 1408 * s.val] ![1024, 1408] at_).emb x) := by
  have h0 : (x 0).val < 1024 := (x 0).isLt
  have h1 : (x 1).val < 1408 := (x 1).isLt
  have ex : x = ix2 (x 0) (x 1) := funext fun a => match a with | ⟨0, _⟩ => rfl | ⟨1, _⟩ => rfl
  refine (congrArg (fun z => (fh0 : Vec Ideal S4x1024x1408 .bf16) ((Rect.unit (s := S4x1024x1408) ![s.val, 0, 0] ![1, 1024, 1408] inb).emb z))
    ((congrArg (Shape.reshapeEquiv hs) ex).trans (ValueIdx.reshapeEquiv_ix2_1ab hs (x 0) (x 1)))).trans ?_
  refine congrArg (fh0 : Vec Ideal S4x1024x1408 .bf16) (funext fun a => Fin.ext ?_)
  match a with
  | ⟨0, _⟩ => show s.val + 1 * 0 = (1408 * s.val + 1 * (x 1).val) / 1408; omega
  | ⟨1, _⟩ => show 0 + 1 * (x 0).val = 0 + 1 * (x 0).val; rfl
  | ⟨2, _⟩ => show 0 + 1 * (x 1).val = (1408 * s.val + 1 * (x 1).val) % 1408; omega

/-- A load of the whole of a buffer whose pieces are one function's values. -/
theorem load_whole (v : View sig .tc .vmem S1024x5632 .bf16) (G : Vec Ideal S1024x5632 .bf16) (L : List (Σ r : Rect S1024x5632, r.shape.Idx → Elt Ideal .bf16))
    (hL : ∀ p ∈ L, ∀ x, p.2 x = G (p.1.emb x)) (hc : ∀ y : S1024x5632.Idx, ∃ p ∈ L, y ∈ p.1.set) (inb : ∀ a, ![0, 0] a + S1024x5632.size a ≤ S1024x5632.size a) :
    v.readCov L (Rect.unit ![0, 0] S1024x5632.size inb).toLoadRect = G := by
  have e : View.canon L = G := funext fun y => View.canon_apply_of_pieces G L hL y (hc y)
  rw [View.readCov_eq_canon_ld v L _ (hc), e]
  exact View.ld_unit_zero (S := S1024x5632) (off := ![0, 0]) zero2 _ _

section Blocks

variable (W : Vec Ideal S1024x5632 .bf16) (x0 : Vec Ideal S512x5632 .bf16) (x1 : Vec Ideal S512x1024 .f32) (x2 x3 : Vec Ideal S1x1024 .f32) (x4 : Vec Ideal S512x1024 .f32)

abbrev rDh := k0_pay3 x0 W
abbrev rNorm := k0_pay5 x1
abbrev rDn := k0_pay6 x0 W x3
abbrev rInner := k0_pay7 x1 x0 W x3 x2
abbrev rInv := k0_pay8 x1
abbrev toRow := k0_pay9 x4 (rInner W x0 x1 x2 x3) (rInv x1)
abbrev toShift := k0_pay10 (rDh W x0)
abbrev toScale := k0_pay12 (rDh W x0) (rNorm x1) x2
abbrev toWeight := k0_pay14 (rNorm x1) (rDn W x0 x3)
abbrev toGate (x6 : Vec Ideal S512x1024 .f32) := k0_pay16 x4 (rInner W x0 x1 x2 x3) (rInv x1) x6
abbrev toMix (x5 : Vec Ideal S1x1024 .f32) := k0_pay2 (toRow W x0 x1 x2 x3 x4) x5

end Blocks

section First

variable (c : Dev nD) (i : grid0.Coords) (arg1 : Memref sig .tc .vmem S512x5632 .bf16) (harg1 : arg1.IsWhole)
  (arg3 : Memref sig .tc .vmem S512x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .f32) (harg8 : arg8.IsWhole)
  (arg9 : Memref sig .tc .vmem S512x1024 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S1x1024 .f32) (harg12 : arg12.IsWhole)
  (arg13 : Memref sig .tc .vmem S1x1024 .f32) (harg13 : arg13.IsWhole) (arg14 : Memref sig .tc .vmem S512x1024 .bf16) (harg14 : arg14.IsWhole)
  (arg15 : Memref sig .tc .vmem S1024x5632 .bf16) (harg15 : arg15.IsWhole) (hc0 : cond0_0 i) (hc1 : cond0_1 i) (hc2 : ¬cond0_2 i) (hc3 : cond0_3 i)
  (hc4 : ¬cond0_4 i) (hc5 : cond0_5 i) (hc6 : ¬cond0_6 i) (hc7 : cond0_7 i) (hc8 : ¬cond0_8 i) (x0 : Vec Ideal S512x5632 .bf16) (x1 : Vec Ideal S512x1024 .f32)
  (x2 : Vec Ideal S1x1024 .f32) (x3 : Vec Ideal S1x1024 .f32) (x4 : Vec Ideal S512x1024 .f32) (x5 : Vec Ideal S1x1024 .f32) (x6 : Vec Ideal S512x1024 .f32)
  (fh0 : HbBuf0 (F := Ideal) c hbM0_0)

theorem pieces_hold : ∀ p ∈ (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.2.2.2.1, ∀ x, p.2 x = gathered fh0 (p.1.emb x) := by
  unfold runFirst
  dsimp only
  sl_unfold_words
  intro p hp x
  simp only [List.mem_cons, List.not_mem_nil, or_false] at hp
  rcases hp with rfl | rfl | rfl | rfl
  · exact shard_at fh0 3 (by decide) rfl (by decide) x
  · exact shard_at fh0 2 (by decide) rfl (by decide) x
  · exact shard_at fh0 1 (by decide) rfl (by decide) x
  · exact shard_at fh0 0 (by decide) rfl (by decide) x

theorem first_gathers : first_scratch c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0 = gathered fh0 :=
  (View.read_writes_junk_eq_canon _ _).trans (funext fun y => View.canon_apply_of_pieces (gathered fh0) _
    (pieces_hold c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0) y
    (scratch_cover_first c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0 y))

theorem first_loads (inb : ∀ a, ![0, 0] a + S1024x5632.size a ≤ S1024x5632.size a) :
    arg15.view.readCov (runFirst c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0).2.2.2.2.2.2.1 (Rect.unit ![0, 0] S1024x5632.size inb).toLoadRect = gathered fh0 :=
  load_whole _ (gathered fh0) _ (pieces_hold c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0)
    (scratch_cover_first c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0) inb

theorem left_first_dx : first_7 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0
    = toRow (gathered fh0) x0 x1 x2 x3 x4 := by
  unfold first_7 runFirst
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans ((View.canon_unit_zero zero2 _ _).trans (congrArg (fun W => toRow W x0 x1 x2 x3 x4)
    (first_loads c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0 (by decide))))

theorem left_first_shift : first_8 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0
    = toShift (gathered fh0) x0 := by
  unfold first_8 runFirst
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans ((View.canon_unit_zero zero2 _ _).trans (congrArg (fun W => toShift W x0)
    (first_loads c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0 (by decide))))

theorem left_first_scale : first_9 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0
    = toScale (gathered fh0) x0 x1 x2 := by
  unfold first_9 runFirst
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans ((View.canon_unit_zero zero2 _ _).trans (congrArg (fun W => toScale W x0 x1 x2)
    (first_loads c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0 (by decide))))

theorem left_first_g : first_10 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0
    = toWeight (gathered fh0) x0 x1 x3 := by
  unfold first_10 runFirst
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans ((View.canon_unit_zero zero2 _ _).trans (congrArg (fun W => toWeight W x0 x1 x3)
    (first_loads c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0 (by decide))))

theorem left_first_gate : first_11 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0
    = toGate (gathered fh0) x0 x1 x2 x3 x4 x6 := by
  unfold first_11 runFirst
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans ((View.canon_unit_zero zero2 _ _).trans (congrArg (fun W => toGate W x0 x1 x2 x3 x4 x6)
    (first_loads c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0 (by decide))))

theorem left_first_mix : first_12 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0
    = toMix (gathered fh0) x0 x1 x2 x3 x4 x5 := by
  unfold first_12 runFirst
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans ((View.canon_unit_zero zero2 _ _).trans (congrArg (fun W => toMix W x0 x1 x2 x3 x4 x5)
    (first_loads c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 fh0 (by decide))))

end First

section Later

variable (c : Dev nD) (i : grid0.Coords) (arg1 : Memref sig .tc .vmem S512x5632 .bf16) (harg1 : arg1.IsWhole)
  (arg3 : Memref sig .tc .vmem S512x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .f32) (harg8 : arg8.IsWhole)
  (arg9 : Memref sig .tc .vmem S512x1024 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S1x1024 .f32) (harg12 : arg12.IsWhole)
  (arg13 : Memref sig .tc .vmem S1x1024 .f32) (harg13 : arg13.IsWhole) (arg14 : Memref sig .tc .vmem S512x1024 .bf16) (harg14 : arg14.IsWhole)
  (arg15 : Memref sig .tc .vmem S1024x5632 .bf16) (harg15 : arg15.IsWhole) (hc0 : ¬cond0_0 i) (hc1 : ¬cond0_1 i) (hc2 : cond0_2 i) (hc3 : ¬cond0_3 i)
  (hc4 : cond0_4 i) (hc5 : ¬cond0_5 i) (hc6 : cond0_6 i) (hc7 : ¬cond0_7 i) (hc8 : cond0_8 i) (x0 : Vec Ideal S512x5632 .bf16) (x1 : Vec Ideal S512x1024 .f32)
  (x2 : Vec Ideal S1x1024 .f32) (x3 : Vec Ideal S1x1024 .f32) (x4 : Vec Ideal S512x1024 .f32) (x5 : Vec Ideal S1x1024 .f32) (x6 : Vec Ideal S512x1024 .f32)
  (xo8 : Vec Ideal S1x1024 .f32) (xo9 : Vec Ideal S1x1024 .f32) (xo10 : Vec Ideal S1x1024 .f32) (xo11 : Vec Ideal S1x1024 .f32) (xs0 : Vec Ideal S1024x5632 .bf16)
  (fh0 : HbBuf0 (F := Ideal) c hbM0_0)

theorem left_later_dx : later_7 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0
    = toRow xs0 x0 x1 x2 x3 x4 := by
  unfold later_7 runLater
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans (View.canon_unit_zero zero2 _ _)

theorem left_later_shift : later_8 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0
    = k0_pay11 (rDh xs0 x0) xo8 := by
  unfold later_8 runLater
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans (View.canon_unit_zero zero2 _ _)

theorem left_later_scale : later_9 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0
    = k0_pay13 (rDh xs0 x0) (rNorm x1) x2 xo9 := by
  unfold later_9 runLater
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans (View.canon_unit_zero zero2 _ _)

theorem left_later_g : later_10 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0
    = k0_pay15 (rNorm x1) (rDn xs0 x0 x3) xo10 := by
  unfold later_10 runLater
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans (View.canon_unit_zero zero2 _ _)

theorem left_later_gate : later_11 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0
    = k0_pay1 (toGate xs0 x0 x1 x2 x3 x4 x6) xo11 := by
  unfold later_11 runLater
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans (View.canon_unit_zero zero2 _ _)

theorem left_later_mix : later_12 c i arg1 harg1 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 hc6 hc7 hc8 x0 x1 x2 x3 x4 x5 x6 xo8 xo9 xo10 xo11 xs0 fh0
    = toMix xs0 x0 x1 x2 x3 x4 x5 := by
  unfold later_12 runLater
  dsimp only
  sl_unfold_words
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x1024) (off := ![0, 0]) zero2, View.ld_unit_zero (S := S1x1024) (off := ![0, 0]) zero2,
    View.ld_unit_zero (S := S512x5632) (off := ![0, 0]) zero2, View.ld_unit_zero (S := S1024x5632) (off := ![0, 0]) zero2]
  exact (View.read_writes_junk_eq_canon _ _).trans (View.canon_unit_zero zero2 _ _)

end Later

end Cert.NormBwd

end
-- ==== Proof.NormBwdNums.lean ====
/- The derivative of a product behind a scaled and shifted norm, on real numbers. -/
module

public import proofs.«01_k».proof.Proof.Norm

@[expose] public section

set_option maxRecDepth 16384

noncomputable section

namespace Cert.NormBwdNums

open Cert.Norm

/-- The arguments as real numbers: the gradient of the product, its matrix, the normed rows, the gradient that went past the norm, and
    the norm's own weight and the scale after it. -/
structure Nums (K : ℕ) where
  d : Fin 4096 → Fin K → ℝ
  w : Fin 1024 → Fin K → ℝ
  x : Fin 4096 → Fin 1024 → ℝ
  res : Fin 4096 → Fin 1024 → ℝ
  g : Fin 1024 → ℝ
  scale : Fin 1024 → ℝ

namespace Nums

variable {K : ℕ} (N : Nums K)

def dh (R : Fin 4096) (j : Fin 1024) : ℝ := ∑ k, N.d R k * N.w j k
def xh (R : Fin 4096) (j : Fin 1024) : ℝ := N.x R j * inv (N.x R)
def dn (R : Fin 4096) (j : Fin 1024) : ℝ := N.dh R j * (1 + N.scale j)
def dy (R : Fin 4096) (j : Fin 1024) : ℝ := N.dn R j * N.g j
def dx (R : Fin 4096) (j : Fin 1024) : ℝ := N.res R j + back (N.x R) (N.dy R) j

end Nums

theorem past (a b c d e : ℝ) (h : b + c + d = e) : a + b + c + d = a + e := by
  rw [← h]
  ring

end Cert.NormBwdNums

end
-- ==== Proof.NormBwdPoint.lean ====
/- What a point of the kernel leaves, entry by entry. -/
module

public import proofs.«01_k».proof.Proof.NormBwdBlocks
public import proofs.«01_k».proof.Proof.NormBwdNums
public import Idealize.ShloMosaic.Lib.Pointwise

@[expose] public section

set_option maxRecDepth 16384

noncomputable section

namespace Cert.NormBwd

open Cert.Kernel9Ideal Cert.Kernel9Ideal.Gen Idealize.ShloMosaic Idealize.ShloMosaic.TcCoe Idealize.SL.Sem Cert.Gate Cert.Norm Cert.NormBwdNums

/-- A row of a point's blocks holds a row of the arguments. -/
structure Holds (N : Nums 5632) (R : Fin 4096) (r : Fin 512) (W : Vec Ideal S1024x5632 .bf16) (x0 : Vec Ideal S512x5632 .bf16) (x1 : Vec Ideal S512x1024 .f32)
    (x2 x3 : Vec Ideal S1x1024 .f32) (x4 : Vec Ideal S512x1024 .f32) : Prop where
  w : ∀ (j : Fin 1024) (k : Fin 5632), W (ix2 j k) = ((N.w j k : ℝ) : EReal)
  d : ∀ k : Fin 5632, x0 (ix2 r k) = ((N.d R k : ℝ) : EReal)
  x : ∀ j : Fin 1024, x1 (ix2 r j) = ((N.x R j : ℝ) : EReal)
  g : ∀ j : Fin 1024, x2 (ix2 0 j) = ((N.g j : ℝ) : EReal)
  scale : ∀ j : Fin 1024, x3 (ix2 0 j) = ((N.scale j : ℝ) : EReal)
  res : ∀ j : Fin 1024, x4 (ix2 r j) = ((N.res R j : ℝ) : EReal)

variable {N : Nums 5632} {R : Fin 4096} {r : Fin 512} {W : Vec Ideal S1024x5632 .bf16} {x0 : Vec Ideal S512x5632 .bf16} {x1 : Vec Ideal S512x1024 .f32}
  {x2 x3 : Vec Ideal S1x1024 .f32} {x4 : Vec Ideal S512x1024 .f32} (H : Holds N R r W x0 x1 x2 x3 x4)
include H

theorem dh_at (j : Fin 1024) : k0_pay3 x0 W (ix2 r j) = ((N.dh R j : ℝ) : EReal) := by
  unfold k0_pay3
  pointwise
  exact dot_coe H.d fun k => H.w j k

theorem inv_at (z : Fin 1) : k0_pay4 x1 (ix2 r z) = ((inv (N.x R) : ℝ) : EReal) := by
  unfold k0_pay4
  pointwise
  rw [dot_coe H.x H.x, width_word, eps_word, mean_coe, rsqrt_var]

theorem norm_at (j : Fin 1024) : k0_pay5 x1 (ix2 r j) = ((N.xh R j : ℝ) : EReal) := by
  unfold k0_pay5
  pointwise
  rw [H.x, inv_at H, ← EReal.coe_mul]
  rfl

theorem dn_at (j : Fin 1024) : k0_pay6 x0 W x3 (ix2 r j) = ((N.dn R j : ℝ) : EReal) := by
  have e := dh_at H j
  unfold k0_pay6
  pointwise
  rw [e, H.scale, ← EReal.coe_one, ← EReal.coe_add, ← EReal.coe_mul]
  rfl

theorem inner_at (j : Fin 1024) : k0_pay7 x1 x0 W x3 x2 (ix2 r j) = ((N.dy R j - N.xh R j * ((∑ k, N.dy R k * N.xh R k) / 1024) : ℝ) : EReal) := by
  have e1 := dn_at H
  have e2 := norm_at H
  have e3 : ∀ k, k0_pay6 x0 W x3 (ix2 r k) * x2 (ix2 0 k) = ((N.dy R k : ℝ) : EReal) := fun k => by
    rw [e1, H.g, ← EReal.coe_mul]
    rfl
  unfold k0_pay7
  pointwise
  rw [dot_coe e3 e2, e3, e2, width_word, div_width, ← EReal.coe_mul, ← EReal.coe_sub]

theorem toRow_at (j : Fin 1024) : toRow W x0 x1 x2 x3 x4 (ix2 r j) = ((N.dx R j : ℝ) : EReal) := by
  have e1 := inner_at H j
  have e2 := inv_at H 0
  unfold toRow rInner rInv k0_pay9 k0_pay8
  pointwise
  rw [e1, e2, H.res, ← EReal.coe_mul, ← EReal.coe_add]
  rfl

omit H in
theorem toShift_at (Rs : Fin 512 → Fin 4096) (Hs : ∀ r, Holds N (Rs r) r W x0 x1 x2 x3 x4) (j : Fin 1024) :
    toShift W x0 (ix2 0 j) = ((∑ r, N.dh (Rs r) j : ℝ) : EReal) := by
  unfold toShift rDh k0_pay10
  pointwise
  exact sum_coe fun r => dh_at (Hs r) j

omit H in
theorem toScale_at (Rs : Fin 512 → Fin 4096) (Hs : ∀ r, Holds N (Rs r) r W x0 x1 x2 x3 x4) (j : Fin 1024) :
    toScale W x0 x1 x2 (ix2 0 j) = ((∑ r, N.dh (Rs r) j * N.xh (Rs r) j * N.g j : ℝ) : EReal) := by
  unfold toScale rDh rNorm k0_pay12
  pointwise
  refine dot_coe (fun r => ?_) fun r => (Hs r).g j
  rw [dh_at (Hs r), norm_at (Hs r), ← EReal.coe_mul]

omit H in
theorem toWeight_at (Rs : Fin 512 → Fin 4096) (Hs : ∀ r, Holds N (Rs r) r W x0 x1 x2 x3 x4) (j : Fin 1024) :
    toWeight W x0 x1 x3 (ix2 0 j) = ((∑ r, N.dn (Rs r) j * N.xh (Rs r) j : ℝ) : EReal) := by
  unfold toWeight rDn rNorm k0_pay14
  pointwise
  exact dot_coe (fun r => dn_at (Hs r) j) fun r => norm_at (Hs r) j

omit H in
theorem toGate_at {mix : Fin 4096 → Fin 1024 → ℝ} {x6 : Vec Ideal S512x1024 .f32} (Rs : Fin 512 → Fin 4096) (Hs : ∀ r, Holds N (Rs r) r W x0 x1 x2 x3 x4)
    (hm : ∀ r j, x6 (ix2 r j) = ((mix (Rs r) j : ℝ) : EReal)) (j : Fin 1024) :
    toGate W x0 x1 x2 x3 x4 x6 (ix2 0 j) = ((∑ r, N.dx (Rs r) j * mix (Rs r) j : ℝ) : EReal) := by
  unfold toGate k0_pay16
  pointwise
  exact dot_coe (fun r => toRow_at (Hs r) j) fun r => hm r j

theorem toMix_at {gate : Fin 1024 → ℝ} {x5 : Vec Ideal S1x1024 .f32} (hg : ∀ j, x5 (ix2 0 j) = ((gate j : ℝ) : EReal)) (j : Fin 1024) :
    toMix W x0 x1 x2 x3 x4 x5 (ix2 r j) = ((N.dx R j * gate j : ℝ) : EReal) := by
  have e := toRow_at H j
  unfold toMix k0_pay2
  pointwise
  rw [e, hg, ← EReal.coe_mul]

end Cert.NormBwd

end
-- ==== Proof.NormBwdReference.lean ====
/- The reference, entry by entry: the product with the transposed matrix and the derivative rule through the norm. -/
module

public import proofs.«01_k».proof.Proof.NormBwdNums
public import proofs.«01_k».proof.Proof.Gen.Reference9Ideal.Run
public import proofs.«01_k».proof.Proof.Gen.Reference9Ideal.Read

@[expose] public section

set_option maxRecDepth 16384

noncomputable section

namespace Cert.NormBwd

open Cert.Reference9Ideal Cert.Reference9Ideal.Gen Cert.Reference9Ideal.Read Idealize.ShloMosaic Idealize.ShloMosaic.TcCoe Cert.Gate Cert.Norm Cert.NormBwdNums

/-- The arguments hold these numbers, the matrix's columns in four shards. -/
structure Given (N : Nums 5632) (x0 : Vec Ideal S4096x5632 .bf16) (x1 : Vec Ideal S4x1024x1408 .bf16) (x2 : Vec Ideal S4096x1024 .f32)
    (x3 x4 : Vec Ideal S1x1024 .f32) (x5 : Vec Ideal S4096x1024 .f32) : Prop where
  d : ∀ i : S4096x5632.Idx, x0 i = ((N.d (i 0) (i 1) : ℝ) : EReal)
  w : ∀ (i : S4x1024x1408.Idx) (k : Fin 5632), k.val = 1408 * (i 0).val + (i 2).val → x1 i = ((N.w (i 1) k : ℝ) : EReal)
  x : ∀ i : S4096x1024.Idx, x2 i = ((N.x (i 0) (i 1) : ℝ) : EReal)
  g : ∀ i : S1x1024.Idx, x3 i = ((N.g (i 1) : ℝ) : EReal)
  scale : ∀ i : S1x1024.Idx, x4 i = ((N.scale (i 1) : ℝ) : EReal)
  res : ∀ i : S4096x1024.Idx, x5 i = ((N.res (i 0) (i 1) : ℝ) : EReal)

variable {N : Nums 5632} {x0 : Vec Ideal S4096x5632 .bf16} {x1 : Vec Ideal S4x1024x1408 .bf16} {x2 : Vec Ideal S4096x1024 .f32}
  {x3 x4 : Vec Ideal S1x1024 .f32} {x5 : Vec Ideal S4096x1024 .f32} (G : Given N x0 x1 x2 x3 x4 x5)
include G

theorem ref_dh (i : S4096x1024.Idx) : val_main_v27 (F := Ideal) x0 x1 i = ((N.dh (i 0) (i 1) : ℝ) : EReal) := by
  rw [val_main_v27_apply]
  refine dot_coe (fun k => ?_) fun k => ?_
  · rw [val_main_v26_apply]
    exact G.d _
  · have hk := k.isLt
    have hi : (i 1).val < 1024 := (i 1).isLt
    rw [val_main_v2_apply, val_main_v1_apply, val_main_v0_apply]
    refine (G.w _ k ?_).trans (congrArg (fun y : Fin 1024 => ((N.w y k : ℝ) : EReal)) (Fin.ext ?_))
    · show k.val = 1408 * (((i 1).val * 5632 + k.val) / 1408 % 4) + ((i 1).val * 5632 + k.val) % 1408
      omega
    · show ((i 1).val * 5632 + k.val) / 5632 = (i 1).val
      omega

theorem ref_var (i : S4096x1.Idx) : val_main_v10 (F := Ideal) x2 i = ((var (N.x (i 0)) : ℝ) : EReal) := by
  rw [val_main_v10_apply, val_main_v9_apply, val_main_cst_2_apply, val_main_v8_apply, val_main_v7_apply, val_main_cst_1_apply, val_main_v6_apply,
    val_main_v5_apply, val_main_cst_0_apply]
  have e : ∑ k : Fin 1024, val_main_v4 (F := Ideal) x2 (idx_main_v5 (idx_main_v6 i) k) = ((∑ k, N.x (i 0) k * N.x (i 0) k : ℝ) : EReal) :=
    dot_coe (fun k => G.x _) fun k => G.x _
  rw [e]
  show Ideal.div (Ideal.ofBits FTy.f32 0x00000000#32 + _) (Ideal.ofBits FTy.f32 0x44800000#32) + Ideal.ofBits FTy.f32 0x358637BD#32 = _
  rw [zero_word, width_word, eps_word, EReal.coe_zero, zero_add, mean_coe]

theorem ref_inv (i : S4096x1.Idx) : val_main_v11 (F := Ideal) x2 i = ((inv (N.x (i 0)) : ℝ) : EReal) := by
  rw [val_main_v11_apply, ref_var G]
  exact rsqrt_var _

theorem ref_slope (i : S4096x1.Idx) : val_main_v14 (F := Ideal) x2 i = ((-(1 / 2) * (inv (N.x (i 0)) / var (N.x (i 0))) : ℝ) : EReal) := by
  rw [val_main_v14_apply, val_main_v13_apply, val_main_cst_3_apply, val_main_v12_apply, ref_inv G, ref_var G]
  show Ideal.ofBits FTy.f32 0xBF000000#32 * Ideal.div _ _ = _
  rw [half_word, div_var, ← EReal.coe_mul]

theorem ref_norm (i : S4096x1024.Idx) : val_main_v16 (F := Ideal) x2 i = ((N.xh (i 0) (i 1) : ℝ) : EReal) := by
  rw [val_main_v16_apply, val_main_v15_apply, G.x, ref_inv G]
  exact (EReal.coe_mul _ _).symm

theorem ref_weighed (i : S4096x1024.Idx) : val_main_v18 (F := Ideal) x2 x3 i = ((N.xh (i 0) (i 1) * N.g (i 1) : ℝ) : EReal) := by
  rw [val_main_v18_apply, val_main_v17_apply, ref_norm G, G.g]
  exact (EReal.coe_mul _ _).symm

theorem ref_dn (i : S4096x1024.Idx) : val_main_v34 (F := Ideal) x0 x1 x4 i = ((N.dn (i 0) (i 1) : ℝ) : EReal) := by
  rw [val_main_v34_apply, val_main_v33_apply, val_main_v20_apply, val_main_v19_apply, val_main_cst_4_apply, ref_dh G, G.scale]
  show (_ : EReal) * (Ideal.ofBits FTy.f32 0x3F800000#32 + _) = _
  rw [one_word, ← EReal.coe_add, ← EReal.coe_mul]
  rfl

theorem ref_dy (i : S4096x1024.Idx) : val_main_v39 (F := Ideal) x0 x1 x3 x4 i = ((N.dy (i 0) (i 1) : ℝ) : EReal) := by
  rw [val_main_v39_apply, val_main_v38_apply, ref_dn G, G.g]
  exact (EReal.coe_mul _ _).symm

theorem ref_pull (i : S4096x1024.Idx) : val_main_v50 (F := Ideal) x0 x1 x2 x3 x4 i
    = (((∑ k, N.x (i 0) k * N.dy (i 0) k) * (-(1 / 2) * (inv (N.x (i 0)) / var (N.x (i 0)))) / 1024 : ℝ) : EReal) := by
  rw [val_main_v50_apply, val_main_v49_apply, val_main_cst_10_apply, Fin.sum_univ_one, val_main_v48_apply, val_main_v47_apply, val_main_cst_9_apply,
    val_main_v46_apply, val_main_v42_apply, val_main_v41_apply, val_main_cst_8_apply, ref_slope G]
  have e : ∑ k : Fin 1024, val_main_v40 (F := Ideal) x0 x1 x2 x3 x4 (idx_main_v41 (idx_main_v42 (idx_main_v49 (idx_main_v50 i) 0)) k)
      = ((∑ k, N.x (i 0) k * N.dy (i 0) k : ℝ) : EReal) := by
    refine dot_coe (fun k => (G.x _).trans ?_) fun k => (ref_dy G _).trans ?_
    · exact congrArg (fun y : Fin 4096 => ((N.x y k : ℝ) : EReal)) (Fin.ext (show (i 0).val * 1 + 0 = (i 0).val by omega))
    · exact congrArg (fun y : Fin 4096 => ((N.dy y k : ℝ) : EReal)) (Fin.ext (show (i 0).val * 1 + 0 = (i 0).val by omega))
  rw [e]
  show Ideal.ofBits FTy.f32 0x00000000#32 + Ideal.div ((Ideal.ofBits FTy.f32 0x00000000#32 + _) * _) (Ideal.ofBits FTy.f32 0x44800000#32) = _
  rw [zero_word, width_word, EReal.coe_zero, zero_add, zero_add, ← EReal.coe_mul]
  exact div_width _

theorem ref_dx (i : S4096x1024.Idx) : val_main_v54 (F := Ideal) x0 x1 x2 x3 x4 x5 i = ((N.dx (i 0) (i 1) : ℝ) : EReal) := by
  rw [val_main_v54_apply, val_main_v53_apply, val_main_v52_apply, val_main_v51_apply, val_main_v45_apply, val_main_v44_apply, val_main_v43_apply,
    ref_pull G, ref_dy G, ref_inv G, G.x, G.res]
  show (_ : EReal) + _ * _ + _ * _ + _ * _ = _
  rw [← EReal.coe_mul, ← EReal.coe_mul, ← EReal.coe_mul, ← EReal.coe_add, ← EReal.coe_add, ← EReal.coe_add]
  exact congrArg (fun y : ℝ => (y : EReal)) (past _ _ _ _ _ (back_rule (N.x (i 0)) (N.dy (i 0)) (i 1)))

omit G in
/-- A row of sums, read through its reshaping. -/
theorem column (i : S1x1024.Idx) (h : (i 0).val * 1024 + (i 1).val < 1024) : (⟨(i 0).val * 1024 + (i 1).val, h⟩ : Fin 1024) = i 1 :=
  Fin.ext (show (i 0).val * 1024 + (i 1).val = (i 1).val by omega)

theorem ref_shift (i : S1x1024.Idx) : val_main_v29 (F := Ideal) x0 x1 i = ((∑ R, N.dh R (i 1) : ℝ) : EReal) := by
  rw [val_main_v29_apply, val_main_v28_apply, val_main_cst_5_apply]
  have e : ∑ k : Fin 4096, val_main_v27 (F := Ideal) x0 x1 (idx_main_v28 (idx_main_v29 i) k) = ((∑ R, N.dh R (i 1) : ℝ) : EReal) := by
    have hc := column i
    exact sum_coe fun k => (ref_dh G _).trans (congrArg (fun y : Fin 1024 => ((N.dh k y : ℝ) : EReal)) (hc _))
  rw [e]
  show Ideal.ofBits FTy.f32 0x00000000#32 + _ = _
  rw [zero_word, EReal.coe_zero, zero_add]

theorem ref_scale (i : S1x1024.Idx) : val_main_v32 (F := Ideal) x0 x1 x2 x3 i = ((∑ R, N.dh R (i 1) * N.xh R (i 1) * N.g (i 1) : ℝ) : EReal) := by
  rw [val_main_v32_apply, val_main_v31_apply, val_main_cst_6_apply]
  have e : ∑ k : Fin 4096, val_main_v30 (F := Ideal) x0 x1 x2 x3 (idx_main_v31 (idx_main_v32 i) k)
      = ((∑ R, N.xh R (i 1) * N.g (i 1) * N.dh R (i 1) : ℝ) : EReal) := by
    have hc := column i
    refine dot_coe (fun k => (ref_weighed G _).trans ?_) fun k => (ref_dh G _).trans ?_
    · exact congrArg (fun y : Fin 1024 => ((N.xh k y * N.g y : ℝ) : EReal)) (hc _)
    · exact congrArg (fun y : Fin 1024 => ((N.dh k y : ℝ) : EReal)) (hc _)
  rw [e]
  show Ideal.ofBits FTy.f32 0x00000000#32 + _ = _
  rw [zero_word, EReal.coe_zero, zero_add]
  exact congrArg (fun y : ℝ => (y : EReal)) (Finset.sum_congr rfl fun R _ => by ring)

theorem ref_weight (i : S1x1024.Idx) : val_main_v37 (F := Ideal) x0 x1 x2 x4 i = ((∑ R, N.dn R (i 1) * N.xh R (i 1) : ℝ) : EReal) := by
  rw [val_main_v37_apply, val_main_v36_apply, val_main_cst_7_apply]
  have e : ∑ k : Fin 4096, val_main_v35 (F := Ideal) x0 x1 x2 x4 (idx_main_v36 (idx_main_v37 i) k) = ((∑ R, N.xh R (i 1) * N.dn R (i 1) : ℝ) : EReal) := by
    have hc := column i
    refine dot_coe (fun k => (ref_norm G _).trans ?_) fun k => (ref_dn G _).trans ?_
    · exact congrArg (fun y : Fin 1024 => ((N.xh k y : ℝ) : EReal)) (hc _)
    · exact congrArg (fun y : Fin 1024 => ((N.dn k y : ℝ) : EReal)) (hc _)
  rw [e]
  show Ideal.ofBits FTy.f32 0x00000000#32 + _ = _
  rw [zero_word, EReal.coe_zero, zero_add]
  exact congrArg (fun y : ℝ => (y : EReal)) (Finset.sum_congr rfl fun R _ => mul_comm _ _)

theorem ref_gate {mix : Fin 4096 → Fin 1024 → ℝ} {x7 : Vec Ideal S4096x1024 .f32} (hm : ∀ i : S4096x1024.Idx, x7 i = ((mix (i 0) (i 1) : ℝ) : EReal)) (i : S1x1024.Idx) :
    val_main_v61 (F := Ideal) x0 x1 x2 x3 x4 x5 x7 i = ((∑ R, N.dx R (i 1) * mix R (i 1) : ℝ) : EReal) := by
  rw [val_main_v61_apply, val_main_v60_apply, val_main_cst_11_apply]
  have e : ∑ k : Fin 4096, val_main_v59 (F := Ideal) x0 x1 x2 x3 x4 x5 x7 (idx_main_v60 (idx_main_v61 i) k) = ((∑ R, N.dx R (i 1) * mix R (i 1) : ℝ) : EReal) := by
    have hc := column i
    refine dot_coe (fun k => (ref_dx G _).trans ?_) fun k => (hm _).trans ?_
    · exact congrArg (fun y : Fin 1024 => ((N.dx k y : ℝ) : EReal)) (hc _)
    · exact congrArg (fun y : Fin 1024 => ((mix k y : ℝ) : EReal)) (hc _)
  rw [e]
  show Ideal.ofBits FTy.f32 0x00000000#32 + _ = _
  rw [zero_word, EReal.coe_zero, zero_add]

theorem ref_mix {gate : Fin 1024 → ℝ} {x6 : Vec Ideal S1x1024 .f32} (hg : ∀ i : S1x1024.Idx, x6 i = ((gate (i 1) : ℝ) : EReal)) (i : S4096x1024.Idx) :
    val_main_v62 (F := Ideal) x0 x1 x2 x3 x4 x5 x6 i = ((N.dx (i 0) (i 1) * gate (i 1) : ℝ) : EReal) := by
  rw [val_main_v62_apply, val_main_v58_apply, val_main_v57_apply, ref_dx G, hg]
  exact (EReal.coe_mul _ _).symm.trans (congrArg (fun y : ℝ => (y : EReal)) (mul_comm _ _))

end Cert.NormBwd

end
-- ==== Proof.NormBwdFrame.lean ====
/- The run of the whole grid and its frame: each point's body meets the pipeline's data, so every run ends and leaves the arguments unchanged. -/
module

public import proofs.«01_k».proof.Proof.NormBwdPoints
public import proofs.«01_k».proof.Defs
public import proofs.«01_k».proof.Proof.Gen.Kernel9
public import Idealize.ShloMosaic.Lib.Claim

@[expose] public section

set_option maxRecDepth 16384

noncomputable section

namespace Cert.NormBwd

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The region's invariant before a position: at first the launch's, afterwards the same with the scratch at what the point before left. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_arg1)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_arg1))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_arg1))) := by
  cases n with
  | zero => exact absurd rfl hz
  | succ n => rfl

/-- The pipeline's data: inputs at their blocks, outputs at `outsAt0`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2.1
    | ⟨12, _⟩ => (outsAt0 m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]
theorem after0_11 (c : Dev nD) (t : Fin cfg0.N) : (dats m 0 c).after 11 t = (outsAt0 m c t.val t.isLt).2.2.2.2.1 := by dsimp only [dats]
theorem after0_12 (c : Dev nD) (t : Fin cfg0.N) : (dats m 0 c).after 12 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t hz hi _
  have hN : t.val < 8 := lt_of_lt_of_eq t.isLt (show cfg0.N = 8 from N_0)
  have h : ¬t.val % 8 = 0 := by omega
  have h1 : 1 ≤ t.val := by omega
  rw [liveAt0_8_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)] at hi
  exact absurd hi Bool.false_ne_true

theorem before0_8_B (c : Dev nD) (t : Fin cfg0.N) (h : ¬t.val % 8 = 0) (h1 : 1 ≤ t.val) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)]; exact Bool.false_ne_true)]
  dsimp only [dats]

theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t hz hi _
  have hN : t.val < 8 := lt_of_lt_of_eq t.isLt (show cfg0.N = 8 from N_0)
  have h : ¬t.val % 8 = 0 := by omega
  have h1 : 1 ≤ t.val := by omega
  rw [liveAt0_9_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)] at hi
  exact absurd hi Bool.false_ne_true

theorem before0_9_B (c : Dev nD) (t : Fin cfg0.N) (h : ¬t.val % 8 = 0) (h1 : 1 ≤ t.val) (d) :
    (dats m 0 c).before 9 t d = (outsAt0 m c (t.val - 1) (Nat.lt_of_le_of_lt (Nat.sub_le _ _) t.isLt)).2.2.1 := by
  rw [Dat.before_out_traj _ 9 rfl (fun _ _ => rfl) (hcarry0_9 m c) t.val t rfl d,
    if_neg (by rw [notFresh0_9_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)]; exact Bool.false_ne_true)]
  dsimp only [dats]

theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t hz hi _
  have hN : t.val < 8 := lt_of_lt_of_eq t.isLt (show cfg0.N = 8 from N_0)
  have h : ¬t.val % 8 = 0 := by omega
  have h1 : 1 ≤ t.val := by omega
  rw [liveAt0_10_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)] at hi
  exact absurd hi Bool.false_ne_true

theorem before0_10_B (c : Dev nD) (t : Fin cfg0.N) (h : ¬t.val % 8 = 0) (h1 : 1 ≤ t.val) (d) :
    (dats m 0 c).before 10 t d = (outsAt0 m c (t.val - 1) (Nat.lt_of_le_of_lt (Nat.sub_le _ _) t.isLt)).2.2.2.1 := by
  rw [Dat.before_out_traj _ 10 rfl (fun _ _ => rfl) (hcarry0_10 m c) t.val t rfl d,
    if_neg (by rw [notFresh0_10_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)]; exact Bool.false_ne_true)]
  dsimp only [dats]

theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t hz hi _
  have hN : t.val < 8 := lt_of_lt_of_eq t.isLt (show cfg0.N = 8 from N_0)
  have h : ¬t.val % 8 = 0 := by omega
  have h1 : 1 ≤ t.val := by omega
  rw [liveAt0_11_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)] at hi
  exact absurd hi Bool.false_ne_true

theorem before0_11_B (c : Dev nD) (t : Fin cfg0.N) (h : ¬t.val % 8 = 0) (h1 : 1 ≤ t.val) (d) :
    (dats m 0 c).before 11 t d = (outsAt0 m c (t.val - 1) (Nat.lt_of_le_of_lt (Nat.sub_le _ _) t.isLt)).2.2.2.2.1 := by
  rw [Dat.before_out_traj _ 11 rfl (fun _ _ => rfl) (hcarry0_11 m c) t.val t rfl d,
    if_neg (by rw [notFresh0_11_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)]; exact Bool.false_ne_true)]
  dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 9600000 in
/-- The body at any point: its run of the point's kind applies, and leaves what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases hz : t.val = 0
  · have h : t.val % 8 = 0 := by omega
    have h1 : ¬1 ≤ t.val := by omega
    rw [show (dats m 0 c).leavesExact 0 t = owns (c : Thread nD τ) (ms0_0 t) fullShare ((dats m 0 c).after 0 t) from by
            unfold Dat.leavesExact; rw [liveAt0_0 t], after0_0]
    rw [show (dats m 0 c).leavesExact 1 t = owns (c : Thread nD τ) (ms0_1 t) fullShare ((dats m 0 c).after 1 t) from by
            unfold Dat.leavesExact; rw [liveAt0_1 t], after0_1]
    rw [show (dats m 0 c).leavesExact 2 t = owns (c : Thread nD τ) (ms0_2 t) fullShare ((dats m 0 c).after 2 t) from by
            unfold Dat.leavesExact; rw [liveAt0_2 t], after0_2]
    rw [show (dats m 0 c).leavesExact 3 t = owns (c : Thread nD τ) (ms0_3 t) fullShare ((dats m 0 c).after 3 t) from by
            unfold Dat.leavesExact; rw [liveAt0_3 t], after0_3]
    rw [show (dats m 0 c).leavesExact 4 t = owns (c : Thread nD τ) (ms0_4 t) fullShare ((dats m 0 c).after 4 t) from by
            unfold Dat.leavesExact; rw [liveAt0_4 t], after0_4]
    rw [show (dats m 0 c).leavesExact 5 t = owns (c : Thread nD τ) (ms0_5 t) fullShare ((dats m 0 c).after 5 t) from by
            unfold Dat.leavesExact; rw [liveAt0_5 t], after0_5]
    rw [show (dats m 0 c).leavesExact 6 t = owns (c : Thread nD τ) (ms0_6 t) fullShare ((dats m 0 c).after 6 t) from by
            unfold Dat.leavesExact; rw [liveAt0_6 t], after0_6]
    rw [show (dats m 0 c).leavesExact 7 t = owns (c : Thread nD τ) (ms0_7 t) fullShare ((dats m 0 c).after 7 t) from by
            unfold Dat.leavesExact; rw [liveAt0_7 t], after0_7]
    rw [show (dats m 0 c).leavesExact 8 t = owns (c : Thread nD τ) (ms0_8 t) fullShare ((dats m 0 c).after 8 t) from by
            unfold Dat.leavesExact; rw [liveAt0_8_A t ((hcond0_0 t).mpr h) ((hcond0_1 t).mpr h) (Norm.no (hcond0_2 t) h1) ((hcond0_3 t).mpr h) (Norm.no (hcond0_4 t) h1) ((hcond0_5 t).mpr h) (Norm.no (hcond0_6 t) h1) ((hcond0_7 t).mpr h) (Norm.no (hcond0_8 t) h1)], after0_8]
    rw [show (dats m 0 c).leavesExact 9 t = owns (c : Thread nD τ) (ms0_9 t) fullShare ((dats m 0 c).after 9 t) from by
            unfold Dat.leavesExact; rw [liveAt0_9_A t ((hcond0_0 t).mpr h) ((hcond0_1 t).mpr h) (Norm.no (hcond0_2 t) h1) ((hcond0_3 t).mpr h) (Norm.no (hcond0_4 t) h1) ((hcond0_5 t).mpr h) (Norm.no (hcond0_6 t) h1) ((hcond0_7 t).mpr h) (Norm.no (hcond0_8 t) h1)], after0_9]
    rw [show (dats m 0 c).leavesExact 10 t = owns (c : Thread nD τ) (ms0_10 t) fullShare ((dats m 0 c).after 10 t) from by
            unfold Dat.leavesExact; rw [liveAt0_10_A t ((hcond0_0 t).mpr h) ((hcond0_1 t).mpr h) (Norm.no (hcond0_2 t) h1) ((hcond0_3 t).mpr h) (Norm.no (hcond0_4 t) h1) ((hcond0_5 t).mpr h) (Norm.no (hcond0_6 t) h1) ((hcond0_7 t).mpr h) (Norm.no (hcond0_8 t) h1)], after0_10]
    rw [show (dats m 0 c).leavesExact 11 t = owns (c : Thread nD τ) (ms0_11 t) fullShare ((dats m 0 c).after 11 t) from by
            unfold Dat.leavesExact; rw [liveAt0_11_A t ((hcond0_0 t).mpr h) ((hcond0_1 t).mpr h) (Norm.no (hcond0_2 t) h1) ((hcond0_3 t).mpr h) (Norm.no (hcond0_4 t) h1) ((hcond0_5 t).mpr h) (Norm.no (hcond0_6 t) h1) ((hcond0_7 t).mpr h) (Norm.no (hcond0_8 t) h1)], after0_11]
    rw [show (dats m 0 c).leavesExact 12 t = owns (c : Thread nD τ) (ms0_12 t) fullShare ((dats m 0 c).after 12 t) from by
            unfold Dat.leavesExact; rw [liveAt0_12 t], after0_12]
    rw [PhiS_castSucc m c t, PhiS_zero m c _ _ hz, PhiD0_eq]
    rw [outsAt0_first m c t h h1]
    unfold first allFirst first_7 first_8 first_9 first_10 first_11 first_12 first_scratch; dsimp only
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst c (grid0.coords t) _ _ _ _ _ _ _ _ _ _ _ _ _ _ _ _ _ _ _ _ _ _ _ _ _ _ _ _ ((hcond0_0 t).mpr h) ((hcond0_1 t).mpr h) (Norm.no (hcond0_2 t) h1) ((hcond0_3 t).mpr h) (Norm.no (hcond0_4 t) h1) ((hcond0_5 t).mpr h) (Norm.no (hcond0_6 t) h1) ((hcond0_7 t).mpr h) (Norm.no (hcond0_8 t) h1) (iblk m c 0 t) (iblk m c 1 t) (iblk m c 2 t) (iblk m c 3 t) (iblk m c 4 t) (iblk m c 5 t) (iblk m c 6 t) (V m c main_arg1)).2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H1, H2, H3, H4, H5, H6, ⟨%e7, H7⟩, ⟨%e8, H8⟩, ⟨%e9, H9⟩, ⟨%e10, H10⟩, ⟨%e11, H11⟩, ⟨%e12, H12⟩, ⟨%es0, HS0⟩, Hq0, Hq1, Hq2, Hq3, Hh0, ⟨%W', HW'⟩⟩
    isplitl [HS0 Hg Hq0 Hq1 Hq2 Hq3 Hh0]
    · isplitl [HS0]
      · unfold owns; iexists _; isplitr
        swap; · iexact HS0
        ipureintro; exact View.read_writes_of_cover _ _ _ _ _ (scratch_cover_first c _ _ _ _ _ _ _ _ _ _ _ _ _ _ _ _ _ _ _ _ _ _ _ _ _ _ _ _ _ _ _ _ _ _ _ _ _ _ _ _ _ _ _ _ _ _)
      isplitl [Hg]
      · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_first_7 c _ _ _ _ _ _ _ _ _ _ _ _ _ _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover_first_8 c _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover_first_9 c _ _ _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_first_10 c _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover_first_11 c _ _ _ _ _ _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover_first_12 c _ _ _ _ _ _ _ _ _ _ _ _ _ _ _ _ _ _ _ _ _ _ _ _ _ _ _ _ _ _ _ _ _ _ _ _ _ _ _ _ _ _ _ _ _ _)
  · have h : ¬t.val % 8 = 0 := by omega
    have h1 : 1 ≤ t.val := by omega
    rw [show (dats m 0 c).leavesExact 0 t = owns (c : Thread nD τ) (ms0_0 t) fullShare ((dats m 0 c).after 0 t) from by
            unfold Dat.leavesExact; rw [liveAt0_0 t], after0_0]
    rw [show (dats m 0 c).leavesExact 1 t = owns (c : Thread nD τ) (ms0_1 t) fullShare ((dats m 0 c).after 1 t) from by
            unfold Dat.leavesExact; rw [liveAt0_1 t], after0_1]
    rw [show (dats m 0 c).leavesExact 2 t = owns (c : Thread nD τ) (ms0_2 t) fullShare ((dats m 0 c).after 2 t) from by
            unfold Dat.leavesExact; rw [liveAt0_2 t], after0_2]
    rw [show (dats m 0 c).leavesExact 3 t = owns (c : Thread nD τ) (ms0_3 t) fullShare ((dats m 0 c).after 3 t) from by
            unfold Dat.leavesExact; rw [liveAt0_3 t], after0_3]
    rw [show (dats m 0 c).leavesExact 4 t = owns (c : Thread nD τ) (ms0_4 t) fullShare ((dats m 0 c).after 4 t) from by
            unfold Dat.leavesExact; rw [liveAt0_4 t], after0_4]
    rw [show (dats m 0 c).leavesExact 5 t = owns (c : Thread nD τ) (ms0_5 t) fullShare ((dats m 0 c).after 5 t) from by
            unfold Dat.leavesExact; rw [liveAt0_5 t], after0_5]
    rw [show (dats m 0 c).leavesExact 6 t = owns (c : Thread nD τ) (ms0_6 t) fullShare ((dats m 0 c).after 6 t) from by
            unfold Dat.leavesExact; rw [liveAt0_6 t], after0_6]
    rw [show (dats m 0 c).leavesExact 7 t = owns (c : Thread nD τ) (ms0_7 t) fullShare ((dats m 0 c).after 7 t) from by
            unfold Dat.leavesExact; rw [liveAt0_7 t], after0_7]
    rw [show (dats m 0 c).leavesExact 8 t = owns (c : Thread nD τ) (ms0_8 t) fullShare ((dats m 0 c).after 8 t) from by
            unfold Dat.leavesExact; rw [liveAt0_8_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)], after0_8]
    rw [show (dats m 0 c).leavesExact 9 t = owns (c : Thread nD τ) (ms0_9 t) fullShare ((dats m 0 c).after 9 t) from by
            unfold Dat.leavesExact; rw [liveAt0_9_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)], after0_9]
    rw [show (dats m 0 c).leavesExact 10 t = owns (c : Thread nD τ) (ms0_10 t) fullShare ((dats m 0 c).after 10 t) from by
            unfold Dat.leavesExact; rw [liveAt0_10_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)], after0_10]
    rw [show (dats m 0 c).leavesExact 11 t = owns (c : Thread nD τ) (ms0_11 t) fullShare ((dats m 0 c).after 11 t) from by
            unfold Dat.leavesExact; rw [liveAt0_11_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1)], after0_11]
    rw [show (dats m 0 c).leavesExact 12 t = owns (c : Thread nD τ) (ms0_12 t) fullShare ((dats m 0 c).after 12 t) from by
            unfold Dat.leavesExact; rw [liveAt0_12 t], after0_12]
    rw [PhiS_castSucc m c t, PhiS_pos m c _ _ hz]
    rw [outsAt0_later m c t h h1]
    simp only [before0_8_B m c t h h1, before0_9_B m c t h h1, before0_10_B m c t h h1, before0_11_B m c t h h1]
    unfold later allLater later_7 later_8 later_9 later_10 later_11 later_12; dsimp only
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLater c (grid0.coords t) _ _ _ _ _ _ _ _ _ _ _ _ _ _ _ _ _ _ _ _ _ _ _ _ _ _ _ _ (Norm.no (hcond0_0 t) h) (Norm.no (hcond0_1 t) h) ((hcond0_2 t).mpr h1) (Norm.no (hcond0_3 t) h) ((hcond0_4 t).mpr h1) (Norm.no (hcond0_5 t) h) ((hcond0_6 t).mpr h1) (Norm.no (hcond0_7 t) h) ((hcond0_8 t).mpr h1) (iblk m c 0 t) (iblk m c 1 t) (iblk m c 2 t) (iblk m c 3 t) (iblk m c 4 t) (iblk m c 5 t) (iblk m c 6 t) _ _ _ _ _ (V m c main_arg1)).2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    isplitl [H11]; · iexact H11
    isplitl [H12]; · iexists _; iexact H12
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H1, H2, H3, H4, H5, H6, ⟨%e7, H7⟩, ⟨%e8, H8⟩, ⟨%e9, H9⟩, ⟨%e10, H10⟩, ⟨%e11, H11⟩, ⟨%e12, H12⟩, HS0, Hq0, Hq1, Hq2, Hq3, Hh0, ⟨%W', HW'⟩⟩
    isplitl [HS0 Hg Hq0 Hq1 Hq2 Hq3 Hh0]
    · isplitl [HS0]
      · iexact HS0
      isplitl [Hg]
      · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_later_7 c _ _ _ _ _ _ _ _ _ _ _ _ _ _ _ _ _ _ _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover_later_8 c _ _ _ _ _ _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover_later_9 c _ _ _ _ _ _ _ _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_later_10 c _ _ _ _ _ _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover_later_11 c _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover_later_12 c _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3⟩, Hh0⟩
  isplitl [HS0]
  · iexists _; iexact HS0
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0

/-- After the last point the invariant gives back what the launch takes. -/
theorem hout (c : Dev nD) : (dats m 0 c).Φ (Fin.last cfg0.N) ⊢ Pipeline.ΦD osem0 spec0 H0 (V m) c :=
  Phi_out m c _ (by rw [Fin.val_last]; have : cfg0.N = 8 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every run ends, with every array at what the data say. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: every run ends, the arguments are unchanged and no semaphore is left raised. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

theorem frame_ideal : Cert.quiescent_Kernel9Ideal := fun m ρ _ => frame_any m ρ

/-- The kernel's own body table runs the same text. -/
theorem bodies : Cert.Kernel9.defs₀ (F := Bits) = Cert.Kernel9Ideal.defs₀ (F := Bits) := by
  unfold Cert.Kernel9.defs₀ Cert.Kernel9Ideal.defs₀
  refine congrArg Defs.onTc (funext fun l => funext fun p => ?_)
  match l, p with
  | 0, (t, s) => rfl

theorem tables : Cert.Kernel9.defs (F := Bits) = Cert.Kernel9Ideal.defs (F := Bits) := by
  unfold Cert.Kernel9.defs Cert.Kernel9Ideal.defs
  exact congrArg (Pipeline.defs Cert.Kernel9Ideal.pcfgs) bodies

/-- The kernel itself has the same text, so its frame is this run at the words. -/
theorem frame_kernel : Cert.quiescent_Kernel9 := by
  intro m ρ _
  rw [tables]
  exact frame_any (F := Bits) m ρ

end Cert.NormBwd

end
-- ==== Proof.NormBwdArrays.lean ====
/- The kernel's arrays after its last point: rows block by block, and the sums of columns added up from point to point; the gathered matrix
   stays in the scratch. -/
module

public import proofs.«01_k».proof.Proof.NormBwdPoint
public import proofs.«01_k».proof.Proof.NormBwdReference
public import proofs.«01_k».proof.Proof.NormBwdFrame
public import Idealize.ShloMosaic.Lib.Pipeline.Value

@[expose] public section

set_option maxRecDepth 16384

noncomputable section

namespace Cert.NormBwd

open Cert.Kernel9Ideal Cert.Kernel9Ideal.Gen Idealize.ShloMosaic Idealize.ShloMosaic.TcCoe Idealize.SL.Sem Cert.Gate Cert.Norm Cert.NormBwdNums

section Any

variable {F : FTy → Type} [FloatOps F] (m : (ℓ : Loc nD τ sig) → Buf (Elt F) ℓ) (ρ : Dev nD → PrngReg)

/-! What a point writes back, and what the run leaves. -/

theorem flushed7 (c : Dev nD) (t : Fin cfg0.N) : (dats m 0 c).flushed 7 t = (cfg0.win 7).cut (grid0.coords t) (outsAt0 m c t.val t.isLt).1 := by
  show (cfg0.win 7).cut (grid0.coords t) ((dats m 0 c).after 7 t) = _
  rw [after0_7]

theorem flushed8 (c : Dev nD) (t : Fin cfg0.N) : (dats m 0 c).flushed 8 t = (cfg0.win 8).cut (grid0.coords t) (outsAt0 m c t.val t.isLt).2.1 := by
  show (cfg0.win 8).cut (grid0.coords t) ((dats m 0 c).after 8 t) = _
  rw [after0_8]

theorem flushed9 (c : Dev nD) (t : Fin cfg0.N) : (dats m 0 c).flushed 9 t = (cfg0.win 9).cut (grid0.coords t) (outsAt0 m c t.val t.isLt).2.2.1 := by
  show (cfg0.win 9).cut (grid0.coords t) ((dats m 0 c).after 9 t) = _
  rw [after0_9]

theorem flushed10 (c : Dev nD) (t : Fin cfg0.N) : (dats m 0 c).flushed 10 t = (cfg0.win 10).cut (grid0.coords t) (outsAt0 m c t.val t.isLt).2.2.2.1 := by
  show (cfg0.win 10).cut (grid0.coords t) ((dats m 0 c).after 10 t) = _
  rw [after0_10]

theorem flushed11 (c : Dev nD) (t : Fin cfg0.N) : (dats m 0 c).flushed 11 t = (cfg0.win 11).cut (grid0.coords t) (outsAt0 m c t.val t.isLt).2.2.2.2.1 := by
  show (cfg0.win 11).cut (grid0.coords t) ((dats m 0 c).after 11 t) = _
  rw [after0_11]

theorem flushed12 (c : Dev nD) (t : Fin cfg0.N) : (dats m 0 c).flushed 12 t = (cfg0.win 12).cut (grid0.coords t) (outsAt0 m c t.val t.isLt).2.2.2.2.2.1 := by
  show (cfg0.win 12).cut (grid0.coords t) ((dats m 0 c).after 12 t) = _
  rw [after0_12]

theorem distinct7 : ∀ t t' : Fin cfg0.N, win0_7.index t = win0_7.index t' → t = t' :=
  (by decide +kernel : ∀ t t' : Fin grid0.N, win0_7.index t = win0_7.index t' → t = t')

theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 (fun t t' _ _ hne => (cfg0.win 7).disjoint_blk fun h => hne (distinct7 t t' h)) cfg0.N t t.isLt hf

theorem distinct12 : ∀ t t' : Fin cfg0.N, win0_12.index t = win0_12.index t' → t = t' :=
  (by decide +kernel : ∀ t t' : Fin grid0.N, win0_12.index t = win0_12.index t' → t = t')

theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 (fun t t' _ _ hne => (cfg0.win 12).disjoint_blk fun h => hne (distinct12 t t' h)) cfg0.N t t.isLt hf

/-- The run, with each array it writes named and the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_v0_4) = (dats m 0 c).arrAt 11 cfg0.N
      ∧ r.2.mem ((c : Thread nD τ).loc main_v0_5) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h.2 c).1 7, (h.2 c).1 8, (h.2 c).1 9, (h.2 c).1 10, (h.2 c).1 11, (h.2 c).1 12, h.1 c⟩)
    (θ_run_and (unchanged m ρ) (run_main m ρ))

end Any

variable (m : (ℓ : Loc nD τ sig) → Buf (Elt Ideal) ℓ) (c : Dev nD)

/-- The arguments. -/
def grads : Vec Ideal S4096x5632 .bf16 := m ((c : Thread nD τ).loc main_arg0)
def shards : Vec Ideal S4x1024x1408 .bf16 := m ((c : Thread nD τ).loc main_arg1)
def rows : Vec Ideal S4096x1024 .f32 := m ((c : Thread nD τ).loc main_arg2)
def weights : Vec Ideal S1x1024 .f32 := m ((c : Thread nD τ).loc main_arg3)
def scales : Vec Ideal S1x1024 .f32 := m ((c : Thread nD τ).loc main_arg4)
def passed : Vec Ideal S4096x1024 .f32 := m ((c : Thread nD τ).loc main_arg5)
def gates : Vec Ideal S1x1024 .f32 := m ((c : Thread nD τ).loc main_arg6)
def mixed : Vec Ideal S4096x1024 .f32 := m ((c : Thread nD τ).loc main_arg7)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index12 : ∀ t : Fin grid0.N, win0_12.index t 0 = t.val ∧ win0_12.index t 1 = 0 := by decide +kernel
theorem size7 : ∀ t : Fin grid0.N, win0_7.xsize (grid0.coords t) 0 = 512 ∧ win0_7.xsize (grid0.coords t) 1 = 1024 := by decide +kernel
theorem size12 : ∀ t : Fin grid0.N, win0_12.xsize (grid0.coords t) 0 = 512 ∧ win0_12.xsize (grid0.coords t) 1 = 1024 := by decide +kernel

theorem block0 (t : Fin cfg0.N) (r : Fin 512) (k : Fin 5632) (R : Fin 4096) (h : R.val = 512 * t.val + r.val) :
    (iblk m c 0 t : Vec Ideal S512x5632 .bf16) (ix2 r k) = grads m c (ix2 R k) := by
  have i := index0 t
  unfold iblk
  rw [View.read_apply]
  refine congrArg (grads m c) (funext fun a => Fin.ext ?_)
  match a with
  | ⟨0, _⟩ => show win0_0.index t 0 * 512 + 1 * r.val = R.val; rw [i.1, h]; omega
  | ⟨1, _⟩ => show win0_0.index t 1 * 5632 + 1 * k.val = k.val; rw [i.2]; omega

theorem block1 (t : Fin cfg0.N) (r : Fin 512) (k : Fin 1024) (R : Fin 4096) (h : R.val = 512 * t.val + r.val) :
    (iblk m c 1 t : Vec Ideal S512x1024 .f32) (ix2 r k) = rows m c (ix2 R k) := by
  have i := index1 t
  unfold iblk
  rw [View.read_apply]
  refine congrArg (rows m c) (funext fun a => Fin.ext ?_)
  match a with
  | ⟨0, _⟩ => show win0_1.index t 0 * 512 + 1 * r.val = R.val; rw [i.1, h]; omega
  | ⟨1, _⟩ => show win0_1.index t 1 * 1024 + 1 * k.val = k.val; rw [i.2]; omega

theorem block2 (t : Fin cfg0.N) (k : Fin 1024) : (iblk m c 2 t : Vec Ideal S1x1024 .f32) (ix2 0 k) = weights m c (ix2 0 k) := by
  have i := index2 t
  unfold iblk
  rw [View.read_apply]
  refine congrArg (weights m c) (funext fun a => Fin.ext ?_)
  match a with
  | ⟨0, _⟩ => show win0_2.index t 0 * 1 + 1 * 0 = 0; rw [i.1]
  | ⟨1, _⟩ => show win0_2.index t 1 * 1024 + 1 * k.val = k.val; rw [i.2]; omega

theorem block3 (t : Fin cfg0.N) (k : Fin 1024) : (iblk m c 3 t : Vec Ideal S1x1024 .f32) (ix2 0 k) = scales m c (ix2 0 k) := by
  have i := index3 t
  unfold iblk
  rw [View.read_apply]
  refine congrArg (scales m c) (funext fun a => Fin.ext ?_)
  match a with
  | ⟨0, _⟩ => show win0_3.index t 0 * 1 + 1 * 0 = 0; rw [i.1]
  | ⟨1, _⟩ => show win0_3.index t 1 * 1024 + 1 * k.val = k.val; rw [i.2]; omega

theorem block4 (t : Fin cfg0.N) (r : Fin 512) (k : Fin 1024) (R : Fin 4096) (h : R.val = 512 * t.val + r.val) :
    (iblk m c 4 t : Vec Ideal S512x1024 .f32) (ix2 r k) = passed m c (ix2 R k) := by
  have i := index4 t
  unfold iblk
  rw [View.read_apply]
  refine congrArg (passed m c) (funext fun a => Fin.ext ?_)
  match a with
  | ⟨0, _⟩ => show win0_4.index t 0 * 512 + 1 * r.val = R.val; rw [i.1, h]; omega
  | ⟨1, _⟩ => show win0_4.index t 1 * 1024 + 1 * k.val = k.val; rw [i.2]; omega

theorem block5 (t : Fin cfg0.N) (k : Fin 1024) : (iblk m c 5 t : Vec Ideal S1x1024 .f32) (ix2 0 k) = gates m c (ix2 0 k) := by
  have i := index5 t
  unfold iblk
  rw [View.read_apply]
  refine congrArg (gates m c) (funext fun a => Fin.ext ?_)
  match a with
  | ⟨0, _⟩ => show win0_5.index t 0 * 1 + 1 * 0 = 0; rw [i.1]
  | ⟨1, _⟩ => show win0_5.index t 1 * 1024 + 1 * k.val = k.val; rw [i.2]; omega

theorem block6 (t : Fin cfg0.N) (r : Fin 512) (k : Fin 1024) (R : Fin 4096) (h : R.val = 512 * t.val + r.val) :
    (iblk m c 6 t : Vec Ideal S512x1024 .f32) (ix2 r k) = mixed m c (ix2 R k) := by
  have i := index6 t
  unfold iblk
  rw [View.read_apply]
  refine congrArg (mixed m c) (funext fun a => Fin.ext ?_)
  match a with
  | ⟨0, _⟩ => show win0_6.index t 0 * 512 + 1 * r.val = R.val; rw [i.1, h]; omega
  | ⟨1, _⟩ => show win0_6.index t 1 * 1024 + 1 * k.val = k.val; rw [i.2]; omega

/-- The scratch holds the gathered matrix after every point. -/
theorem scratch_at (n : ℕ) (hn : n < cfg0.N) : (outsAt0 m c n hn).2.2.2.2.2.2 = gathered (shards m c) := by
  have hN : n < 8 := lt_of_lt_of_eq hn (show cfg0.N = 8 from N_0)
  induction n with
  | zero =>
    rw [outsAt0_first m c ⟨0, hn⟩ (by show 0 % 8 = 0; omega) (by show ¬1 ≤ 0; omega)]
    unfold first allFirst
    dsimp only
    rw [first_gathers]
    rfl
  | succ n ih =>
    rw [outsAt0_later m c ⟨n + 1, hn⟩ (by show ¬(n + 1) % 8 = 0; omega) (by show 1 ≤ n + 1; omega)]
    have e : ∀ (k : ℕ) (hk : k < cfg0.N), k = n → (outsAt0 m c k hk).2.2.2.2.2.2 = gathered (shards m c) := by
      rintro k hk rfl
      exact ih hk (by omega)
    unfold later allLater
    dsimp only
    exact e _ _ (by show n + 1 - 1 = n; omega)

theorem dx_left (t : Fin cfg0.N) : (outsAt0 m c t.val t.isLt).1
    = toRow (gathered (shards m c)) (iblk m c 0 t) (iblk m c 1 t) (iblk m c 2 t) (iblk m c 3 t) (iblk m c 4 t) := by
  have hN : t.val < 8 := lt_of_lt_of_eq t.isLt (show cfg0.N = 8 from N_0)
  by_cases h : t.val = 0
  · rw [outsAt0_first m c t (by omega) (by omega)]
    unfold first allFirst
    dsimp only
    rw [left_first_dx]
    rfl
  · rw [outsAt0_later m c t (by omega) (by omega)]
    unfold later allLater
    dsimp only
    rw [left_later_dx, scratch_at m c]

theorem shift_first (t : Fin cfg0.N) (h : t.val = 0) : (outsAt0 m c t.val t.isLt).2.1 = toShift (gathered (shards m c)) (iblk m c 0 t) := by
  rw [outsAt0_first m c t (by omega) (by omega)]
  unfold first allFirst
  dsimp only
  rw [left_first_shift]
  rfl

theorem shift_later (t : Fin cfg0.N) (h : 1 ≤ t.val) (before : t.val - 1 < cfg0.N) : (outsAt0 m c t.val t.isLt).2.1
    = k0_pay11 (rDh (gathered (shards m c)) (iblk m c 0 t)) (outsAt0 m c (t.val - 1) before).2.1 := by
  have hN : t.val < 8 := lt_of_lt_of_eq t.isLt (show cfg0.N = 8 from N_0)
  rw [outsAt0_later m c t (by omega) h]
  unfold later allLater
  dsimp only
  rw [left_later_shift, scratch_at m c]

theorem scale_first (t : Fin cfg0.N) (h : t.val = 0) : (outsAt0 m c t.val t.isLt).2.2.1 = toScale (gathered (shards m c)) (iblk m c 0 t) (iblk m c 1 t) (iblk m c 2 t) := by
  rw [outsAt0_first m c t (by omega) (by omega)]
  unfold first allFirst
  dsimp only
  rw [left_first_scale]
  rfl

theorem scale_later (t : Fin cfg0.N) (h : 1 ≤ t.val) (before : t.val - 1 < cfg0.N) : (outsAt0 m c t.val t.isLt).2.2.1
    = k0_pay13 (rDh (gathered (shards m c)) (iblk m c 0 t)) (rNorm (iblk m c 1 t)) (iblk m c 2 t) (outsAt0 m c (t.val - 1) before).2.2.1 := by
  have hN : t.val < 8 := lt_of_lt_of_eq t.isLt (show cfg0.N = 8 from N_0)
  rw [outsAt0_later m c t (by omega) h]
  unfold later allLater
  dsimp only
  rw [left_later_scale, scratch_at m c]

theorem g_first (t : Fin cfg0.N) (h : t.val = 0) : (outsAt0 m c t.val t.isLt).2.2.2.1 = toWeight (gathered (shards m c)) (iblk m c 0 t) (iblk m c 1 t) (iblk m c 3 t) := by
  rw [outsAt0_first m c t (by omega) (by omega)]
  unfold first allFirst
  dsimp only
  rw [left_first_g]
  rfl

theorem g_later (t : Fin cfg0.N) (h : 1 ≤ t.val) (before : t.val - 1 < cfg0.N) : (outsAt0 m c t.val t.isLt).2.2.2.1
    = k0_pay15 (rNorm (iblk m c 1 t)) (rDn (gathered (shards m c)) (iblk m c 0 t) (iblk m c 3 t)) (outsAt0 m c (t.val - 1) before).2.2.2.1 := by
  have hN : t.val < 8 := lt_of_lt_of_eq t.isLt (show cfg0.N = 8 from N_0)
  rw [outsAt0_later m c t (by omega) h]
  unfold later allLater
  dsimp only
  rw [left_later_g, scratch_at m c]

theorem gate_first (t : Fin cfg0.N) (h : t.val = 0) : (outsAt0 m c t.val t.isLt).2.2.2.2.1 = toGate (gathered (shards m c)) (iblk m c 0 t) (iblk m c 1 t) (iblk m c 2 t) (iblk m c 3 t) (iblk m c 4 t) (iblk m c 6 t) := by
  rw [outsAt0_first m c t (by omega) (by omega)]
  unfold first allFirst
  dsimp only
  rw [left_first_gate]
  rfl

theorem gate_later (t : Fin cfg0.N) (h : 1 ≤ t.val) (before : t.val - 1 < cfg0.N) : (outsAt0 m c t.val t.isLt).2.2.2.2.1
    = k0_pay1 (toGate (gathered (shards m c)) (iblk m c 0 t) (iblk m c 1 t) (iblk m c 2 t) (iblk m c 3 t) (iblk m c 4 t) (iblk m c 6 t)) (outsAt0 m c (t.val - 1) before).2.2.2.2.1 := by
  have hN : t.val < 8 := lt_of_lt_of_eq t.isLt (show cfg0.N = 8 from N_0)
  rw [outsAt0_later m c t (by omega) h]
  unfold later allLater
  dsimp only
  rw [left_later_gate, scratch_at m c]

theorem mix_left (t : Fin cfg0.N) : (outsAt0 m c t.val t.isLt).2.2.2.2.2.1
    = toMix (gathered (shards m c)) (iblk m c 0 t) (iblk m c 1 t) (iblk m c 2 t) (iblk m c 3 t) (iblk m c 4 t) (iblk m c 5 t) := by
  have hN : t.val < 8 := lt_of_lt_of_eq t.isLt (show cfg0.N = 8 from N_0)
  by_cases h : t.val = 0
  · rw [outsAt0_first m c t (by omega) (by omega)]
    unfold first allFirst
    dsimp only
    rw [left_first_mix]
    rfl
  · rw [outsAt0_later m c t (by omega) (by omega)]
    unfold later allLater
    dsimp only
    rw [left_later_mix, scratch_at m c]

variable {m c} {N : Nums 5632} (G : Given N (grads m c) (shards m c) (rows m c) (weights m c) (scales m c) (passed m c))
include G

theorem holds (t : Fin cfg0.N) (r : Fin 512) (R : Fin 4096) (h : R.val = 512 * t.val + r.val) :
    Holds N R r (gathered (shards m c)) (iblk m c 0 t) (iblk m c 1 t) (iblk m c 2 t) (iblk m c 3 t) (iblk m c 4 t) where
  w j k := G.w _ k (show k.val = 1408 * (k.val / 1408) + k.val % 1408 by omega)
  d k := (block0 m c t r k R h).trans (G.d _)
  x j := (block1 m c t r j R h).trans (G.x _)
  g j := (block2 m c t j).trans (G.g _)
  scale j := (block3 m c t j).trans (G.scale _)
  res j := (block4 m c t r j R h).trans (G.res _)

omit G in
theorem row_lt (n : ℕ) (hn : n < cfg0.N) (r : Fin 512) : 512 * n + r.val < 4096 := by
  have hN : n < 8 := lt_of_lt_of_eq hn (show cfg0.N = 8 from N_0)
  omega

theorem sum_shift (j : Fin 1024) : ((outsAt0 m c t0_7.val t0_7.isLt).2.1 : Vec Ideal S1x1024 .f32) (ix2 0 j) = ((∑ R, N.dh R j : ℝ) : EReal) := by
  refine added_up (fun R => N.dh R j) N_0 (fun n hn => (outsAt0 m c n hn).2.1 (ix2 0 j))
    (fun n hn => toShift_at (fun r : Fin 512 => (⟨512 * n + r.val, row_lt n hn r⟩ : Fin 4096)) (fun r => holds G ⟨n, hn⟩ r ⟨512 * n + r.val, row_lt n hn r⟩ rfl) j)
    (fun hn => ?_) (fun n hn => ?_) t0_7.isLt
  · rw [shift_first m c ⟨0, hn⟩ rfl]
  · rw [shift_later m c ⟨n + 1, hn⟩ (Nat.le_add_left 1 n) (Nat.lt_of_le_of_lt (Nat.sub_le _ _) hn)]
    unfold k0_pay11
    pointwise
    rfl

theorem sum_scale (j : Fin 1024) : ((outsAt0 m c t0_7.val t0_7.isLt).2.2.1 : Vec Ideal S1x1024 .f32) (ix2 0 j) = ((∑ R, N.dh R j * N.xh R j * N.g j : ℝ) : EReal) := by
  refine added_up (fun R => N.dh R j * N.xh R j * N.g j) N_0 (fun n hn => (outsAt0 m c n hn).2.2.1 (ix2 0 j))
    (fun n hn => toScale_at (fun r : Fin 512 => (⟨512 * n + r.val, row_lt n hn r⟩ : Fin 4096)) (fun r => holds G ⟨n, hn⟩ r ⟨512 * n + r.val, row_lt n hn r⟩ rfl) j)
    (fun hn => ?_) (fun n hn => ?_) t0_7.isLt
  · rw [scale_first m c ⟨0, hn⟩ rfl]
  · rw [scale_later m c ⟨n + 1, hn⟩ (Nat.le_add_left 1 n) (Nat.lt_of_le_of_lt (Nat.sub_le _ _) hn)]
    unfold k0_pay13
    pointwise
    rfl

theorem sum_g (j : Fin 1024) : ((outsAt0 m c t0_7.val t0_7.isLt).2.2.2.1 : Vec Ideal S1x1024 .f32) (ix2 0 j) = ((∑ R, N.dn R j * N.xh R j : ℝ) : EReal) := by
  refine added_up (fun R => N.dn R j * N.xh R j) N_0 (fun n hn => (outsAt0 m c n hn).2.2.2.1 (ix2 0 j))
    (fun n hn => toWeight_at (fun r : Fin 512 => (⟨512 * n + r.val, row_lt n hn r⟩ : Fin 4096)) (fun r => holds G ⟨n, hn⟩ r ⟨512 * n + r.val, row_lt n hn r⟩ rfl) j)
    (fun hn => ?_) (fun n hn => ?_) t0_7.isLt
  · rw [g_first m c ⟨0, hn⟩ rfl]
  · rw [g_later m c ⟨n + 1, hn⟩ (Nat.le_add_left 1 n) (Nat.lt_of_le_of_lt (Nat.sub_le _ _) hn)]
    unfold k0_pay15
    pointwise
    rfl

theorem sum_gate {mix : Fin 4096 → Fin 1024 → ℝ} (hm : ∀ i : S4096x1024.Idx, mixed m c i = ((mix (i 0) (i 1) : ℝ) : EReal)) (j : Fin 1024) : ((outsAt0 m c t0_7.val t0_7.isLt).2.2.2.2.1 : Vec Ideal S1x1024 .f32) (ix2 0 j) = ((∑ R, N.dx R j * mix R j : ℝ) : EReal) := by
  refine added_up (fun R => N.dx R j * mix R j) N_0 (fun n hn => (outsAt0 m c n hn).2.2.2.2.1 (ix2 0 j))
    (fun n hn => toGate_at (fun r : Fin 512 => (⟨512 * n + r.val, row_lt n hn r⟩ : Fin 4096)) (fun r => holds G ⟨n, hn⟩ r ⟨512 * n + r.val, row_lt n hn r⟩ rfl) (fun r j => (block6 m c ⟨n, hn⟩ r j ⟨512 * n + r.val, row_lt n hn r⟩ rfl).trans (hm _)) j)
    (fun hn => ?_) (fun n hn => ?_) t0_7.isLt
  · rw [gate_first m c ⟨0, hn⟩ rfl]
  · rw [gate_later m c ⟨n + 1, hn⟩ (Nat.le_add_left 1 n) (Nat.lt_of_le_of_lt (Nat.sub_le _ _) hn)]
    unfold k0_pay1
    pointwise
    rfl

theorem final7 (R : Fin 4096) (j : Fin 1024) : (dats m 0 c).arrAt 7 cfg0.N (ix2 R j) = ((N.dx R j : ℝ) : EReal) := by
  have hR := R.isLt
  have hj := j.isLt
  have hr : R.val % 512 < 512 := by omega
  obtain ⟨t, htv⟩ : ∃ t : Fin cfg0.N, t.val = R.val / 512 := ⟨⟨R.val / 512, by rw [show cfg0.N = 8 from N_0]; omega⟩, rfl⟩
  have z := size7 t
  have i := index7 t
  let y : ((cfg0.win 7).xblock (grid0.coords t)).Idx := fun a => match a with
    | ⟨0, _⟩ => ⟨R.val % 512, by show _ < win0_7.xsize (grid0.coords t) 0; rw [z.1]; omega⟩
    | ⟨1, _⟩ => ⟨j.val, by show _ < win0_7.xsize (grid0.coords t) 1; rw [z.2]; omega⟩
  have e := congrFun (blocks7 m c t (flush0_7 t)) y
  rw [View.read_apply, flushed7] at e
  have ey : ((cfg0.win 7).blk t).view.emb y = ix2 R j := by
    funext a
    apply Fin.ext
    match a with
    | ⟨0, _⟩ => show win0_7.index t 0 * 512 + 1 * (R.val % 512) = R.val; rw [i.1]; omega
    | ⟨1, _⟩ => show win0_7.index t 1 * 1024 + 1 * j.val = j.val; rw [i.2]; omega
  rw [ey] at e
  have ex : (cfg0.win 7).cut (grid0.coords t) (outsAt0 m c t.val t.isLt).1 y = (outsAt0 m c t.val t.isLt).1 (ix2 ⟨R.val % 512, hr⟩ j) := by
    refine congrArg (outsAt0 m c t.val t.isLt).1 (funext fun a => Fin.ext ?_)
    match a with
    | ⟨0, _⟩ => rfl
    | ⟨1, _⟩ => rfl
  refine e.trans (ex.trans ((congrFun (dx_left m c t) _).trans (toRow_at (holds G t ⟨R.val % 512, hr⟩ R ?_) j)))
  show R.val = 512 * t.val + R.val % 512
  omega

theorem final12 {gate : Fin 1024 → ℝ} (hg : ∀ i : S1x1024.Idx, gates m c i = ((gate (i 1) : ℝ) : EReal)) (R : Fin 4096) (j : Fin 1024) : (dats m 0 c).arrAt 12 cfg0.N (ix2 R j) = ((N.dx R j * gate j : ℝ) : EReal) := by
  have hR := R.isLt
  have hj := j.isLt
  have hr : R.val % 512 < 512 := by omega
  obtain ⟨t, htv⟩ : ∃ t : Fin cfg0.N, t.val = R.val / 512 := ⟨⟨R.val / 512, by rw [show cfg0.N = 8 from N_0]; omega⟩, rfl⟩
  have z := size12 t
  have i := index12 t
  let y : ((cfg0.win 12).xblock (grid0.coords t)).Idx := fun a => match a with
    | ⟨0, _⟩ => ⟨R.val % 512, by show _ < win0_12.xsize (grid0.coords t) 0; rw [z.1]; omega⟩
    | ⟨1, _⟩ => ⟨j.val, by show _ < win0_12.xsize (grid0.coords t) 1; rw [z.2]; omega⟩
  have e := congrFun (blocks12 m c t (flush0_12 t)) y
  rw [View.read_apply, flushed12] at e
  have ey : ((cfg0.win 12).blk t).view.emb y = ix2 R j := by
    funext a
    apply Fin.ext
    match a with
    | ⟨0, _⟩ => show win0_12.index t 0 * 512 + 1 * (R.val % 512) = R.val; rw [i.1]; omega
    | ⟨1, _⟩ => show win0_12.index t 1 * 1024 + 1 * j.val = j.val; rw [i.2]; omega
  rw [ey] at e
  have ex : (cfg0.win 12).cut (grid0.coords t) (outsAt0 m c t.val t.isLt).2.2.2.2.2.1 y = (outsAt0 m c t.val t.isLt).2.2.2.2.2.1 (ix2 ⟨R.val % 512, hr⟩ j) := by
    refine congrArg (outsAt0 m c t.val t.isLt).2.2.2.2.2.1 (funext fun a => Fin.ext ?_)
    match a with
    | ⟨0, _⟩ => rfl
    | ⟨1, _⟩ => rfl
  refine e.trans (ex.trans ((congrFun (mix_left m c t) _).trans (toMix_at (holds G t ⟨R.val % 512, hr⟩ R ?_) (fun j => (block5 m c t j).trans (hg _)) j)))
  show R.val = 512 * t.val + R.val % 512
  omega

theorem final8 (j : Fin 1024) : (dats m 0 c).arrAt 8 cfg0.N (ix2 0 j) = ((∑ R, N.dh R j : ℝ) : EReal) := by
  have hN : cfg0.N = 8 := N_0
  have e : (dats m 0 c).arrAt 8 cfg0.N = (outsAt0 m c t0_7.val t0_7.isLt).2.1 :=
    (dats m 0 c).arrAt_eq_of_cover 8 (outsAt0 m c t0_7.val t0_7.isLt).2.1 (fun t hf => by
      have h7 : t.val = 7 := by have := (flush0_8 t).mp hf; have := t.isLt; omega
      obtain rfl : t = t0_7 := Fin.ext h7
      rw [flushed8]
      have hz' : (fun a => win0_8.index t0_7 a * main_v0_1.ty.shape.size a) = fun _ => 0 := funext fun a => by fin_cases a <;> decide
      exact (Memref.read_access_unit_zero (Elt Ideal) main_v0_1 hz' (fun a => by rw [congrFun hz' a]; simp) (outsAt0 m c t0_7.val t0_7.isLt).2.1).symm) fun i =>
    ⟨t0_7, (flush0_8 t0_7).mpr rfl, by
      show i ∈ ((View.whole main_v0_1).slice (win0_8.rect t0_7)).set
      rw [View.set_slice_whole, Rect.mem_set_unit]
      have z : ∀ a, win0_8.index t0_7 a * win0_8.size a = 0 ∧ win0_8.xsize (grid0.coords t0_7) a = main_v0_1.ty.shape.size a := by decide +kernel
      exact fun a => inside (i a).isLt (z a)⟩
  rw [e]
  exact sum_shift G j

theorem final9 (j : Fin 1024) : (dats m 0 c).arrAt 9 cfg0.N (ix2 0 j) = ((∑ R, N.dh R j * N.xh R j * N.g j : ℝ) : EReal) := by
  have hN : cfg0.N = 8 := N_0
  have e : (dats m 0 c).arrAt 9 cfg0.N = (outsAt0 m c t0_7.val t0_7.isLt).2.2.1 :=
    (dats m 0 c).arrAt_eq_of_cover 9 (outsAt0 m c t0_7.val t0_7.isLt).2.2.1 (fun t hf => by
      have h7 : t.val = 7 := by have := (flush0_9 t).mp hf; have := t.isLt; omega
      obtain rfl : t = t0_7 := Fin.ext h7
      rw [flushed9]
      have hz' : (fun a => win0_9.index t0_7 a * main_v0_2.ty.shape.size a) = fun _ => 0 := funext fun a => by fin_cases a <;> decide
      exact (Memref.read_access_unit_zero (Elt Ideal) main_v0_2 hz' (fun a => by rw [congrFun hz' a]; simp) (outsAt0 m c t0_7.val t0_7.isLt).2.2.1).symm) fun i =>
    ⟨t0_7, (flush0_9 t0_7).mpr rfl, by
      show i ∈ ((View.whole main_v0_2).slice (win0_9.rect t0_7)).set
      rw [View.set_slice_whole, Rect.mem_set_unit]
      have z : ∀ a, win0_9.index t0_7 a * win0_9.size a = 0 ∧ win0_9.xsize (grid0.coords t0_7) a = main_v0_2.ty.shape.size a := by decide +kernel
      exact fun a => inside (i a).isLt (z a)⟩
  rw [e]
  exact sum_scale G j

theorem final10 (j : Fin 1024) : (dats m 0 c).arrAt 10 cfg0.N (ix2 0 j) = ((∑ R, N.dn R j * N.xh R j : ℝ) : EReal) := by
  have hN : cfg0.N = 8 := N_0
  have e : (dats m 0 c).arrAt 10 cfg0.N = (outsAt0 m c t0_7.val t0_7.isLt).2.2.2.1 :=
    (dats m 0 c).arrAt_eq_of_cover 10 (outsAt0 m c t0_7.val t0_7.isLt).2.2.2.1 (fun t hf => by
      have h7 : t.val = 7 := by have := (flush0_10 t).mp hf; have := t.isLt; omega
      obtain rfl : t = t0_7 := Fin.ext h7
      rw [flushed10]
      have hz' : (fun a => win0_10.index t0_7 a * main_v0_3.ty.shape.size a) = fun _ => 0 := funext fun a => by fin_cases a <;> decide
      exact (Memref.read_access_unit_zero (Elt Ideal) main_v0_3 hz' (fun a => by rw [congrFun hz' a]; simp) (outsAt0 m c t0_7.val t0_7.isLt).2.2.2.1).symm) fun i =>
    ⟨t0_7, (flush0_10 t0_7).mpr rfl, by
      show i ∈ ((View.whole main_v0_3).slice (win0_10.rect t0_7)).set
      rw [View.set_slice_whole, Rect.mem_set_unit]
      have z : ∀ a, win0_10.index t0_7 a * win0_10.size a = 0 ∧ win0_10.xsize (grid0.coords t0_7) a = main_v0_3.ty.shape.size a := by decide +kernel
      exact fun a => inside (i a).isLt (z a)⟩
  rw [e]
  exact sum_g G j

theorem final11 {mix : Fin 4096 → Fin 1024 → ℝ} (hm : ∀ i : S4096x1024.Idx, mixed m c i = ((mix (i 0) (i 1) : ℝ) : EReal)) (j : Fin 1024) : (dats m 0 c).arrAt 11 cfg0.N (ix2 0 j) = ((∑ R, N.dx R j * mix R j : ℝ) : EReal) := by
  have hN : cfg0.N = 8 := N_0
  have e : (dats m 0 c).arrAt 11 cfg0.N = (outsAt0 m c t0_7.val t0_7.isLt).2.2.2.2.1 :=
    (dats m 0 c).arrAt_eq_of_cover 11 (outsAt0 m c t0_7.val t0_7.isLt).2.2.2.2.1 (fun t hf => by
      have h7 : t.val = 7 := by have := (flush0_11 t).mp hf; have := t.isLt; omega
      obtain rfl : t = t0_7 := Fin.ext h7
      rw [flushed11]
      have hz' : (fun a => win0_11.index t0_7 a * main_v0_4.ty.shape.size a) = fun _ => 0 := funext fun a => by fin_cases a <;> decide
      exact (Memref.read_access_unit_zero (Elt Ideal) main_v0_4 hz' (fun a => by rw [congrFun hz' a]; simp) (outsAt0 m c t0_7.val t0_7.isLt).2.2.2.2.1).symm) fun i =>
    ⟨t0_7, (flush0_11 t0_7).mpr rfl, by
      show i ∈ ((View.whole main_v0_4).slice (win0_11.rect t0_7)).set
      rw [View.set_slice_whole, Rect.mem_set_unit]
      have z : ∀ a, win0_11.index t0_7 a * win0_11.size a = 0 ∧ win0_11.xsize (grid0.coords t0_7) a = main_v0_4.ty.shape.size a := by decide +kernel
      exact fun a => inside (i a).isLt (z a)⟩
  rw [e]
  exact sum_gate G hm j

end Cert.NormBwd

end
-- ==== Proof.NormBwd.lean ====
/- The derivative of a product behind a scaled and shifted norm: the kernel and the reference leave the same arrays. -/
module

public import proofs.«01_k».proof.Proof.NormBwdArrays
public import proofs.«01_k».proof.Defs
public import proofs.«01_k».proof.Proof.Gen.Pre_finite9

@[expose] public section

set_option maxRecDepth 16384

noncomputable section

namespace Cert.NormBwd

open Cert.Kernel9Ideal Cert.Kernel9Ideal.Gen Idealize.ShloMosaic Idealize.ShloMosaic.TcCoe Idealize.SL.Sem Cert.Gate Cert.Norm Cert.NormBwdNums

/-- The precondition, read at every entry. -/
theorem finite_entries {x0 : Vec Ideal S4096x5632 .bf16} {x1 : Vec Ideal S4x1024x1408 .bf16} {x2 : Vec Ideal S4096x1024 .f32} {x3 : Vec Ideal S1x1024 .f32} {x4 : Vec Ideal S1x1024 .f32} {x5 : Vec Ideal S4096x1024 .f32} {x6 : Vec Ideal S1x1024 .f32} {x7 : Vec Ideal S4096x1024 .f32}
    [Cert.Pre_finite9.Facts] (h : Cert.Pre_finite9.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) := by
  have e := congrFun h (fun a => a.elim0)
  dsimp only [Cert.Pre_finite9.fn] at e
  obtain ⟨e, e₇⟩ := Cert.Hgrn.both_one _ _ e
  obtain ⟨e, e₆⟩ := Cert.Hgrn.both_one _ _ e
  obtain ⟨e, e₅⟩ := Cert.Hgrn.both_one _ _ e
  obtain ⟨e, e₄⟩ := Cert.Hgrn.both_one _ _ e
  obtain ⟨e, e₃⟩ := Cert.Hgrn.both_one _ _ e
  obtain ⟨e, e₂⟩ := Cert.Hgrn.both_one _ _ e
  obtain ⟨e₀, e₁⟩ := Cert.Hgrn.both_one _ _ e
  exact ⟨fun i => isReal_of_bit _ (Host.reduce_andi_all _ _ _ _ _ e₀ i), fun i => isReal_of_bit _ (Host.reduce_andi_all _ _ _ _ _ e₁ i), fun i => isReal_of_bit _ (Host.reduce_andi_all _ _ _ _ _ e₂ i), fun i => isReal_of_bit _ (Host.reduce_andi_all _ _ _ _ _ e₃ i), fun i => isReal_of_bit _ (Host.reduce_andi_all _ _ _ _ _ e₄ i), fun i => isReal_of_bit _ (Host.reduce_andi_all _ _ _ _ _ e₅ i), fun i => isReal_of_bit _ (Host.reduce_andi_all _ _ _ _ _ e₆ i), fun i => isReal_of_bit _ (Host.reduce_andi_all _ _ _ _ _ e₇ i)⟩

variable (m : (ℓ : Loc nD τ sig) → Buf (Elt Ideal) ℓ) (c : Dev nD)

/-- The arguments' entries as real numbers. -/
def nums : Nums 5632 where
  d R k := (grads m c (ix2 R k)).toReal
  w j k := (shards m c (ix3 ⟨k.val / 1408, by omega⟩ j ⟨k.val % 1408, by omega⟩)).toReal
  x R j := (rows m c (ix2 R j)).toReal
  res R j := (passed m c (ix2 R j)).toReal
  g j := (weights m c (ix2 0 j)).toReal
  scale j := (scales m c (ix2 0 j)).toReal

theorem two {n k : ℕ} (i : (⟨2, ![n, k]⟩ : Shape).Idx) : i = ix2 (i 0) (i 1) :=
  funext fun a => match a with | ⟨0, _⟩ => rfl | ⟨1, _⟩ => rfl

theorem one_row {k : ℕ} (i : (⟨2, ![1, k]⟩ : Shape).Idx) : i = ix2 0 (i 1) :=
  funext fun a => match a with | ⟨0, _⟩ => Subsingleton.elim (α := Fin 1) _ _ | ⟨1, _⟩ => rfl

theorem shard (i : S4x1024x1408.Idx) (k : Fin 5632) (h : k.val = 1408 * (i 0).val + (i 2).val) : i = ix3 ⟨k.val / 1408, by omega⟩ (i 1) ⟨k.val % 1408, by omega⟩ := by
  have h2 : (i 2).val < 1408 := (i 2).isLt
  refine funext fun a => Fin.ext ?_
  match a with
  | ⟨0, _⟩ => show (i 0).val = k.val / 1408; omega
  | ⟨1, _⟩ => rfl
  | ⟨2, _⟩ => show (i 2).val = k.val % 1408; omega

theorem given (h0 : ∀ i, IsReal (grads m c i)) (h1 : ∀ i, IsReal (shards m c i)) (h2 : ∀ i, IsReal (rows m c i)) (h3 : ∀ i, IsReal (weights m c i))
    (h4 : ∀ i, IsReal (scales m c i)) (h5 : ∀ i, IsReal (passed m c i)) :
    Given (nums m c) (grads m c) (shards m c) (rows m c) (weights m c) (scales m c) (passed m c) where
  d i := (h0 i).trans (congrArg (fun i => (((grads m c i).toReal : ℝ) : EReal)) (two i))
  w i k h := (h1 i).trans (congrArg (fun i => (((shards m c i).toReal : ℝ) : EReal)) (shard i k h))
  x i := (h2 i).trans (congrArg (fun i => (((rows m c i).toReal : ℝ) : EReal)) (two i))
  g i := (h3 i).trans (congrArg (fun i => (((weights m c i).toReal : ℝ) : EReal)) (one_row i))
  scale i := (h4 i).trans (congrArg (fun i => (((scales m c i).toReal : ℝ) : EReal)) (one_row i))
  res i := (h5 i).trans (congrArg (fun i => (((passed m c i).toReal : ℝ) : EReal)) (two i))

open Cert.Reference9Ideal.Read

section Same

variable {m c}
variable (G : Given (nums m c) (grads m c) (shards m c) (rows m c) (weights m c) (scales m c) (passed m c))
include G

theorem same_dx :
    val_main_v54 (F := Ideal) (grads m c) (shards m c) (rows m c) (weights m c) (scales m c) (passed m c) = (dats m 0 c).arrAt 7 cfg0.N :=
  funext fun (i : S4096x1024.Idx) => (ref_dx G i).trans ((final7 G (i 0) (i 1)).symm.trans (congrArg ((dats m 0 c).arrAt 7 cfg0.N) (two i).symm))

theorem same_shift :
    val_main_v29 (F := Ideal) (grads m c) (shards m c) = (dats m 0 c).arrAt 8 cfg0.N :=
  funext fun (i : S1x1024.Idx) => (ref_shift G i).trans ((final8 G (i 1)).symm.trans (congrArg ((dats m 0 c).arrAt 8 cfg0.N) (one_row i).symm))

theorem same_scale :
    val_main_v32 (F := Ideal) (grads m c) (shards m c) (rows m c) (weights m c) = (dats m 0 c).arrAt 9 cfg0.N :=
  funext fun (i : S1x1024.Idx) => (ref_scale G i).trans ((final9 G (i 1)).symm.trans (congrArg ((dats m 0 c).arrAt 9 cfg0.N) (one_row i).symm))

theorem same_g :
    val_main_v37 (F := Ideal) (grads m c) (shards m c) (rows m c) (scales m c) = (dats m 0 c).arrAt 10 cfg0.N :=
  funext fun (i : S1x1024.Idx) => (ref_weight G i).trans ((final10 G (i 1)).symm.trans (congrArg ((dats m 0 c).arrAt 10 cfg0.N) (one_row i).symm))

theorem same_gate {mix : Fin 4096 → Fin 1024 → ℝ} (hm : ∀ i : S4096x1024.Idx, mixed m c i = ((mix (i 0) (i 1) : ℝ) : EReal)) :
    val_main_v61 (F := Ideal) (grads m c) (shards m c) (rows m c) (weights m c) (scales m c) (passed m c) (mixed m c) = (dats m 0 c).arrAt 11 cfg0.N :=
  funext fun (i : S1x1024.Idx) => (ref_gate G hm i).trans ((final11 G hm (i 1)).symm.trans (congrArg ((dats m 0 c).arrAt 11 cfg0.N) (one_row i).symm))

theorem same_mix {gate : Fin 1024 → ℝ} (hg : ∀ i : S1x1024.Idx, gates m c i = ((gate (i 1) : ℝ) : EReal)) :
    val_main_v62 (F := Ideal) (grads m c) (shards m c) (rows m c) (weights m c) (scales m c) (passed m c) (gates m c) = (dats m 0 c).arrAt 12 cfg0.N :=
  funext fun (i : S4096x1024.Idx) => (ref_mix G hg i).trans ((final12 G hg (i 0) (i 1)).symm.trans (congrArg ((dats m 0 c).arrAt 12 cfg0.N) (two i).symm))

end Same

/-- The value claim: the arrays are the reference's. -/
theorem algebraic : Cert.algebraic_Kernel9Ideal_Reference9Ideal_pre_finite9 := by
  intro m g m' g' hpre hagree
  refine ⟨_, _, _, _, _, _, run_blocks m g, ?_⟩
  refine (θ_run _ _ _).mono (fun _ h c => ?_) (Cert.Reference9Ideal.Value.run (F := Ideal) m' g')
  obtain ⟨a0, a1, a2, a3, a4, a5, a6, a7⟩ := hagree c
  obtain ⟨p0, p1, p2, p3, p4, p5, p6, p7⟩ := finite_entries (hpre c)
  have G := given m c p0 p1 p2 p3 p4 p5
  have hg : ∀ i : S1x1024.Idx, gates m c i = (((gates m c (ix2 0 (i 1))).toReal : ℝ) : EReal) := fun i =>
    (p6 i).trans (congrArg (fun i => (((gates m c i).toReal : ℝ) : EReal)) (one_row i))
  have hm : ∀ i : S4096x1024.Idx, mixed m c i = (((mixed m c (ix2 (i 0) (i 1))).toReal : ℝ) : EReal) := fun i =>
    (p7 i).trans (congrArg (fun i => (((mixed m c i).toReal : ℝ) : EReal)) (two i))
  obtain ⟨h0, h1, h2, h3, h4, h5, hrest⟩ := h c
  refine ⟨h0.trans ((val_main_v54_eq _ _).trans ?_), h1.trans ((val_main_v29_eq _ _).trans ?_), h2.trans ((val_main_v32_eq _ _ _ _).trans ?_), h3.trans ((val_main_v37_eq _ _ _ _).trans ?_), h4.trans ((val_main_v61_eq _ _).trans ?_), h5.trans ((val_main_v62_eq _ _).trans ?_), hrest⟩
  · rw [a0, a1, a2, a3, a4, a5]
    exact same_dx G
  · rw [a0, a1]
    exact same_shift G
  · rw [a0, a1, a2, a3]
    exact same_scale G
  · rw [a0, a1, a2, a4]
    exact same_g G
  · rw [a0, a1, a2, a3, a4, a5, a7]
    exact same_gate G (mix := fun R j => (mixed m c (ix2 R j)).toReal) hm
  · rw [a0, a1, a2, a3, a4, a5, a6]
    exact same_mix G (gate := fun j => (gates m c (ix2 0 j)).toReal) hg

end Cert.NormBwd

end
-- ==== Proof.NormBwdInFirst.lean ====
/- The body at the first point: the weight is copied into scratch, shard by shard, and every output is stored. -/
module

public import proofs.«01_k».proof.Proof.Gen.Kernel10Ideal.Frame.Runs

@[expose] public section

set_option maxRecDepth 16384

noncomputable section

namespace Cert.NormBwdIn

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The pieces that the first point stores into each output and into the scratch, and that the body runs and leaves them. -/
def runFirst (c : Dev nD) (i : grid0.Coords) (arg1 : Memref sig .tc .vmem S512x3584 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x3584 .bf16) (harg11 : arg11.IsWhole) (hc0 : cond0_0 i) (hc1 : cond0_1 i) (hc2 : ¬cond0_2 i) (hc3 : cond0_3 i) (hc4 : ¬cond0_4 i) (hc5 : cond0_5 i) (hc6 : ¬cond0_6 i)
    (x0 : Vec F S512x3584 .bf16) (x1 : Vec F S512x1024 .f32) (x2 : Vec F S1x1024 .f32) (x3 : Vec F S1x1024 .f32) (x4 : Vec F S512x1024 .f32) (fh0 : HbBuf0 (F := F) c hbM0_0) :
    Σ' (L5 : List (View.Piece (Elt F) S512x1024 .f32)), Σ' (L6 : List (View.Piece (Elt F) S1x1024 .f32)), Σ' (L7 : List (View.Piece (Elt F) S1x1024 .f32)), Σ' (L8 : List (View.Piece (Elt F) S1x1024 .f32)), { LS0 : List (View.Piece (Elt F) S1024x3584 .bf16) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0_mm_in_dx_norm_bwd i arg1 harg1 (Memref.whole main_arg1) (Memref.isWhole_whole _) arg3 harg3 arg4 harg4 arg5 harg5 arg6 harg6 arg7 harg7 arg8 harg8 arg9 harg9 arg10 harg10 arg11 harg11 cc0_scratch1) K } := by
  refine ⟨?_, ?_, ?_, ?_, ?_, fun W K => ?run⟩
  case run =>
    simp only [cc0_mm_in_dx_norm_bwd_eq_skeleton]; unfold cc0_mm_in_dx_norm_bwd_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4
    set_option sl_exec.dmaWindow true in
    set_option sl_exec.dmaWindowSet true in
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [Hq0]; · iexact Hq0
    isplitl [Hq1]; · iexact Hq1
    isplitl [Hq2]; · iexact Hq2
    isplitl [Hq3]; · iexact Hq3
    isplitl [Hh0]; · iexact Hh0
    iexists _; iexact HW

end Cert.NormBwdIn

end
-- ==== Proof.NormBwdInLater.lean ====
/- The body at a later point: the weight stays in scratch, and the sums of columns are added to what the point before left. -/
module

public import proofs.«01_k».proof.Proof.Gen.Kernel10Ideal.Frame.Runs

@[expose] public section

set_option maxRecDepth 16384

noncomputable section

namespace Cert.NormBwdIn

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The pieces that a later point stores into each output, and that the body runs and leaves them. -/
def runLater (c : Dev nD) (i : grid0.Coords) (arg1 : Memref sig .tc .vmem S512x3584 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x3584 .bf16) (harg11 : arg11.IsWhole) (hc0 : ¬cond0_0 i) (hc1 : ¬cond0_1 i) (hc2 : cond0_2 i) (hc3 : ¬cond0_3 i) (hc4 : cond0_4 i) (hc5 : ¬cond0_5 i) (hc6 : cond0_6 i)
    (x0 : Vec F S512x3584 .bf16) (x1 : Vec F S512x1024 .f32) (x2 : Vec F S1x1024 .f32) (x3 : Vec F S1x1024 .f32) (x4 : Vec F S512x1024 .f32) (xo6 : Vec F S1x1024 .f32) (xo7 : Vec F S1x1024 .f32) (xo8 : Vec F S1x1024 .f32) (xs0 : Vec F S1024x3584 .bf16) (fh0 : HbBuf0 (F := F) c hbM0_0) :
    Σ' (L5 : List (View.Piece (Elt F) S512x1024 .f32)), Σ' (L6 : List (View.Piece (Elt F) S1x1024 .f32)), Σ' (L7 : List (View.Piece (Elt F) S1x1024 .f32)), Σ' (L8 : List (View.Piece (Elt F) S1x1024 .f32)), { LS0 : List (View.Piece (Elt F) S1024x3584 .bf16) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ owns (c : Thread nD τ) arg9 fullShare xo7 ∗ owns (c : Thread nD τ) arg10 fullShare xo8 ∗ owns (c : Thread nD τ) arg11 fullShare xs0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xs0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0_mm_in_dx_norm_bwd i arg1 harg1 (Memref.whole main_arg1) (Memref.isWhole_whole _) arg3 harg3 arg4 harg4 arg5 harg5 arg6 harg6 arg7 harg7 arg8 harg8 arg9 harg9 arg10 harg10 arg11 harg11 cc0_scratch1) K } := by
  refine ⟨?_, ?_, ?_, ?_, [], fun W K => ?run⟩
  case run =>
    simp only [cc0_mm_in_dx_norm_bwd_eq_skeleton]; unfold cc0_mm_in_dx_norm_bwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%fs0, %hfs0, HS0⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8; obtain rfl := harg11.eq_unread hfs0
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [HS0]
    · iexists _; isplitr; · ipureintro; exact harg11.read_unread _
      iexact HS0
    isplitl [Hq0]; · iexact Hq0
    isplitl [Hq1]; · iexact Hq1
    isplitl [Hq2]; · iexact Hq2
    isplitl [Hq3]; · iexact Hq3
    isplitl [Hh0]; · iexact Hh0
    iexists _; iexact HW

end Cert.NormBwdIn

end
-- ==== Proof.NormBwdInPoints.lean ====
/- What the outputs and the scratch hold point by point. -/
module

public import proofs.«01_k».proof.Proof.NormBwdInFirst
public import proofs.«01_k».proof.Proof.NormBwdInLater
public import proofs.«01_k».proof.Proof.Norm

@[expose] public section

set_option maxRecDepth 16384

noncomputable section

namespace Cert.NormBwdIn

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the outputs and the scratch hold after a point, in the order of the outputs. -/
abbrev Held (F : FTy → Type) : Type := Vec F S512x1024 .f32 × Vec F S1x1024 .f32 × Vec F S1x1024 .f32 × Vec F S1x1024 .f32 × Vec F S1024x3584 .bf16

section First

variable (c : Dev nD) (i : grid0.Coords) (arg1 : Memref sig .tc .vmem S512x3584 .bf16) (harg1 : arg1.IsWhole)
  (arg3 : Memref sig .tc .vmem S512x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S1024x3584 .bf16) (harg11 : arg11.IsWhole) (hc0 : cond0_0 i) (hc1 : cond0_1 i) (hc2 : ¬cond0_2 i) (hc3 : cond0_3 i)
  (hc4 : ¬cond0_4 i) (hc5 : cond0_5 i) (hc6 : ¬cond0_6 i) (x0 : Vec F S512x3584 .bf16) (x1 : Vec F S512x1024 .f32) (x2 : Vec F S1x1024 .f32)
  (x3 : Vec F S1x1024 .f32) (x4 : Vec F S512x1024 .f32) (fh0 : HbBuf0 (F := F) c hbM0_0)

theorem cover_first_5 (y : S512x1024.Idx) :
    ∃ pc ∈ (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).1, y ∈ pc.1.set :=
  View.cover_of_tiledL _ S512x1024.size (by sl_kernel_rfl) y

def first_5 : Vec F S512x1024 .f32 :=
  VO0_5.read (Elt F) (VO0_5.writes (Elt F) VO0_5.junk (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).1)

theorem cover_first_6 (y : S1x1024.Idx) :
    ∃ pc ∈ (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.1, y ∈ pc.1.set :=
  View.cover_of_tiledL _ S1x1024.size (by sl_kernel_rfl) y

def first_6 : Vec F S1x1024 .f32 :=
  VO0_6.read (Elt F) (VO0_6.writes (Elt F) VO0_6.junk (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.1)

theorem cover_first_7 (y : S1x1024.Idx) :
    ∃ pc ∈ (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.2.1, y ∈ pc.1.set :=
  View.cover_of_tiledL _ S1x1024.size (by sl_kernel_rfl) y

def first_7 : Vec F S1x1024 .f32 :=
  VO0_7.read (Elt F) (VO0_7.writes (Elt F) VO0_7.junk (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.2.1)

theorem cover_first_8 (y : S1x1024.Idx) :
    ∃ pc ∈ (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.2.2.1, y ∈ pc.1.set :=
  View.cover_of_tiledL _ S1x1024.size (by sl_kernel_rfl) y

def first_8 : Vec F S1x1024 .f32 :=
  VO0_8.read (Elt F) (VO0_8.writes (Elt F) VO0_8.junk (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.2.2.1)

theorem scratch_cover_first (y : S1024x3584.Idx) :
    ∃ pc ∈ (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.2.2.2.1, y ∈ pc.1.set :=
  View.cover_of_tiledL (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.2.2.2.1 S1024x896.size (by sl_kernel_rfl) y

def first_scratch : Vec F S1024x3584 .bf16 :=
  VS0_0.read (Elt F) (VS0_0.writes (Elt F) VS0_0.junk (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.2.2.2.1)

/-- All of these. -/
def allFirst : Held F :=
  (first_5 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0,
   first_6 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0,
   first_7 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0,
   first_8 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0,
   first_scratch c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0)

end First

section Later

variable (c : Dev nD) (i : grid0.Coords) (arg1 : Memref sig .tc .vmem S512x3584 .bf16) (harg1 : arg1.IsWhole)
  (arg3 : Memref sig .tc .vmem S512x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S1024x3584 .bf16) (harg11 : arg11.IsWhole) (hc0 : ¬cond0_0 i) (hc1 : ¬cond0_1 i) (hc2 : cond0_2 i) (hc3 : ¬cond0_3 i)
  (hc4 : cond0_4 i) (hc5 : ¬cond0_5 i) (hc6 : cond0_6 i) (x0 : Vec F S512x3584 .bf16) (x1 : Vec F S512x1024 .f32) (x2 : Vec F S1x1024 .f32)
  (x3 : Vec F S1x1024 .f32) (x4 : Vec F S512x1024 .f32) (xo6 : Vec F S1x1024 .f32) (xo7 : Vec F S1x1024 .f32) (xo8 : Vec F S1x1024 .f32)
  (xs0 : Vec F S1024x3584 .bf16) (fh0 : HbBuf0 (F := F) c hbM0_0)

theorem cover_later_5 (y : S512x1024.Idx) :
    ∃ pc ∈ (runLater c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0).1, y ∈ pc.1.set :=
  View.cover_of_tiledL _ S512x1024.size (by sl_kernel_rfl) y

def later_5 : Vec F S512x1024 .f32 :=
  VO0_5.read (Elt F) (VO0_5.writes (Elt F) VO0_5.junk (runLater c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0).1)

theorem cover_later_6 (y : S1x1024.Idx) :
    ∃ pc ∈ (runLater c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0).2.1, y ∈ pc.1.set :=
  View.cover_of_tiledL _ S1x1024.size (by sl_kernel_rfl) y

def later_6 : Vec F S1x1024 .f32 :=
  VO0_6.read (Elt F) (VO0_6.writes (Elt F) VO0_6.junk (runLater c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0).2.1)

theorem cover_later_7 (y : S1x1024.Idx) :
    ∃ pc ∈ (runLater c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0).2.2.1, y ∈ pc.1.set :=
  View.cover_of_tiledL _ S1x1024.size (by sl_kernel_rfl) y

def later_7 : Vec F S1x1024 .f32 :=
  VO0_7.read (Elt F) (VO0_7.writes (Elt F) VO0_7.junk (runLater c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0).2.2.1)

theorem cover_later_8 (y : S1x1024.Idx) :
    ∃ pc ∈ (runLater c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0).2.2.2.1, y ∈ pc.1.set :=
  View.cover_of_tiledL _ S1x1024.size (by sl_kernel_rfl) y

def later_8 : Vec F S1x1024 .f32 :=
  VO0_8.read (Elt F) (VO0_8.writes (Elt F) VO0_8.junk (runLater c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0).2.2.2.1)

/-- All of these. -/
def allLater : Held F :=
  (later_5 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0,
   later_6 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0,
   later_7 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0,
   later_8 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0,
   xs0)

end Later

variable (m : (ℓ : Loc nD τ sig) → Buf (Elt F) ℓ) (ρ : Dev nD → PrngReg)

/-- After the first point. -/
def first (c : Dev nD) (t : Fin cfg0.N) (h : t.val % 8 = 0) (h1 : ¬1 ≤ t.val) : Held F :=
  allFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    ((hcond0_0 t).mpr h) ((hcond0_1 t).mpr h) (Norm.no (hcond0_2 t) h1) ((hcond0_3 t).mpr h) (Norm.no (hcond0_4 t) h1) ((hcond0_5 t).mpr h) (Norm.no (hcond0_6 t) h1)
    (iblk m c 0 t) (iblk m c 1 t) (iblk m c 2 t) (iblk m c 3 t) (iblk m c 4 t) (V m c main_arg1)

/-- After a later point, over what the point before left. -/
def later (c : Dev nD) (t : Fin cfg0.N) (h : ¬t.val % 8 = 0) (h1 : 1 ≤ t.val) (p : Held F) : Held F :=
  allLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (Norm.no (hcond0_0 t) h) (Norm.no (hcond0_1 t) h) ((hcond0_2 t).mpr h1) (Norm.no (hcond0_3 t) h) ((hcond0_4 t).mpr h1) (Norm.no (hcond0_5 t) h) ((hcond0_6 t).mpr h1)
    (iblk m c 0 t) (iblk m c 1 t) (iblk m c 2 t) (iblk m c 3 t) (iblk m c 4 t) p.2.1 p.2.2.1 p.2.2.2.1 p.2.2.2.2 (V m c main_arg1)

theorem eighth (n : ℕ) (hn : n + 1 < cfg0.N) : ¬(n + 1) % 8 = 0 := by
  have hN : n + 1 < 8 := lt_of_lt_of_eq hn (show cfg0.N = 8 from N_0)
  omega

/-- After every point. -/
def outsAt0 (c : Dev nD) : (n : ℕ) → n < cfg0.N → Held F
  | 0, hn => first m c ⟨0, hn⟩ (Nat.zero_mod _) (Nat.not_succ_le_zero 0)
  | n + 1, hn => later m c ⟨n + 1, hn⟩ (eighth n hn) (Nat.le_add_left 1 n) (outsAt0 c n (Nat.lt_of_succ_lt hn))

theorem outsAt0_first (c : Dev nD) (t : Fin cfg0.N) (h : t.val % 8 = 0) (h1 : ¬1 ≤ t.val) : outsAt0 m c t.val t.isLt = first m c t h h1 := by
  obtain ⟨n, hn⟩ := t
  cases n with
  | zero => rfl
  | succ n => exact absurd (Nat.le_add_left 1 n) h1

theorem outsAt0_later (c : Dev nD) (t : Fin cfg0.N) (h : ¬t.val % 8 = 0) (h1 : 1 ≤ t.val) :
    outsAt0 m c t.val t.isLt = later m c t h h1 (outsAt0 m c (t.val - 1) (Nat.lt_of_le_of_lt (Nat.sub_le _ _) t.isLt)) := by
  obtain ⟨n, hn⟩ := t
  cases n with
  | zero => exact absurd (Nat.zero_mod _) h
  | succ n => rfl

end Cert.NormBwdIn

end
-- ==== Proof.NormBwdInBlocks.lean ====
/- What a point leaves, by its blocks of the arguments and the matrix gathered from its four shards. -/
module

public import proofs.«01_k».proof.Proof.NormBwdInPoints
public import proofs.«01_k».proof.Proof.Norm
public import Idealize.ShloMosaic.Lib.ValueLayout

@[expose] public section

set_option maxRecDepth 16384

noncomputable section

namespace Cert.NormBwdIn

open Cert.Kernel10Ideal Cert.Kernel10Ideal.Gen Idealize.ShloMosaic Idealize.ShloMosaic.TcCoe Idealize.SL.Sem Cert.Norm

theorem zero2 : (![0, 0] : Fin 2 → ℕ) = fun _ => 0 := funext fun a => by fin_cases a <;> rfl

/-- The matrix whose columns are the four shards' columns. -/
def gathered (f : Vec Ideal S4x1024x896 .bf16) : Vec Ideal S1024x3584 .bf16 := fun y =>
  f (ix3 ⟨(y 1).val / 896, Nat.div_lt_of_lt_mul (lt_of_lt_of_eq (y 1).isLt rfl)⟩ (y 0) ⟨(y 1).val % 896, Nat.mod_lt _ (by norm_num)⟩)

theorem shard_at {c : Dev nD} (fh0 : HbBuf0 (F := Ideal) c hbM0_0) (s : Fin 4) (inb : ∀ a, ![s.val, 0, 0] a + ![1, 1024, 896] a ≤ S4x1024x896.size a)
    (hs : S1024x896.numel = (Rect.unit (s := S4x1024x896) ![s.val, 0, 0] ![1, 1024, 896] inb).shape.numel)
    (at_ : ∀ a, ![0, 896 * s.val] a + ![1024, 896] a ≤ S1024x3584.size a) (x : S1024x896.Idx) :
    (fh0 : Vec Ideal S4x1024x896 .bf16) ((Rect.unit (s := S4x1024x896) ![s.val, 0, 0] ![1, 1024, 896] inb).emb (Shape.reshapeEquiv hs x))
      = gathered fh0 ((Rect.unit (s := S1024x3584) ![0, 896 * s.val] ![1024, 896] at_).emb x) := by
  have h0 : (x 0).val < 1024 := (x 0).isLt
  have h1 : (x 1).val < 896 := (x 1).isLt
  have ex : x = ix2 (x 0) (x 1) := funext fun a => match a with | ⟨0, _⟩ => rfl | ⟨1, _⟩ => rfl
  refine (congrArg (fun z => (fh0 : Vec Ideal S4x1024x896 .bf16) ((Rect.unit (s := S4x1024x896) ![s.val, 0, 0] ![1, 1024, 896] inb).emb z))
    ((congrArg (Shape.reshapeEquiv hs) ex).trans (ValueIdx.reshapeEquiv_ix2_1ab hs (x 0) (x 1)))).trans ?_
  refine congrArg (fh0 : Vec Ideal S4x1024x896 .bf16) (funext fun a => Fin.ext ?_)
  match a with
  | ⟨0, _⟩ => show s.val + 1 * 0 = (896 * s.val + 1 * (x 1).val) / 896; omega
  | ⟨1, _⟩ => show 0 + 1 * (x 0).val = 0 + 1 * (x 0).val; rfl
  | ⟨2, _⟩ => show 0 + 1 * (x 1).val = (896 * s.val + 1 * (x 1).val) % 896; omega

/-- A load of the whole of a buffer whose pieces are one function's values. -/
theorem load_whole (v : View sig .tc .vmem S1024x3584 .bf16) (G : Vec Ideal S1024x3584 .bf16) (L : List (Σ r : Rect S1024x3584, r.shape.Idx → Elt Ideal .bf16))
    (hL : ∀ p ∈ L, ∀ x, p.2 x = G (p.1.emb x)) (hc : ∀ y : S1024x3584.Idx, ∃ p ∈ L, y ∈ p.1.set) (inb : ∀ a, ![0, 0] a + S1024x3584.size a ≤ S1024x3584.size a) :
    v.readCov L (Rect.unit ![0, 0] S1024x3584.size inb).toLoadRect = G := by
  have e : View.canon L = G := funext fun y => View.canon_apply_of_pieces G L hL y (hc y)
  rw [View.readCov_eq_canon_ld v L _ (hc), e]
  exact View.ld_unit_zero (S := S1024x3584) (off := ![0, 0]) zero2 _ _

section Blocks

variable (W : Vec Ideal S1024x3584 .bf16) (x0 : Vec Ideal S512x3584 .bf16) (x1 : Vec Ideal S512x1024 .f32) (x2 x3 : Vec Ideal S1x1024 .f32) (x4 : Vec Ideal S512x1024 .f32)

abbrev rDh := k0_pay8 x0 W
abbrev rNorm := k0_pay10 x1
abbrev rDn := k0_pay11 x0 W x3
abbrev rInner := k0_pay12 x1 x0 W x3 x2
abbrev rInv := k0_pay13 x1
abbrev toRow := k0_pay1 x4 (rInner W x0 x1 x2 x3) (rInv x1)
abbrev toShift := k0_pay2 (rDh W x0)
abbrev toScale := k0_pay4 (rDh W x0) (rNorm x1) x2
abbrev toWeight := k0_pay6 (rNorm x1) (rDn W x0 x3)

end Blocks

section First

variable (c : Dev nD) (i : grid0.Coords) (arg1 : Memref sig .tc .vmem S512x3584 .bf16) (harg1 : arg1.IsWhole)
  (arg3 : Memref sig .tc .vmem S512x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S1024x3584 .bf16) (harg11 : arg11.IsWhole) (hc0 : cond0_0 i) (hc1 : cond0_1 i) (hc2 : ¬cond0_2 i) (hc3 : cond0_3 i)
  (hc4 : ¬cond0_4 i) (hc5 : cond0_5 i) (hc6 : ¬cond0_6 i) (x0 : Vec Ideal S512x3584 .bf16) (x1 : Vec Ideal S512x1024 .f32) (x2 : Vec Ideal S1x1024 .f32)
  (x3 : Vec Ideal S1x1024 .f32) (x4 : Vec Ideal S512x1024 .f32) (fh0 : HbBuf0 (F := Ideal) c hbM0_0)

theorem pieces_hold : ∀ p ∈ (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.2.2.2.1, ∀ x, p.2 x = gathered fh0 (p.1.emb x) := by
  unfold runFirst
  dsimp only
  sl_unfold_words
  intro p hp x
  simp only [List.mem_cons, List.not_mem_nil, or_false] at hp
  rcases hp with rfl | rfl | rfl | rfl
  · exact shard_at fh0 3 (by decide) rfl (by decide) x
  · exact shard_at fh0 2 (by decide) rfl (by decide) x
  · exact shard_at fh0 1 (by decide) rfl (by decide) x
  · exact shard_at fh0 0 (by decide) rfl (by decide) x

theorem first_gathers : first_scratch c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0 = gathered fh0 :=
  (View.read_writes_junk_eq_canon _ _).trans (funext fun y => View.canon_apply_of_pieces (gathered fh0) _
    (pieces_hold c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0) y
    (scratch_cover_first c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0 y))

theorem first_loads (inb : ∀ a, ![0, 0] a + S1024x3584.size a ≤ S1024x3584.size a) :
    arg11.view.readCov (runFirst c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0).2.2.2.2.1 (Rect.unit ![0, 0] S1024x3584.size inb).toLoadRect = gathered fh0 :=
  load_whole _ (gathered fh0) _ (pieces_hold c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0)
    (scratch_cover_first c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0) inb

theorem left_first_dx : first_5 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0
    = toRow (gathered fh0) x0 x1 x2 x3 x4 := by
  unfold first_5 runFirst
  dsimp only
  sl_unfold_words
  simp only [View.readAt_eq_ld, harg1.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x3584) (off := ![0, 0]) zero2, View.ld_unit_zero (S := S1024x3584) (off := ![0, 0]) zero2]
  exact (View.read_writes_junk_eq_canon _ _).trans ((View.canon_unit_zero zero2 _ _).trans (congrArg (fun W => toRow W x0 x1 x2 x3 x4)
    (first_loads c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0 (by decide))))

theorem left_first_shift : first_6 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0
    = toShift (gathered fh0) x0 := by
  unfold first_6 runFirst
  dsimp only
  sl_unfold_words
  simp only [View.readAt_eq_ld, harg1.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x3584) (off := ![0, 0]) zero2, View.ld_unit_zero (S := S1024x3584) (off := ![0, 0]) zero2]
  exact (View.read_writes_junk_eq_canon _ _).trans ((View.canon_unit_zero zero2 _ _).trans (congrArg (fun W => toShift W x0)
    (first_loads c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0 (by decide))))

theorem left_first_scale : first_7 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0
    = toScale (gathered fh0) x0 x1 x2 := by
  unfold first_7 runFirst
  dsimp only
  sl_unfold_words
  simp only [View.readAt_eq_ld, harg1.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x3584) (off := ![0, 0]) zero2, View.ld_unit_zero (S := S1024x3584) (off := ![0, 0]) zero2]
  exact (View.read_writes_junk_eq_canon _ _).trans ((View.canon_unit_zero zero2 _ _).trans (congrArg (fun W => toScale W x0 x1 x2)
    (first_loads c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0 (by decide))))

theorem left_first_g : first_8 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0
    = toWeight (gathered fh0) x0 x1 x3 := by
  unfold first_8 runFirst
  dsimp only
  sl_unfold_words
  simp only [View.readAt_eq_ld, harg1.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x3584) (off := ![0, 0]) zero2, View.ld_unit_zero (S := S1024x3584) (off := ![0, 0]) zero2]
  exact (View.read_writes_junk_eq_canon _ _).trans ((View.canon_unit_zero zero2 _ _).trans (congrArg (fun W => toWeight W x0 x1 x3)
    (first_loads c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 fh0 (by decide))))

end First

section Later

variable (c : Dev nD) (i : grid0.Coords) (arg1 : Memref sig .tc .vmem S512x3584 .bf16) (harg1 : arg1.IsWhole)
  (arg3 : Memref sig .tc .vmem S512x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S1024x3584 .bf16) (harg11 : arg11.IsWhole) (hc0 : ¬cond0_0 i) (hc1 : ¬cond0_1 i) (hc2 : cond0_2 i) (hc3 : ¬cond0_3 i)
  (hc4 : cond0_4 i) (hc5 : ¬cond0_5 i) (hc6 : cond0_6 i) (x0 : Vec Ideal S512x3584 .bf16) (x1 : Vec Ideal S512x1024 .f32) (x2 : Vec Ideal S1x1024 .f32)
  (x3 : Vec Ideal S1x1024 .f32) (x4 : Vec Ideal S512x1024 .f32) (xo6 : Vec Ideal S1x1024 .f32) (xo7 : Vec Ideal S1x1024 .f32) (xo8 : Vec Ideal S1x1024 .f32)
  (xs0 : Vec Ideal S1024x3584 .bf16) (fh0 : HbBuf0 (F := Ideal) c hbM0_0)

theorem left_later_dx : later_5 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0
    = toRow xs0 x0 x1 x2 x3 x4 := by
  unfold later_5 runLater
  dsimp only
  sl_unfold_words
  simp only [View.readAt_eq_ld, harg1.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x3584) (off := ![0, 0]) zero2, View.ld_unit_zero (S := S1024x3584) (off := ![0, 0]) zero2]
  exact (View.read_writes_junk_eq_canon _ _).trans (View.canon_unit_zero zero2 _ _)

theorem left_later_shift : later_6 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0
    = k0_pay3 (rDh xs0 x0) xo6 := by
  unfold later_6 runLater
  dsimp only
  sl_unfold_words
  simp only [View.readAt_eq_ld, harg1.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x3584) (off := ![0, 0]) zero2, View.ld_unit_zero (S := S1024x3584) (off := ![0, 0]) zero2]
  exact (View.read_writes_junk_eq_canon _ _).trans (View.canon_unit_zero zero2 _ _)

theorem left_later_scale : later_7 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0
    = k0_pay5 (rDh xs0 x0) (rNorm x1) x2 xo7 := by
  unfold later_7 runLater
  dsimp only
  sl_unfold_words
  simp only [View.readAt_eq_ld, harg1.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x3584) (off := ![0, 0]) zero2, View.ld_unit_zero (S := S1024x3584) (off := ![0, 0]) zero2]
  exact (View.read_writes_junk_eq_canon _ _).trans (View.canon_unit_zero zero2 _ _)

theorem left_later_g : later_8 c i arg1 harg1 arg3 harg3 arg4 harg4 arg5 harg5 arg6 harg6 arg7 harg7 arg8 harg8 arg9 harg9 arg10 harg10 arg11 harg11 hc0 hc1 hc2 hc3 hc4 hc5 hc6 x0 x1 x2 x3 x4 xo6 xo7 xo8 xs0 fh0
    = k0_pay7 (rNorm x1) (rDn xs0 x0 x3) xo8 := by
  unfold later_8 runLater
  dsimp only
  sl_unfold_words
  simp only [View.readAt_eq_ld, harg1.read_unread, harg3.read_unread, harg4.read_unread, harg5.read_unread, harg6.read_unread, harg7.read_unread, harg8.read_unread, harg9.read_unread, harg10.read_unread, harg11.read_unread,
    View.ld_unit_zero (S := S512x1024) (off := ![0, 0]) zero2, View.ld_unit_zero (S := S1x1024) (off := ![0, 0]) zero2,
    View.ld_unit_zero (S := S512x3584) (off := ![0, 0]) zero2, View.ld_unit_zero (S := S1024x3584) (off := ![0, 0]) zero2]
  exact (View.read_writes_junk_eq_canon _ _).trans (View.canon_unit_zero zero2 _ _)

end Later

end Cert.NormBwdIn

end
-- ==== Proof.NormBwdInPoint.lean ====
/- What a point of the kernel leaves, entry by entry. -/
module

public import proofs.«01_k».proof.Proof.NormBwdInBlocks
public import proofs.«01_k».proof.Proof.NormBwdNums
public import Idealize.ShloMosaic.Lib.Pointwise

@[expose] public section

set_option maxRecDepth 16384

noncomputable section

namespace Cert.NormBwdIn

open Cert.Kernel10Ideal Cert.Kernel10Ideal.Gen Idealize.ShloMosaic Idealize.ShloMosaic.TcCoe Idealize.SL.Sem Cert.Gate Cert.Norm Cert.NormBwdNums

/-- A row of a point's blocks holds a row of the arguments. -/
structure Holds (N : Nums 3584) (R : Fin 4096) (r : Fin 512) (W : Vec Ideal S1024x3584 .bf16) (x0 : Vec Ideal S512x3584 .bf16) (x1 : Vec Ideal S512x1024 .f32)
    (x2 x3 : Vec Ideal S1x1024 .f32) (x4 : Vec Ideal S512x1024 .f32) : Prop where
  w : ∀ (j : Fin 1024) (k : Fin 3584), W (ix2 j k) = ((N.w j k : ℝ) : EReal)
  d : ∀ k : Fin 3584, x0 (ix2 r k) = ((N.d R k : ℝ) : EReal)
  x : ∀ j : Fin 1024, x1 (ix2 r j) = ((N.x R j : ℝ) : EReal)
  g : ∀ j : Fin 1024, x2 (ix2 0 j) = ((N.g j : ℝ) : EReal)
  scale : ∀ j : Fin 1024, x3 (ix2 0 j) = ((N.scale j : ℝ) : EReal)
  res : ∀ j : Fin 1024, x4 (ix2 r j) = ((N.res R j : ℝ) : EReal)

variable {N : Nums 3584} {R : Fin 4096} {r : Fin 512} {W : Vec Ideal S1024x3584 .bf16} {x0 : Vec Ideal S512x3584 .bf16} {x1 : Vec Ideal S512x1024 .f32}
  {x2 x3 : Vec Ideal S1x1024 .f32} {x4 : Vec Ideal S512x1024 .f32} (H : Holds N R r W x0 x1 x2 x3 x4)
include H

theorem dh_at (j : Fin 1024) : k0_pay8 x0 W (ix2 r j) = ((N.dh R j : ℝ) : EReal) := by
  unfold k0_pay8
  pointwise
  exact dot_coe H.d fun k => H.w j k

theorem inv_at (z : Fin 1) : k0_pay9 x1 (ix2 r z) = ((inv (N.x R) : ℝ) : EReal) := by
  unfold k0_pay9
  pointwise
  rw [dot_coe H.x H.x, width_word, eps_word, mean_coe, rsqrt_var]

theorem norm_at (j : Fin 1024) : k0_pay10 x1 (ix2 r j) = ((N.xh R j : ℝ) : EReal) := by
  unfold k0_pay10
  pointwise
  rw [H.x, inv_at H, ← EReal.coe_mul]
  rfl

theorem dn_at (j : Fin 1024) : k0_pay11 x0 W x3 (ix2 r j) = ((N.dn R j : ℝ) : EReal) := by
  have e := dh_at H j
  unfold k0_pay11
  pointwise
  rw [e, H.scale, ← EReal.coe_one, ← EReal.coe_add, ← EReal.coe_mul]
  rfl

theorem inner_at (j : Fin 1024) : k0_pay12 x1 x0 W x3 x2 (ix2 r j) = ((N.dy R j - N.xh R j * ((∑ k, N.dy R k * N.xh R k) / 1024) : ℝ) : EReal) := by
  have e1 := dn_at H
  have e2 := norm_at H
  have e3 : ∀ k, k0_pay11 x0 W x3 (ix2 r k) * x2 (ix2 0 k) = ((N.dy R k : ℝ) : EReal) := fun k => by
    rw [e1, H.g, ← EReal.coe_mul]
    rfl
  unfold k0_pay12
  pointwise
  rw [dot_coe e3 e2, e3, e2, width_word, div_width, ← EReal.coe_mul, ← EReal.coe_sub]

theorem toRow_at (j : Fin 1024) : toRow W x0 x1 x2 x3 x4 (ix2 r j) = ((N.dx R j : ℝ) : EReal) := by
  have e1 := inner_at H j
  have e2 := inv_at H 0
  unfold toRow rInner rInv k0_pay1 k0_pay13
  pointwise
  rw [e1, e2, H.res, ← EReal.coe_mul, ← EReal.coe_add]
  rfl

omit H in
theorem toShift_at (Rs : Fin 512 → Fin 4096) (Hs : ∀ r, Holds N (Rs r) r W x0 x1 x2 x3 x4) (j : Fin 1024) :
    toShift W x0 (ix2 0 j) = ((∑ r, N.dh (Rs r) j : ℝ) : EReal) := by
  unfold toShift rDh k0_pay2
  pointwise
  exact sum_coe fun r => dh_at (Hs r) j

omit H in
theorem toScale_at (Rs : Fin 512 → Fin 4096) (Hs : ∀ r, Holds N (Rs r) r W x0 x1 x2 x3 x4) (j : Fin 1024) :
    toScale W x0 x1 x2 (ix2 0 j) = ((∑ r, N.dh (Rs r) j * N.xh (Rs r) j * N.g j : ℝ) : EReal) := by
  unfold toScale rDh rNorm k0_pay4
  pointwise
  refine dot_coe (fun r => ?_) fun r => (Hs r).g j
  rw [dh_at (Hs r), norm_at (Hs r), ← EReal.coe_mul]

omit H in
theorem toWeight_at (Rs : Fin 512 → Fin 4096) (Hs : ∀ r, Holds N (Rs r) r W x0 x1 x2 x3 x4) (j : Fin 1024) :
    toWeight W x0 x1 x3 (ix2 0 j) = ((∑ r, N.dn (Rs r) j * N.xh (Rs r) j : ℝ) : EReal) := by
  unfold toWeight rDn rNorm k0_pay6
  pointwise
  exact dot_coe (fun r => dn_at (Hs r) j) fun r => norm_at (Hs r) j

end Cert.NormBwdIn

end
-- ==== Proof.NormBwdInReference.lean ====
/- The reference, entry by entry: the product with the transposed matrix and the derivative rule through the norm. -/
module

public import proofs.«01_k».proof.Proof.NormBwdNums
public import proofs.«01_k».proof.Proof.Gen.Reference10Ideal.Run
public import proofs.«01_k».proof.Proof.Gen.Reference10Ideal.Read

@[expose] public section

set_option maxRecDepth 16384

noncomputable section

namespace Cert.NormBwdIn

open Cert.Reference10Ideal Cert.Reference10Ideal.Gen Cert.Reference10Ideal.Read Idealize.ShloMosaic Idealize.ShloMosaic.TcCoe Cert.Gate Cert.Norm Cert.NormBwdNums

/-- The arguments hold these numbers, the matrix's columns in four shards. -/
structure Given (N : Nums 3584) (x0 : Vec Ideal S4096x3584 .bf16) (x1 : Vec Ideal S4x1024x896 .bf16) (x2 : Vec Ideal S4096x1024 .f32)
    (x3 x4 : Vec Ideal S1x1024 .f32) (x5 : Vec Ideal S4096x1024 .f32) : Prop where
  d : ∀ i : S4096x3584.Idx, x0 i = ((N.d (i 0) (i 1) : ℝ) : EReal)
  w : ∀ (i : S4x1024x896.Idx) (k : Fin 3584), k.val = 896 * (i 0).val + (i 2).val → x1 i = ((N.w (i 1) k : ℝ) : EReal)
  x : ∀ i : S4096x1024.Idx, x2 i = ((N.x (i 0) (i 1) : ℝ) : EReal)
  g : ∀ i : S1x1024.Idx, x3 i = ((N.g (i 1) : ℝ) : EReal)
  scale : ∀ i : S1x1024.Idx, x4 i = ((N.scale (i 1) : ℝ) : EReal)
  res : ∀ i : S4096x1024.Idx, x5 i = ((N.res (i 0) (i 1) : ℝ) : EReal)

variable {N : Nums 3584} {x0 : Vec Ideal S4096x3584 .bf16} {x1 : Vec Ideal S4x1024x896 .bf16} {x2 : Vec Ideal S4096x1024 .f32}
  {x3 x4 : Vec Ideal S1x1024 .f32} {x5 : Vec Ideal S4096x1024 .f32} (G : Given N x0 x1 x2 x3 x4 x5)
include G

theorem ref_dh (i : S4096x1024.Idx) : val_main_v27 (F := Ideal) x0 x1 i = ((N.dh (i 0) (i 1) : ℝ) : EReal) := by
  rw [val_main_v27_apply]
  refine dot_coe (fun k => ?_) fun k => ?_
  · rw [val_main_v26_apply]
    exact G.d _
  · have hk := k.isLt
    have hi : (i 1).val < 1024 := (i 1).isLt
    rw [val_main_v2_apply, val_main_v1_apply, val_main_v0_apply]
    refine (G.w _ k ?_).trans (congrArg (fun y : Fin 1024 => ((N.w y k : ℝ) : EReal)) (Fin.ext ?_))
    · show k.val = 896 * (((i 1).val * 3584 + k.val) / 896 % 4) + ((i 1).val * 3584 + k.val) % 896
      omega
    · show ((i 1).val * 3584 + k.val) / 3584 = (i 1).val
      omega

theorem ref_var (i : S4096x1.Idx) : val_main_v10 (F := Ideal) x2 i = ((var (N.x (i 0)) : ℝ) : EReal) := by
  rw [val_main_v10_apply, val_main_v9_apply, val_main_cst_2_apply, val_main_v8_apply, val_main_v7_apply, val_main_cst_1_apply, val_main_v6_apply,
    val_main_v5_apply, val_main_cst_0_apply]
  have e : ∑ k : Fin 1024, val_main_v4 (F := Ideal) x2 (idx_main_v5 (idx_main_v6 i) k) = ((∑ k, N.x (i 0) k * N.x (i 0) k : ℝ) : EReal) :=
    dot_coe (fun k => G.x _) fun k => G.x _
  rw [e]
  show Ideal.div (Ideal.ofBits FTy.f32 0x00000000#32 + _) (Ideal.ofBits FTy.f32 0x44800000#32) + Ideal.ofBits FTy.f32 0x358637BD#32 = _
  rw [zero_word, width_word, eps_word, EReal.coe_zero, zero_add, mean_coe]

theorem ref_inv (i : S4096x1.Idx) : val_main_v11 (F := Ideal) x2 i = ((inv (N.x (i 0)) : ℝ) : EReal) := by
  rw [val_main_v11_apply, ref_var G]
  exact rsqrt_var _

theorem ref_slope (i : S4096x1.Idx) : val_main_v14 (F := Ideal) x2 i = ((-(1 / 2) * (inv (N.x (i 0)) / var (N.x (i 0))) : ℝ) : EReal) := by
  rw [val_main_v14_apply, val_main_v13_apply, val_main_cst_3_apply, val_main_v12_apply, ref_inv G, ref_var G]
  show Ideal.ofBits FTy.f32 0xBF000000#32 * Ideal.div _ _ = _
  rw [half_word, div_var, ← EReal.coe_mul]

theorem ref_norm (i : S4096x1024.Idx) : val_main_v16 (F := Ideal) x2 i = ((N.xh (i 0) (i 1) : ℝ) : EReal) := by
  rw [val_main_v16_apply, val_main_v15_apply, G.x, ref_inv G]
  exact (EReal.coe_mul _ _).symm

theorem ref_weighed (i : S4096x1024.Idx) : val_main_v18 (F := Ideal) x2 x3 i = ((N.xh (i 0) (i 1) * N.g (i 1) : ℝ) : EReal) := by
  rw [val_main_v18_apply, val_main_v17_apply, ref_norm G, G.g]
  exact (EReal.coe_mul _ _).symm

theorem ref_dn (i : S4096x1024.Idx) : val_main_v34 (F := Ideal) x0 x1 x4 i = ((N.dn (i 0) (i 1) : ℝ) : EReal) := by
  rw [val_main_v34_apply, val_main_v33_apply, val_main_v20_apply, val_main_v19_apply, val_main_cst_4_apply, ref_dh G, G.scale]
  show (_ : EReal) * (Ideal.ofBits FTy.f32 0x3F800000#32 + _) = _
  rw [one_word, ← EReal.coe_add, ← EReal.coe_mul]
  rfl

theorem ref_dy (i : S4096x1024.Idx) : val_main_v39 (F := Ideal) x0 x1 x3 x4 i = ((N.dy (i 0) (i 1) : ℝ) : EReal) := by
  rw [val_main_v39_apply, val_main_v38_apply, ref_dn G, G.g]
  exact (EReal.coe_mul _ _).symm

theorem ref_pull (i : S4096x1024.Idx) : val_main_v50 (F := Ideal) x0 x1 x2 x3 x4 i
    = (((∑ k, N.x (i 0) k * N.dy (i 0) k) * (-(1 / 2) * (inv (N.x (i 0)) / var (N.x (i 0)))) / 1024 : ℝ) : EReal) := by
  rw [val_main_v50_apply, val_main_v49_apply, val_main_cst_10_apply, Fin.sum_univ_one, val_main_v48_apply, val_main_v47_apply, val_main_cst_9_apply,
    val_main_v46_apply, val_main_v42_apply, val_main_v41_apply, val_main_cst_8_apply, ref_slope G]
  have e : ∑ k : Fin 1024, val_main_v40 (F := Ideal) x0 x1 x2 x3 x4 (idx_main_v41 (idx_main_v42 (idx_main_v49 (idx_main_v50 i) 0)) k)
      = ((∑ k, N.x (i 0) k * N.dy (i 0) k : ℝ) : EReal) := by
    refine dot_coe (fun k => (G.x _).trans ?_) fun k => (ref_dy G _).trans ?_
    · exact congrArg (fun y : Fin 4096 => ((N.x y k : ℝ) : EReal)) (Fin.ext (show (i 0).val * 1 + 0 = (i 0).val by omega))
    · exact congrArg (fun y : Fin 4096 => ((N.dy y k : ℝ) : EReal)) (Fin.ext (show (i 0).val * 1 + 0 = (i 0).val by omega))
  rw [e]
  show Ideal.ofBits FTy.f32 0x00000000#32 + Ideal.div ((Ideal.ofBits FTy.f32 0x00000000#32 + _) * _) (Ideal.ofBits FTy.f32 0x44800000#32) = _
  rw [zero_word, width_word, EReal.coe_zero, zero_add, zero_add, ← EReal.coe_mul]
  exact div_width _

theorem ref_dx (i : S4096x1024.Idx) : val_main_v54 (F := Ideal) x0 x1 x2 x3 x4 x5 i = ((N.dx (i 0) (i 1) : ℝ) : EReal) := by
  rw [val_main_v54_apply, val_main_v53_apply, val_main_v52_apply, val_main_v51_apply, val_main_v45_apply, val_main_v44_apply, val_main_v43_apply,
    ref_pull G, ref_dy G, ref_inv G, G.x, G.res]
  show (_ : EReal) + _ * _ + _ * _ + _ * _ = _
  rw [← EReal.coe_mul, ← EReal.coe_mul, ← EReal.coe_mul, ← EReal.coe_add, ← EReal.coe_add, ← EReal.coe_add]
  exact congrArg (fun y : ℝ => (y : EReal)) (past _ _ _ _ _ (back_rule (N.x (i 0)) (N.dy (i 0)) (i 1)))

omit G in
/-- A row of sums, read through its reshaping. -/
theorem column (i : S1x1024.Idx) (h : (i 0).val * 1024 + (i 1).val < 1024) : (⟨(i 0).val * 1024 + (i 1).val, h⟩ : Fin 1024) = i 1 :=
  Fin.ext (show (i 0).val * 1024 + (i 1).val = (i 1).val by omega)

theorem ref_shift (i : S1x1024.Idx) : val_main_v29 (F := Ideal) x0 x1 i = ((∑ R, N.dh R (i 1) : ℝ) : EReal) := by
  rw [val_main_v29_apply, val_main_v28_apply, val_main_cst_5_apply]
  have e : ∑ k : Fin 4096, val_main_v27 (F := Ideal) x0 x1 (idx_main_v28 (idx_main_v29 i) k) = ((∑ R, N.dh R (i 1) : ℝ) : EReal) := by
    have hc := column i
    exact sum_coe fun k => (ref_dh G _).trans (congrArg (fun y : Fin 1024 => ((N.dh k y : ℝ) : EReal)) (hc _))
  rw [e]
  show Ideal.ofBits FTy.f32 0x00000000#32 + _ = _
  rw [zero_word, EReal.coe_zero, zero_add]

theorem ref_scale (i : S1x1024.Idx) : val_main_v32 (F := Ideal) x0 x1 x2 x3 i = ((∑ R, N.dh R (i 1) * N.xh R (i 1) * N.g (i 1) : ℝ) : EReal) := by
  rw [val_main_v32_apply, val_main_v31_apply, val_main_cst_6_apply]
  have e : ∑ k : Fin 4096, val_main_v30 (F := Ideal) x0 x1 x2 x3 (idx_main_v31 (idx_main_v32 i) k)
      = ((∑ R, N.xh R (i 1) * N.g (i 1) * N.dh R (i 1) : ℝ) : EReal) := by
    have hc := column i
    refine dot_coe (fun k => (ref_weighed G _).trans ?_) fun k => (ref_dh G _).trans ?_
    · exact congrArg (fun y : Fin 1024 => ((N.xh k y * N.g y : ℝ) : EReal)) (hc _)
    · exact congrArg (fun y : Fin 1024 => ((N.dh k y : ℝ) : EReal)) (hc _)
  rw [e]
  show Ideal.ofBits FTy.f32 0x00000000#32 + _ = _
  rw [zero_word, EReal.coe_zero, zero_add]
  exact congrArg (fun y : ℝ => (y : EReal)) (Finset.sum_congr rfl fun R _ => by ring)

theorem ref_weight (i : S1x1024.Idx) : val_main_v37 (F := Ideal) x0 x1 x2 x4 i = ((∑ R, N.dn R (i 1) * N.xh R (i 1) : ℝ) : EReal) := by
  rw [val_main_v37_apply, val_main_v36_apply, val_main_cst_7_apply]
  have e : ∑ k : Fin 4096, val_main_v35 (F := Ideal) x0 x1 x2 x4 (idx_main_v36 (idx_main_v37 i) k) = ((∑ R, N.xh R (i 1) * N.dn R (i 1) : ℝ) : EReal) := by
    have hc := column i
    refine dot_coe (fun k => (ref_norm G _).trans ?_) fun k => (ref_dn G _).trans ?_
    · exact congrArg (fun y : Fin 1024 => ((N.xh k y : ℝ) : EReal)) (hc _)
    · exact congrArg (fun y : Fin 1024 => ((N.dn k y : ℝ) : EReal)) (hc _)
  rw [e]
  show Ideal.ofBits FTy.f32 0x00000000#32 + _ = _
  rw [zero_word, EReal.coe_zero, zero_add]
  exact congrArg (fun y : ℝ => (y : EReal)) (Finset.sum_congr rfl fun R _ => mul_comm _ _)

end Cert.NormBwdIn

end
-- ==== Proof.NormBwdInFrame.lean ====
/- The run of the whole grid and its frame: each point's body meets the pipeline's data, so every run ends and leaves the arguments unchanged. -/
module

public import proofs.«01_k».proof.Proof.NormBwdInPoints
public import proofs.«01_k».proof.Defs
public import proofs.«01_k».proof.Proof.Gen.Kernel10
public import Idealize.ShloMosaic.Lib.Claim

@[expose] public section

set_option maxRecDepth 16384

noncomputable section

namespace Cert.NormBwdIn

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The region's invariant before a position: at first the launch's, afterwards the same with the scratch at what the point before left. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_arg1)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_arg1))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_arg1))) := by
  cases n with
  | zero => exact absurd rfl hz
  | succ n => rfl

/-- The pipeline's data: inputs at their blocks, outputs at `outsAt0`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t hz hi _
  have hN : t.val < 8 := lt_of_lt_of_eq t.isLt (show cfg0.N = 8 from N_0)
  have h : ¬t.val % 8 = 0 := by omega
  have h1 : 1 ≤ t.val := by omega
  rw [liveAt0_6_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1)] at hi
  exact absurd hi Bool.false_ne_true

theorem before0_6_B (c : Dev nD) (t : Fin cfg0.N) (h : ¬t.val % 8 = 0) (h1 : 1 ≤ t.val) (d) :
    (dats m 0 c).before 6 t d = (outsAt0 m c (t.val - 1) (Nat.lt_of_le_of_lt (Nat.sub_le _ _) t.isLt)).2.1 := by
  rw [Dat.before_out_traj _ 6 rfl (fun _ _ => rfl) (hcarry0_6 m c) t.val t rfl d,
    if_neg (by rw [notFresh0_6_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1)]; exact Bool.false_ne_true)]
  dsimp only [dats]

theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t hz hi _
  have hN : t.val < 8 := lt_of_lt_of_eq t.isLt (show cfg0.N = 8 from N_0)
  have h : ¬t.val % 8 = 0 := by omega
  have h1 : 1 ≤ t.val := by omega
  rw [liveAt0_7_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1)] at hi
  exact absurd hi Bool.false_ne_true

theorem before0_7_B (c : Dev nD) (t : Fin cfg0.N) (h : ¬t.val % 8 = 0) (h1 : 1 ≤ t.val) (d) :
    (dats m 0 c).before 7 t d = (outsAt0 m c (t.val - 1) (Nat.lt_of_le_of_lt (Nat.sub_le _ _) t.isLt)).2.2.1 := by
  rw [Dat.before_out_traj _ 7 rfl (fun _ _ => rfl) (hcarry0_7 m c) t.val t rfl d,
    if_neg (by rw [notFresh0_7_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1)]; exact Bool.false_ne_true)]
  dsimp only [dats]

theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t hz hi _
  have hN : t.val < 8 := lt_of_lt_of_eq t.isLt (show cfg0.N = 8 from N_0)
  have h : ¬t.val % 8 = 0 := by omega
  have h1 : 1 ≤ t.val := by omega
  rw [liveAt0_8_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1)] at hi
  exact absurd hi Bool.false_ne_true

theorem before0_8_B (c : Dev nD) (t : Fin cfg0.N) (h : ¬t.val % 8 = 0) (h1 : 1 ≤ t.val) (d) :
    (dats m 0 c).before 8 t d = (outsAt0 m c (t.val - 1) (Nat.lt_of_le_of_lt (Nat.sub_le _ _) t.isLt)).2.2.2.1 := by
  rw [Dat.before_out_traj _ 8 rfl (fun _ _ => rfl) (hcarry0_8 m c) t.val t rfl d,
    if_neg (by rw [notFresh0_8_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1)]; exact Bool.false_ne_true)]
  dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at any point: its run of the point's kind applies, and leaves what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases hz : t.val = 0
  · have h : t.val % 8 = 0 := by omega
    have h1 : ¬1 ≤ t.val := by omega
    rw [show (dats m 0 c).leavesExact 0 t = owns (c : Thread nD τ) (ms0_0 t) fullShare ((dats m 0 c).after 0 t) from by
            unfold Dat.leavesExact; rw [liveAt0_0 t], after0_0]
    rw [show (dats m 0 c).leavesExact 1 t = owns (c : Thread nD τ) (ms0_1 t) fullShare ((dats m 0 c).after 1 t) from by
            unfold Dat.leavesExact; rw [liveAt0_1 t], after0_1]
    rw [show (dats m 0 c).leavesExact 2 t = owns (c : Thread nD τ) (ms0_2 t) fullShare ((dats m 0 c).after 2 t) from by
            unfold Dat.leavesExact; rw [liveAt0_2 t], after0_2]
    rw [show (dats m 0 c).leavesExact 3 t = owns (c : Thread nD τ) (ms0_3 t) fullShare ((dats m 0 c).after 3 t) from by
            unfold Dat.leavesExact; rw [liveAt0_3 t], after0_3]
    rw [show (dats m 0 c).leavesExact 4 t = owns (c : Thread nD τ) (ms0_4 t) fullShare ((dats m 0 c).after 4 t) from by
            unfold Dat.leavesExact; rw [liveAt0_4 t], after0_4]
    rw [show (dats m 0 c).leavesExact 5 t = owns (c : Thread nD τ) (ms0_5 t) fullShare ((dats m 0 c).after 5 t) from by
            unfold Dat.leavesExact; rw [liveAt0_5 t], after0_5]
    rw [show (dats m 0 c).leavesExact 6 t = owns (c : Thread nD τ) (ms0_6 t) fullShare ((dats m 0 c).after 6 t) from by
            unfold Dat.leavesExact; rw [liveAt0_6_A t ((hcond0_0 t).mpr h) ((hcond0_1 t).mpr h) (Norm.no (hcond0_2 t) h1) ((hcond0_3 t).mpr h) (Norm.no (hcond0_4 t) h1) ((hcond0_5 t).mpr h) (Norm.no (hcond0_6 t) h1)], after0_6]
    rw [show (dats m 0 c).leavesExact 7 t = owns (c : Thread nD τ) (ms0_7 t) fullShare ((dats m 0 c).after 7 t) from by
            unfold Dat.leavesExact; rw [liveAt0_7_A t ((hcond0_0 t).mpr h) ((hcond0_1 t).mpr h) (Norm.no (hcond0_2 t) h1) ((hcond0_3 t).mpr h) (Norm.no (hcond0_4 t) h1) ((hcond0_5 t).mpr h) (Norm.no (hcond0_6 t) h1)], after0_7]
    rw [show (dats m 0 c).leavesExact 8 t = owns (c : Thread nD τ) (ms0_8 t) fullShare ((dats m 0 c).after 8 t) from by
            unfold Dat.leavesExact; rw [liveAt0_8_A t ((hcond0_0 t).mpr h) ((hcond0_1 t).mpr h) (Norm.no (hcond0_2 t) h1) ((hcond0_3 t).mpr h) (Norm.no (hcond0_4 t) h1) ((hcond0_5 t).mpr h) (Norm.no (hcond0_6 t) h1)], after0_8]
    rw [PhiS_castSucc m c t, PhiS_zero m c _ _ hz, PhiD0_eq]
    rw [outsAt0_first m c t h h1]
    unfold first allFirst first_5 first_6 first_7 first_8 first_scratch; dsimp only
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ _ _ ((hcond0_0 t).mpr h) ((hcond0_1 t).mpr h) (Norm.no (hcond0_2 t) h1) ((hcond0_3 t).mpr h) (Norm.no (hcond0_4 t) h1) ((hcond0_5 t).mpr h) (Norm.no (hcond0_6 t) h1) (iblk m c 0 t) (iblk m c 1 t) (iblk m c 2 t) (iblk m c 3 t) (iblk m c 4 t) (V m c main_arg1)).2.2.2.2.2 W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H1, H2, H3, H4, ⟨%e5, H5⟩, ⟨%e6, H6⟩, ⟨%e7, H7⟩, ⟨%e8, H8⟩, ⟨%es0, HS0⟩, Hq0, Hq1, Hq2, Hq3, Hh0, ⟨%W', HW'⟩⟩
    isplitl [HS0 Hg Hq0 Hq1 Hq2 Hq3 Hh0]
    · isplitl [HS0]
      · unfold owns; iexists _; isplitr
        swap; · iexact HS0
        ipureintro; exact View.read_writes_of_cover _ _ _ _ _ (scratch_cover_first c _ _ _ _ _ _ _ _ _ _ _ _ _ _ _ _ _ _ _ _ _ _ _ _ _ _ _ _ _ _ _ _ _ _)
      isplitl [Hg]
      · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover_first_5 c _ _ _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover_first_6 c _ _ _ _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover_first_7 c _ _ _ _ _ _ _ _ _ _ _ _ _ _ _ _ _ _ _ _ _ _ _ _ _ _ _ _ _ _ _ _ _ _)
    unfold owns; iexists _; isplitr
    swap; · iexact H8
    ipureintro; exact View.read_writes_of_cover _ _ _ _ _ (cover_first_8 c _ _ _ _ _ _ _ _ _ _ _ _ _ _ _ _ _ _ _ _ _ _ _ _ _ _ _ _ _ _ _ _ _ _)
  · have h : ¬t.val % 8 = 0 := by omega
    have h1 : 1 ≤ t.val := by omega
    rw [show (dats m 0 c).leavesExact 0 t = owns (c : Thread nD τ) (ms0_0 t) fullShare ((dats m 0 c).after 0 t) from by
            unfold Dat.leavesExact; rw [liveAt0_0 t], after0_0]
    rw [show (dats m 0 c).leavesExact 1 t = owns (c : Thread nD τ) (ms0_1 t) fullShare ((dats m 0 c).after 1 t) from by
            unfold Dat.leavesExact; rw [liveAt0_1 t], after0_1]
    rw [show (dats m 0 c).leavesExact 2 t = owns (c : Thread nD τ) (ms0_2 t) fullShare ((dats m 0 c).after 2 t) from by
            unfold Dat.leavesExact; rw [liveAt0_2 t], after0_2]
    rw [show (dats m 0 c).leavesExact 3 t = owns (c : Thread nD τ) (ms0_3 t) fullShare ((dats m 0 c).after 3 t) from by
            unfold Dat.leavesExact; rw [liveAt0_3 t], after0_3]
    rw [show (dats m 0 c).leavesExact 4 t = owns (c : Thread nD τ) (ms0_4 t) fullShare ((dats m 0 c).after 4 t) from by
            unfold Dat.leavesExact; rw [liveAt0_4 t], after0_4]
    rw [show (dats m 0 c).leavesExact 5 t = owns (c : Thread nD τ) (ms0_5 t) fullShare ((dats m 0 c).after 5 t) from by
            unfold Dat.leavesExact; rw [liveAt0_5 t], after0_5]
    rw [show (dats m 0 c).leavesExact 6 t = owns (c : Thread nD τ) (ms0_6 t) fullShare ((dats m 0 c).after 6 t) from by
            unfold Dat.leavesExact; rw [liveAt0_6_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1)], after0_6]
    rw [show (dats m 0 c).leavesExact 7 t = owns (c : Thread nD τ) (ms0_7 t) fullShare ((dats m 0 c).after 7 t) from by
            unfold Dat.leavesExact; rw [liveAt0_7_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1)], after0_7]
    rw [show (dats m 0 c).leavesExact 8 t = owns (c : Thread nD τ) (ms0_8 t) fullShare ((dats m 0 c).after 8 t) from by
            unfold Dat.leavesExact; rw [liveAt0_8_B t (Norm.no (hcond0_0 t) h) (Norm.no (hcond0_1 t) h) ((hcond0_2 t).mpr h1) (Norm.no (hcond0_3 t) h) ((hcond0_4 t).mpr h1) (Norm.no (hcond0_5 t) h) ((hcond0_6 t).mpr h1)], after0_8]
    rw [PhiS_castSucc m c t, PhiS_pos m c _ _ hz]
    rw [outsAt0_later m c t h h1]
    simp only [before0_6_B m c t h h1, before0_7_B m c t h h1, before0_8_B m c t h h1]
    unfold later allLater later_5 later_6 later_7 later_8; dsimp only
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater c (grid0.coords t) _ _ _ _ _ _ _ _ _ _ _ _ _ _ _ _ _ _ _ _ (Norm.no (hcond0_0 t) h) (Norm.no (hcond0_1 t) h) ((hcond0_2 t).mpr h1) (Norm.no (hcond0_3 t) h) ((hcond0_4 t).mpr h1) (Norm.no (hcond0_5 t) h) ((hcond0_6 t).mpr h1) (iblk m c 0 t) (iblk m c 1 t) (iblk m c 2 t) (iblk m c 3 t) (iblk m c 4 t) _ _ _ _ (V m c main_arg1)).2.2.2.2.2 W _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H1, H2, H3, H4, ⟨%e5, H5⟩, ⟨%e6, H6⟩, ⟨%e7, H7⟩, ⟨%e8, H8⟩, HS0, Hq0, Hq1, Hq2, Hq3, Hh0, ⟨%W', HW'⟩⟩
    isplitl [HS0 Hg Hq0 Hq1 Hq2 Hq3 Hh0]
    · isplitl [HS0]
      · iexact HS0
      isplitl [Hg]
      · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover_later_5 c _ _ _ _ _ _ _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover_later_6 c _ _ _ _ _ _ _ _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover_later_7 c _ _ _ _ _ _ _ _ _ _ _ _ _ _ _ _ _ _ _ _ _ _ _ _ _ _ _ _ _ _ _ _ _ _ _ _ _ _)
    unfold owns; iexists _; isplitr
    swap; · iexact H8
    ipureintro; exact View.read_writes_of_cover _ _ _ _ _ (cover_later_8 c _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3⟩, Hh0⟩
  isplitl [HS0]
  · iexists _; iexact HS0
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0

/-- After the last point the invariant gives back what the launch takes. -/
theorem hout (c : Dev nD) : (dats m 0 c).Φ (Fin.last cfg0.N) ⊢ Pipeline.ΦD osem0 spec0 H0 (V m) c :=
  Phi_out m c _ (by rw [Fin.val_last]; have : cfg0.N = 8 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every run ends, with every array at what the data say. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends, the arguments are unchanged and no semaphore is left raised. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

theorem frame_ideal : Cert.quiescent_Kernel10Ideal := fun m ρ _ => frame_any m ρ

/-- The kernel's own body table runs the same text. -/
theorem bodies : Cert.Kernel10.defs₀ (F := Bits) = Cert.Kernel10Ideal.defs₀ (F := Bits) := by
  unfold Cert.Kernel10.defs₀ Cert.Kernel10Ideal.defs₀
  refine congrArg Defs.onTc (funext fun l => funext fun p => ?_)
  match l, p with
  | 0, (t, s) => rfl

theorem tables : Cert.Kernel10.defs (F := Bits) = Cert.Kernel10Ideal.defs (F := Bits) := by
  unfold Cert.Kernel10.defs Cert.Kernel10Ideal.defs
  exact congrArg (Pipeline.defs Cert.Kernel10Ideal.pcfgs) bodies

/-- The kernel itself has the same text, so its frame is this run at the words. -/
theorem frame_kernel : Cert.quiescent_Kernel10 := by
  intro m ρ _
  rw [tables]
  exact frame_any (F := Bits) m ρ

end Cert.NormBwdIn

end
-- ==== Proof.NormBwdInArrays.lean ====
/- The kernel's arrays after its last point: rows block by block, and the sums of columns added up from point to point; the gathered matrix
   stays in the scratch. -/
module

public import proofs.«01_k».proof.Proof.NormBwdInPoint
public import proofs.«01_k».proof.Proof.NormBwdInReference
public import proofs.«01_k».proof.Proof.NormBwdInFrame
public import Idealize.ShloMosaic.Lib.Pipeline.Value

@[expose] public section

set_option maxRecDepth 16384

noncomputable section

namespace Cert.NormBwdIn

open Cert.Kernel10Ideal Cert.Kernel10Ideal.Gen Idealize.ShloMosaic Idealize.ShloMosaic.TcCoe Idealize.SL.Sem Cert.Gate Cert.Norm Cert.NormBwdNums

section Any

variable {F : FTy → Type} [FloatOps F] (m : (ℓ : Loc nD τ sig) → Buf (Elt F) ℓ) (ρ : Dev nD → PrngReg)

/-! What a point writes back, and what the run leaves. -/

theorem flushed5 (c : Dev nD) (t : Fin cfg0.N) : (dats m 0 c).flushed 5 t = (cfg0.win 5).cut (grid0.coords t) (outsAt0 m c t.val t.isLt).1 := by
  show (cfg0.win 5).cut (grid0.coords t) ((dats m 0 c).after 5 t) = _
  rw [after0_5]

theorem flushed6 (c : Dev nD) (t : Fin cfg0.N) : (dats m 0 c).flushed 6 t = (cfg0.win 6).cut (grid0.coords t) (outsAt0 m c t.val t.isLt).2.1 := by
  show (cfg0.win 6).cut (grid0.coords t) ((dats m 0 c).after 6 t) = _
  rw [after0_6]

theorem flushed7 (c : Dev nD) (t : Fin cfg0.N) : (dats m 0 c).flushed 7 t = (cfg0.win 7).cut (grid0.coords t) (outsAt0 m c t.val t.isLt).2.2.1 := by
  show (cfg0.win 7).cut (grid0.coords t) ((dats m 0 c).after 7 t) = _
  rw [after0_7]

theorem flushed8 (c : Dev nD) (t : Fin cfg0.N) : (dats m 0 c).flushed 8 t = (cfg0.win 8).cut (grid0.coords t) (outsAt0 m c t.val t.isLt).2.2.2.1 := by
  show (cfg0.win 8).cut (grid0.coords t) ((dats m 0 c).after 8 t) = _
  rw [after0_8]

theorem distinct5 : ∀ t t' : Fin cfg0.N, win0_5.index t = win0_5.index t' → t = t' :=
  (by decide +kernel : ∀ t t' : Fin grid0.N, win0_5.index t = win0_5.index t' → t = t')

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 (fun t t' _ _ hne => (cfg0.win 5).disjoint_blk fun h => hne (distinct5 t t' h)) cfg0.N t t.isLt hf

/-- The run, with each array it writes named and the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.2 c).1 5, (h.2 c).1 6, (h.2 c).1 7, (h.2 c).1 8, h.1 c⟩)
    (θ_run_and (unchanged m ρ) (run_main m ρ))

end Any

variable (m : (ℓ : Loc nD τ sig) → Buf (Elt Ideal) ℓ) (c : Dev nD)

/-- The arguments. -/
def grads : Vec Ideal S4096x3584 .bf16 := m ((c : Thread nD τ).loc main_arg0)
def shards : Vec Ideal S4x1024x896 .bf16 := m ((c : Thread nD τ).loc main_arg1)
def rows : Vec Ideal S4096x1024 .f32 := m ((c : Thread nD τ).loc main_arg2)
def weights : Vec Ideal S1x1024 .f32 := m ((c : Thread nD τ).loc main_arg3)
def scales : Vec Ideal S1x1024 .f32 := m ((c : Thread nD τ).loc main_arg4)
def passed : Vec Ideal S4096x1024 .f32 := m ((c : Thread nD τ).loc main_arg5)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem size5 : ∀ t : Fin grid0.N, win0_5.xsize (grid0.coords t) 0 = 512 ∧ win0_5.xsize (grid0.coords t) 1 = 1024 := by decide +kernel

theorem block0 (t : Fin cfg0.N) (r : Fin 512) (k : Fin 3584) (R : Fin 4096) (h : R.val = 512 * t.val + r.val) :
    (iblk m c 0 t : Vec Ideal S512x3584 .bf16) (ix2 r k) = grads m c (ix2 R k) := by
  have i := index0 t
  unfold iblk
  rw [View.read_apply]
  refine congrArg (grads m c) (funext fun a => Fin.ext ?_)
  match a with
  | ⟨0, _⟩ => show win0_0.index t 0 * 512 + 1 * r.val = R.val; rw [i.1, h]; omega
  | ⟨1, _⟩ => show win0_0.index t 1 * 3584 + 1 * k.val = k.val; rw [i.2]; omega

theorem block1 (t : Fin cfg0.N) (r : Fin 512) (k : Fin 1024) (R : Fin 4096) (h : R.val = 512 * t.val + r.val) :
    (iblk m c 1 t : Vec Ideal S512x1024 .f32) (ix2 r k) = rows m c (ix2 R k) := by
  have i := index1 t
  unfold iblk
  rw [View.read_apply]
  refine congrArg (rows m c) (funext fun a => Fin.ext ?_)
  match a with
  | ⟨0, _⟩ => show win0_1.index t 0 * 512 + 1 * r.val = R.val; rw [i.1, h]; omega
  | ⟨1, _⟩ => show win0_1.index t 1 * 1024 + 1 * k.val = k.val; rw [i.2]; omega

theorem block2 (t : Fin cfg0.N) (k : Fin 1024) : (iblk m c 2 t : Vec Ideal S1x1024 .f32) (ix2 0 k) = weights m c (ix2 0 k) := by
  have i := index2 t
  unfold iblk
  rw [View.read_apply]
  refine congrArg (weights m c) (funext fun a => Fin.ext ?_)
  match a with
  | ⟨0, _⟩ => show win0_2.index t 0 * 1 + 1 * 0 = 0; rw [i.1]
  | ⟨1, _⟩ => show win0_2.index t 1 * 1024 + 1 * k.val = k.val; rw [i.2]; omega

theorem block3 (t : Fin cfg0.N) (k : Fin 1024) : (iblk m c 3 t : Vec Ideal S1x1024 .f32) (ix2 0 k) = scales m c (ix2 0 k) := by
  have i := index3 t
  unfold iblk
  rw [View.read_apply]
  refine congrArg (scales m c) (funext fun a => Fin.ext ?_)
  match a with
  | ⟨0, _⟩ => show win0_3.index t 0 * 1 + 1 * 0 = 0; rw [i.1]
  | ⟨1, _⟩ => show win0_3.index t 1 * 1024 + 1 * k.val = k.val; rw [i.2]; omega

theorem block4 (t : Fin cfg0.N) (r : Fin 512) (k : Fin 1024) (R : Fin 4096) (h : R.val = 512 * t.val + r.val) :
    (iblk m c 4 t : Vec Ideal S512x1024 .f32) (ix2 r k) = passed m c (ix2 R k) := by
  have i := index4 t
  unfold iblk
  rw [View.read_apply]
  refine congrArg (passed m c) (funext fun a => Fin.ext ?_)
  match a with
  | ⟨0, _⟩ => show win0_4.index t 0 * 512 + 1 * r.val = R.val; rw [i.1, h]; omega
  | ⟨1, _⟩ => show win0_4.index t 1 * 1024 + 1 * k.val = k.val; rw [i.2]; omega

/-- The scratch holds the gathered matrix after every point. -/
theorem scratch_at (n : ℕ) (hn : n < cfg0.N) : (outsAt0 m c n hn).2.2.2.2 = gathered (shards m c) := by
  have hN : n < 8 := lt_of_lt_of_eq hn (show cfg0.N = 8 from N_0)
  induction n with
  | zero =>
    rw [outsAt0_first m c ⟨0, hn⟩ (by show 0 % 8 = 0; omega) (by show ¬1 ≤ 0; omega)]
    unfold first allFirst
    dsimp only
    rw [first_gathers]
    rfl
  | succ n ih =>
    rw [outsAt0_later m c ⟨n + 1, hn⟩ (by show ¬(n + 1) % 8 = 0; omega) (by show 1 ≤ n + 1; omega)]
    have e : ∀ (k : ℕ) (hk : k < cfg0.N), k = n → (outsAt0 m c k hk).2.2.2.2 = gathered (shards m c) := by
      rintro k hk rfl
      exact ih hk (by omega)
    unfold later allLater
    dsimp only
    exact e _ _ (by show n + 1 - 1 = n; omega)

theorem dx_left (t : Fin cfg0.N) : (outsAt0 m c t.val t.isLt).1
    = toRow (gathered (shards m c)) (iblk m c 0 t) (iblk m c 1 t) (iblk m c 2 t) (iblk m c 3 t) (iblk m c 4 t) := by
  have hN : t.val < 8 := lt_of_lt_of_eq t.isLt (show cfg0.N = 8 from N_0)
  by_cases h : t.val = 0
  · rw [outsAt0_first m c t (by omega) (by omega)]
    unfold first allFirst
    dsimp only
    rw [left_first_dx]
    rfl
  · rw [outsAt0_later m c t (by omega) (by omega)]
    unfold later allLater
    dsimp only
    rw [left_later_dx, scratch_at m c]

theorem shift_first (t : Fin cfg0.N) (h : t.val = 0) : (outsAt0 m c t.val t.isLt).2.1 = toShift (gathered (shards m c)) (iblk m c 0 t) := by
  rw [outsAt0_first m c t (by omega) (by omega)]
  unfold first allFirst
  dsimp only
  rw [left_first_shift]
  rfl

theorem shift_later (t : Fin cfg0.N) (h : 1 ≤ t.val) (before : t.val - 1 < cfg0.N) : (outsAt0 m c t.val t.isLt).2.1
    = k0_pay3 (rDh (gathered (shards m c)) (iblk m c 0 t)) (outsAt0 m c (t.val - 1) before).2.1 := by
  have hN : t.val < 8 := lt_of_lt_of_eq t.isLt (show cfg0.N = 8 from N_0)
  rw [outsAt0_later m c t (by omega) h]
  unfold later allLater
  dsimp only
  rw [left_later_shift, scratch_at m c]

theorem scale_first (t : Fin cfg0.N) (h : t.val = 0) : (outsAt0 m c t.val t.isLt).2.2.1 = toScale (gathered (shards m c)) (iblk m c 0 t) (iblk m c 1 t) (iblk m c 2 t) := by
  rw [outsAt0_first m c t (by omega) (by omega)]
  unfold first allFirst
  dsimp only
  rw [left_first_scale]
  rfl

theorem scale_later (t : Fin cfg0.N) (h : 1 ≤ t.val) (before : t.val - 1 < cfg0.N) : (outsAt0 m c t.val t.isLt).2.2.1
    = k0_pay5 (rDh (gathered (shards m c)) (iblk m c 0 t)) (rNorm (iblk m c 1 t)) (iblk m c 2 t) (outsAt0 m c (t.val - 1) before).2.2.1 := by
  have hN : t.val < 8 := lt_of_lt_of_eq t.isLt (show cfg0.N = 8 from N_0)
  rw [outsAt0_later m c t (by omega) h]
  unfold later allLater
  dsimp only
  rw [left_later_scale, scratch_at m c]

theorem g_first (t : Fin cfg0.N) (h : t.val = 0) : (outsAt0 m c t.val t.isLt).2.2.2.1 = toWeight (gathered (shards m c)) (iblk m c 0 t) (iblk m c 1 t) (iblk m c 3 t) := by
  rw [outsAt0_first m c t (by omega) (by omega)]
  unfold first allFirst
  dsimp only
  rw [left_first_g]
  rfl

theorem g_later (t : Fin cfg0.N) (h : 1 ≤ t.val) (before : t.val - 1 < cfg0.N) : (outsAt0 m c t.val t.isLt).2.2.2.1
    = k0_pay7 (rNorm (iblk m c 1 t)) (rDn (gathered (shards m c)) (iblk m c 0 t) (iblk m c 3 t)) (outsAt0 m c (t.val - 1) before).2.2.2.1 := by
  have hN : t.val < 8 := lt_of_lt_of_eq t.isLt (show cfg0.N = 8 from N_0)
  rw [outsAt0_later m c t (by omega) h]
  unfold later allLater
  dsimp only
  rw [left_later_g, scratch_at m c]

variable {m c} {N : Nums 3584} (G : Given N (grads m c) (shards m c) (rows m c) (weights m c) (scales m c) (passed m c))
include G

theorem holds (t : Fin cfg0.N) (r : Fin 512) (R : Fin 4096) (h : R.val = 512 * t.val + r.val) :
    Holds N R r (gathered (shards m c)) (iblk m c 0 t) (iblk m c 1 t) (iblk m c 2 t) (iblk m c 3 t) (iblk m c 4 t) where
  w j k := G.w _ k (show k.val = 896 * (k.val / 896) + k.val % 896 by omega)
  d k := (block0 m c t r k R h).trans (G.d _)
  x j := (block1 m c t r j R h).trans (G.x _)
  g j := (block2 m c t j).trans (G.g _)
  scale j := (block3 m c t j).trans (G.scale _)
  res j := (block4 m c t r j R h).trans (G.res _)

omit G in
theorem row_lt (n : ℕ) (hn : n < cfg0.N) (r : Fin 512) : 512 * n + r.val < 4096 := by
  have hN : n < 8 := lt_of_lt_of_eq hn (show cfg0.N = 8 from N_0)
  omega

theorem sum_shift (j : Fin 1024) : ((outsAt0 m c t0_7.val t0_7.isLt).2.1 : Vec Ideal S1x1024 .f32) (ix2 0 j) = ((∑ R, N.dh R j : ℝ) : EReal) := by
  refine added_up (fun R => N.dh R j) N_0 (fun n hn => (outsAt0 m c n hn).2.1 (ix2 0 j))
    (fun n hn => toShift_at (fun r : Fin 512 => (⟨512 * n + r.val, row_lt n hn r⟩ : Fin 4096)) (fun r => holds G ⟨n, hn⟩ r ⟨512 * n + r.val, row_lt n hn r⟩ rfl) j)
    (fun hn => ?_) (fun n hn => ?_) t0_7.isLt
  · rw [shift_first m c ⟨0, hn⟩ rfl]
  · rw [shift_later m c ⟨n + 1, hn⟩ (Nat.le_add_left 1 n) (Nat.lt_of_le_of_lt (Nat.sub_le _ _) hn)]
    unfold k0_pay3
    pointwise
    rfl

theorem sum_scale (j : Fin 1024) : ((outsAt0 m c t0_7.val t0_7.isLt).2.2.1 : Vec Ideal S1x1024 .f32) (ix2 0 j) = ((∑ R, N.dh R j * N.xh R j * N.g j : ℝ) : EReal) := by
  refine added_up (fun R => N.dh R j * N.xh R j * N.g j) N_0 (fun n hn => (outsAt0 m c n hn).2.2.1 (ix2 0 j))
    (fun n hn => toScale_at (fun r : Fin 512 => (⟨512 * n + r.val, row_lt n hn r⟩ : Fin 4096)) (fun r => holds G ⟨n, hn⟩ r ⟨512 * n + r.val, row_lt n hn r⟩ rfl) j)
    (fun hn => ?_) (fun n hn => ?_) t0_7.isLt
  · rw [scale_first m c ⟨0, hn⟩ rfl]
  · rw [scale_later m c ⟨n + 1, hn⟩ (Nat.le_add_left 1 n) (Nat.lt_of_le_of_lt (Nat.sub_le _ _) hn)]
    unfold k0_pay5
    pointwise
    rfl

theorem sum_g (j : Fin 1024) : ((outsAt0 m c t0_7.val t0_7.isLt).2.2.2.1 : Vec Ideal S1x1024 .f32) (ix2 0 j) = ((∑ R, N.dn R j * N.xh R j : ℝ) : EReal) := by
  refine added_up (fun R => N.dn R j * N.xh R j) N_0 (fun n hn => (outsAt0 m c n hn).2.2.2.1 (ix2 0 j))
    (fun n hn => toWeight_at (fun r : Fin 512 => (⟨512 * n + r.val, row_lt n hn r⟩ : Fin 4096)) (fun r => holds G ⟨n, hn⟩ r ⟨512 * n + r.val, row_lt n hn r⟩ rfl) j)
    (fun hn => ?_) (fun n hn => ?_) t0_7.isLt
  · rw [g_first m c ⟨0, hn⟩ rfl]
  · rw [g_later m c ⟨n + 1, hn⟩ (Nat.le_add_left 1 n) (Nat.lt_of_le_of_lt (Nat.sub_le _ _) hn)]
    unfold k0_pay7
    pointwise
    rfl

theorem final5 (R : Fin 4096) (j : Fin 1024) : (dats m 0 c).arrAt 5 cfg0.N (ix2 R j) = ((N.dx R j : ℝ) : EReal) := by
  have hR := R.isLt
  have hj := j.isLt
  have hr : R.val % 512 < 512 := by omega
  obtain ⟨t, htv⟩ : ∃ t : Fin cfg0.N, t.val = R.val / 512 := ⟨⟨R.val / 512, by rw [show cfg0.N = 8 from N_0]; omega⟩, rfl⟩
  have z := size5 t
  have i := index5 t
  let y : ((cfg0.win 5).xblock (grid0.coords t)).Idx := fun a => match a with
    | ⟨0, _⟩ => ⟨R.val % 512, by show _ < win0_5.xsize (grid0.coords t) 0; rw [z.1]; omega⟩
    | ⟨1, _⟩ => ⟨j.val, by show _ < win0_5.xsize (grid0.coords t) 1; rw [z.2]; omega⟩
  have e := congrFun (blocks5 m c t (flush0_5 t)) y
  rw [View.read_apply, flushed5] at e
  have ey : ((cfg0.win 5).blk t).view.emb y = ix2 R j := by
    funext a
    apply Fin.ext
    match a with
    | ⟨0, _⟩ => show win0_5.index t 0 * 512 + 1 * (R.val % 512) = R.val; rw [i.1]; omega
    | ⟨1, _⟩ => show win0_5.index t 1 * 1024 + 1 * j.val = j.val; rw [i.2]; omega
  rw [ey] at e
  have ex : (cfg0.win 5).cut (grid0.coords t) (outsAt0 m c t.val t.isLt).1 y = (outsAt0 m c t.val t.isLt).1 (ix2 ⟨R.val % 512, hr⟩ j) := by
    refine congrArg (outsAt0 m c t.val t.isLt).1 (funext fun a => Fin.ext ?_)
    match a with
    | ⟨0, _⟩ => rfl
    | ⟨1, _⟩ => rfl
  refine e.trans (ex.trans ((congrFun (dx_left m c t) _).trans (toRow_at (holds G t ⟨R.val % 512, hr⟩ R ?_) j)))
  show R.val = 512 * t.val + R.val % 512
  omega

theorem final6 (j : Fin 1024) : (dats m 0 c).arrAt 6 cfg0.N (ix2 0 j) = ((∑ R, N.dh R j : ℝ) : EReal) := by
  have hN : cfg0.N = 8 := N_0
  have e : (dats m 0 c).arrAt 6 cfg0.N = (outsAt0 m c t0_7.val t0_7.isLt).2.1 :=
    (dats m 0 c).arrAt_eq_of_cover 6 (outsAt0 m c t0_7.val t0_7.isLt).2.1 (fun t hf => by
      have h7 : t.val = 7 := by have := (flush0_6 t).mp hf; have := t.isLt; omega
      obtain rfl : t = t0_7 := Fin.ext h7
      rw [flushed6]
      have hz' : (fun a => win0_6.index t0_7 a * main_v0_1.ty.shape.size a) = fun _ => 0 := funext fun a => by fin_cases a <;> decide
      exact (Memref.read_access_unit_zero (Elt Ideal) main_v0_1 hz' (fun a => by rw [congrFun hz' a]; simp) (outsAt0 m c t0_7.val t0_7.isLt).2.1).symm) fun i =>
    ⟨t0_7, (flush0_6 t0_7).mpr rfl, by
      show i ∈ ((View.whole main_v0_1).slice (win0_6.rect t0_7)).set
      rw [View.set_slice_whole, Rect.mem_set_unit]
      have z : ∀ a, win0_6.index t0_7 a * win0_6.size a = 0 ∧ win0_6.xsize (grid0.coords t0_7) a = main_v0_1.ty.shape.size a := by decide +kernel
      exact fun a => inside (i a).isLt (z a)⟩
  rw [e]
  exact sum_shift G j

theorem final7 (j : Fin 1024) : (dats m 0 c).arrAt 7 cfg0.N (ix2 0 j) = ((∑ R, N.dh R j * N.xh R j * N.g j : ℝ) : EReal) := by
  have hN : cfg0.N = 8 := N_0
  have e : (dats m 0 c).arrAt 7 cfg0.N = (outsAt0 m c t0_7.val t0_7.isLt).2.2.1 :=
    (dats m 0 c).arrAt_eq_of_cover 7 (outsAt0 m c t0_7.val t0_7.isLt).2.2.1 (fun t hf => by
      have h7 : t.val = 7 := by have := (flush0_7 t).mp hf; have := t.isLt; omega
      obtain rfl : t = t0_7 := Fin.ext h7
      rw [flushed7]
      have hz' : (fun a => win0_7.index t0_7 a * main_v0_2.ty.shape.size a) = fun _ => 0 := funext fun a => by fin_cases a <;> decide
      exact (Memref.read_access_unit_zero (Elt Ideal) main_v0_2 hz' (fun a => by rw [congrFun hz' a]; simp) (outsAt0 m c t0_7.val t0_7.isLt).2.2.1).symm) fun i =>
    ⟨t0_7, (flush0_7 t0_7).mpr rfl, by
      show i ∈ ((View.whole main_v0_2).slice (win0_7.rect t0_7)).set
      rw [View.set_slice_whole, Rect.mem_set_unit]
      have z : ∀ a, win0_7.index t0_7 a * win0_7.size a = 0 ∧ win0_7.xsize (grid0.coords t0_7) a = main_v0_2.ty.shape.size a := by decide +kernel
      exact fun a => inside (i a).isLt (z a)⟩
  rw [e]
  exact sum_scale G j

theorem final8 (j : Fin 1024) : (dats m 0 c).arrAt 8 cfg0.N (ix2 0 j) = ((∑ R, N.dn R j * N.xh R j : ℝ) : EReal) := by
  have hN : cfg0.N = 8 := N_0
  have e : (dats m 0 c).arrAt 8 cfg0.N = (outsAt0 m c t0_7.val t0_7.isLt).2.2.2.1 :=
    (dats m 0 c).arrAt_eq_of_cover 8 (outsAt0 m c t0_7.val t0_7.isLt).2.2.2.1 (fun t hf => by
      have h7 : t.val = 7 := by have := (flush0_8 t).mp hf; have := t.isLt; omega
      obtain rfl : t = t0_7 := Fin.ext h7
      rw [flushed8]
      have hz' : (fun a => win0_8.index t0_7 a * main_v0_3.ty.shape.size a) = fun _ => 0 := funext fun a => by fin_cases a <;> decide
      exact (Memref.read_access_unit_zero (Elt Ideal) main_v0_3 hz' (fun a => by rw [congrFun hz' a]; simp) (outsAt0 m c t0_7.val t0_7.isLt).2.2.2.1).symm) fun i =>
    ⟨t0_7, (flush0_8 t0_7).mpr rfl, by
      show i ∈ ((View.whole main_v0_3).slice (win0_8.rect t0_7)).set
      rw [View.set_slice_whole, Rect.mem_set_unit]
      have z : ∀ a, win0_8.index t0_7 a * win0_8.size a = 0 ∧ win0_8.xsize (grid0.coords t0_7) a = main_v0_3.ty.shape.size a := by decide +kernel
      exact fun a => inside (i a).isLt (z a)⟩
  rw [e]
  exact sum_g G j

end Cert.NormBwdIn

end
-- ==== Proof.NormBwdIn.lean ====
/- The derivative of a product behind a scaled and shifted norm: the kernel and the reference leave the same arrays. -/
module

public import proofs.«01_k».proof.Proof.NormBwdInArrays
public import proofs.«01_k».proof.Defs
public import proofs.«01_k».proof.Proof.Gen.Pre_finite10

@[expose] public section

set_option maxRecDepth 16384

noncomputable section

namespace Cert.NormBwdIn

open Cert.Kernel10Ideal Cert.Kernel10Ideal.Gen Idealize.ShloMosaic Idealize.ShloMosaic.TcCoe Idealize.SL.Sem Cert.Gate Cert.Norm Cert.NormBwdNums

/-- The precondition, read at every entry. -/
theorem finite_entries {x0 : Vec Ideal S4096x3584 .bf16} {x1 : Vec Ideal S4x1024x896 .bf16} {x2 : Vec Ideal S4096x1024 .f32} {x3 : Vec Ideal S1x1024 .f32} {x4 : Vec Ideal S1x1024 .f32} {x5 : Vec Ideal S4096x1024 .f32}
    [Cert.Pre_finite10.Facts] (h : Cert.Pre_finite10.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have e := congrFun h (fun a => a.elim0)
  dsimp only [Cert.Pre_finite10.fn] at e
  obtain ⟨e, e₅⟩ := Cert.Hgrn.both_one _ _ e
  obtain ⟨e, e₄⟩ := Cert.Hgrn.both_one _ _ e
  obtain ⟨e, e₃⟩ := Cert.Hgrn.both_one _ _ e
  obtain ⟨e, e₂⟩ := Cert.Hgrn.both_one _ _ e
  obtain ⟨e₀, e₁⟩ := Cert.Hgrn.both_one _ _ e
  exact ⟨fun i => isReal_of_bit _ (Host.reduce_andi_all _ _ _ _ _ e₀ i), fun i => isReal_of_bit _ (Host.reduce_andi_all _ _ _ _ _ e₁ i), fun i => isReal_of_bit _ (Host.reduce_andi_all _ _ _ _ _ e₂ i), fun i => isReal_of_bit _ (Host.reduce_andi_all _ _ _ _ _ e₃ i), fun i => isReal_of_bit _ (Host.reduce_andi_all _ _ _ _ _ e₄ i), fun i => isReal_of_bit _ (Host.reduce_andi_all _ _ _ _ _ e₅ i)⟩

variable (m : (ℓ : Loc nD τ sig) → Buf (Elt Ideal) ℓ) (c : Dev nD)

/-- The arguments' entries as real numbers. -/
def nums : Nums 3584 where
  d R k := (grads m c (ix2 R k)).toReal
  w j k := (shards m c (ix3 ⟨k.val / 896, by omega⟩ j ⟨k.val % 896, by omega⟩)).toReal
  x R j := (rows m c (ix2 R j)).toReal
  res R j := (passed m c (ix2 R j)).toReal
  g j := (weights m c (ix2 0 j)).toReal
  scale j := (scales m c (ix2 0 j)).toReal

theorem two {n k : ℕ} (i : (⟨2, ![n, k]⟩ : Shape).Idx) : i = ix2 (i 0) (i 1) :=
  funext fun a => match a with | ⟨0, _⟩ => rfl | ⟨1, _⟩ => rfl

theorem one_row {k : ℕ} (i : (⟨2, ![1, k]⟩ : Shape).Idx) : i = ix2 0 (i 1) :=
  funext fun a => match a with | ⟨0, _⟩ => Subsingleton.elim (α := Fin 1) _ _ | ⟨1, _⟩ => rfl

theorem shard (i : S4x1024x896.Idx) (k : Fin 3584) (h : k.val = 896 * (i 0).val + (i 2).val) : i = ix3 ⟨k.val / 896, by omega⟩ (i 1) ⟨k.val % 896, by omega⟩ := by
  have h2 : (i 2).val < 896 := (i 2).isLt
  refine funext fun a => Fin.ext ?_
  match a with
  | ⟨0, _⟩ => show (i 0).val = k.val / 896; omega
  | ⟨1, _⟩ => rfl
  | ⟨2, _⟩ => show (i 2).val = k.val % 896; omega

theorem given (h0 : ∀ i, IsReal (grads m c i)) (h1 : ∀ i, IsReal (shards m c i)) (h2 : ∀ i, IsReal (rows m c i)) (h3 : ∀ i, IsReal (weights m c i))
    (h4 : ∀ i, IsReal (scales m c i)) (h5 : ∀ i, IsReal (passed m c i)) :
    Given (nums m c) (grads m c) (shards m c) (rows m c) (weights m c) (scales m c) (passed m c) where
  d i := (h0 i).trans (congrArg (fun i => (((grads m c i).toReal : ℝ) : EReal)) (two i))
  w i k h := (h1 i).trans (congrArg (fun i => (((shards m c i).toReal : ℝ) : EReal)) (shard i k h))
  x i := (h2 i).trans (congrArg (fun i => (((rows m c i).toReal : ℝ) : EReal)) (two i))
  g i := (h3 i).trans (congrArg (fun i => (((weights m c i).toReal : ℝ) : EReal)) (one_row i))
  scale i := (h4 i).trans (congrArg (fun i => (((scales m c i).toReal : ℝ) : EReal)) (one_row i))
  res i := (h5 i).trans (congrArg (fun i => (((passed m c i).toReal : ℝ) : EReal)) (two i))

open Cert.Reference10Ideal.Read

section Same

variable {m c}
variable (G : Given (nums m c) (grads m c) (shards m c) (rows m c) (weights m c) (scales m c) (passed m c))
include G

theorem same_dx :
    val_main_v54 (F := Ideal) (grads m c) (shards m c) (rows m c) (weights m c) (scales m c) (passed m c) = (dats m 0 c).arrAt 5 cfg0.N :=
  funext fun (i : S4096x1024.Idx) => (ref_dx G i).trans ((final5 G (i 0) (i 1)).symm.trans (congrArg ((dats m 0 c).arrAt 5 cfg0.N) (two i).symm))

theorem same_shift :
    val_main_v29 (F := Ideal) (grads m c) (shards m c) = (dats m 0 c).arrAt 6 cfg0.N :=
  funext fun (i : S1x1024.Idx) => (ref_shift G i).trans ((final6 G (i 1)).symm.trans (congrArg ((dats m 0 c).arrAt 6 cfg0.N) (one_row i).symm))

theorem same_scale :
    val_main_v32 (F := Ideal) (grads m c) (shards m c) (rows m c) (weights m c) = (dats m 0 c).arrAt 7 cfg0.N :=
  funext fun (i : S1x1024.Idx) => (ref_scale G i).trans ((final7 G (i 1)).symm.trans (congrArg ((dats m 0 c).arrAt 7 cfg0.N) (one_row i).symm))

theorem same_g :
    val_main_v37 (F := Ideal) (grads m c) (shards m c) (rows m c) (scales m c) = (dats m 0 c).arrAt 8 cfg0.N :=
  funext fun (i : S1x1024.Idx) => (ref_weight G i).trans ((final8 G (i 1)).symm.trans (congrArg ((dats m 0 c).arrAt 8 cfg0.N) (one_row i).symm))

end Same

/-- The value claim: the arrays are the reference's. -/
theorem algebraic : Cert.algebraic_Kernel10Ideal_Reference10Ideal_pre_finite10 := by
  intro m g m' g' hpre hagree
  refine ⟨_, _, _, _, run_blocks m g, ?_⟩
  refine (θ_run _ _ _).mono (fun _ h c => ?_) (Cert.Reference10Ideal.Value.run (F := Ideal) m' g')
  obtain ⟨a0, a1, a2, a3, a4, a5⟩ := hagree c
  obtain ⟨p0, p1, p2, p3, p4, p5⟩ := finite_entries (hpre c)
  have G := given m c p0 p1 p2 p3 p4 p5
  obtain ⟨h0, h1, h2, h3, hrest⟩ := h c
  refine ⟨h0.trans ((val_main_v54_eq _ _).trans ?_), h1.trans ((val_main_v29_eq _ _).trans ?_), h2.trans ((val_main_v32_eq _ _ _ _).trans ?_), h3.trans ((val_main_v37_eq _ _ _ _).trans ?_), hrest⟩
  · rw [a0, a1, a2, a3, a4, a5]
    exact same_dx G
  · rw [a0, a1]
    exact same_shift G
  · rw [a0, a1, a2, a3]
    exact same_scale G
  · rw [a0, a1, a2, a4]
    exact same_g G

end Cert.NormBwdIn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9Ideal
public import proofs.«01_k».proof.Proof.Gen.Kernel9Ideal.Points
public import proofs.«01_k».proof.Proof.Gen.Reference9Ideal
public import proofs.«01_k».proof.Proof.Gen.Kernel10
public import proofs.«01_k».proof.Proof.Gen.Kernel10Ideal
public import proofs.«01_k».proof.Proof.Gen.Kernel10Ideal.Points
public import proofs.«01_k».proof.Proof.Gen.Reference10Ideal
public import proofs.«01_k».proof.Proof.Gen.Pre_finite
public import proofs.«01_k».proof.Proof.Gen.Pre_finite6
public import proofs.«01_k».proof.Proof.Gen.Pre_finite7
public import proofs.«01_k».proof.Proof.Gen.Pre_finite8
public import proofs.«01_k».proof.Proof.Gen.Pre_finite9
public import proofs.«01_k».proof.Proof.Gen.Pre_finite10
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Reference10Ideal.Run
public import proofs.«01_k».proof.Proof.Gen.Reference10Ideal.Read
public import proofs.«01_k».proof.Proof.Value
public import proofs.«01_k».proof.Proof.GateUpGrad
public import proofs.«01_k».proof.Proof.InGrad
public import proofs.«01_k».proof.Proof.DownGrad
public import proofs.«01_k».proof.Proof.OutGrad
public import proofs.«01_k».proof.Proof.GateUp
public import proofs.«01_k».proof.Proof.DownInput
public import proofs.«01_k».proof.Proof.LossHead
public import proofs.«01_k».proof.Proof.NormBwd
public import proofs.«01_k».proof.Proof.NormBwdIn
public import Idealize.ShloMosaic.Adequacy
public import Idealize.ShloMosaic.Init

@[expose] public section

noncomputable section

namespace Cert.Proof

open Idealize.ShloMosaic Idealize.SL.Sem

/-! The references declare no semaphore, so their runs leave none raised. -/

theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem reference2_frame : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem reference3_frame : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem reference4_frame : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem reference5_frame : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem reference6_frame : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem reference7_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem reference8_frame : Cert.quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run (F := Ideal) m ρ)

theorem reference9_frame : Cert.quiescent_Reference9Ideal := fun m ρ _ =>
  (θ_run Cert.Reference9Ideal.defs _ _).mono (fun r h => ⟨fun c => (h c).2.2.2.2.2.2, sem_eq_zero_of_no_sems (by decide) r.2⟩)
    (Cert.Reference9Ideal.Value.run (F := Ideal) m ρ)

theorem reference10_frame : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts, Cert.Pre_finite6.Gen.facts, Cert.Pre_finite7.Gen.facts,
  Cert.Pre_finite8.Gen.facts, Cert.Pre_finite9.Gen.facts, Cert.Pre_finite10.Gen.facts,
  fun m ρ _ => Cert.Kernel.Gen.frame m ρ, fun m ρ _ => Cert.KernelIdeal.Gen.frame m ρ,
  fun m ρ _ => Cert.KernelIdeal.Gen.frame m ρ, reference_frame,
  fun m ρ _ => reference_frame m ρ trivial, fun m ρ _ => Cert.Kernel2.Gen.frame m ρ,
  fun m ρ _ => Cert.Kernel2Ideal.Gen.frame m ρ, reference2_frame,
  fun m ρ _ => Cert.Kernel3.Gen.frame m ρ, fun m ρ _ => Cert.Kernel3Ideal.Gen.frame m ρ,
  reference3_frame, fun m ρ _ => Cert.Kernel4.Gen.frame m ρ,
  fun m ρ _ => Cert.Kernel4Ideal.Gen.frame m ρ, reference4_frame,
  fun m ρ _ => Cert.Kernel5.Gen.frame m ρ, fun m ρ _ => Cert.Kernel5Ideal.Gen.frame m ρ,
  reference5_frame, fun m ρ _ => Cert.Kernel6.Gen.frame m ρ,
  fun m ρ _ => Cert.Kernel6Ideal.Gen.frame m ρ, fun m ρ _ => Cert.Kernel6Ideal.Gen.frame m ρ,
  reference6_frame, fun m ρ _ => reference6_frame m ρ trivial,
  fun m ρ _ => Cert.Kernel7.Gen.frame m ρ, fun m ρ _ => Cert.Kernel7Ideal.Gen.frame m ρ,
  fun m ρ _ => Cert.Kernel7Ideal.Gen.frame m ρ, reference7_frame,
  fun m ρ _ => reference7_frame m ρ trivial, fun m ρ _ => Cert.Kernel8.Gen.frame m ρ,
  fun m ρ _ => Cert.Kernel8Ideal.Gen.frame m ρ, fun m ρ _ => Cert.Kernel8Ideal.Gen.frame m ρ,
  reference8_frame, fun m ρ _ => reference8_frame m ρ trivial,
  Cert.NormBwd.frame_kernel, Cert.NormBwd.frame_ideal,
  fun m ρ _ => Cert.NormBwd.frame_ideal m ρ trivial, reference9_frame,
  fun m ρ _ => reference9_frame m ρ trivial, Cert.NormBwdIn.frame_kernel,
  Cert.NormBwdIn.frame_ideal, fun m ρ _ => Cert.NormBwdIn.frame_ideal m ρ trivial,
  reference10_frame, fun m ρ _ => reference10_frame m ρ trivial,
  trivial, Cert.Hgrn.algebraic, trivial, Cert.GateUpGrad.algebraic,
  trivial, Cert.InGrad.algebraic, trivial, Cert.DownGrad.algebraic,
  trivial, Cert.OutGrad.algebraic, trivial, Cert.GateUp.algebraic,
  trivial, Cert.DownInput.algebraic, trivial, Cert.LossHead.algebraic,
  trivial, Cert.NormBwd.algebraic, trivial, Cert.NormBwdIn.algebraic⟩

end Cert.Proof

end
